-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_gates_are_weights [hPre_gates_are_weights : Cert.Pre_gates_are_weights.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_gates_are_weights.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_gates_are_weights [hPre_gates_are_weights : Cert.Pre_gates_are_weights.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_gates_are_weights.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_scores_are_finite [hPre_scores_are_finite : Cert.Pre_scores_are_finite.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_scores_are_finite.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_scores_are_finite [hPre_scores_are_finite : Cert.Pre_scores_are_finite.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_scores_are_finite.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Kernel7Ideal_pre_gates_are_weights [hKernel7Ideal : Cert.Kernel7Ideal.Facts] [hPre_gates_are_weights : Cert.Pre_gates_are_weights.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_gates_are_weights m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Reference7Ideal_pre_gates_are_weights [hReference7Ideal : Cert.Reference7Ideal.Facts] [hPre_gates_are_weights : Cert.Pre_gates_are_weights.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_gates_are_weights m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Kernel9Ideal_pre_scores_are_finite [hKernel9Ideal : Cert.Kernel9Ideal.Facts] [hPre_scores_are_finite : Cert.Pre_scores_are_finite.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_scores_are_finite m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Reference9Ideal_pre_scores_are_finite [hReference9Ideal : Cert.Reference9Ideal.Facts] [hPre_scores_are_finite : Cert.Pre_scores_are_finite.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_scores_are_finite m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)) (v2 : (c : Dev Cert.Kernel3Ideal.nD) → Buf (Elt Ideal) ((c.tc : Thread Cert.Kernel3Ideal.nD Cert.Kernel3Ideal.τ).loc Cert.Kernel3Ideal.main_v7_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_v7_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_v15) = v1 c
          ∧ r.2.mem ((c.tc : Thread Cert.Reference3Ideal.nD Cert.Reference3Ideal.τ).loc Cert.Reference3Ideal.main_v17) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v22) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal_pre_gates_are_weights [hKernel7Ideal : Cert.Kernel7Ideal.Facts] [hReference7Ideal : Cert.Reference7Ideal.Facts] [hPre_gates_are_weights : Cert.Pre_gates_are_weights.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_gates_are_weights m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v134) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v35) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal_pre_scores_are_finite [hKernel9Ideal : Cert.Kernel9Ideal.Facts] [hReference9Ideal : Cert.Reference9Ideal.Facts] [hPre_scores_are_finite : Cert.Pre_scores_are_finite.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_scores_are_finite m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v31) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_gates_are_weights : Cert.Pre_gates_are_weights.Facts) (hPre_scores_are_finite : Cert.Pre_scores_are_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_gates_are_weights (hKernel7Ideal := hKernel7Ideal) (hPre_gates_are_weights := hPre_gates_are_weights)
    ∧ quiescent_Reference7Ideal (hReference7Ideal := hReference7Ideal)
    ∧ quiescent_Reference7Ideal_pre_gates_are_weights (hReference7Ideal := hReference7Ideal) (hPre_gates_are_weights := hPre_gates_are_weights)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_scores_are_finite (hKernel9Ideal := hKernel9Ideal) (hPre_scores_are_finite := hPre_scores_are_finite)
    ∧ quiescent_Reference9Ideal (hReference9Ideal := hReference9Ideal)
    ∧ quiescent_Reference9Ideal_pre_scores_are_finite (hReference9Ideal := hReference9Ideal) (hPre_scores_are_finite := hPre_scores_are_finite)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_gates_are_weights (hKernel7Ideal := hKernel7Ideal) (hReference7Ideal := hReference7Ideal) (hPre_gates_are_weights := hPre_gates_are_weights)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_scores_are_finite (hKernel9Ideal := hKernel9Ideal) (hReference9Ideal := hReference9Ideal) (hPre_scores_are_finite := hPre_scores_are_finite)
-- ==== Pre_gates_are_weights.lean ====
abbrev S65536x1024 : Shape := ⟨2, ![65536, 1024]⟩
abbrev S1024 : Shape := ⟨1, ![1024]⟩
abbrev S65536x8 : Shape := ⟨2, ![65536, 8]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S65536x8 : S_.BroadcastsInDim S65536x8 (![] : Fin 0 → Fin S65536x8.rank)

variable [Facts]

def fn {F : FTy → Type} [FloatOps F] (main_arg0 : FVec F S65536x1024 .f32) (main_arg1 : FVec F S1024 .f32) (main_arg2 : FVec F S65536x8 .f32) (main_arg3 : FVec F S8x1024x3584 .f32) (main_arg4 : FVec F S8x1024x3584 .f32) (main_arg5 : FVec F S8x3584x1024 .f32) : IVec S65536x8 1 :=
  let main_cst : FVec F S_ .f32 := constant S_ .f32 0x00000000#32
  let main_v0 : FVec F S65536x8 .f32 := broadcastInDim S65536x8 ![] bcast_S_S65536x8 main_cst
  let main_v1 : IVec S65536x8 1 := cmpf .oge main_arg2 main_v0
  let main_cst_0 : FVec F S_ .f32 := constant S_ .f32 0x3F800000#32
  let main_v2 : FVec F S65536x8 .f32 := broadcastInDim S65536x8 ![] bcast_S_S65536x8 main_cst_0
  let main_v3 : IVec S65536x8 1 := cmpf .ole main_arg2 main_v2
  let main_v4 : IVec S65536x8 1 := andi main_v1 main_v3
  main_v4
-- ==== Pre_scores_are_finite.lean ====
abbrev S65536x1024 : Shape := ⟨2, ![65536, 1024]⟩
abbrev S1024 : Shape := ⟨1, ![1024]⟩
abbrev S1024x8 : Shape := ⟨2, ![1024, 8]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x8 : Shape := ⟨2, ![65536, 8]⟩

class Facts : Prop where
  reducesTo_S65536x1024_S65536_d1 : S65536x1024.ReducesTo [1] S65536
  h_S_ : 0 < S_.numel
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x1024_0_1 : S65536x1.BroadcastsInDim S65536x1024 (![0, 1] : Fin 2 → Fin S65536x1024.rank)
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  bcast_S_S65536x8 : S_.BroadcastsInDim S65536x8 (![] : Fin 0 → Fin S65536x8.rank)
  dot_S65536x1024_S1024x8_S65536x8_1_0_0_1_n_n_wf : DotDims.WF S65536x1024 S1024x8 S65536x8 [1] [0] [0] [1] [] []

variable [Facts]

def dot_S65536x1024_S1024x8_S65536x8_1_0_0_1_n_n : DotDims S65536x1024 S1024x8 S65536x8 where
  lhsContracting := [1]
  rhsContracting := [0]
  lhsNonContracting := [0]
  rhsNonContracting := [1]
  lhsBatch := []
  rhsBatch := []
  wf := dot_S65536x1024_S1024x8_S65536x8_1_0_0_1_n_n_wf
def fn {F : FTy → Type} [FloatOps F] (main_arg0 : FVec F S65536x1024 .f32) (main_arg1 : FVec F S1024 .f32) (main_arg2 : FVec F S1024x8 .f32) : IVec S65536x8 1 :=
  let main_v0 : FVec F S65536x1024 .f32 := mulf main_arg0 main_arg0
  let main_cst : FVec F S_ .f32 := constant S_ .f32 0x00000000#32
  let main_v1 : FVec F S65536 .f32 := (fun x v => Host.reduceAdd x v reducesTo_S65536x1024_S65536_d1 h_S_) main_v0 main_cst
  let main_v2 : FVec F S65536x1 .f32 := broadcastInDim S65536x1 ![0] bcast_S65536_S65536x1_0 main_v1
  let main_cst_0 : FVec F S_ .f32 := constant S_ .f32 0x44800000#32
  let main_v3 : FVec F S65536x1 .f32 := broadcastInDim S65536x1 ![] bcast_S_S65536x1 main_cst_0
  let main_v4 : FVec F S65536x1 .f32 := Host.divf main_v2 main_v3
  let main_cst_1 : FVec F S_ .f32 := constant S_ .f32 0x358637BD#32
  let main_v5 : FVec F S65536x1 .f32 := broadcastInDim S65536x1 ![] bcast_S_S65536x1 main_cst_1
  let main_v6 : FVec F S65536x1 .f32 := addf main_v4 main_v5
  let main_v7 : FVec F S65536x1 .f32 := Host.rsqrt main_v6
  let main_v8 : FVec F S65536x1024 .f32 := broadcastInDim S65536x1024 ![0, 1] bcast_S65536x1_S65536x1024_0_1 main_v7
  let main_v9 : FVec F S65536x1024 .f32 := mulf main_arg0 main_v8
  let main_v10 : FVec F S1x1024 .f32 := broadcastInDim S1x1024 ![1] bcast_S1024_S1x1024_1 main_arg1
  let main_v11 : FVec F S65536x1024 .f32 := broadcastInDim S65536x1024 ![0, 1] bcast_S1x1024_S65536x1024_0_1 main_v10
  let main_v12 : FVec F S65536x1024 .f32 := mulf main_v9 main_v11
  let main_v13 : FVec F S65536x8 .f32 := (fun l r => Host.dotGeneral dot_S65536x1024_S1024x8_S65536x8_1_0_0_1_n_n none l r) main_v12 main_arg2
  let main_v14 : FVec F S65536x8 .f32 := Host.absf main_v13
  let main_cst_2 : FVec F S_ .f32 := constant S_ .f32 0x7F800000#32
  let main_v15 : FVec F S65536x8 .f32 := broadcastInDim S65536x8 ![] bcast_S_S65536x8 main_cst_2
  let main_v16 : IVec S65536x8 1 := cmpf .olt main_v14 main_v15
  main_v16
-- ==== Kernel.lean ====
abbrev S32x2048x3072 : Shape := ⟨3, ![32, 2048, 3072]⟩
abbrev S32x2048x2048 : Shape := ⟨3, ![32, 2048, 2048]⟩
abbrev S32x2048x32 : Shape := ⟨3, ![32, 2048, 32]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S65536x3072 : Shape := ⟨2, ![65536, 3072]⟩
abbrev S65536x2048 : Shape := ⟨2, ![65536, 2048]⟩
abbrev S65536x32 : Shape := ⟨2, ![65536, 32]⟩
abbrev S_ : Shape := ⟨0, ![]⟩
abbrev S65536x128 : Shape := ⟨2, ![65536, 128]⟩
abbrev S1x3072 : Shape := ⟨2, ![1, 3072]⟩
abbrev S128 : Shape := ⟨1, ![128]⟩
abbrev S1x128 : Shape := ⟨2, ![1, 128]⟩
abbrev S32x64 : Shape := ⟨2, ![32, 64]⟩
abbrev S1x2048 : Shape := ⟨2, ![1, 2048]⟩
abbrev S128x3072 : Shape := ⟨2, ![128, 3072]⟩
abbrev S128x2048 : Shape := ⟨2, ![128, 2048]⟩
abbrev S128x128 : Shape := ⟨2, ![128, 128]⟩
abbrev S8x3072 : Shape := ⟨2, ![8, 3072]⟩
abbrev S120x3072 : Shape := ⟨2, ![120, 3072]⟩
abbrev S128x512 : Shape := ⟨2, ![128, 512]⟩
abbrev S128x1 : Shape := ⟨2, ![128, 1]⟩
abbrev S1x512 : Shape := ⟨2, ![1, 512]⟩

abbrev nBuf : Space → Nat
  | .hbm => 29
  | .vmem => 16
  | .smem => 0
  | _ => 0

abbrev bufTy : (tb : Table) → Fin (tcTables nBuf tb) → BufTy
  | .hbm, ⟨0, _⟩ => ⟨S32x2048x3072, .f32⟩
  | .hbm, ⟨1, _⟩ => ⟨S32x2048x2048, .f32⟩
  | .hbm, ⟨2, _⟩ => ⟨S32x2048x32, .f32⟩
  | .hbm, ⟨3, _⟩ => ⟨S4x3072, .f32⟩
  | .hbm, ⟨4, _⟩ => ⟨S3072, .f32⟩
  | .hbm, ⟨5, _⟩ => ⟨S32, .f32⟩
  | .hbm, ⟨6, _⟩ => ⟨S32, .f32⟩
  | .hbm, ⟨7, _⟩ => ⟨S32, .f32⟩
  | .hbm, ⟨8, _⟩ => ⟨S2048, .f32⟩
  | .hbm, ⟨9, _⟩ => ⟨S65536x3072, .f32⟩
  | .hbm, ⟨10, _⟩ => ⟨S65536x2048, .f32⟩
  | .hbm, ⟨11, _⟩ => ⟨S65536x32, .f32⟩
  | .hbm, ⟨12, _⟩ => ⟨S_, .i32⟩
  | .hbm, ⟨13, _⟩ => ⟨S_, .f32⟩
  | .hbm, ⟨14, _⟩ => ⟨S65536x128, .f32⟩
  | .hbm, ⟨15, _⟩ => ⟨S1x3072, .f32⟩
  | .hbm, ⟨16, _⟩ => ⟨S_, .i32⟩
  | .hbm, ⟨17, _⟩ => ⟨S_, .f32⟩
  | .hbm, ⟨18, _⟩ => ⟨S128, .f32⟩
  | .hbm, ⟨19, _⟩ => ⟨S1x128, .f32⟩
  | .hbm, ⟨20, _⟩ => ⟨S_, .i32⟩
  | .hbm, ⟨21, _⟩ => ⟨S_, .f32⟩
  | .hbm, ⟨22, _⟩ => ⟨S128, .f32⟩
  | .hbm, ⟨23, _⟩ => ⟨S1x128, .f32⟩
  | .hbm, ⟨24, _⟩ => ⟨S32x64, .f32⟩
  | .hbm, ⟨25, _⟩ => ⟨S2048, .f32⟩
  | .hbm, ⟨26, _⟩ => ⟨S1x2048, .f32⟩
  | .hbm, ⟨27, _⟩ => ⟨S1x2048, .f32⟩
  | .hbm, ⟨28, _⟩ => ⟨S65536x2048, .bf16⟩
  | .local _ .vmem, ⟨0, _⟩ => ⟨S128x3072, .f32⟩
  | .local _ .vmem, ⟨1, _⟩ => ⟨S128x3072, .f32⟩
  | .local _ .vmem, ⟨2, _⟩ => ⟨S128x2048, .f32⟩
  | .local _ .vmem, ⟨3, _⟩ => ⟨S128x2048, .f32⟩
  | .local _ .vmem, ⟨4, _⟩ => ⟨S128x128, .f32⟩
  | .local _ .vmem, ⟨5, _⟩ => ⟨S128x128, .f32⟩
  | .local _ .vmem, ⟨6, _⟩ => ⟨S4x3072, .f32⟩
  | .local _ .vmem, ⟨7, _⟩ => ⟨S1x3072, .f32⟩
  | .local _ .vmem, ⟨8, _⟩ => ⟨S1x128, .f32⟩
  | .local _ .vmem, ⟨9, _⟩ => ⟨S1x128, .f32⟩
  | .local _ .vmem, ⟨10, _⟩ => ⟨S1x2048, .f32⟩
  | .local _ .vmem, ⟨11, _⟩ => ⟨S1x2048, .f32⟩
  | .local _ .vmem, ⟨12, _⟩ => ⟨S128x2048, .bf16⟩
  | .local _ .vmem, ⟨13, _⟩ => ⟨S128x2048, .bf16⟩
  | .local _ .vmem, ⟨14, _⟩ => ⟨S128x2048, .f32⟩
  | .local _ .vmem, ⟨15, _⟩ => ⟨S8x3072, .f32⟩
  | _, _ => ⟨S32x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_v0 : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_call1_v0 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_call2_v0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![32, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S32x2048x3072 : Shape := ⟨3, ![32, 2048, 3072]⟩
abbrev S32x2048x2048 : Shape := ⟨3, ![32, 2048, 2048]⟩
abbrev S32x2048x32 : Shape := ⟨3, ![32, 2048, 32]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S_ : Shape := ⟨0, ![]⟩
abbrev S32x2051x3072 : Shape := ⟨3, ![32, 2051, 3072]⟩
abbrev S1x3072 : Shape := ⟨2, ![1, 3072]⟩
abbrev S1x1x3072 : Shape := ⟨3, ![1, 1, 3072]⟩
abbrev S32x2048x512 : Shape := ⟨3, ![32, 2048, 512]⟩
abbrev S1x1x32 : Shape := ⟨3, ![1, 1, 32]⟩
abbrev S32x2048x32x64 : Shape := ⟨4, ![32, 2048, 32, 64]⟩
abbrev S32x2048x4x128 : Shape := ⟨4, ![32, 2048, 4, 128]⟩
abbrev S32x2048x32x1 : Shape := ⟨4, ![32, 2048, 32, 1]⟩
abbrev S32x2048x4x8x64 : Shape := ⟨5, ![32, 2048, 4, 8, 64]⟩
abbrev S32x2048x4x8 : Shape := ⟨4, ![32, 2048, 4, 8]⟩
abbrev S4x8x1 : Shape := ⟨3, ![4, 8, 1]⟩
abbrev S32x16x128x4x8x64 : Shape := ⟨6, ![32, 16, 128, 4, 8, 64]⟩
abbrev S16x32x128x4x8x64 : Shape := ⟨6, ![16, 32, 128, 4, 8, 64]⟩
abbrev S32x16x128x4x8 : Shape := ⟨5, ![32, 16, 128, 4, 8]⟩
abbrev S16x32x128x4x8 : Shape := ⟨5, ![16, 32, 128, 4, 8]⟩
abbrev S32x16x128x4x128 : Shape := ⟨5, ![32, 16, 128, 4, 128]⟩
abbrev S16x32x128x4x128 : Shape := ⟨5, ![16, 32, 128, 4, 128]⟩
abbrev S128x128 : Shape := ⟨2, ![128, 128]⟩
abbrev S32x4x8x64x128 : Shape := ⟨5, ![32, 4, 8, 64, 128]⟩
abbrev S1x32x128x4x8x64 : Shape := ⟨6, ![1, 32, 128, 4, 8, 64]⟩
abbrev S32x128x4x8x64 : Shape := ⟨5, ![32, 128, 4, 8, 64]⟩
abbrev S1x32x128x4x8 : Shape := ⟨5, ![1, 32, 128, 4, 8]⟩
abbrev S32x128x4x8 : Shape := ⟨4, ![32, 128, 4, 8]⟩
abbrev S1x32x128x4x128 : Shape := ⟨5, ![1, 32, 128, 4, 128]⟩
abbrev S32x128x4x128 : Shape := ⟨4, ![32, 128, 4, 128]⟩
abbrev S32x128x1x4x8 : Shape := ⟨5, ![32, 128, 1, 4, 8]⟩
abbrev S32x1x128x4x8 : Shape := ⟨5, ![32, 1, 128, 4, 8]⟩
abbrev S32x128x128x4x8 : Shape := ⟨5, ![32, 128, 128, 4, 8]⟩
abbrev S1x128x128x1x1 : Shape := ⟨5, ![1, 128, 128, 1, 1]⟩
abbrev S32x4x128x128 : Shape := ⟨4, ![32, 4, 128, 128]⟩
abbrev S32x128x128x4 : Shape := ⟨4, ![32, 128, 128, 4]⟩
abbrev S32x128x128x4x1 : Shape := ⟨5, ![32, 128, 128, 4, 1]⟩
abbrev S32x128x4x8x1 : Shape := ⟨5, ![32, 128, 4, 8, 1]⟩
abbrev S32x1x4x8 : Shape := ⟨4, ![32, 1, 4, 8]⟩
abbrev S32x4x8 : Shape := ⟨3, ![32, 4, 8]⟩
abbrev S32x4x8x1x1 : Shape := ⟨5, ![32, 4, 8, 1, 1]⟩
abbrev S1x1x4x8x1 : Shape := ⟨5, ![1, 1, 4, 8, 1]⟩
abbrev S32x2048x4x512 : Shape := ⟨4, ![32, 2048, 4, 512]⟩
abbrev S32x2048x4 : Shape := ⟨3, ![32, 2048, 4]⟩
abbrev S32x2048x4x1 : Shape := ⟨4, ![32, 2048, 4, 1]⟩
abbrev S1x1x2048 : Shape := ⟨3, ![1, 1, 2048]⟩
abbrev S65536x2048 : Shape := ⟨2, ![65536, 2048]⟩

abbrev nBuf : Space → Nat
  | .hbm => 249
  | .vmem => 0
  | .smem => 0
  | _ => 0

abbrev hbmTy0_0 (i : Nat) : BufTy := match i % 128 with
  | 0 => ⟨S32x2048x3072, .f32⟩
  | 1 => ⟨S32x2048x2048, .f32⟩
  | 2 => ⟨S32x2048x32, .f32⟩
  | 3 => ⟨S4x3072, .f32⟩
  | 4 => ⟨S3072, .f32⟩
  | 5 => ⟨S32, .f32⟩
  | 6 => ⟨S32, .f32⟩
  | 7 => ⟨S32, .f32⟩
  | 8 => ⟨S2048, .f32⟩
  | 9 => ⟨S_, .i32⟩
  | 10 => ⟨S_, .f32⟩
  | 11 => ⟨S32x2051x3072, .f32⟩
  | 12 => ⟨S1x3072, .f32⟩
  | 13 => ⟨S3072, .f32⟩
  | 14 => ⟨S32x2048x3072, .f32⟩
  | 15 => ⟨S1x1x3072, .f32⟩
  | 16 => ⟨S32x2048x3072, .f32⟩
  | 17 => ⟨S32x2048x3072, .f32⟩
  | 18 => ⟨S_, .f32⟩
  | 19 => ⟨S32x2048x3072, .f32⟩
  | 20 => ⟨S32x2048x3072, .f32⟩
  | 21 => ⟨S1x3072, .f32⟩
  | 22 => ⟨S3072, .f32⟩
  | 23 => ⟨S32x2048x3072, .f32⟩
  | 24 => ⟨S1x1x3072, .f32⟩
  | 25 => ⟨S32x2048x3072, .f32⟩
  | 26 => ⟨S32x2048x3072, .f32⟩
  | 27 => ⟨S32x2048x3072, .f32⟩
  | 28 => ⟨S1x3072, .f32⟩
  | 29 => ⟨S3072, .f32⟩
  | 30 => ⟨S32x2048x3072, .f32⟩
  | 31 => ⟨S1x1x3072, .f32⟩
  | 32 => ⟨S32x2048x3072, .f32⟩
  | 33 => ⟨S32x2048x3072, .f32⟩
  | 34 => ⟨S32x2048x3072, .f32⟩
  | 35 => ⟨S1x3072, .f32⟩
  | 36 => ⟨S3072, .f32⟩
  | 37 => ⟨S32x2048x3072, .f32⟩
  | 38 => ⟨S1x1x3072, .f32⟩
  | 39 => ⟨S32x2048x3072, .f32⟩
  | 40 => ⟨S32x2048x3072, .f32⟩
  | 41 => ⟨S32x2048x3072, .f32⟩
  | 42 => ⟨S1x1x3072, .f32⟩
  | 43 => ⟨S32x2048x3072, .f32⟩
  | 44 => ⟨S32x2048x3072, .f32⟩
  | 45 => ⟨S32x2048x3072, .f32⟩
  | 46 => ⟨S32x2048x3072, .f32⟩
  | 47 => ⟨S_, .f32⟩
  | 48 => ⟨S32x2048x3072, .f32⟩
  | 49 => ⟨S32x2048x3072, .f32⟩
  | 50 => ⟨S_, .f32⟩
  | 51 => ⟨S32x2048x3072, .f32⟩
  | 52 => ⟨S32x2048x3072, .f32⟩
  | 53 => ⟨S32x2048x3072, .f32⟩
  | 54 => ⟨S32x2048x2048, .f32⟩
  | 55 => ⟨S32x2048x512, .f32⟩
  | 56 => ⟨S32x2048x512, .f32⟩
  | 57 => ⟨S1x1x32, .f32⟩
  | 58 => ⟨S32x2048x32, .f32⟩
  | 59 => ⟨S32x2048x32, .f32⟩
  | 60 => ⟨S_, .f32⟩
  | 61 => ⟨S32x2048x32, .f32⟩
  | 62 => ⟨S32x2048x32, .f32⟩
  | 63 => ⟨S32x2048x32, .f32⟩
  | 64 => ⟨S32x2048x32, .f32⟩
  | 65 => ⟨S32x2048x32, .i1⟩
  | 66 => ⟨S32x2048x32, .f32⟩
  | 67 => ⟨S32x2048x32, .f32⟩
  | 68 => ⟨S32x2048x32, .f32⟩
  | 69 => ⟨S32x2048x32, .f32⟩
  | 70 => ⟨S32x2048x32, .f32⟩
  | 71 => ⟨S32x2048x32, .f32⟩
  | 72 => ⟨S32x2048x32, .f32⟩
  | 73 => ⟨S32x2048x32, .f32⟩
  | 74 => ⟨S32, .f32⟩
  | 75 => ⟨S32, .f32⟩
  | 76 => ⟨S32x2048x32x64, .f32⟩
  | 77 => ⟨S32x2048x4x128, .f32⟩
  | 78 => ⟨S32x2048x4x128, .f32⟩
  | 79 => ⟨S32x2048x32x1, .f32⟩
  | 80 => ⟨S32x2048x32x64, .f32⟩
  | 81 => ⟨S32x2048x32x64, .f32⟩
  | 82 => ⟨S32x2048x4x8x64, .f32⟩
  | 83 => ⟨S1x1x32, .f32⟩
  | 84 => ⟨S32x2048x32, .f32⟩
  | 85 => ⟨S32x2048x32, .f32⟩
  | 86 => ⟨S32x2048x4x8, .f32⟩
  | 87 => ⟨S32x2048x4x8x64, .f32⟩
  | 88 => ⟨S4x8x1, .f32⟩
  | 89 => ⟨S32x16x128x4x8x64, .f32⟩
  | 90 => ⟨S16x32x128x4x8x64, .f32⟩
  | 91 => ⟨S32x16x128x4x8, .f32⟩
  | 92 => ⟨S16x32x128x4x8, .f32⟩
  | 93 => ⟨S32x16x128x4x128, .f32⟩
  | 94 => ⟨S16x32x128x4x128, .f32⟩
  | 95 => ⟨S32x16x128x4x128, .f32⟩
  | 96 => ⟨S16x32x128x4x128, .f32⟩
  | 97 => ⟨S32x16x128x4x8x64, .f32⟩
  | 98 => ⟨S16x32x128x4x8x64, .f32⟩
  | 99 => ⟨S_, .i1⟩
  | 100 => ⟨S128x128, .i1⟩
  | 101 => ⟨S128x128, .i32⟩
  | 102 => ⟨S_, .i32⟩
  | 103 => ⟨S128x128, .i32⟩
  | 104 => ⟨S128x128, .i32⟩
  | 105 => ⟨S128x128, .i32⟩
  | 106 => ⟨S128x128, .i1⟩
  | 107 => ⟨S_, .i1⟩
  | 108 => ⟨S128x128, .i1⟩
  | 109 => ⟨S128x128, .i1⟩
  | 110 => ⟨S_, .f32⟩
  | 111 => ⟨S32x4x8x64x128, .f32⟩
  | 112 => ⟨S_, .f32⟩
  | 113 => ⟨S16x32x128x4x8x64, .f32⟩
  | 114 => ⟨S_, .i32⟩
  | 115 => ⟨S16x32x128x4x8x64, .f32⟩
  | 116 => ⟨S16x32x128x4x8, .f32⟩
  | 117 => ⟨S16x32x128x4x128, .f32⟩
  | 118 => ⟨S16x32x128x4x128, .f32⟩
  | 119 => ⟨S16x32x128x4x8x64, .f32⟩
  | 120 => ⟨S128x128, .i1⟩
  | 121 => ⟨S4x8x1, .f32⟩
  | 122 => ⟨S_, .i32⟩
  | 123 => ⟨S32x4x8x64x128, .f32⟩
  | 124 => ⟨S16x32x128x4x8x64, .f32⟩
  | 125 => ⟨S_, .i32⟩
  | 126 => ⟨S_, .i1⟩
  | 127 => ⟨S_, .i32⟩
  | _ => ⟨S32x2048x3072, .f32⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S1x32x128x4x8x64, .f32⟩
  | 5 => ⟨S32x128x4x8x64, .f32⟩
  | 6 => ⟨S_, .i32⟩
  | 7 => ⟨S_, .i32⟩
  | 8 => ⟨S_, .i32⟩
  | 9 => ⟨S_, .i32⟩
  | 10 => ⟨S1x32x128x4x8, .f32⟩
  | 11 => ⟨S32x128x4x8, .f32⟩
  | 12 => ⟨S_, .i32⟩
  | 13 => ⟨S_, .i32⟩
  | 14 => ⟨S_, .i32⟩
  | 15 => ⟨S_, .i32⟩
  | 16 => ⟨S1x32x128x4x128, .f32⟩
  | 17 => ⟨S32x128x4x128, .f32⟩
  | 18 => ⟨S_, .i32⟩
  | 19 => ⟨S_, .i32⟩
  | 20 => ⟨S_, .i32⟩
  | 21 => ⟨S_, .i32⟩
  | 22 => ⟨S1x32x128x4x128, .f32⟩
  | 23 => ⟨S32x128x4x128, .f32⟩
  | 24 => ⟨S_, .i32⟩
  | 25 => ⟨S_, .i32⟩
  | 26 => ⟨S_, .i32⟩
  | 27 => ⟨S_, .i32⟩
  | 28 => ⟨S_, .i32⟩
  | 29 => ⟨S1x32x128x4x8x64, .f32⟩
  | 30 => ⟨S32x128x4x8x64, .f32⟩
  | 31 => ⟨S_, .f32⟩
  | 32 => ⟨S_, .f32⟩
  | 33 => ⟨S32x128x4x8, .f32⟩
  | 34 => ⟨S32x128x1x4x8, .f32⟩
  | 35 => ⟨S32x1x128x4x8, .f32⟩
  | 36 => ⟨S32x128x128x4x8, .f32⟩
  | 37 => ⟨S32x128x128x4x8, .f32⟩
  | 38 => ⟨S32x128x128x4x8, .f32⟩
  | 39 => ⟨S1x128x128x1x1, .i1⟩
  | 40 => ⟨S_, .f32⟩
  | 41 => ⟨S_, .f32⟩
  | 42 => ⟨S32x128x128x4x8, .i1⟩
  | 43 => ⟨S32x128x128x4x8, .f32⟩
  | 44 => ⟨S32x128x128x4x8, .f32⟩
  | 45 => ⟨S32x128x128x4x8, .f32⟩
  | 46 => ⟨S32x4x128x128, .f32⟩
  | 47 => ⟨S32x128x128x4, .f32⟩
  | 48 => ⟨S32x128x128x4x1, .f32⟩
  | 49 => ⟨S32x128x128x4x8, .f32⟩
  | 50 => ⟨S32x128x128x4x8, .f32⟩
  | 51 => ⟨S32x4x8x64x128, .f32⟩
  | 52 => ⟨S32x128x4x8x64, .f32⟩
  | 53 => ⟨S32x4x8x64x128, .f32⟩
  | 54 => ⟨S32x128x4x8x64, .f32⟩
  | 55 => ⟨S32x128x4x8, .f32⟩
  | 56 => ⟨S32x128x4x8x1, .f32⟩
  | 57 => ⟨S32x128x4x8x64, .f32⟩
  | 58 => ⟨S32x128x4x8x64, .f32⟩
  | 59 => ⟨S32x1x4x8, .f32⟩
  | 60 => ⟨S32x128x4x8, .f32⟩
  | 61 => ⟨S32x128x4x8, .f32⟩
  | 62 => ⟨S32x128x4x8, .f32⟩
  | 63 => ⟨S32x1x4x8, .f32⟩
  | 64 => ⟨S32x4x8, .f32⟩
  | 65 => ⟨S32x4x8, .f32⟩
  | 66 => ⟨S32x4x8x1x1, .f32⟩
  | 67 => ⟨S32x4x8x64x128, .f32⟩
  | 68 => ⟨S32x4x8x64x128, .f32⟩
  | 69 => ⟨S32x128x4x8x1, .f32⟩
  | 70 => ⟨S32x128x4x8x64, .f32⟩
  | 71 => ⟨S32x128x4x8x64, .f32⟩
  | 72 => ⟨S32x4x8x64x128, .f32⟩
  | 73 => ⟨S32x4x8x64x128, .f32⟩
  | 74 => ⟨S32x128x4x8x64, .f32⟩
  | 75 => ⟨S1x1x4x8x1, .f32⟩
  | 76 => ⟨S32x128x4x8x64, .f32⟩
  | 77 => ⟨S32x128x4x8x64, .f32⟩
  | 78 => ⟨S32x128x4x8x64, .f32⟩
  | 79 => ⟨S1x32x128x4x8x64, .f32⟩
  | 80 => ⟨S_, .i32⟩
  | 81 => ⟨S_, .i32⟩
  | 82 => ⟨S_, .i32⟩
  | 83 => ⟨S_, .i32⟩
  | 84 => ⟨S_, .i32⟩
  | 85 => ⟨S16x32x128x4x8x64, .f32⟩
  | 86 => ⟨S_, .i32⟩
  | 87 => ⟨S_, .i32⟩
  | 88 => ⟨S32x16x128x4x8x64, .f32⟩
  | 89 => ⟨S32x2048x32x64, .f32⟩
  | 90 => ⟨S32x2048x2048, .f32⟩
  | 91 => ⟨S32x2048x2048, .f32⟩
  | 92 => ⟨S32x2048x2048, .f32⟩
  | 93 => ⟨S_, .f32⟩
  | 94 => ⟨S32x2048x2048, .f32⟩
  | 95 => ⟨S32x2048x2048, .f32⟩
  | 96 => ⟨S_, .f32⟩
  | 97 => ⟨S32x2048x2048, .f32⟩
  | 98 => ⟨S32x2048x2048, .f32⟩
  | 99 => ⟨S32x2048x2048, .f32⟩
  | 100 => ⟨S32x2048x2048, .f32⟩
  | 101 => ⟨S32x2048x4x512, .f32⟩
  | 102 => ⟨S32x2048x4x512, .f32⟩
  | 103 => ⟨S_, .f32⟩
  | 104 => ⟨S32x2048x4, .f32⟩
  | 105 => ⟨S32x2048x4x1, .f32⟩
  | 106 => ⟨S_, .f32⟩
  | 107 => ⟨S32x2048x4x1, .f32⟩
  | 108 => ⟨S32x2048x4x1, .f32⟩
  | 109 => ⟨S_, .f32⟩
  | 110 => ⟨S32x2048x4x1, .f32⟩
  | 111 => ⟨S32x2048x4x1, .f32⟩
  | 112 => ⟨S32x2048x4x1, .f32⟩
  | 113 => ⟨S32x2048x4x512, .f32⟩
  | 114 => ⟨S32x2048x4x512, .f32⟩
  | 115 => ⟨S32x2048x2048, .f32⟩
  | 116 => ⟨S1x1x2048, .f32⟩
  | 117 => ⟨S32x2048x2048, .f32⟩
  | 118 => ⟨S32x2048x2048, .f32⟩
  | 119 => ⟨S65536x2048, .f32⟩
  | 120 => ⟨S65536x2048, .bf16⟩
  | _ => ⟨S32x2048x3072, .f32⟩

abbrev hbmTy (i : Nat) : BufTy := match i / 128 with
  | 0 => hbmTy0_0 i
  | 1 => hbmTy0_1 i
  | _ => ⟨S32x2048x3072, .f32⟩

abbrev bufTy : (tb : Table) → Fin (tcTables nBuf tb) → BufTy
  | .hbm, ⟨i, _⟩ => hbmTy i
  | _, _ => ⟨S32x2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_call1_v0 : Ref sig .tc := ⟨.hbm, 45, rfl⟩
abbrev main_call1_v1 : Ref sig .tc := ⟨.hbm, 46, rfl⟩
abbrev main_call1_cst : Ref sig .tc := ⟨.hbm, 47, rfl⟩
abbrev main_call1_v2 : Ref sig .tc := ⟨.hbm, 48, rfl⟩
abbrev main_call1_v3 : Ref sig .tc := ⟨.hbm, 49, rfl⟩
abbrev main_call1_cst_0 : Ref sig .tc := ⟨.hbm, 50, rfl⟩
abbrev main_call1_v4 : Ref sig .tc := ⟨.hbm, 51, rfl⟩
abbrev main_call1_v5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_call2_cst : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_c_0 : Ref sig .tc := ⟨.hbm, 99, rfl⟩
abbrev main_v66 : Ref sig .tc := ⟨.hbm, 100, rfl⟩
abbrev main_call3_v0 : Ref sig .tc := ⟨.hbm, 101, rfl⟩
abbrev main_call3_c : Ref sig .tc := ⟨.hbm, 102, rfl⟩
abbrev main_call3_v1 : Ref sig .tc := ⟨.hbm, 103, rfl⟩
abbrev main_call3_v2 : Ref sig .tc := ⟨.hbm, 104, rfl⟩
abbrev main_call3_v3 : Ref sig .tc := ⟨.hbm, 105, rfl⟩
abbrev main_call3_v4 : Ref sig .tc := ⟨.hbm, 106, rfl⟩
abbrev main_call3_c_0 : Ref sig .tc := ⟨.hbm, 107, rfl⟩
abbrev main_call3_v5 : Ref sig .tc := ⟨.hbm, 108, rfl⟩
abbrev main_v67 : Ref sig .tc := ⟨.hbm, 109, rfl⟩
abbrev main_cst_1 : Ref sig .tc := ⟨.hbm, 110, rfl⟩
abbrev main_v68 : Ref sig .tc := ⟨.hbm, 111, rfl⟩
abbrev main_cst_2 : Ref sig .tc := ⟨.hbm, 112, rfl⟩
abbrev main_v69 : Ref sig .tc := ⟨.hbm, 113, rfl⟩
abbrev main_c_3 : Ref sig .tc := ⟨.hbm, 114, rfl⟩
abbrev main_v70_0 : Ref sig .tc := ⟨.hbm, 115, rfl⟩
abbrev main_v70_1 : Ref sig .tc := ⟨.hbm, 116, rfl⟩
abbrev main_v70_2 : Ref sig .tc := ⟨.hbm, 117, rfl⟩
abbrev main_v70_3 : Ref sig .tc := ⟨.hbm, 118, rfl⟩
abbrev main_v70_4 : Ref sig .tc := ⟨.hbm, 119, rfl⟩
abbrev main_v70_5 : Ref sig .tc := ⟨.hbm, 120, rfl⟩
abbrev main_v70_6 : Ref sig .tc := ⟨.hbm, 121, rfl⟩
abbrev main_v70_7 : Ref sig .tc := ⟨.hbm, 122, rfl⟩
abbrev main_v70_8 : Ref sig .tc := ⟨.hbm, 123, rfl⟩
abbrev main_v70_9 : Ref sig .tc := ⟨.hbm, 124, rfl⟩
abbrev main_while0c_c_16 : Ref sig .tc := ⟨.hbm, 125, rfl⟩
abbrev main_while0c_v93 : Ref sig .tc := ⟨.hbm, 126, rfl⟩
abbrev main_while0b_call4_c : Ref sig .tc := ⟨.hbm, 127, rfl⟩
abbrev main_while0b_call4_c_0 : Ref sig .tc := ⟨.hbm, 128, rfl⟩
abbrev main_while0b_call4_c_1 : Ref sig .tc := ⟨.hbm, 129, rfl⟩
abbrev main_while0b_call4_c_2 : Ref sig .tc := ⟨.hbm, 130, rfl⟩
abbrev main_while0b_call4_c_3 : Ref sig .tc := ⟨.hbm, 131, rfl⟩
abbrev main_while0b_call4_v0 : Ref sig .tc := ⟨.hbm, 132, rfl⟩
abbrev main_while0b_v93 : Ref sig .tc := ⟨.hbm, 133, rfl⟩
abbrev main_while0b_call5_c : Ref sig .tc := ⟨.hbm, 134, rfl⟩
abbrev main_while0b_call5_c_0 : Ref sig .tc := ⟨.hbm, 135, rfl⟩
abbrev main_while0b_call5_c_1 : Ref sig .tc := ⟨.hbm, 136, rfl⟩
abbrev main_while0b_call5_c_2 : Ref sig .tc := ⟨.hbm, 137, rfl⟩
abbrev main_while0b_call5_v0 : Ref sig .tc := ⟨.hbm, 138, rfl⟩
abbrev main_while0b_v94 : Ref sig .tc := ⟨.hbm, 139, rfl⟩
abbrev main_while0b_call6_c : Ref sig .tc := ⟨.hbm, 140, rfl⟩
abbrev main_while0b_call6_c_0 : Ref sig .tc := ⟨.hbm, 141, rfl⟩
abbrev main_while0b_call6_c_1 : Ref sig .tc := ⟨.hbm, 142, rfl⟩
abbrev main_while0b_call6_c_2 : Ref sig .tc := ⟨.hbm, 143, rfl⟩
abbrev main_while0b_call6_v0 : Ref sig .tc := ⟨.hbm, 144, rfl⟩
abbrev main_while0b_v95 : Ref sig .tc := ⟨.hbm, 145, rfl⟩
abbrev main_while0b_call7_c : Ref sig .tc := ⟨.hbm, 146, rfl⟩
abbrev main_while0b_call7_c_0 : Ref sig .tc := ⟨.hbm, 147, rfl⟩
abbrev main_while0b_call7_c_1 : Ref sig .tc := ⟨.hbm, 148, rfl⟩
abbrev main_while0b_call7_c_2 : Ref sig .tc := ⟨.hbm, 149, rfl⟩
abbrev main_while0b_call7_v0 : Ref sig .tc := ⟨.hbm, 150, rfl⟩
abbrev main_while0b_v96 : Ref sig .tc := ⟨.hbm, 151, rfl⟩
abbrev main_while0b_call8_c : Ref sig .tc := ⟨.hbm, 152, rfl⟩
abbrev main_while0b_call8_c_0 : Ref sig .tc := ⟨.hbm, 153, rfl⟩
abbrev main_while0b_call8_c_1 : Ref sig .tc := ⟨.hbm, 154, rfl⟩
abbrev main_while0b_call8_c_2 : Ref sig .tc := ⟨.hbm, 155, rfl⟩
abbrev main_while0b_call8_c_3 : Ref sig .tc := ⟨.hbm, 156, rfl⟩
abbrev main_while0b_call8_v0 : Ref sig .tc := ⟨.hbm, 157, rfl⟩
abbrev main_while0b_v97 : Ref sig .tc := ⟨.hbm, 158, rfl⟩
abbrev main_while0b_call9_call0_cst : Ref sig .tc := ⟨.hbm, 159, rfl⟩
abbrev main_while0b_call9_call0_v0 : Ref sig .tc := ⟨.hbm, 160, rfl⟩
abbrev main_while0b_v98 : Ref sig .tc := ⟨.hbm, 161, rfl⟩
abbrev main_while0b_v99 : Ref sig .tc := ⟨.hbm, 162, rfl⟩
abbrev main_while0b_v100 : Ref sig .tc := ⟨.hbm, 163, rfl⟩
abbrev main_while0b_v101 : Ref sig .tc := ⟨.hbm, 164, rfl⟩
abbrev main_while0b_v102 : Ref sig .tc := ⟨.hbm, 165, rfl⟩
abbrev main_while0b_v103 : Ref sig .tc := ⟨.hbm, 166, rfl⟩
abbrev main_while0b_v104 : Ref sig .tc := ⟨.hbm, 167, rfl⟩
abbrev main_while0b_cst_16 : Ref sig .tc := ⟨.hbm, 168, rfl⟩
abbrev main_while0b_call10_v0 : Ref sig .tc := ⟨.hbm, 169, rfl⟩
abbrev main_while0b_call10_v1 : Ref sig .tc := ⟨.hbm, 170, rfl⟩
abbrev main_while0b_call10_v2 : Ref sig .tc := ⟨.hbm, 171, rfl⟩
abbrev main_while0b_v105 : Ref sig .tc := ⟨.hbm, 172, rfl⟩
abbrev main_while0b_v106 : Ref sig .tc := ⟨.hbm, 173, rfl⟩
abbrev main_while0b_v107 : Ref sig .tc := ⟨.hbm, 174, rfl⟩
abbrev main_while0b_v108 : Ref sig .tc := ⟨.hbm, 175, rfl⟩
abbrev main_while0b_v109 : Ref sig .tc := ⟨.hbm, 176, rfl⟩
abbrev main_while0b_v110 : Ref sig .tc := ⟨.hbm, 177, rfl⟩
abbrev main_while0b_v111 : Ref sig .tc := ⟨.hbm, 178, rfl⟩
abbrev main_while0b_v112 : Ref sig .tc := ⟨.hbm, 179, rfl⟩
abbrev main_while0b_v113 : Ref sig .tc := ⟨.hbm, 180, rfl⟩
abbrev main_while0b_v114 : Ref sig .tc := ⟨.hbm, 181, rfl⟩
abbrev main_while0b_v115 : Ref sig .tc := ⟨.hbm, 182, rfl⟩
abbrev main_while0b_v116 : Ref sig .tc := ⟨.hbm, 183, rfl⟩
abbrev main_while0b_v117 : Ref sig .tc := ⟨.hbm, 184, rfl⟩
abbrev main_while0b_v118 : Ref sig .tc := ⟨.hbm, 185, rfl⟩
abbrev main_while0b_v119 : Ref sig .tc := ⟨.hbm, 186, rfl⟩
abbrev main_while0b_v120 : Ref sig .tc := ⟨.hbm, 187, rfl⟩
abbrev main_while0b_v121 : Ref sig .tc := ⟨.hbm, 188, rfl⟩
abbrev main_while0b_v122 : Ref sig .tc := ⟨.hbm, 189, rfl⟩
abbrev main_while0b_v123 : Ref sig .tc := ⟨.hbm, 190, rfl⟩
abbrev main_while0b_v124 : Ref sig .tc := ⟨.hbm, 191, rfl⟩
abbrev main_while0b_v125 : Ref sig .tc := ⟨.hbm, 192, rfl⟩
abbrev main_while0b_v126 : Ref sig .tc := ⟨.hbm, 193, rfl⟩
abbrev main_while0b_v127 : Ref sig .tc := ⟨.hbm, 194, rfl⟩
abbrev main_while0b_v128 : Ref sig .tc := ⟨.hbm, 195, rfl⟩
abbrev main_while0b_v129 : Ref sig .tc := ⟨.hbm, 196, rfl⟩
abbrev main_while0b_v130 : Ref sig .tc := ⟨.hbm, 197, rfl⟩
abbrev main_while0b_v131 : Ref sig .tc := ⟨.hbm, 198, rfl⟩
abbrev main_while0b_v132 : Ref sig .tc := ⟨.hbm, 199, rfl⟩
abbrev main_while0b_v133 : Ref sig .tc := ⟨.hbm, 200, rfl⟩
abbrev main_while0b_v134 : Ref sig .tc := ⟨.hbm, 201, rfl⟩
abbrev main_while0b_v135 : Ref sig .tc := ⟨.hbm, 202, rfl⟩
abbrev main_while0b_v136 : Ref sig .tc := ⟨.hbm, 203, rfl⟩
abbrev main_while0b_v137 : Ref sig .tc := ⟨.hbm, 204, rfl⟩
abbrev main_while0b_v138 : Ref sig .tc := ⟨.hbm, 205, rfl⟩
abbrev main_while0b_v139 : Ref sig .tc := ⟨.hbm, 206, rfl⟩
abbrev main_while0b_call11_v0 : Ref sig .tc := ⟨.hbm, 207, rfl⟩
abbrev main_while0b_call11_c : Ref sig .tc := ⟨.hbm, 208, rfl⟩
abbrev main_while0b_call11_c_0 : Ref sig .tc := ⟨.hbm, 209, rfl⟩
abbrev main_while0b_call11_c_1 : Ref sig .tc := ⟨.hbm, 210, rfl⟩
abbrev main_while0b_call11_c_2 : Ref sig .tc := ⟨.hbm, 211, rfl⟩
abbrev main_while0b_call11_c_3 : Ref sig .tc := ⟨.hbm, 212, rfl⟩
abbrev main_while0b_v140 : Ref sig .tc := ⟨.hbm, 213, rfl⟩
abbrev main_while0b_c_17 : Ref sig .tc := ⟨.hbm, 214, rfl⟩
abbrev main_while0b_v141 : Ref sig .tc := ⟨.hbm, 215, rfl⟩
abbrev main_v71 : Ref sig .tc := ⟨.hbm, 216, rfl⟩
abbrev main_v72 : Ref sig .tc := ⟨.hbm, 217, rfl⟩
abbrev main_v73 : Ref sig .tc := ⟨.hbm, 218, rfl⟩
abbrev main_call12_v0 : Ref sig .tc := ⟨.hbm, 219, rfl⟩
abbrev main_call12_v1 : Ref sig .tc := ⟨.hbm, 220, rfl⟩
abbrev main_call12_cst : Ref sig .tc := ⟨.hbm, 221, rfl⟩
abbrev main_call12_v2 : Ref sig .tc := ⟨.hbm, 222, rfl⟩
abbrev main_call12_v3 : Ref sig .tc := ⟨.hbm, 223, rfl⟩
abbrev main_call12_cst_0 : Ref sig .tc := ⟨.hbm, 224, rfl⟩
abbrev main_call12_v4 : Ref sig .tc := ⟨.hbm, 225, rfl⟩
abbrev main_call12_v5 : Ref sig .tc := ⟨.hbm, 226, rfl⟩
abbrev main_v74 : Ref sig .tc := ⟨.hbm, 227, rfl⟩
abbrev main_v75 : Ref sig .tc := ⟨.hbm, 228, rfl⟩
abbrev main_v76 : Ref sig .tc := ⟨.hbm, 229, rfl⟩
abbrev main_v77 : Ref sig .tc := ⟨.hbm, 230, rfl⟩
abbrev main_cst_4 : Ref sig .tc := ⟨.hbm, 231, rfl⟩
abbrev main_v78 : Ref sig .tc := ⟨.hbm, 232, rfl⟩
abbrev main_v79 : Ref sig .tc := ⟨.hbm, 233, rfl⟩
abbrev main_cst_5 : Ref sig .tc := ⟨.hbm, 234, rfl⟩
abbrev main_v80 : Ref sig .tc := ⟨.hbm, 235, rfl⟩
abbrev main_v81 : Ref sig .tc := ⟨.hbm, 236, rfl⟩
abbrev main_cst_6 : Ref sig .tc := ⟨.hbm, 237, rfl⟩
abbrev main_v82 : Ref sig .tc := ⟨.hbm, 238, rfl⟩
abbrev main_v83 : Ref sig .tc := ⟨.hbm, 239, rfl⟩
abbrev main_v84 : Ref sig .tc := ⟨.hbm, 240, rfl⟩
abbrev main_v85 : Ref sig .tc := ⟨.hbm, 241, rfl⟩
abbrev main_v86 : Ref sig .tc := ⟨.hbm, 242, rfl⟩
abbrev main_v87 : Ref sig .tc := ⟨.hbm, 243, rfl⟩
abbrev main_v88 : Ref sig .tc := ⟨.hbm, 244, rfl⟩
abbrev main_v89 : Ref sig .tc := ⟨.hbm, 245, rfl⟩
abbrev main_v90 : Ref sig .tc := ⟨.hbm, 246, rfl⟩
abbrev main_v91 : Ref sig .tc := ⟨.hbm, 247, rfl⟩
abbrev main_v92 : Ref sig .tc := ⟨.hbm, 248, rfl⟩

abbrev nD : Nat := 1
abbrev τ : Topo := Topo.v7x

variable {F : FTy → Type} [FloatOps F]

abbrev main_while0_count : Scf.Loop 32 := ⟨0#32, 16#32, 1#32⟩
-- ==== Kernel2.lean ====
abbrev S65536x1024 : Shape := ⟨2, ![65536, 1024]⟩
abbrev S1024 : Shape := ⟨1, ![1024]⟩
abbrev S1024x3584 : Shape := ⟨2, ![1024, 3584]⟩
abbrev S3584x1024 : Shape := ⟨2, ![3584, 1024]⟩
abbrev S1x1024 : Shape := ⟨2, ![1, 1024]⟩
abbrev S1024x1024 : Shape := ⟨2, ![1024, 1024]⟩
abbrev S1024x512 : Shape := ⟨2, ![1024, 512]⟩
abbrev S512x1024 : Shape := ⟨2, ![512, 1024]⟩
abbrev S1024x1 : Shape := ⟨2, ![1024, 1]⟩

abbrev nBuf : Space → Nat
  | .hbm => 10
  | .vmem => 13
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x3584, .f32⟩
  | .hbm, ⟨3, _⟩ => ⟨S1024x3584, .f32⟩
  | .hbm, ⟨4, _⟩ => ⟨S3584x1024, .f32⟩
  | .hbm, ⟨5, _⟩ => ⟨S1x1024, .f32⟩
  | .hbm, ⟨6, _⟩ => ⟨S1024x3584, .bf16⟩
  | .hbm, ⟨7, _⟩ => ⟨S1024x3584, .bf16⟩
  | .hbm, ⟨8, _⟩ => ⟨S3584x1024, .bf16⟩
  | .hbm, ⟨9, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S512x1024, .bf16⟩
  | .local _ .vmem, ⟨8, _⟩ => ⟨S512x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![64, 7], ![false, false]⟩

def k0_cond2 (i : grid0.Coords) : BitVec 1 :=
  let arg1 : BitVec 32 := BitVec.ofNat 32 (i 1).val
  let c6_i32 : BitVec 32 := 6#32
  let v22 : BitVec 1 := Scalar.cmpi .eq arg1 c6_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S65536x1024 : Shape := ⟨2, ![65536, 1024]⟩
abbrev S1024 : Shape := ⟨1, ![1024]⟩
abbrev S1024x3584 : Shape := ⟨2, ![1024, 3584]⟩
abbrev S3584x1024 : Shape := ⟨2, ![3584, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x3584 : Shape := ⟨2, ![65536, 3584]⟩

abbrev nBuf : Space → Nat
  | .hbm => 35
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x3584, .f32⟩
  | .hbm, ⟨3, _⟩ => ⟨S1024x3584, .f32⟩
  | .hbm, ⟨4, _⟩ => ⟨S3584x1024, .f32⟩
  | .hbm, ⟨5, _⟩ => ⟨S65536x1024, .f32⟩
  | .hbm, ⟨6, _⟩ => ⟨S_, .f32⟩
  | .hbm, ⟨7, _⟩ => ⟨S65536, .f32⟩
  | .hbm, ⟨8, _⟩ => ⟨S65536x1, .f32⟩
  | .hbm, ⟨9, _⟩ => ⟨S_, .f32⟩
  | .hbm, ⟨10, _⟩ => ⟨S65536x1, .f32⟩
  | .hbm, ⟨11, _⟩ => ⟨S65536x1, .f32⟩
  | .hbm, ⟨12, _⟩ => ⟨S_, .f32⟩
  | .hbm, ⟨13, _⟩ => ⟨S65536x1, .f32⟩
  | .hbm, ⟨14, _⟩ => ⟨S65536x1, .f32⟩
  | .hbm, ⟨15, _⟩ => ⟨S65536x1, .f32⟩
  | .hbm, ⟨16, _⟩ => ⟨S65536x1024, .f32⟩
  | .hbm, ⟨17, _⟩ => ⟨S65536x1024, .f32⟩
  | .hbm, ⟨18, _⟩ => ⟨S1x1024, .f32⟩
  | .hbm, ⟨19, _⟩ => ⟨S65536x1024, .f32⟩
  | .hbm, ⟨20, _⟩ => ⟨S65536x1024, .f32⟩
  | .hbm, ⟨21, _⟩ => ⟨S65536x3584, .f32⟩
  | .hbm, ⟨22, _⟩ => ⟨S65536x3584, .f32⟩
  | .hbm, ⟨23, _⟩ => ⟨S65536x3584, .f32⟩
  | .hbm, ⟨24, _⟩ => ⟨S_, .f32⟩
  | .hbm, ⟨25, _⟩ => ⟨S65536x3584, .f32⟩
  | .hbm, ⟨26, _⟩ => ⟨S65536x3584, .f32⟩
  | .hbm, ⟨27, _⟩ => ⟨S_, .f32⟩
  | .hbm, ⟨28, _⟩ => ⟨S65536x3584, .f32⟩
  | .hbm, ⟨29, _⟩ => ⟨S65536x3584, .f32⟩
  | .hbm, ⟨30, _⟩ => ⟨S65536x3584, .f32⟩
  | .hbm, ⟨31, _⟩ => ⟨S65536x3584, .f32⟩
  | .hbm, ⟨32, _⟩ => ⟨S65536x3584, .f32⟩
  | .hbm, ⟨33, _⟩ => ⟨S65536x1024, .f32⟩
  | .hbm, ⟨34, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩

abbrev nD : Nat := 1
abbrev τ : Topo := Topo.v7x

variable {F : FTy → Type} [FloatOps F]
-- ==== Kernel3.lean ====
abbrev S65536x1024 : Shape := ⟨2, ![65536, 1024]⟩
abbrev S1024 : Shape := ⟨1, ![1024]⟩
abbrev S1024x5152 : Shape := ⟨2, ![1024, 5152]⟩
abbrev S1024x2048 : Shape := ⟨2, ![1024, 2048]⟩
abbrev S1024x3072 : Shape := ⟨2, ![1024, 3072]⟩
abbrev S1024x32 : Shape := ⟨2, ![1024, 32]⟩
abbrev S_ : Shape := ⟨0, ![]⟩
abbrev S1024x128 : Shape := ⟨2, ![1024, 128]⟩
abbrev S1024x5248 : Shape := ⟨2, ![1024, 5248]⟩
abbrev S1x1024 : Shape := ⟨2, ![1, 1024]⟩
abbrev S65536x2048 : Shape := ⟨2, ![65536, 2048]⟩
abbrev S65536x3072 : Shape := ⟨2, ![65536, 3072]⟩
abbrev S65536x128 : Shape := ⟨2, ![65536, 128]⟩
abbrev S256x1024 : Shape := ⟨2, ![256, 1024]⟩
abbrev S256x2048 : Shape := ⟨2, ![256, 2048]⟩
abbrev S256x3072 : Shape := ⟨2, ![256, 3072]⟩
abbrev S256x128 : Shape := ⟨2, ![256, 128]⟩
abbrev S256 : Shape := ⟨1, ![256]⟩
abbrev S256x1 : Shape := ⟨2, ![256, 1]⟩

abbrev nBuf : Space → Nat
  | .hbm => 15
  | .vmem => 10
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x5152, .f32⟩
  | .hbm, ⟨3, _⟩ => ⟨S1024x2048, .f32⟩
  | .hbm, ⟨4, _⟩ => ⟨S1024x3072, .f32⟩
  | .hbm, ⟨5, _⟩ => ⟨S1024x32, .f32⟩
  | .hbm, ⟨6, _⟩ => ⟨S_, .i32⟩
  | .hbm, ⟨7, _⟩ => ⟨S_, .f32⟩
  | .hbm, ⟨8, _⟩ => ⟨S1024x128, .f32⟩
  | .hbm, ⟨9, _⟩ => ⟨S1024x5248, .f32⟩
  | .hbm, ⟨10, _⟩ => ⟨S1024x5248, .bf16⟩
  | .hbm, ⟨11, _⟩ => ⟨S1x1024, .f32⟩
  | .hbm, ⟨12, _⟩ => ⟨S65536x2048, .f32⟩
  | .hbm, ⟨13, _⟩ => ⟨S65536x3072, .f32⟩
  | .hbm, ⟨14, _⟩ => ⟨S65536x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x5248, .bf16⟩
  | .local _ .vmem, ⟨4, _⟩ => ⟨S256x2048, .f32⟩
  | .local _ .vmem, ⟨5, _⟩ => ⟨S256x2048, .f32⟩
  | .local _ .vmem, ⟨6, _⟩ => ⟨S256x3072, .f32⟩
  | .local _ .vmem, ⟨7, _⟩ => ⟨S256x3072, .f32⟩
  | .local _ .vmem, ⟨8, _⟩ => ⟨S256x128, .f32⟩
  | .local _ .vmem, ⟨9, _⟩ => ⟨S256x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5248 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S65536x1024 : Shape := ⟨2, ![65536, 1024]⟩
abbrev S1024 : Shape := ⟨1, ![1024]⟩
abbrev S1024x5152 : Shape := ⟨2, ![1024, 5152]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x5152 : Shape := ⟨2, ![65536, 5152]⟩
abbrev S65536x2048 : Shape := ⟨2, ![65536, 2048]⟩
abbrev S65536x3072 : Shape := ⟨2, ![65536, 3072]⟩
abbrev S65536x32 : Shape := ⟨2, ![65536, 32]⟩
abbrev S65536x128 : Shape := ⟨2, ![65536, 128]⟩

abbrev nBuf : Space → Nat
  | .hbm => 26
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x5152, .f32⟩
  | .hbm, ⟨3, _⟩ => ⟨S65536x1024, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S_, .f32⟩
  | .hbm, ⟨8, _⟩ => ⟨S65536x1, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S65536x1, .f32⟩
  | .hbm, ⟨14, _⟩ => ⟨S65536x1024, .f32⟩
  | .hbm, ⟨15, _⟩ => ⟨S65536x1024, .f32⟩
  | .hbm, ⟨16, _⟩ => ⟨S1x1024, .f32⟩
  | .hbm, ⟨17, _⟩ => ⟨S65536x1024, .f32⟩
  | .hbm, ⟨18, _⟩ => ⟨S65536x1024, .f32⟩
  | .hbm, ⟨19, _⟩ => ⟨S65536x5152, .f32⟩
  | .hbm, ⟨20, _⟩ => ⟨S65536x2048, .f32⟩
  | .hbm, ⟨21, _⟩ => ⟨S65536x3072, .f32⟩
  | .hbm, ⟨22, _⟩ => ⟨S65536x32, .f32⟩
  | .hbm, ⟨23, _⟩ => ⟨S_, .i32⟩
  | .hbm, ⟨24, _⟩ => ⟨S_, .f32⟩
  | .hbm, ⟨25, _⟩ => ⟨S65536x128, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_call0_v0 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel4.lean ====
abbrev S65536x1024 : Shape := ⟨2, ![65536, 1024]⟩
abbrev S65536x2048 : Shape := ⟨2, ![65536, 2048]⟩
abbrev S2048x1024 : Shape := ⟨2, ![2048, 1024]⟩
abbrev S512x1024 : Shape := ⟨2, ![512, 1024]⟩
abbrev S512x2048 : Shape := ⟨2, ![512, 2048]⟩

abbrev nBuf : Space → Nat
  | .hbm => 5
  | .vmem => 7
  | .smem => 0
  | _ => 0

abbrev bufTy : (tb : Table) → Fin (tcTables nBuf tb) → BufTy
  | .hbm, ⟨0, _⟩ => ⟨S65536x1024, .f32⟩
  | .hbm, ⟨1, _⟩ => ⟨S65536x2048, .bf16⟩
  | .hbm, ⟨2, _⟩ => ⟨S2048x1024, .f32⟩
  | .hbm, ⟨3, _⟩ => ⟨S2048x1024, .bf16⟩
  | .hbm, ⟨4, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S2048x1024, .bf16⟩
  | .local _ .vmem, ⟨5, _⟩ => ⟨S512x1024, .f32⟩
  | .local _ .vmem, ⟨6, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S65536x1024 : Shape := ⟨2, ![65536, 1024]⟩
abbrev S65536x2048 : Shape := ⟨2, ![65536, 2048]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x2048, .bf16⟩
  | .hbm, ⟨2, _⟩ => ⟨S2048x1024, .f32⟩
  | .hbm, ⟨3, _⟩ => ⟨S65536x2048, .f32⟩
  | .hbm, ⟨4, _⟩ => ⟨S65536x1024, .f32⟩
  | .hbm, ⟨5, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel5.lean ====
abbrev S65536x1024 : Shape := ⟨2, ![65536, 1024]⟩
abbrev S65536x512 : Shape := ⟨2, ![65536, 512]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 8
  | .vmem => 10
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S1024x1024, .f32⟩
  | .hbm, ⟨4, _⟩ => ⟨S1024x1024, .bf16⟩
  | .hbm, ⟨5, _⟩ => ⟨S512x1024, .bf16⟩
  | .hbm, ⟨6, _⟩ => ⟨S512x1024, .bf16⟩
  | .hbm, ⟨7, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x512, .bf16⟩
  | .local _ .vmem, ⟨6, _⟩ => ⟨S512x512, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S65536x1024 : Shape := ⟨2, ![65536, 1024]⟩
abbrev S65536x512 : Shape := ⟨2, ![65536, 512]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S1024x1024, .f32⟩
  | .hbm, ⟨4, _⟩ => ⟨S65536x512, .f32⟩
  | .hbm, ⟨5, _⟩ => ⟨S65536x512, .f32⟩
  | .hbm, ⟨6, _⟩ => ⟨S65536x1024, .f32⟩
  | .hbm, ⟨7, _⟩ => ⟨S65536x1024, .f32⟩
  | .hbm, ⟨8, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel6.lean ====
abbrev S65536x1024 : Shape := ⟨2, ![65536, 1024]⟩
abbrev S65536x256 : Shape := ⟨2, ![65536, 256]⟩
abbrev S1024 : Shape := ⟨1, ![1024]⟩
abbrev S1024x1024 : Shape := ⟨2, ![1024, 1024]⟩
abbrev S256x1024 : Shape := ⟨2, ![256, 1024]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 9
  | .vmem => 9
  | .smem => 0
  | _ => 0

abbrev bufTy : (tb : Table) → Fin (tcTables nBuf tb) → BufTy
  | .hbm, ⟨0, _⟩ => ⟨S65536x1024, .f32⟩
  | .hbm, ⟨1, _⟩ => ⟨S65536x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S1x1024, .f32⟩
  | .hbm, ⟨6, _⟩ => ⟨S1024x1024, .bf16⟩
  | .hbm, ⟨7, _⟩ => ⟨S256x1024, .bf16⟩
  | .hbm, ⟨8, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S1x1024, .f32⟩
  | .local _ .vmem, ⟨5, _⟩ => ⟨S1024x1024, .bf16⟩
  | .local _ .vmem, ⟨6, _⟩ => ⟨S256x1024, .bf16⟩
  | .local _ .vmem, ⟨7, _⟩ => ⟨S512x1024, .f32⟩
  | .local _ .vmem, ⟨8, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S65536x1024 : Shape := ⟨2, ![65536, 1024]⟩
abbrev S65536x256 : Shape := ⟨2, ![65536, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S65536x1024, .f32⟩
  | .hbm, ⟨6, _⟩ => ⟨S_, .f32⟩
  | .hbm, ⟨7, _⟩ => ⟨S65536, .f32⟩
  | .hbm, ⟨8, _⟩ => ⟨S65536x1, .f32⟩
  | .hbm, ⟨9, _⟩ => ⟨S_, .f32⟩
  | .hbm, ⟨10, _⟩ => ⟨S65536x1, .f32⟩
  | .hbm, ⟨11, _⟩ => ⟨S65536x1, .f32⟩
  | .hbm, ⟨12, _⟩ => ⟨S_, .f32⟩
  | .hbm, ⟨13, _⟩ => ⟨S65536x1, .f32⟩
  | .hbm, ⟨14, _⟩ => ⟨S65536x1, .f32⟩
  | .hbm, ⟨15, _⟩ => ⟨S65536x1, .f32⟩
  | .hbm, ⟨16, _⟩ => ⟨S65536x1024, .f32⟩
  | .hbm, ⟨17, _⟩ => ⟨S65536x1024, .f32⟩
  | .hbm, ⟨18, _⟩ => ⟨S1x1024, .f32⟩
  | .hbm, ⟨19, _⟩ => ⟨S65536x1024, .f32⟩
  | .hbm, ⟨20, _⟩ => ⟨S65536x1024, .f32⟩
  | .hbm, ⟨21, _⟩ => ⟨S65536x1024, .f32⟩
  | .hbm, ⟨22, _⟩ => ⟨S65536x1024, .f32⟩
  | .hbm, ⟨23, _⟩ => ⟨S65536x1024, .f32⟩
  | .hbm, ⟨24, _⟩ => ⟨S_, .f32⟩
  | .hbm, ⟨25, _⟩ => ⟨S65536x1024, .f32⟩
  | .hbm, ⟨26, _⟩ => ⟨S65536x1024, .f32⟩
  | .hbm, ⟨27, _⟩ => ⟨S_, .f32⟩
  | .hbm, ⟨28, _⟩ => ⟨S65536x1024, .f32⟩
  | .hbm, ⟨29, _⟩ => ⟨S65536x1024, .f32⟩
  | .hbm, ⟨30, _⟩ => ⟨S65536x1024, .f32⟩
  | .hbm, ⟨31, _⟩ => ⟨S65536x1024, .f32⟩
  | .hbm, ⟨32, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Kernel7.lean ====
abbrev S65536x1024 : Shape := ⟨2, ![65536, 1024]⟩
abbrev S1024 : Shape := ⟨1, ![1024]⟩
abbrev S65536x8 : Shape := ⟨2, ![65536, 8]⟩
abbrev S8x1024x3584 : Shape := ⟨3, ![8, 1024, 3584]⟩
abbrev S8x3584x1024 : Shape := ⟨3, ![8, 3584, 1024]⟩
abbrev S1x1024 : Shape := ⟨2, ![1, 1024]⟩
abbrev S_ : Shape := ⟨0, ![]⟩
abbrev S65536x128 : Shape := ⟨2, ![65536, 128]⟩
abbrev S1024x1024 : Shape := ⟨2, ![1024, 1024]⟩
abbrev S1024x128 : Shape := ⟨2, ![1024, 128]⟩
abbrev S1x1024x512 : Shape := ⟨3, ![1, 1024, 512]⟩
abbrev S1x512x1024 : Shape := ⟨3, ![1, 512, 1024]⟩
abbrev S1024x1 : Shape := ⟨2, ![1024, 1]⟩
abbrev S1024x512 : Shape := ⟨2, ![1024, 512]⟩
abbrev S512x1024 : Shape := ⟨2, ![512, 1024]⟩

abbrev nBuf : Space → Nat
  | .hbm => 14
  | .vmem => 15
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S65536x8, .f32⟩
  | .hbm, ⟨3, _⟩ => ⟨S8x1024x3584, .f32⟩
  | .hbm, ⟨4, _⟩ => ⟨S8x1024x3584, .f32⟩
  | .hbm, ⟨5, _⟩ => ⟨S8x3584x1024, .f32⟩
  | .hbm, ⟨6, _⟩ => ⟨S1x1024, .f32⟩
  | .hbm, ⟨7, _⟩ => ⟨S_, .i32⟩
  | .hbm, ⟨8, _⟩ => ⟨S_, .f32⟩
  | .hbm, ⟨9, _⟩ => ⟨S65536x128, .f32⟩
  | .hbm, ⟨10, _⟩ => ⟨S8x1024x3584, .bf16⟩
  | .hbm, ⟨11, _⟩ => ⟨S8x1024x3584, .bf16⟩
  | .hbm, ⟨12, _⟩ => ⟨S8x3584x1024, .bf16⟩
  | .hbm, ⟨13, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x128, .f32⟩
  | .local _ .vmem, ⟨4, _⟩ => ⟨S1024x128, .f32⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x1024x512, .bf16⟩
  | .local _ .vmem, ⟨9, _⟩ => ⟨S1x512x1024, .bf16⟩
  | .local _ .vmem, ⟨10, _⟩ => ⟨S1x512x1024, .bf16⟩
  | .local _ .vmem, ⟨11, _⟩ => ⟨S1024x1024, .f32⟩
  | .local _ .vmem, ⟨12, _⟩ => ⟨S1024x1024, .f32⟩
  | .local _ .vmem, ⟨13, _⟩ => ⟨S1024x1024, .bf16⟩
  | .local _ .vmem, ⟨14, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![64, 8, 7], ![false, false, false]⟩

def k0_cond2 (i : grid0.Coords) : BitVec 1 :=
  let arg1 : BitVec 32 := BitVec.ofNat 32 (i 1).val
  let c7_i32 : BitVec 32 := 7#32
  let v35 : BitVec 1 := Scalar.cmpi .eq arg1 c7_i32
  let arg2 : BitVec 32 := BitVec.ofNat 32 (i 2).val
  let c6_i32 : BitVec 32 := 6#32
  let v36 : BitVec 1 := Scalar.cmpi .eq arg2 c6_i32
  let v37 : BitVec 1 := Scalar.andi v35 v36
  let v38 : BitVec 32 := Scalar.extui v37
  let c0_i32_22 : BitVec 32 := 0#32
  let v39 : BitVec 1 := Scalar.cmpi .ne v38 c0_i32_22
  v39

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]
-- ==== Reference7Ideal.lean ====
abbrev S65536x1024 : Shape := ⟨2, ![65536, 1024]⟩
abbrev S1024 : Shape := ⟨1, ![1024]⟩
abbrev S65536x8 : Shape := ⟨2, ![65536, 8]⟩
abbrev S8x1024x3584 : Shape := ⟨3, ![8, 1024, 3584]⟩
abbrev S8x3584x1024 : Shape := ⟨3, ![8, 3584, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S1x1024x3584 : Shape := ⟨3, ![1, 1024, 3584]⟩
abbrev S1024x3584 : Shape := ⟨2, ![1024, 3584]⟩
abbrev S65536x3584 : Shape := ⟨2, ![65536, 3584]⟩
abbrev S1x3584x1024 : Shape := ⟨3, ![1, 3584, 1024]⟩
abbrev S3584x1024 : Shape := ⟨2, ![3584, 1024]⟩

abbrev nBuf : Space → Nat
  | .hbm => 209
  | .vmem => 0
  | .smem => 0
  | _ => 0

abbrev hbmTy0_0 (i : Nat) : BufTy := match i % 128 with
  | 0 => ⟨S65536x1024, .f32⟩
  | 1 => ⟨S1024, .f32⟩
  | 2 => ⟨S65536x8, .f32⟩
  | 3 => ⟨S8x1024x3584, .f32⟩
  | 4 => ⟨S8x1024x3584, .f32⟩
  | 5 => ⟨S8x3584x1024, .f32⟩
  | 6 => ⟨S65536x1024, .f32⟩
  | 7 => ⟨S_, .f32⟩
  | 8 => ⟨S65536, .f32⟩
  | 9 => ⟨S65536x1, .f32⟩
  | 10 => ⟨S_, .f32⟩
  | 11 => ⟨S65536x1, .f32⟩
  | 12 => ⟨S65536x1, .f32⟩
  | 13 => ⟨S_, .f32⟩
  | 14 => ⟨S65536x1, .f32⟩
  | 15 => ⟨S65536x1, .f32⟩
  | 16 => ⟨S65536x1, .f32⟩
  | 17 => ⟨S65536x1024, .f32⟩
  | 18 => ⟨S65536x1024, .f32⟩
  | 19 => ⟨S1x1024, .f32⟩
  | 20 => ⟨S65536x1024, .f32⟩
  | 21 => ⟨S65536x1024, .f32⟩
  | 22 => ⟨S_, .f32⟩
  | 23 => ⟨S65536x1024, .f32⟩
  | 24 => ⟨S65536x1, .f32⟩
  | 25 => ⟨S1x1024x3584, .f32⟩
  | 26 => ⟨S1024x3584, .f32⟩
  | 27 => ⟨S65536x3584, .f32⟩
  | 28 => ⟨S65536x3584, .f32⟩
  | 29 => ⟨S65536x3584, .f32⟩
  | 30 => ⟨S_, .f32⟩
  | 31 => ⟨S65536x3584, .f32⟩
  | 32 => ⟨S65536x3584, .f32⟩
  | 33 => ⟨S_, .f32⟩
  | 34 => ⟨S65536x3584, .f32⟩
  | 35 => ⟨S65536x3584, .f32⟩
  | 36 => ⟨S65536x3584, .f32⟩
  | 37 => ⟨S1x1024x3584, .f32⟩
  | 38 => ⟨S1024x3584, .f32⟩
  | 39 => ⟨S65536x3584, .f32⟩
  | 40 => ⟨S65536x3584, .f32⟩
  | 41 => ⟨S1x3584x1024, .f32⟩
  | 42 => ⟨S3584x1024, .f32⟩
  | 43 => ⟨S65536x1024, .f32⟩
  | 44 => ⟨S65536x1024, .f32⟩
  | 45 => ⟨S65536x1024, .f32⟩
  | 46 => ⟨S65536x1024, .f32⟩
  | 47 => ⟨S65536x1, .f32⟩
  | 48 => ⟨S1x1024x3584, .f32⟩
  | 49 => ⟨S1024x3584, .f32⟩
  | 50 => ⟨S65536x3584, .f32⟩
  | 51 => ⟨S65536x3584, .f32⟩
  | 52 => ⟨S65536x3584, .f32⟩
  | 53 => ⟨S_, .f32⟩
  | 54 => ⟨S65536x3584, .f32⟩
  | 55 => ⟨S65536x3584, .f32⟩
  | 56 => ⟨S_, .f32⟩
  | 57 => ⟨S65536x3584, .f32⟩
  | 58 => ⟨S65536x3584, .f32⟩
  | 59 => ⟨S65536x3584, .f32⟩
  | 60 => ⟨S1x1024x3584, .f32⟩
  | 61 => ⟨S1024x3584, .f32⟩
  | 62 => ⟨S65536x3584, .f32⟩
  | 63 => ⟨S65536x3584, .f32⟩
  | 64 => ⟨S1x3584x1024, .f32⟩
  | 65 => ⟨S3584x1024, .f32⟩
  | 66 => ⟨S65536x1024, .f32⟩
  | 67 => ⟨S65536x1024, .f32⟩
  | 68 => ⟨S65536x1024, .f32⟩
  | 69 => ⟨S65536x1024, .f32⟩
  | 70 => ⟨S65536x1, .f32⟩
  | 71 => ⟨S1x1024x3584, .f32⟩
  | 72 => ⟨S1024x3584, .f32⟩
  | 73 => ⟨S65536x3584, .f32⟩
  | 74 => ⟨S65536x3584, .f32⟩
  | 75 => ⟨S65536x3584, .f32⟩
  | 76 => ⟨S_, .f32⟩
  | 77 => ⟨S65536x3584, .f32⟩
  | 78 => ⟨S65536x3584, .f32⟩
  | 79 => ⟨S_, .f32⟩
  | 80 => ⟨S65536x3584, .f32⟩
  | 81 => ⟨S65536x3584, .f32⟩
  | 82 => ⟨S65536x3584, .f32⟩
  | 83 => ⟨S1x1024x3584, .f32⟩
  | 84 => ⟨S1024x3584, .f32⟩
  | 85 => ⟨S65536x3584, .f32⟩
  | 86 => ⟨S65536x3584, .f32⟩
  | 87 => ⟨S1x3584x1024, .f32⟩
  | 88 => ⟨S3584x1024, .f32⟩
  | 89 => ⟨S65536x1024, .f32⟩
  | 90 => ⟨S65536x1024, .f32⟩
  | 91 => ⟨S65536x1024, .f32⟩
  | 92 => ⟨S65536x1024, .f32⟩
  | 93 => ⟨S65536x1, .f32⟩
  | 94 => ⟨S1x1024x3584, .f32⟩
  | 95 => ⟨S1024x3584, .f32⟩
  | 96 => ⟨S65536x3584, .f32⟩
  | 97 => ⟨S65536x3584, .f32⟩
  | 98 => ⟨S65536x3584, .f32⟩
  | 99 => ⟨S_, .f32⟩
  | 100 => ⟨S65536x3584, .f32⟩
  | 101 => ⟨S65536x3584, .f32⟩
  | 102 => ⟨S_, .f32⟩
  | 103 => ⟨S65536x3584, .f32⟩
  | 104 => ⟨S65536x3584, .f32⟩
  | 105 => ⟨S65536x3584, .f32⟩
  | 106 => ⟨S1x1024x3584, .f32⟩
  | 107 => ⟨S1024x3584, .f32⟩
  | 108 => ⟨S65536x3584, .f32⟩
  | 109 => ⟨S65536x3584, .f32⟩
  | 110 => ⟨S1x3584x1024, .f32⟩
  | 111 => ⟨S3584x1024, .f32⟩
  | 112 => ⟨S65536x1024, .f32⟩
  | 113 => ⟨S65536x1024, .f32⟩
  | 114 => ⟨S65536x1024, .f32⟩
  | 115 => ⟨S65536x1024, .f32⟩
  | 116 => ⟨S65536x1, .f32⟩
  | 117 => ⟨S1x1024x3584, .f32⟩
  | 118 => ⟨S1024x3584, .f32⟩
  | 119 => ⟨S65536x3584, .f32⟩
  | 120 => ⟨S65536x3584, .f32⟩
  | 121 => ⟨S65536x3584, .f32⟩
  | 122 => ⟨S_, .f32⟩
  | 123 => ⟨S65536x3584, .f32⟩
  | 124 => ⟨S65536x3584, .f32⟩
  | 125 => ⟨S_, .f32⟩
  | 126 => ⟨S65536x3584, .f32⟩
  | 127 => ⟨S65536x3584, .f32⟩
  | _ => ⟨S65536x1024, .f32⟩

abbrev hbmTy0_1 (i : Nat) : BufTy := match i % 128 with
  | 0 => ⟨S65536x3584, .f32⟩
  | 1 => ⟨S1x1024x3584, .f32⟩
  | 2 => ⟨S1024x3584, .f32⟩
  | 3 => ⟨S65536x3584, .f32⟩
  | 4 => ⟨S65536x3584, .f32⟩
  | 5 => ⟨S1x3584x1024, .f32⟩
  | 6 => ⟨S3584x1024, .f32⟩
  | 7 => ⟨S65536x1024, .f32⟩
  | 8 => ⟨S65536x1024, .f32⟩
  | 9 => ⟨S65536x1024, .f32⟩
  | 10 => ⟨S65536x1024, .f32⟩
  | 11 => ⟨S65536x1, .f32⟩
  | 12 => ⟨S1x1024x3584, .f32⟩
  | 13 => ⟨S1024x3584, .f32⟩
  | 14 => ⟨S65536x3584, .f32⟩
  | 15 => ⟨S65536x3584, .f32⟩
  | 16 => ⟨S65536x3584, .f32⟩
  | 17 => ⟨S_, .f32⟩
  | 18 => ⟨S65536x3584, .f32⟩
  | 19 => ⟨S65536x3584, .f32⟩
  | 20 => ⟨S_, .f32⟩
  | 21 => ⟨S65536x3584, .f32⟩
  | 22 => ⟨S65536x3584, .f32⟩
  | 23 => ⟨S65536x3584, .f32⟩
  | 24 => ⟨S1x1024x3584, .f32⟩
  | 25 => ⟨S1024x3584, .f32⟩
  | 26 => ⟨S65536x3584, .f32⟩
  | 27 => ⟨S65536x3584, .f32⟩
  | 28 => ⟨S1x3584x1024, .f32⟩
  | 29 => ⟨S3584x1024, .f32⟩
  | 30 => ⟨S65536x1024, .f32⟩
  | 31 => ⟨S65536x1024, .f32⟩
  | 32 => ⟨S65536x1024, .f32⟩
  | 33 => ⟨S65536x1024, .f32⟩
  | 34 => ⟨S65536x1, .f32⟩
  | 35 => ⟨S1x1024x3584, .f32⟩
  | 36 => ⟨S1024x3584, .f32⟩
  | 37 => ⟨S65536x3584, .f32⟩
  | 38 => ⟨S65536x3584, .f32⟩
  | 39 => ⟨S65536x3584, .f32⟩
  | 40 => ⟨S_, .f32⟩
  | 41 => ⟨S65536x3584, .f32⟩
  | 42 => ⟨S65536x3584, .f32⟩
  | 43 => ⟨S_, .f32⟩
  | 44 => ⟨S65536x3584, .f32⟩
  | 45 => ⟨S65536x3584, .f32⟩
  | 46 => ⟨S65536x3584, .f32⟩
  | 47 => ⟨S1x1024x3584, .f32⟩
  | 48 => ⟨S1024x3584, .f32⟩
  | 49 => ⟨S65536x3584, .f32⟩
  | 50 => ⟨S65536x3584, .f32⟩
  | 51 => ⟨S1x3584x1024, .f32⟩
  | 52 => ⟨S3584x1024, .f32⟩
  | 53 => ⟨S65536x1024, .f32⟩
  | 54 => ⟨S65536x1024, .f32⟩
  | 55 => ⟨S65536x1024, .f32⟩
  | 56 => ⟨S65536x1024, .f32⟩
  | 57 => ⟨S65536x1, .f32⟩
  | 58 => ⟨S1x1024x3584, .f32⟩
  | 59 => ⟨S1024x3584, .f32⟩
  | 60 => ⟨S65536x3584, .f32⟩
  | 61 => ⟨S65536x3584, .f32⟩
  | 62 => ⟨S65536x3584, .f32⟩
  | 63 => ⟨S_, .f32⟩
  | 64 => ⟨S65536x3584, .f32⟩
  | 65 => ⟨S65536x3584, .f32⟩
  | 66 => ⟨S_, .f32⟩
  | 67 => ⟨S65536x3584, .f32⟩
  | 68 => ⟨S65536x3584, .f32⟩
  | 69 => ⟨S65536x3584, .f32⟩
  | 70 => ⟨S1x1024x3584, .f32⟩
  | 71 => ⟨S1024x3584, .f32⟩
  | 72 => ⟨S65536x3584, .f32⟩
  | 73 => ⟨S65536x3584, .f32⟩
  | 74 => ⟨S1x3584x1024, .f32⟩
  | 75 => ⟨S3584x1024, .f32⟩
  | 76 => ⟨S65536x1024, .f32⟩
  | 77 => ⟨S65536x1024, .f32⟩
  | 78 => ⟨S65536x1024, .f32⟩
  | 79 => ⟨S65536x1024, .f32⟩
  | 80 => ⟨S65536x1024, .f32⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_call1_v0 : Ref sig .tc := ⟨.hbm, 51, rfl⟩
abbrev main_call1_v1 : Ref sig .tc := ⟨.hbm, 52, rfl⟩
abbrev main_call1_cst : Ref sig .tc := ⟨.hbm, 53, rfl⟩
abbrev main_call1_v2 : Ref sig .tc := ⟨.hbm, 54, rfl⟩
abbrev main_call1_v3 : Ref sig .tc := ⟨.hbm, 55, rfl⟩
abbrev main_call1_cst_0 : Ref sig .tc := ⟨.hbm, 56, rfl⟩
abbrev main_call1_v4 : Ref sig .tc := ⟨.hbm, 57, rfl⟩
abbrev main_call1_v5 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_call2_v0 : Ref sig .tc := ⟨.hbm, 74, rfl⟩
abbrev main_call2_v1 : Ref sig .tc := ⟨.hbm, 75, rfl⟩
abbrev main_call2_cst : Ref sig .tc := ⟨.hbm, 76, rfl⟩
abbrev main_call2_v2 : Ref sig .tc := ⟨.hbm, 77, rfl⟩
abbrev main_call2_v3 : Ref sig .tc := ⟨.hbm, 78, rfl⟩
abbrev main_call2_cst_0 : Ref sig .tc := ⟨.hbm, 79, rfl⟩
abbrev main_call2_v4 : Ref sig .tc := ⟨.hbm, 80, rfl⟩
abbrev main_call2_v5 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_call3_v0 : Ref sig .tc := ⟨.hbm, 97, rfl⟩
abbrev main_call3_v1 : Ref sig .tc := ⟨.hbm, 98, rfl⟩
abbrev main_call3_cst : Ref sig .tc := ⟨.hbm, 99, rfl⟩
abbrev main_call3_v2 : Ref sig .tc := ⟨.hbm, 100, rfl⟩
abbrev main_call3_v3 : Ref sig .tc := ⟨.hbm, 101, rfl⟩
abbrev main_call3_cst_0 : Ref sig .tc := ⟨.hbm, 102, rfl⟩
abbrev main_call3_v4 : Ref sig .tc := ⟨.hbm, 103, rfl⟩
abbrev main_call3_v5 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_call4_v0 : Ref sig .tc := ⟨.hbm, 120, rfl⟩
abbrev main_call4_v1 : Ref sig .tc := ⟨.hbm, 121, rfl⟩
abbrev main_call4_cst : Ref sig .tc := ⟨.hbm, 122, rfl⟩
abbrev main_call4_v2 : Ref sig .tc := ⟨.hbm, 123, rfl⟩
abbrev main_call4_v3 : Ref sig .tc := ⟨.hbm, 124, rfl⟩
abbrev main_call4_cst_0 : Ref sig .tc := ⟨.hbm, 125, rfl⟩
abbrev main_call4_v4 : Ref sig .tc := ⟨.hbm, 126, rfl⟩
abbrev main_call4_v5 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_call5_v0 : Ref sig .tc := ⟨.hbm, 143, rfl⟩
abbrev main_call5_v1 : Ref sig .tc := ⟨.hbm, 144, rfl⟩
abbrev main_call5_cst : Ref sig .tc := ⟨.hbm, 145, rfl⟩
abbrev main_call5_v2 : Ref sig .tc := ⟨.hbm, 146, rfl⟩
abbrev main_call5_v3 : Ref sig .tc := ⟨.hbm, 147, rfl⟩
abbrev main_call5_cst_0 : Ref sig .tc := ⟨.hbm, 148, rfl⟩
abbrev main_call5_v4 : Ref sig .tc := ⟨.hbm, 149, rfl⟩
abbrev main_call5_v5 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_call6_v0 : Ref sig .tc := ⟨.hbm, 166, rfl⟩
abbrev main_call6_v1 : Ref sig .tc := ⟨.hbm, 167, rfl⟩
abbrev main_call6_cst : Ref sig .tc := ⟨.hbm, 168, rfl⟩
abbrev main_call6_v2 : Ref sig .tc := ⟨.hbm, 169, rfl⟩
abbrev main_call6_v3 : Ref sig .tc := ⟨.hbm, 170, rfl⟩
abbrev main_call6_cst_0 : Ref sig .tc := ⟨.hbm, 171, rfl⟩
abbrev main_call6_v4 : Ref sig .tc := ⟨.hbm, 172, rfl⟩
abbrev main_call6_v5 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_call7_v0 : Ref sig .tc := ⟨.hbm, 189, rfl⟩
abbrev main_call7_v1 : Ref sig .tc := ⟨.hbm, 190, rfl⟩
abbrev main_call7_cst : Ref sig .tc := ⟨.hbm, 191, rfl⟩
abbrev main_call7_v2 : Ref sig .tc := ⟨.hbm, 192, rfl⟩
abbrev main_call7_v3 : Ref sig .tc := ⟨.hbm, 193, rfl⟩
abbrev main_call7_cst_0 : Ref sig .tc := ⟨.hbm, 194, rfl⟩
abbrev main_call7_v4 : Ref sig .tc := ⟨.hbm, 195, rfl⟩
abbrev main_call7_v5 : Ref sig .tc := ⟨.hbm, 196, rfl⟩
abbrev main_v123 : Ref sig .tc := ⟨.hbm, 197, rfl⟩
abbrev main_v124 : Ref sig .tc := ⟨.hbm, 198, rfl⟩
abbrev main_v125 : Ref sig .tc := ⟨.hbm, 199, rfl⟩
abbrev main_v126 : Ref sig .tc := ⟨.hbm, 200, rfl⟩
abbrev main_v127 : Ref sig .tc := ⟨.hbm, 201, rfl⟩
abbrev main_v128 : Ref sig .tc := ⟨.hbm, 202, rfl⟩
abbrev main_v129 : Ref sig .tc := ⟨.hbm, 203, rfl⟩
abbrev main_v130 : Ref sig .tc := ⟨.hbm, 204, rfl⟩
abbrev main_v131 : Ref sig .tc := ⟨.hbm, 205, rfl⟩
abbrev main_v132 : Ref sig .tc := ⟨.hbm, 206, rfl⟩
abbrev main_v133 : Ref sig .tc := ⟨.hbm, 207, rfl⟩
abbrev main_v134 : Ref sig .tc := ⟨.hbm, 208, rfl⟩

abbrev nD : Nat := 1
abbrev τ : Topo := Topo.v7x

variable {F : FTy → Type} [FloatOps F]
-- ==== Kernel8.lean ====
abbrev S65536x1024 : Shape := ⟨2, ![65536, 1024]⟩
abbrev S65536x256 : Shape := ⟨2, ![65536, 256]⟩
abbrev S1024 : Shape := ⟨1, ![1024]⟩
abbrev S1024x1024 : Shape := ⟨2, ![1024, 1024]⟩
abbrev S256x1024 : Shape := ⟨2, ![256, 1024]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 11
  | .vmem => 10
  | .smem => 0
  | _ => 0

abbrev bufTy : (tb : Table) → Fin (tcTables nBuf tb) → BufTy
  | .hbm, ⟨0, _⟩ => ⟨S65536x1024, .f32⟩
  | .hbm, ⟨1, _⟩ => ⟨S65536x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S1024, .f32⟩
  | .hbm, ⟨6, _⟩ => ⟨S1x1024, .f32⟩
  | .hbm, ⟨7, _⟩ => ⟨S1024x1024, .bf16⟩
  | .hbm, ⟨8, _⟩ => ⟨S256x1024, .bf16⟩
  | .hbm, ⟨9, _⟩ => ⟨S1x1024, .f32⟩
  | .hbm, ⟨10, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S1x1024, .f32⟩
  | .local _ .vmem, ⟨5, _⟩ => ⟨S1024x1024, .bf16⟩
  | .local _ .vmem, ⟨6, _⟩ => ⟨S256x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S65536x1024 : Shape := ⟨2, ![65536, 1024]⟩
abbrev S65536x256 : Shape := ⟨2, ![65536, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S1024, .f32⟩
  | .hbm, ⟨6, _⟩ => ⟨S65536x1024, .f32⟩
  | .hbm, ⟨7, _⟩ => ⟨S_, .f32⟩
  | .hbm, ⟨8, _⟩ => ⟨S65536, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S_, .f32⟩
  | .hbm, ⟨14, _⟩ => ⟨S65536x1, .f32⟩
  | .hbm, ⟨15, _⟩ => ⟨S65536x1, .f32⟩
  | .hbm, ⟨16, _⟩ => ⟨S65536x1, .f32⟩
  | .hbm, ⟨17, _⟩ => ⟨S65536x1024, .f32⟩
  | .hbm, ⟨18, _⟩ => ⟨S65536x1024, .f32⟩
  | .hbm, ⟨19, _⟩ => ⟨S1x1024, .f32⟩
  | .hbm, ⟨20, _⟩ => ⟨S65536x1024, .f32⟩
  | .hbm, ⟨21, _⟩ => ⟨S65536x1024, .f32⟩
  | .hbm, ⟨22, _⟩ => ⟨S65536x1024, .f32⟩
  | .hbm, ⟨23, _⟩ => ⟨S65536x1024, .f32⟩
  | .hbm, ⟨24, _⟩ => ⟨S65536x1024, .f32⟩
  | .hbm, ⟨25, _⟩ => ⟨S_, .f32⟩
  | .hbm, ⟨26, _⟩ => ⟨S65536x1024, .f32⟩
  | .hbm, ⟨27, _⟩ => ⟨S65536x1024, .f32⟩
  | .hbm, ⟨28, _⟩ => ⟨S_, .f32⟩
  | .hbm, ⟨29, _⟩ => ⟨S65536x1024, .f32⟩
  | .hbm, ⟨30, _⟩ => ⟨S65536x1024, .f32⟩
  | .hbm, ⟨31, _⟩ => ⟨S65536x1024, .f32⟩
  | .hbm, ⟨32, _⟩ => ⟨S65536x1024, .f32⟩
  | .hbm, ⟨33, _⟩ => ⟨S65536x1024, .f32⟩
  | .hbm, ⟨34, _⟩ => ⟨S65536x1024, .f32⟩
  | .hbm, ⟨35, _⟩ => ⟨S_, .f32⟩
  | .hbm, ⟨36, _⟩ => ⟨S65536, .f32⟩
  | .hbm, ⟨37, _⟩ => ⟨S65536x1, .f32⟩
  | .hbm, ⟨38, _⟩ => ⟨S_, .f32⟩
  | .hbm, ⟨39, _⟩ => ⟨S65536x1, .f32⟩
  | .hbm, ⟨40, _⟩ => ⟨S65536x1, .f32⟩
  | .hbm, ⟨41, _⟩ => ⟨S_, .f32⟩
  | .hbm, ⟨42, _⟩ => ⟨S65536x1, .f32⟩
  | .hbm, ⟨43, _⟩ => ⟨S65536x1, .f32⟩
  | .hbm, ⟨44, _⟩ => ⟨S65536x1, .f32⟩
  | .hbm, ⟨45, _⟩ => ⟨S65536x1024, .f32⟩
  | .hbm, ⟨46, _⟩ => ⟨S65536x1024, .f32⟩
  | .hbm, ⟨47, _⟩ => ⟨S1x1024, .f32⟩
  | .hbm, ⟨48, _⟩ => ⟨S65536x1024, .f32⟩
  | .hbm, ⟨49, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== Kernel9.lean ====
abbrev S65536x1024 : Shape := ⟨2, ![65536, 1024]⟩
abbrev S1024 : Shape := ⟨1, ![1024]⟩
abbrev S1024x8 : Shape := ⟨2, ![1024, 8]⟩
abbrev S1x1024 : Shape := ⟨2, ![1, 1024]⟩
abbrev S_ : Shape := ⟨0, ![]⟩
abbrev S1024x128 : Shape := ⟨2, ![1024, 128]⟩
abbrev S65536x128 : Shape := ⟨2, ![65536, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 8
  | .vmem => 6
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x8, .f32⟩
  | .hbm, ⟨3, _⟩ => ⟨S1x1024, .f32⟩
  | .hbm, ⟨4, _⟩ => ⟨S_, .i32⟩
  | .hbm, ⟨5, _⟩ => ⟨S_, .f32⟩
  | .hbm, ⟨6, _⟩ => ⟨S1024x128, .f32⟩
  | .hbm, ⟨7, _⟩ => ⟨S65536x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x128, .f32⟩
  | .local _ .vmem, ⟨4, _⟩ => ⟨S512x128, .f32⟩
  | .local _ .vmem, ⟨5, _⟩ => ⟨S512x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference9Ideal.lean ====
abbrev S65536x1024 : Shape := ⟨2, ![65536, 1024]⟩
abbrev S1024 : Shape := ⟨1, ![1024]⟩
abbrev S1024x8 : Shape := ⟨2, ![1024, 8]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x8 : Shape := ⟨2, ![65536, 8]⟩
abbrev S65536x2 : Shape := ⟨2, ![65536, 2]⟩
abbrev S65536x2x1 : Shape := ⟨3, ![65536, 2, 1]⟩
abbrev S1x1x8 : Shape := ⟨3, ![1, 1, 8]⟩
abbrev S65536x2x8 : Shape := ⟨3, ![65536, 2, 8]⟩
abbrev S65536x120 : Shape := ⟨2, ![65536, 120]⟩
abbrev S65536x128 : Shape := ⟨2, ![65536, 128]⟩

abbrev nBuf : Space → Nat
  | .hbm => 50
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x8, .f32⟩
  | .hbm, ⟨3, _⟩ => ⟨S65536x1024, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S_, .f32⟩
  | .hbm, ⟨8, _⟩ => ⟨S65536x1, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S65536x1, .f32⟩
  | .hbm, ⟨14, _⟩ => ⟨S65536x1024, .f32⟩
  | .hbm, ⟨15, _⟩ => ⟨S65536x1024, .f32⟩
  | .hbm, ⟨16, _⟩ => ⟨S1x1024, .f32⟩
  | .hbm, ⟨17, _⟩ => ⟨S65536x1024, .f32⟩
  | .hbm, ⟨18, _⟩ => ⟨S65536x1024, .f32⟩
  | .hbm, ⟨19, _⟩ => ⟨S65536x8, .f32⟩
  | .hbm, ⟨20, _⟩ => ⟨S65536x2, .f32⟩
  | .hbm, ⟨21, _⟩ => ⟨S65536x2, .i32⟩
  | .hbm, ⟨22, _⟩ => ⟨S_, .f32⟩
  | .hbm, ⟨23, _⟩ => ⟨S65536, .f32⟩
  | .hbm, ⟨24, _⟩ => ⟨S_, .f32⟩
  | .hbm, ⟨25, _⟩ => ⟨S65536, .f32⟩
  | .hbm, ⟨26, _⟩ => ⟨S65536, .f32⟩
  | .hbm, ⟨27, _⟩ => ⟨S65536x1, .f32⟩
  | .hbm, ⟨28, _⟩ => ⟨S65536x2, .f32⟩
  | .hbm, ⟨29, _⟩ => ⟨S65536x2, .f32⟩
  | .hbm, ⟨30, _⟩ => ⟨S65536x2, .f32⟩
  | .hbm, ⟨31, _⟩ => ⟨S_, .f32⟩
  | .hbm, ⟨32, _⟩ => ⟨S65536, .f32⟩
  | .hbm, ⟨33, _⟩ => ⟨S65536x1, .f32⟩
  | .hbm, ⟨34, _⟩ => ⟨S65536x2, .f32⟩
  | .hbm, ⟨35, _⟩ => ⟨S65536x2, .f32⟩
  | .hbm, ⟨36, _⟩ => ⟨S65536x2x1, .i32⟩
  | .hbm, ⟨37, _⟩ => ⟨S1x1x8, .i32⟩
  | .hbm, ⟨38, _⟩ => ⟨S65536x2x8, .i32⟩
  | .hbm, ⟨39, _⟩ => ⟨S65536x2x8, .i32⟩
  | .hbm, ⟨40, _⟩ => ⟨S65536x2x8, .i1⟩
  | .hbm, ⟨41, _⟩ => ⟨S65536x2x8, .f32⟩
  | .hbm, ⟨42, _⟩ => ⟨S65536x2x1, .f32⟩
  | .hbm, ⟨43, _⟩ => ⟨S65536x2x8, .f32⟩
  | .hbm, ⟨44, _⟩ => ⟨S65536x2x8, .f32⟩
  | .hbm, ⟨45, _⟩ => ⟨S_, .f32⟩
  | .hbm, ⟨46, _⟩ => ⟨S65536x8, .f32⟩
  | .hbm, ⟨47, _⟩ => ⟨S_, .f32⟩
  | .hbm, ⟨48, _⟩ => ⟨S65536x120, .f32⟩
  | .hbm, ⟨49, _⟩ => ⟨S65536x128, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_values : Ref sig .tc := ⟨.hbm, 20, rfl⟩
abbrev main_indices : Ref sig .tc := ⟨.hbm, 21, rfl⟩
abbrev main_cst_2 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]
-- ==== Proof.Math.lean ====
/- The mathematics both programs of the state-space scan compute, on extended reals, named once: one chunk's
   prefix sums, decays and products, and the state carried from chunk to chunk. -/
module

public import Idealize.ShloMosaic.Lib.Pointwise

@[expose] public section

set_option maxRecDepth 16384

noncomputable section

namespace Cert.Ssd

open Idealize.ShloMosaic

/-- A chunk's running sum up to and including row `l`. -/
def cumAt (f : Fin 128 → EReal) (l : Fin 128) : EReal := ∑ k : Fin 128, if k.val ≤ l.val then f k else 0

/-- The running sum of the `w` rows ending at row `i` (rows before the first count nothing). -/
def tailSum (f : ℕ → EReal) (w i : ℕ) : EReal := ∑ j ∈ Finset.range w, if j ≤ i then f (i - j) else 0

/-- Two windows of `w` rows end to end are one window of `2 w` rows: a step of the prefix sum by doubling. -/
theorem tailSum_double (f : ℕ → EReal) (w i : ℕ) :
    tailSum f w i + (if w ≤ i then tailSum f w (i - w) else 0) = tailSum f (w + w) i := by
  unfold tailSum
  rw [Finset.sum_range_add]
  congr 1
  split
  · rename_i h
    refine Finset.sum_congr rfl fun j _ => ?_
    by_cases hj : j ≤ i - w
    · rw [if_pos hj, if_pos (by omega), Nat.sub_sub]
    · rw [if_neg hj, if_neg (by omega)]
  · rename_i h
    symm
    refine Finset.sum_eq_zero fun j _ => ?_
    rw [if_neg (by omega)]

/-- The window of 128 rows is the whole running sum. -/
theorem tailSum_all (f : ℕ → EReal) (l : Fin 128) : tailSum f 128 l.val = cumAt (fun k => f k.val) l := by
  unfold tailSum cumAt
  rw [Finset.sum_range, ← Finset.sum_filter, ← Finset.sum_filter]
  refine Finset.sum_nbij' (fun j => if h : l.val - j.val < 128 then ⟨l.val - j.val, h⟩ else 0)
    (fun j => if h : l.val - j.val < 128 then ⟨l.val - j.val, h⟩ else 0) ?_ ?_ ?_ ?_ ?_
  all_goals
    intro a ha
    simp only [Finset.mem_filter, Finset.mem_univ, true_and] at ha ⊢
    have h1 : l.val - a.val < 128 := by omega
    simp only [h1, dite_true]
  · omega
  · omega
  · have h2 : l.val - (l.val - a.val) < 128 := by omega
    simp only [h2, dite_true]
    apply Fin.ext
    show l.val - (l.val - a.val) = a.val
    omega
  · have h2 : l.val - (l.val - a.val) < 128 := by omega
    simp only [h2, dite_true]
    apply Fin.ext
    show l.val - (l.val - a.val) = a.val
    omega

/-! ## One chunk: activations `u` (128 rows, 3072 channels), step sizes `dt` and running log decays `cm` per head, the
   state `st` the chunk starts from, the gate `z`, the skip weights `d` and the norm's gain `gn` per channel -/

/-- The head of a channel. -/
def hd (j : Fin 2048) : Fin 32 := ⟨j.val / 64, by omega⟩

/-- The activation channel holding the input projection's entry `n` for a channel's group. -/
def bcol (j : Fin 2048) (n : Fin 128) : Fin 3072 := ⟨2048 + 128 * (j.val / 512) + n.val, by omega⟩

/-- The activation channel holding the output projection's entry `n` for a channel's group. -/
def ccol (j : Fin 2048) (n : Fin 128) : Fin 3072 := ⟨2560 + 128 * (j.val / 512) + n.val, by omega⟩

/-- The activation channel of a channel itself. -/
def xcol (j : Fin 2048) : Fin 3072 := ⟨j.val, by omega⟩

/-- Channel `k` of a channel's group. -/
def gcol (j : Fin 2048) (k : Fin 512) : Fin 2048 := ⟨512 * (j.val / 512) + k.val, by omega⟩

section Chunk

variable (u : Fin 128 → Fin 3072 → EReal) (dt cm : Fin 128 → Fin 32 → EReal) (st : Fin 128 → Fin 2048 → EReal)
variable (z : Fin 128 → Fin 2048 → EReal) (d gn : Fin 2048 → EReal)

/-- The input of row `s` times its step size. -/
def xdt (s : Fin 128) (j : Fin 2048) : EReal := u s (xcol j) * dt s (hd j)

/-- The decay from row `s` to row `t`, none backwards in time. -/
def decay (t s : Fin 128) (j : Fin 2048) : EReal :=
  Ideal.exp (if s.val ≤ t.val then cm t (hd j) - cm s (hd j) else Ideal.ofBits .f32 0xFF800000#32)

/-- The products of the output projection at row `t` with the input projection at row `s`. -/
def cbAt (t s : Fin 128) (j : Fin 2048) : EReal := ∑ n : Fin 128, u t (ccol j n) * u s (bcol j n)

/-- What the chunk's own rows contribute. -/
def ydiag (t : Fin 128) (j : Fin 2048) : EReal := ∑ s : Fin 128, cbAt u t s j * decay cm t s j * xdt u dt s j

/-- What the state at the chunk's start contributes. -/
def yoff (t : Fin 128) (j : Fin 2048) : EReal := (∑ n : Fin 128, u t (ccol j n) * st n j) * Ideal.exp (cm t (hd j))

/-- The state after the chunk. -/
def newSt (n : Fin 128) (j : Fin 2048) : EReal :=
  st n j * Ideal.exp (cm 127 (hd j))
    + ∑ s : Fin 128, u s (bcol j n) * (Ideal.exp (cm 127 (hd j) - cm s (hd j)) * xdt u dt s j)

/-- The scan's result with the skip connection. -/
def yAt (t : Fin 128) (j : Fin 2048) : EReal := ydiag u dt cm t j + yoff u cm st t j + d j * u t (xcol j)

/-- A gated value. -/
def gate (y z : EReal) : EReal := y * (z * Ideal.logistic z)

/-- The group-normed value of a gated row `g` at channel `j`. -/
def normed (g : Fin 2048 → EReal) (gn : Fin 2048 → EReal) (j : Fin 2048) : EReal :=
  g j * Ideal.rsqrt (Ideal.div (∑ k : Fin 512, g (gcol j k) * g (gcol j k)) (Ideal.ofBits .f32 0x44000000#32)
    + Ideal.ofBits .f32 0x358637BD#32) * gn j

/-- The chunk's result. -/
def outAt (t : Fin 128) (j : Fin 2048) : EReal :=
  normed (fun j => gate (yAt u dt cm st d t j) (z t j)) gn j

end Chunk

end Cert.Ssd

end
-- ==== Proof.VecA.lean ====
/- The kernel body's vector text, group by group: the values it computes from a chunk's activations, step sizes and
   running sums, as functions of the group number, each read at an index. -/
module

public import proofs.«01_k».proof.Proof.Math
public import proofs.«01_k».proof.Proof.Gen.KernelIdeal.Skeleton

@[expose] public section

set_option maxRecDepth 16384

noncomputable section

namespace Cert.Ssd

open Cert.KernelIdeal Cert.KernelIdeal.Gen Idealize.ShloMosaic

/-! ## The slices' side conditions -/

theorem sl_col (o : ℕ) (h : o < 128) : S128x128.Slices ![0, o] S128x1 := ⟨rfl, fun a => match a with
  | ⟨0, _⟩ => by show 0 + 128 ≤ 128; omega
  | ⟨1, _⟩ => by show o + 1 ≤ 128; omega⟩
theorem sl_row (o : ℕ) (h : o < 128) : S128x128.Slices ![o, 0] S1x128 := ⟨rfl, fun a => match a with
  | ⟨0, _⟩ => by show o + 1 ≤ 128; omega
  | ⟨1, _⟩ => by show 0 + 128 ≤ 128; omega⟩
theorem sl_lane (o : ℕ) (h : o ≤ 1920) : S128x2048.Slices ![0, o] S128x128 := ⟨rfl, fun a => match a with
  | ⟨0, _⟩ => by show 0 + 128 ≤ 128; omega
  | ⟨1, _⟩ => by show o + 128 ≤ 2048; omega⟩
theorem sl_bc (o : ℕ) (h : o ≤ 384) : S128x512.Slices ![0, o] S128x128 := ⟨rfl, fun a => match a with
  | ⟨0, _⟩ => by show 0 + 128 ≤ 128; omega
  | ⟨1, _⟩ => by show o + 128 ≤ 512; omega⟩
theorem sl_group (o : ℕ) (h : o ≤ 1536) : S128x2048.Slices ![0, o] S128x512 := ⟨rfl, fun a => match a with
  | ⟨0, _⟩ => by show 0 + 128 ≤ 128; omega
  | ⟨1, _⟩ => by show o + 512 ≤ 2048; omega⟩
theorem sl_grow (o : ℕ) (h : o ≤ 1536) : S1x2048.Slices ![0, o] S1x512 := ⟨rfl, fun a => match a with
  | ⟨0, _⟩ => by show 0 + 1 ≤ 1; omega
  | ⟨1, _⟩ => by show o + 512 ≤ 2048; omega⟩

/-! ## Comparisons of row and lane numbers -/

theorem ofBool_ite (p : Prop) [Decidable p] : BitVec.ofBool (decide p) = if p then 1#1 else 0#1 := by
  split <;> rename_i h <;> simp [h]

theorem toInt_small (a : ℕ) (ha : a < 1024) : (BitVec.ofNat 32 a).toInt = a := by
  rw [BitVec.toInt_eq_toNat_of_lt] <;> rw [BitVec.toNat_ofNat, Nat.mod_eq_of_lt (by omega)]
  omega

/-- A signed comparison of small numbers. -/
theorem cmpi_sge_ofNat (a b : ℕ) (ha : a < 1024) (hb : b < 1024) :
    IntOp.cmpi CmpIPredicate.sge (BitVec.ofNat 32 a) (BitVec.ofNat 32 b) = if b ≤ a then 1#1 else 0#1 := by
  rw [← ofBool_ite]
  show BitVec.ofBool (BitVec.sle _ _) = _
  congr 1
  rw [BitVec.sle_eq_decide, toInt_small a ha, toInt_small b hb]
  simp only [Int.ofNat_le]

theorem cmpi_slt_ofNat (a b : ℕ) (ha : a < 1024) (hb : b < 1024) :
    IntOp.cmpi CmpIPredicate.slt (BitVec.ofNat 32 a) (BitVec.ofNat 32 b) = if a < b then 1#1 else 0#1 := by
  rw [← ofBool_ite]
  show BitVec.ofBool (BitVec.slt _ _) = _
  congr 1
  rw [BitVec.slt_eq_decide, toInt_small a ha, toInt_small b hb]
  simp only [Int.ofNat_lt]

theorem select_ite {α : Type} (p : Prop) [Decidable p] (a b : α) :
    Scalar.select (if p then 1#1 else 0#1) a b = if p then a else b := by
  split <;> rfl

/-! ## A per-head vector spread over the channels -/

/-- Two heads' columns, each over 64 lanes. -/
def EXp (c : ℕ) (hc : c < 16) (v : FVec Ideal S128x128 .f32) : FVec Ideal S128x128 .f32 :=
  select (cmpi .slt (iota .tc S128x128 32 [1] iota_S128x128_d1_w32) (broadcast S128x128 64#32))
    (broadcastTo S128x128 (shapeCast S128x1 (extractStridedSlice S128x1 ![0, 2 * c] v (sl_col _ (by omega))) shapeCasts_S128x1_S128x1) broadcasts_S128x1_S128x128)
    (broadcastTo S128x128 (shapeCast S128x1 (extractStridedSlice S128x1 ![0, 2 * c + 1] v (sl_col _ (by omega))) shapeCasts_S128x1_S128x1) broadcasts_S128x1_S128x128)

theorem EXp_apply (c : ℕ) (hc : c < 16) (v : FVec Ideal S128x128 .f32) (i j : Fin 128) :
    EXp c hc v (ix2 i j) = v (ix2 i ⟨2 * c + j.val / 64, by omega⟩) := by
  unfold EXp
  pointwise
  rw [cmpi_slt_ofNat _ 64 (by omega) (by omega), select_ite]
  split
  · congr 2; apply Fin.ext; show 2 * c = 2 * c + j.val / 64; omega
  · congr 2; apply Fin.ext; show 2 * c + 1 = 2 * c + j.val / 64; omega

/-- Sixteen such pairs side by side. -/
def EX (v : FVec Ideal S128x128 .f32) : FVec Ideal S128x2048 .f32 :=
  concatenate S128x2048 1 [⟨S128x128, EXp 0 (by decide) v⟩, ⟨S128x128, EXp 1 (by decide) v⟩, ⟨S128x128, EXp 2 (by decide) v⟩,
    ⟨S128x128, EXp 3 (by decide) v⟩, ⟨S128x128, EXp 4 (by decide) v⟩, ⟨S128x128, EXp 5 (by decide) v⟩, ⟨S128x128, EXp 6 (by decide) v⟩,
    ⟨S128x128, EXp 7 (by decide) v⟩, ⟨S128x128, EXp 8 (by decide) v⟩, ⟨S128x128, EXp 9 (by decide) v⟩, ⟨S128x128, EXp 10 (by decide) v⟩,
    ⟨S128x128, EXp 11 (by decide) v⟩, ⟨S128x128, EXp 12 (by decide) v⟩, ⟨S128x128, EXp 13 (by decide) v⟩, ⟨S128x128, EXp 14 (by decide) v⟩,
    ⟨S128x128, EXp 15 (by decide) v⟩] concatenates_S128x128_S128x128_S128x128_S128x128_S128x128_S128x128_S128x128_S128x128_S128x128_S128x128_S128x128_S128x128_S128x128_S128x128_S128x128_S128x128_S128x2048_d1

theorem getElem_zero' {α : Type} (x : α) (xs : List α) (k : ℕ) (h : k < (x :: xs).length) (e : k = 0) : (x :: xs)[k] = x := by
  subst e; rfl

theorem getElem_succ' {α : Type} (x : α) (xs : List α) (k k' : ℕ) (h : k < (x :: xs).length) (h' : k' < xs.length) (e : k = k' + 1) :
    (x :: xs)[k] = xs[k'] := by
  subst e; rfl

theorem list4_all {α : Type} (P : ℕ → α → Prop) (a0 a1 a2 a3 : α) (h0 : P 0 a0) (h1 : P 1 a1) (h2 : P 2 a2) (h3 : P 3 a3)
    (k : ℕ) (hk : k < 4) : P k (([a0, a1, a2, a3] : List α)[k]'hk) := by
  match k, hk with
  | 0, _ => exact h0
  | 1, _ => exact h1
  | 2, _ => exact h2
  | 3, _ => exact h3

theorem list16_all {α : Type} (P : ℕ → α → Prop) (f : (k : ℕ) → k < 16 → α) (h : ∀ k hk, P k (f k hk)) (k : ℕ) (hk : k < 16) :
    P k (([f 0 (by decide), f 1 (by decide), f 2 (by decide), f 3 (by decide), f 4 (by decide), f 5 (by decide), f 6 (by decide), f 7 (by decide),
      f 8 (by decide), f 9 (by decide), f 10 (by decide), f 11 (by decide), f 12 (by decide), f 13 (by decide), f 14 (by decide), f 15 (by decide)] : List α)[k]'hk) := by
  match k, hk with
  | 0, _ => exact h _ _
  | 1, _ => exact h _ _
  | 2, _ => exact h _ _
  | 3, _ => exact h _ _
  | 4, _ => exact h _ _
  | 5, _ => exact h _ _
  | 6, _ => exact h _ _
  | 7, _ => exact h _ _
  | 8, _ => exact h _ _
  | 9, _ => exact h _ _
  | 10, _ => exact h _ _
  | 11, _ => exact h _ _
  | 12, _ => exact h _ _
  | 13, _ => exact h _ _
  | 14, _ => exact h _ _
  | 15, _ => exact h _ _
  | n + 16, hk => exact absurd hk (by omega)

/-- Pieces of 128 lanes side by side, read at a position along the lanes. -/
theorem concatAt_lanes (N : ℕ) (i : Fin 128) (j : Fin N) :
    ∀ (xs : List (FVec Ideal S128x128 .f32)) (hs) (c : ℕ) (hc) (hk : c / 128 < xs.length),
      concatenateAt ⟨2, ![128, N]⟩ 1 (ix2 i j) (xs.map fun x => (⟨S128x128, x⟩ : (s : Shape) × (s.Idx → EReal))) hs c hc
        = xs[c / 128] (ix2 i ⟨c % 128, Nat.mod_lt _ (by decide)⟩)
  | [], _, c, hc, hk => absurd hk (Nat.not_lt_zero _)
  | [x], hs, c, hc, hk => by
    have hk' : c / 128 = 0 := by simpa using hk
    have hc' : c < 128 := by omega
    show concatenateAt _ 1 (ix2 i j) [⟨S128x128, x⟩] hs c hc = _
    rw [concatenateAt_singleton]
    rw [getElem_zero' _ _ _ _ hk']
    congr 1
    rw [Shape.Idx.norm_def]
    funext a
    apply Fin.ext
    match a with
    | ⟨0, _⟩ => rfl
    | ⟨1, _⟩ => show c = c % 128; omega
  | x :: y :: xs, hs, c, hc, hk => by
    show concatenateAt _ 1 (ix2 i j) (⟨S128x128, x⟩ :: ⟨S128x128, y⟩ :: xs.map _) hs c hc = _
    rw [concatenateAt_cons]
    by_cases h : c < 128
    · refine (dif_pos h).trans ?_
      have hk' : c / 128 = 0 := by omega
      rw [getElem_zero' _ _ _ _ hk']
      congr 1
      rw [Shape.Idx.norm_def]
      funext a
      apply Fin.ext
      match a with
      | ⟨0, _⟩ => rfl
      | ⟨1, _⟩ => show c = c % 128; omega
    · refine (dif_neg h).trans ?_
      have hk' : c / 128 = (c - 128) / 128 + 1 := by omega
      have hm : c % 128 = (c - 128) % 128 := by omega
      have IH := concatAt_lanes N i j (y :: xs) (fun s h => hs s (List.mem_cons_of_mem _ h)) (c - 128) (by
        have e := hc
        rw [List.map_cons, List.map_cons, axisSizes_cons _ _ _ _ (hs S128x128 List.mem_cons_self), List.sum_cons] at e
        have e' : c < 128 + _ := e
        have : c - 128 < _ := Nat.sub_lt_left_of_lt_add (Nat.le_of_not_lt h) e'
        exact this) (by simp only [List.length_cons] at hk ⊢; omega)
      refine IH.trans ?_
      rw [getElem_succ' _ _ _ _ hk (by simp only [List.length_cons] at hk ⊢; omega) hk']
      simp only [hm]

theorem concat16_apply (a0 a1 a2 a3 a4 a5 a6 a7 a8 a9 a10 a11 a12 a13 a14 a15 : FVec Ideal S128x128 .f32) (i : Fin 128) (j : Fin 2048) :
    concatenate S128x2048 1 [⟨S128x128, a0⟩, ⟨S128x128, a1⟩, ⟨S128x128, a2⟩, ⟨S128x128, a3⟩, ⟨S128x128, a4⟩, ⟨S128x128, a5⟩, ⟨S128x128, a6⟩, ⟨S128x128, a7⟩, ⟨S128x128, a8⟩, ⟨S128x128, a9⟩, ⟨S128x128, a10⟩, ⟨S128x128, a11⟩, ⟨S128x128, a12⟩, ⟨S128x128, a13⟩, ⟨S128x128, a14⟩, ⟨S128x128, a15⟩] concatenates_S128x128_S128x128_S128x128_S128x128_S128x128_S128x128_S128x128_S128x128_S128x128_S128x128_S128x128_S128x128_S128x128_S128x128_S128x128_S128x128_S128x2048_d1 (ix2 i j)
      = (([a0, a1, a2, a3, a4, a5, a6, a7, a8, a9, a10, a11, a12, a13, a14, a15] : List (FVec Ideal S128x128 .f32))[j.val / 128]'(show j.val / 128 < 16 by omega)) (ix2 i ⟨j.val % 128, by omega⟩) := by
  rw [concatenate_apply]
  exact concatAt_lanes 2048 i j [a0, a1, a2, a3, a4, a5, a6, a7, a8, a9, a10, a11, a12, a13, a14, a15] _ j.val _ (by show _ < 16; omega)

theorem concat4_apply (a0 a1 a2 a3 : FVec Ideal S128x128 .f32) (i : Fin 128) (j : Fin 512) :
    concatenate S128x512 1 [⟨S128x128, a0⟩, ⟨S128x128, a1⟩, ⟨S128x128, a2⟩, ⟨S128x128, a3⟩] concatenates_S128x128_S128x128_S128x128_S128x128_S128x512_d1 (ix2 i j)
      = (([a0, a1, a2, a3] : List (FVec Ideal S128x128 .f32))[j.val / 128]'(show j.val / 128 < 4 by omega)) (ix2 i ⟨j.val % 128, by omega⟩) := by
  rw [concatenate_apply]
  exact concatAt_lanes 512 i j [a0, a1, a2, a3] _ j.val _ (by show _ < 4; omega)

theorem EX_apply (v : FVec Ideal S128x128 .f32) (i : Fin 128) (j : Fin 2048) : EX v (ix2 i j) = v (ix2 i ⟨(hd j).val, by have := (hd j).isLt; omega⟩) := by
  unfold EX
  rw [concat16_apply]
  have key := list16_all (fun k (a : FVec Ideal S128x128 .f32) => ∀ (hk : k < 16) (r : Fin 128), a (ix2 i r) = v (ix2 i ⟨2 * k + r.val / 64, by omega⟩))
    (fun k hk => EXp k hk v) (fun k hk _ r => EXp_apply k hk v i r) (j.val / 128) (by omega)
  refine (key (by omega) ⟨j.val % 128, by omega⟩).trans ?_
  congr 2
  apply Fin.ext
  show 2 * (j.val / 128) + j.val % 128 / 64 = j.val / 64
  omega

/-! ## One group -/

/-- A head's products of masked decays with the inputs of 128 channels. -/
def HT (o lo : ℕ) (ho : o < 128) (hlo : lo ≤ 1920) (cum cumT : FVec Ideal S128x128 .f32) (xdt : FVec Ideal S128x2048 .bf16)
    (tril : IVec S128x128 1) (cb : FVec Ideal S128x128 .f32) : FVec Ideal S128x128 .f32 :=
  matmul dot_S128x128_S128x128_S128x128_1_0_0_1_n_n none
    (truncf .bf16 (mulf cb (exp (select tril
      (subf (broadcastTo S128x128 (extractStridedSlice S128x1 ![0, o] cum (sl_col o ho)) broadcasts_S128x1_S128x128)
        (broadcastTo S128x128 (extractStridedSlice S1x128 ![o, 0] cumT (sl_row o ho)) broadcasts_S1x128_S128x128))
      (broadcast S128x128 (Scalar.ofBits .f32 0xFF800000#32))))) bitsLt_bf16_f32)
    (extractStridedSlice S128x128 ![0, lo] xdt (sl_lane lo hlo)) (constant S128x128 .f32 0x00000000#32)

theorem HT_apply (o lo : ℕ) (ho : o < 128) (hlo : lo ≤ 1920) (cum : FVec Ideal S128x128 .f32) (xdt : FVec Ideal S128x2048 .bf16)
    (cb : FVec Ideal S128x128 .f32) (i j : Fin 128) :
    HT o lo ho hlo cum (transpose S128x128 [1, 0] cum transposes_S128x128_p1_0_S128x128) xdt k0_pay61 cb (ix2 i j)
      = ∑ s : Fin 128, cb (ix2 i s) * Ideal.exp (if s.val ≤ i.val then cum (ix2 i ⟨o, ho⟩) - cum (ix2 s ⟨o, ho⟩) else Ideal.ofBits .f32 0xFF800000#32)
          * xdt (ix2 s ⟨lo + j.val, by omega⟩) := by
  unfold HT
  pointwise [k0_pay61]
  refine Finset.sum_congr rfl fun s _ => ?_
  rw [cmpi_sge_ofNat _ _ (by omega) (by omega), select_ite]

/-- A pair of heads, each over its 64 lanes. -/
def PT (g c : ℕ) (hg : g < 4) (hc : c < 4) (cum cumT : FVec Ideal S128x128 .f32) (xdt : FVec Ideal S128x2048 .bf16)
    (tril : IVec S128x128 1) (lane : IVec S128x128 32) (cb : FVec Ideal S128x128 .f32) : FVec Ideal S128x128 .f32 :=
  select (cmpi .slt lane (broadcast S128x128 64#32))
    (HT (8 * g + 2 * c) (512 * g + 128 * c) (by omega) (by omega) cum cumT xdt tril cb)
    (HT (8 * g + 2 * c + 1) (512 * g + 128 * c) (by omega) (by omega) cum cumT xdt tril cb)

theorem PT_apply (g c : ℕ) (hg : g < 4) (hc : c < 4) (cum : FVec Ideal S128x128 .f32) (xdt : FVec Ideal S128x2048 .bf16)
    (cb : FVec Ideal S128x128 .f32) (i j : Fin 128) :
    PT g c hg hc cum (transpose S128x128 [1, 0] cum transposes_S128x128_p1_0_S128x128) xdt k0_pay61 (iota .tc S128x128 32 [1] iota_S128x128_d1_w32) cb (ix2 i j)
      = ∑ s : Fin 128, cb (ix2 i s) * Ideal.exp (if s.val ≤ i.val then cum (ix2 i ⟨8 * g + 2 * c + j.val / 64, by omega⟩) - cum (ix2 s ⟨8 * g + 2 * c + j.val / 64, by omega⟩) else Ideal.ofBits .f32 0xFF800000#32)
          * xdt (ix2 s ⟨512 * g + 128 * c + j.val, by omega⟩) := by
  unfold PT
  pointwise
  rw [HT_apply, HT_apply, cmpi_slt_ofNat _ 64 (by omega) (by omega), select_ite]
  split
  · have e : 8 * g + 2 * c + j.val / 64 = 8 * g + 2 * c := by omega
    simp only [e]
  · have e : 8 * g + 2 * c + j.val / 64 = 8 * g + 2 * c + 1 := by omega
    simp only [e]

/-- The group's products of output and input projections. -/
def CB (g : ℕ) (hg : g < 4) (bm cm : FVec Ideal S128x512 .f32) : FVec Ideal S128x128 .f32 :=
  matmul dot_S128x128_S128x128_S128x128_1_1_0_0_n_n none
    (truncf .bf16 (extractStridedSlice S128x128 ![0, 128 * g] cm (sl_bc _ (by omega))) bitsLt_bf16_f32)
    (truncf .bf16 (extractStridedSlice S128x128 ![0, 128 * g] bm (sl_bc _ (by omega))) bitsLt_bf16_f32) (constant S128x128 .f32 0x00000000#32)

theorem CB_apply (g : ℕ) (hg : g < 4) (bm cm : FVec Ideal S128x512 .f32) (i s : Fin 128) :
    CB g hg bm cm (ix2 i s) = ∑ n : Fin 128, cm (ix2 i ⟨128 * g + n.val, by omega⟩) * bm (ix2 s ⟨128 * g + n.val, by omega⟩) := by
  unfold CB
  pointwise

/-- The group's four pairs side by side. -/
def DG (g : ℕ) (hg : g < 4) (cum cumT : FVec Ideal S128x128 .f32) (xdt : FVec Ideal S128x2048 .bf16)
    (tril : IVec S128x128 1) (lane : IVec S128x128 32) (cb : FVec Ideal S128x128 .f32) : FVec Ideal S128x512 .f32 :=
  concatenate S128x512 1 [⟨S128x128, PT g 0 hg (by decide) cum cumT xdt tril lane cb⟩, ⟨S128x128, PT g 1 hg (by decide) cum cumT xdt tril lane cb⟩,
    ⟨S128x128, PT g 2 hg (by decide) cum cumT xdt tril lane cb⟩, ⟨S128x128, PT g 3 hg (by decide) cum cumT xdt tril lane cb⟩] concatenates_S128x128_S128x128_S128x128_S128x128_S128x512_d1

theorem DG_apply (g : ℕ) (hg : g < 4) (cum : FVec Ideal S128x128 .f32) (xdt : FVec Ideal S128x2048 .bf16)
    (cb : FVec Ideal S128x128 .f32) (i : Fin 128) (j : Fin 512) :
    DG g hg cum (transpose S128x128 [1, 0] cum transposes_S128x128_p1_0_S128x128) xdt k0_pay61 (iota .tc S128x128 32 [1] iota_S128x128_d1_w32) cb (ix2 i j)
      = ∑ s : Fin 128, cb (ix2 i s) * Ideal.exp (if s.val ≤ i.val then cum (ix2 i ⟨8 * g + j.val / 64, by omega⟩) - cum (ix2 s ⟨8 * g + j.val / 64, by omega⟩) else Ideal.ofBits .f32 0xFF800000#32)
          * xdt (ix2 s ⟨512 * g + j.val, by omega⟩) := by
  unfold DG
  rw [concat4_apply]
  have key := list4_all (fun k (a : FVec Ideal S128x128 .f32) => ∀ (hk : k < 4) (r : Fin 128), a (ix2 i r)
      = ∑ s : Fin 128, cb (ix2 i s) * Ideal.exp (if s.val ≤ i.val then cum (ix2 i ⟨8 * g + 2 * k + r.val / 64, by omega⟩) - cum (ix2 s ⟨8 * g + 2 * k + r.val / 64, by omega⟩) else Ideal.ofBits .f32 0xFF800000#32)
          * xdt (ix2 s ⟨512 * g + 128 * k + r.val, by omega⟩))
    (PT g 0 hg (by decide) cum (transpose S128x128 [1, 0] cum transposes_S128x128_p1_0_S128x128) xdt k0_pay61 (iota .tc S128x128 32 [1] iota_S128x128_d1_w32) cb)
    (PT g 1 hg (by decide) cum (transpose S128x128 [1, 0] cum transposes_S128x128_p1_0_S128x128) xdt k0_pay61 (iota .tc S128x128 32 [1] iota_S128x128_d1_w32) cb)
    (PT g 2 hg (by decide) cum (transpose S128x128 [1, 0] cum transposes_S128x128_p1_0_S128x128) xdt k0_pay61 (iota .tc S128x128 32 [1] iota_S128x128_d1_w32) cb)
    (PT g 3 hg (by decide) cum (transpose S128x128 [1, 0] cum transposes_S128x128_p1_0_S128x128) xdt k0_pay61 (iota .tc S128x128 32 [1] iota_S128x128_d1_w32) cb)
    (fun _ r => PT_apply g 0 hg _ cum xdt cb i r) (fun _ r => PT_apply g 1 hg _ cum xdt cb i r)
    (fun _ r => PT_apply g 2 hg _ cum xdt cb i r) (fun _ r => PT_apply g 3 hg _ cum xdt cb i r) (j.val / 128) (by omega)
  refine (key (by omega) ⟨j.val % 128, by omega⟩).trans ?_
  have e1 : 8 * g + 2 * (j.val / 128) + j.val % 128 / 64 = 8 * g + j.val / 64 := by omega
  have e2 : 512 * g + 128 * (j.val / 128) + j.val % 128 = 512 * g + j.val := by omega
  simp only [e1, e2]

/-- The state's contribution to the group. -/
def OFF (g : ℕ) (hg : g < 4) (cm : FVec Ideal S128x512 .f32) (ecum : FVec Ideal S128x2048 .f32) (st : FVec Ideal S128x512 .f32) : FVec Ideal S128x512 .f32 :=
  mulf (matmul dot_S128x128_S128x512_S128x512_1_0_0_1_n_n none
    (truncf .bf16 (extractStridedSlice S128x128 ![0, 128 * g] cm (sl_bc _ (by omega))) bitsLt_bf16_f32)
    (truncf .bf16 st bitsLt_bf16_f32) (constant S128x512 .f32 0x00000000#32))
    (extractStridedSlice S128x512 ![0, 512 * g] ecum (sl_group _ (by omega)))

theorem OFF_apply (g : ℕ) (hg : g < 4) (cm : FVec Ideal S128x512 .f32) (ecum : FVec Ideal S128x2048 .f32) (st : FVec Ideal S128x512 .f32) (i : Fin 128) (j : Fin 512) :
    OFF g hg cm ecum st (ix2 i j) = (∑ n : Fin 128, cm (ix2 i ⟨128 * g + n.val, by omega⟩) * st (ix2 n j)) * ecum (ix2 i ⟨512 * g + j.val, by omega⟩) := by
  unfold OFF
  pointwise

/-- The group's next state. -/
def NEW (g : ℕ) (hg : g < 4) (bm : FVec Ideal S128x512 .f32) (tx : FVec Ideal S128x2048 .bf16) (elast : FVec Ideal S1x2048 .f32) (st : FVec Ideal S128x512 .f32) : FVec Ideal S128x512 .f32 :=
  shapeCast S128x512 (addf (mulf st (broadcastTo S128x512 (extractStridedSlice S1x512 ![0, 512 * g] elast (sl_grow _ (by omega))) broadcasts_S1x512_S128x512))
    (matmul dot_S128x128_S128x512_S128x512_1_0_0_1_n_n none
      (truncf .bf16 (transpose S128x128 [1, 0] (extractStridedSlice S128x128 ![0, 128 * g] bm (sl_bc _ (by omega))) transposes_S128x128_p1_0_S128x128) bitsLt_bf16_f32)
      (extractStridedSlice S128x512 ![0, 512 * g] tx (sl_group _ (by omega))) (constant S128x512 .f32 0x00000000#32))) shapeCasts_S128x512_S128x512

theorem NEW_apply (g : ℕ) (hg : g < 4) (bm : FVec Ideal S128x512 .f32) (tx : FVec Ideal S128x2048 .bf16) (elast : FVec Ideal S1x2048 .f32) (st : FVec Ideal S128x512 .f32) (n : Fin 128) (j : Fin 512) :
    NEW g hg bm tx elast st (ix2 n j) = st (ix2 n j) * elast (ix2 0 ⟨512 * g + j.val, by omega⟩)
      + ∑ s : Fin 128, bm (ix2 s ⟨128 * g + n.val, by omega⟩) * tx (ix2 s ⟨512 * g + j.val, by omega⟩) := by
  unfold NEW
  pointwise

/-- The group's skip connection, gate and norm. -/
def FIN (g : ℕ) (hg : g < 4) (xs : FVec Ideal S128x2048 .f32) (dsk gn : FVec Ideal S1x2048 .f32) (dg off : FVec Ideal S128x512 .f32) (z : Vec Ideal S128x512 .f32) : FVec Ideal S128x512 .bf16 :=
  let y := addf (addf dg off) (mulf (broadcastTo S128x512 (extractStridedSlice S1x512 ![0, 512 * g] dsk (sl_grow _ (by omega))) broadcasts_S1x512_S128x512)
    (extractStridedSlice S128x512 ![0, 512 * g] xs (sl_group _ (by omega))))
  let zz : FVec Ideal S128x512 .f32 := shapeCast S128x512 z shapeCasts_S128x512_S128x512
  let gt := mulf y (mulf zz (logistic zz))
  truncf .bf16 (mulf (mulf gt (broadcastTo S128x512 (rsqrt (addf (divf (shapeCast S128x1 (multiReduction .add [1] S128 (mulf gt gt) 0x00000000#32 reduces_S128x512_S128 (.inl rfl) rfl) shapeCasts_S128_S128x1)
      (broadcast S128x1 (Scalar.ofBits .f32 0x44000000#32))) (broadcast S128x1 (Scalar.ofBits .f32 0x358637BD#32)))) broadcasts_S128x1_S128x512))
    (broadcastTo S128x512 (extractStridedSlice S1x512 ![0, 512 * g] gn (sl_grow _ (by omega))) broadcasts_S1x512_S128x512)) bitsLt_bf16_f32

theorem FIN_apply (g : ℕ) (hg : g < 4) (xs : FVec Ideal S128x2048 .f32) (dsk gn : FVec Ideal S1x2048 .f32) (dg off : FVec Ideal S128x512 .f32) (z : Vec Ideal S128x512 .f32) (i : Fin 128) (j : Fin 512) :
    FIN g hg xs dsk gn dg off z (ix2 i j) =
      (fun gt : Fin 512 → EReal => gt j * Ideal.rsqrt (Ideal.div (∑ k : Fin 512, gt k * gt k) (Ideal.ofBits .f32 0x44000000#32) + Ideal.ofBits .f32 0x358637BD#32) * gn (ix2 0 ⟨512 * g + j.val, by omega⟩))
        (fun k => gate (dg (ix2 i k) + off (ix2 i k) + dsk (ix2 0 ⟨512 * g + k.val, by omega⟩) * xs (ix2 i ⟨512 * g + k.val, by omega⟩)) (z (ix2 i k))) := by
  unfold FIN gate
  pointwise

end Cert.Ssd

end
-- ==== Proof.VecB.lean ====
module

public import proofs.«01_k».proof.Proof.VecA
public import proofs.«01_k».proof.Proof.Gen.KernelIdeal.Frame
public import Idealize.ShloMosaic.Lib.Pipeline.ReadBack

@[expose] public section

set_option maxRecDepth 16384

noncomputable section

namespace Cert.Ssd

open Cert.KernelIdeal Cert.KernelIdeal.Gen Idealize.ShloMosaic Idealize.ShloMosaic.TcCoe

/-! ## The vectors one chunk's groups share -/

/-- The convolved and activated rows. -/
def uV (x0 : Vec Ideal S128x3072 .f32) (ha : Vec Ideal S8x3072 .f32) (x3 : Vec Ideal S4x3072 .f32) (x4 : Vec Ideal S1x3072 .f32) : FVec Ideal S128x3072 .f32 :=
  k0_pay8 ha x3 (iota .tc S8x3072 32 [0] iota_S8x3072_d0_w32) (k0_pay5 x0 ha x3 x4) (k0_pay6 x0)

/-- The running log decays. -/
def cumV (x2 : Vec Ideal S128x128 .f32) (x5 x6 : Vec Ideal S1x128 .f32) : FVec Ideal S128x128 .f32 :=
  k0_pay15 (k0_pay13 x2 x5 x6) (iota .tc S128x128 32 [0] iota_S128x128_d0_w32) k0_pay14 1#32

/-- The cleared state, and the cleared rows before the first. -/
def st0 : Vec Ideal S128x2048 .f32 := k0_pay2 (F := Ideal)
def ha0 : Vec Ideal S8x3072 .f32 := k0_pay3 (F := Ideal)

section Parts

variable (u : FVec Ideal S128x3072 .f32) (dt cm : FVec Ideal S128x128 .f32)

def xsP : FVec Ideal S128x2048 .f32 := extractStridedSlice S128x2048 ![0, 0] u slices_S128x3072_o0_0_S128x2048
def bmP : FVec Ideal S128x512 .f32 := extractStridedSlice S128x512 ![0, 2048] u slices_S128x3072_o0_2048_S128x512
def cmP : FVec Ideal S128x512 .f32 := extractStridedSlice S128x512 ![0, 2560] u slices_S128x3072_o0_2560_S128x512
def xdtP : FVec Ideal S128x2048 .f32 := mulf (xsP u) (EX dt)
def lastP : FVec Ideal S1x2048 .f32 := extractStridedSlice S1x2048 ![127, 0] (EX cm) slices_S128x2048_o127_0_S1x2048
def txP : FVec Ideal S128x2048 .bf16 :=
  truncf .bf16 (mulf (exp (subf (broadcastTo S128x2048 (lastP cm) broadcasts_S1x2048_S128x2048) (EX cm))) (xdtP u dt)) bitsLt_bf16_f32

/-- A group's next state. -/
def newP (g : ℕ) (hg : g < 4) (st : FVec Ideal S128x512 .f32) : FVec Ideal S128x512 .f32 :=
  NEW g hg (bmP u) (txP u dt cm) (exp (lastP cm)) st

/-- A group's result. -/
def outP (g : ℕ) (hg : g < 4) (st z : FVec Ideal S128x512 .f32) (d gn : FVec Ideal S1x2048 .f32) : FVec Ideal S128x512 .bf16 :=
  FIN g hg (xsP u) (shapeCast S1x2048 d shapeCasts_S1x2048_S1x2048) (shapeCast S1x2048 gn shapeCasts_S1x2048_S1x2048)
    (DG g hg cm (transpose S128x128 [1, 0] cm transposes_S128x128_p1_0_S128x128) (truncf .bf16 (xdtP u dt) bitsLt_bf16_f32) k0_pay61
      (iota .tc S128x128 32 [1] iota_S128x128_d1_w32) (CB g hg (bmP u) (cmP u)))
    (OFF g hg (cmP u) (exp (EX cm)) st) z

end Parts

theorem hz2 : (![0, 0] : Fin 2 → Nat) = fun _ => 0 := by funext a; match a with | ⟨0, _⟩ => rfl | ⟨1, _⟩ => rfl

/-- What a later chunk leaves in the state, group by group. -/
theorem stB (c : Dev nD) (i : grid0.Coords) (arg2 : Memref sig .tc .vmem S128x3072 .f32) (harg2 : arg2.IsWhole) (arg3 : Memref sig .tc .vmem S128x2048 .f32) (harg3 : arg3.IsWhole) (arg4 : Memref sig .tc .vmem S128x128 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S128x2048 .bf16) (harg11 : arg11.IsWhole) (arg12 : Memref sig .tc .vmem S128x2048 .f32) (harg12 : arg12.IsWhole) (arg13 : Memref sig .tc .vmem S8x3072 .f32) (harg13 : arg13.IsWhole) (hc0 : ¬cond0_0 i)
    (x0 : Vec Ideal S128x3072 .f32) (x1 : Vec Ideal S128x2048 .f32) (x2 : Vec Ideal S128x128 .f32) (x3 : Vec Ideal S4x3072 .f32) (x4 : Vec Ideal S1x3072 .f32) (x5 : Vec Ideal S1x128 .f32) (x6 : Vec Ideal S1x128 .f32) (x7 : Vec Ideal S1x2048 .f32) (x8 : Vec Ideal S1x2048 .f32) (xs0 : Vec Ideal S128x2048 .f32) (xs1 : Vec Ideal S8x3072 .f32) :
    sout0_B_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1 = View.canon (Val := Elt Ideal) (s := S128x2048) [
      ⟨Rect.unit (s := S128x2048) ![0, 1536] S128x512.size inb_S128x2048_S128x512_0_1536, newP (uV x0 xs1 x3 x4) (k0_pay12 x2 x5) (cumV x2 x5 x6) 3 (by decide) (View.ld xs0 (Rect.unit (s := S128x2048) ![0, 1536] S128x512.size inb_S128x2048_S128x512_0_1536))⟩,
      ⟨Rect.unit (s := S128x2048) ![0, 1024] S128x512.size inb_S128x2048_S128x512_0_1024, newP (uV x0 xs1 x3 x4) (k0_pay12 x2 x5) (cumV x2 x5 x6) 2 (by decide) (View.ld xs0 (Rect.unit (s := S128x2048) ![0, 1024] S128x512.size inb_S128x2048_S128x512_0_1024))⟩,
      ⟨Rect.unit (s := S128x2048) ![0, 512] S128x512.size inb_S128x2048_S128x512_0_512, newP (uV x0 xs1 x3 x4) (k0_pay12 x2 x5) (cumV x2 x5 x6) 1 (by decide) (View.ld xs0 (Rect.unit (s := S128x2048) ![0, 512] S128x512.size inb_S128x2048_S128x512_0_512))⟩,
      ⟨Rect.unit (s := S128x2048) ![0, 0] S128x512.size inb_S128x2048_S128x512_0_0, newP (uV x0 xs1 x3 x4) (k0_pay12 x2 x5) (cumV x2 x5 x6) 0 (by decide) (View.ld xs0 (Rect.unit (s := S128x2048) ![0, 0] S128x512.size inb_S128x2048_S128x512_0_0))⟩] := by
  unfold sout0_B_0
  rw [View.read_writes_junk_eq_canon]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg12.read_unread, harg13.read_unread,
    View.ld_unit_zero (S := S128x3072) hz2, View.ld_unit_zero (S := S128x128) hz2, View.ld_unit_zero (S := S4x3072) hz2, View.ld_unit_zero (S := S1x3072) hz2, View.ld_unit_zero (S := S1x128) hz2, View.ld_unit_zero (S := S1x2048) hz2, View.ld_unit_zero (S := S8x3072) hz2]
  rfl

/-- What a later chunk leaves in the result, group by group. -/
theorem outB (c : Dev nD) (i : grid0.Coords) (arg2 : Memref sig .tc .vmem S128x3072 .f32) (harg2 : arg2.IsWhole) (arg3 : Memref sig .tc .vmem S128x2048 .f32) (harg3 : arg3.IsWhole) (arg4 : Memref sig .tc .vmem S128x128 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S128x2048 .bf16) (harg11 : arg11.IsWhole) (arg12 : Memref sig .tc .vmem S128x2048 .f32) (harg12 : arg12.IsWhole) (arg13 : Memref sig .tc .vmem S8x3072 .f32) (harg13 : arg13.IsWhole) (hc0 : ¬cond0_0 i)
    (x0 : Vec Ideal S128x3072 .f32) (x1 : Vec Ideal S128x2048 .f32) (x2 : Vec Ideal S128x128 .f32) (x3 : Vec Ideal S4x3072 .f32) (x4 : Vec Ideal S1x3072 .f32) (x5 : Vec Ideal S1x128 .f32) (x6 : Vec Ideal S1x128 .f32) (x7 : Vec Ideal S1x2048 .f32) (x8 : Vec Ideal S1x2048 .f32) (xs0 : Vec Ideal S128x2048 .f32) (xs1 : Vec Ideal S8x3072 .f32) :
    out0_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1 = View.canon (Val := Elt Ideal) (s := S128x2048) [
      ⟨Rect.unit (s := S128x2048) ![0, 1536] S128x512.size inb_S128x2048_S128x512_0_1536, outP (uV x0 xs1 x3 x4) (k0_pay12 x2 x5) (cumV x2 x5 x6) 3 (by decide) (View.ld xs0 (Rect.unit (s := S128x2048) ![0, 1536] S128x512.size inb_S128x2048_S128x512_0_1536)) (View.ld x1 (Rect.unit (s := S128x2048) ![0, 1536] S128x512.size inb_S128x2048_S128x512_0_1536)) x7 x8⟩,
      ⟨Rect.unit (s := S128x2048) ![0, 1024] S128x512.size inb_S128x2048_S128x512_0_1024, outP (uV x0 xs1 x3 x4) (k0_pay12 x2 x5) (cumV x2 x5 x6) 2 (by decide) (View.ld xs0 (Rect.unit (s := S128x2048) ![0, 1024] S128x512.size inb_S128x2048_S128x512_0_1024)) (View.ld x1 (Rect.unit (s := S128x2048) ![0, 1024] S128x512.size inb_S128x2048_S128x512_0_1024)) x7 x8⟩,
      ⟨Rect.unit (s := S128x2048) ![0, 512] S128x512.size inb_S128x2048_S128x512_0_512, outP (uV x0 xs1 x3 x4) (k0_pay12 x2 x5) (cumV x2 x5 x6) 1 (by decide) (View.ld xs0 (Rect.unit (s := S128x2048) ![0, 512] S128x512.size inb_S128x2048_S128x512_0_512)) (View.ld x1 (Rect.unit (s := S128x2048) ![0, 512] S128x512.size inb_S128x2048_S128x512_0_512)) x7 x8⟩,
      ⟨Rect.unit (s := S128x2048) ![0, 0] S128x512.size inb_S128x2048_S128x512_0_0, outP (uV x0 xs1 x3 x4) (k0_pay12 x2 x5) (cumV x2 x5 x6) 0 (by decide) (View.ld xs0 (Rect.unit (s := S128x2048) ![0, 0] S128x512.size inb_S128x2048_S128x512_0_0)) (View.ld x1 (Rect.unit (s := S128x2048) ![0, 0] S128x512.size inb_S128x2048_S128x512_0_0)) x7 x8⟩] := by
  unfold out0_B_9
  rw [View.read_writes_junk_eq_canon]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg12.read_unread, harg13.read_unread,
    View.ld_unit_zero (S := S128x3072) hz2, View.ld_unit_zero (S := S128x128) hz2, View.ld_unit_zero (S := S4x3072) hz2, View.ld_unit_zero (S := S1x3072) hz2, View.ld_unit_zero (S := S1x128) hz2, View.ld_unit_zero (S := S1x2048) hz2, View.ld_unit_zero (S := S8x3072) hz2]
  rfl

/-- What a later chunk leaves for the next chunk's convolution. -/
theorem haB (c : Dev nD) (i : grid0.Coords) (arg2 : Memref sig .tc .vmem S128x3072 .f32) (harg2 : arg2.IsWhole) (arg3 : Memref sig .tc .vmem S128x2048 .f32) (harg3 : arg3.IsWhole) (arg4 : Memref sig .tc .vmem S128x128 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S128x2048 .bf16) (harg11 : arg11.IsWhole) (arg12 : Memref sig .tc .vmem S128x2048 .f32) (harg12 : arg12.IsWhole) (arg13 : Memref sig .tc .vmem S8x3072 .f32) (harg13 : arg13.IsWhole) (hc0 : ¬cond0_0 i)
    (x0 : Vec Ideal S128x3072 .f32) (x1 : Vec Ideal S128x2048 .f32) (x2 : Vec Ideal S128x128 .f32) (x3 : Vec Ideal S4x3072 .f32) (x4 : Vec Ideal S1x3072 .f32) (x5 : Vec Ideal S1x128 .f32) (x6 : Vec Ideal S1x128 .f32) (x7 : Vec Ideal S1x2048 .f32) (x8 : Vec Ideal S1x2048 .f32) (xs0 : Vec Ideal S128x2048 .f32) (xs1 : Vec Ideal S8x3072 .f32) :
    sout0_B_1 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1 = k0_pay7 (k0_pay4 x0) := by
  unfold sout0_B_1
  rw [View.read_writes_junk_eq_canon]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg12.read_unread, harg13.read_unread,
    View.ld_unit_zero (S := S128x3072) hz2, View.ld_unit_zero (S := S128x128) hz2, View.ld_unit_zero (S := S4x3072) hz2, View.ld_unit_zero (S := S1x3072) hz2, View.ld_unit_zero (S := S1x128) hz2, View.ld_unit_zero (S := S1x2048) hz2, View.ld_unit_zero (S := S8x3072) hz2]
  rw [View.canon_cons_unit_zero hz2]

/-- What the first chunk leaves in the state: group by group over the cleared state. -/
theorem stA (c : Dev nD) (i : grid0.Coords) (arg2 : Memref sig .tc .vmem S128x3072 .f32) (harg2 : arg2.IsWhole) (arg3 : Memref sig .tc .vmem S128x2048 .f32) (harg3 : arg3.IsWhole) (arg4 : Memref sig .tc .vmem S128x128 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S128x2048 .bf16) (harg11 : arg11.IsWhole) (arg12 : Memref sig .tc .vmem S128x2048 .f32) (harg12 : arg12.IsWhole) (arg13 : Memref sig .tc .vmem S8x3072 .f32) (harg13 : arg13.IsWhole) (hc0 : cond0_0 i)
    (x0 : Vec Ideal S128x3072 .f32) (x1 : Vec Ideal S128x2048 .f32) (x2 : Vec Ideal S128x128 .f32) (x3 : Vec Ideal S4x3072 .f32) (x4 : Vec Ideal S1x3072 .f32) (x5 : Vec Ideal S1x128 .f32) (x6 : Vec Ideal S1x128 .f32) (x7 : Vec Ideal S1x2048 .f32) (x8 : Vec Ideal S1x2048 .f32) :
    sout0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = View.canon (Val := Elt Ideal) (s := S128x2048) ([
      ⟨Rect.unit (s := S128x2048) ![0, 1536] S128x512.size inb_S128x2048_S128x512_0_1536, newP (uV x0 ha0 x3 x4) (k0_pay12 x2 x5) (cumV x2 x5 x6) 3 (by decide) (View.ld st0 (Rect.unit (s := S128x2048) ![0, 1536] S128x512.size inb_S128x2048_S128x512_0_1536))⟩,
      ⟨Rect.unit (s := S128x2048) ![0, 1024] S128x512.size inb_S128x2048_S128x512_0_1024, newP (uV x0 ha0 x3 x4) (k0_pay12 x2 x5) (cumV x2 x5 x6) 2 (by decide) (View.ld st0 (Rect.unit (s := S128x2048) ![0, 1024] S128x512.size inb_S128x2048_S128x512_0_1024))⟩,
      ⟨Rect.unit (s := S128x2048) ![0, 512] S128x512.size inb_S128x2048_S128x512_0_512, newP (uV x0 ha0 x3 x4) (k0_pay12 x2 x5) (cumV x2 x5 x6) 1 (by decide) (View.ld st0 (Rect.unit (s := S128x2048) ![0, 512] S128x512.size inb_S128x2048_S128x512_0_512))⟩,
      ⟨Rect.unit (s := S128x2048) ![0, 0] S128x512.size inb_S128x2048_S128x512_0_0, newP (uV x0 ha0 x3 x4) (k0_pay12 x2 x5) (cumV x2 x5 x6) 0 (by decide) (View.ld st0 (Rect.unit (s := S128x2048) ![0, 0] S128x512.size inb_S128x2048_S128x512_0_0))⟩] ++ [⟨Rect.unit (s := S128x2048) ![0, 0] S128x2048.size inb_S128x2048_S128x2048_0_0, st0⟩]) := by
  unfold sout0_A_0
  rw [View.read_writes_junk_eq_canon]
  unfold kernelRun0_A
  dsimp only
  sl_unfold_words
  simp (disch := decide) only [↓ View.readCov_skip, ↓ View.readCov_cons_toLoadRect, ↓ View.readCov_fill]
  simp only [View.readAt_eq_ld, harg2.read_unread, harg3.read_unread, harg4.read_unread, harg5.read_unread, harg6.read_unread, harg7.read_unread, harg8.read_unread, harg9.read_unread, harg10.read_unread,
    View.ld_unit_zero (S := S128x3072) hz2, View.ld_unit_zero (S := S128x128) hz2, View.ld_unit_zero (S := S4x3072) hz2, View.ld_unit_zero (S := S1x3072) hz2, View.ld_unit_zero (S := S1x128) hz2, View.ld_unit_zero (S := S1x2048) hz2, View.ld_unit_zero (S := S8x3072) hz2]
  rfl

/-- What the first chunk leaves in the result, group by group. -/
theorem outA (c : Dev nD) (i : grid0.Coords) (arg2 : Memref sig .tc .vmem S128x3072 .f32) (harg2 : arg2.IsWhole) (arg3 : Memref sig .tc .vmem S128x2048 .f32) (harg3 : arg3.IsWhole) (arg4 : Memref sig .tc .vmem S128x128 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S128x2048 .bf16) (harg11 : arg11.IsWhole) (arg12 : Memref sig .tc .vmem S128x2048 .f32) (harg12 : arg12.IsWhole) (arg13 : Memref sig .tc .vmem S8x3072 .f32) (harg13 : arg13.IsWhole) (hc0 : cond0_0 i)
    (x0 : Vec Ideal S128x3072 .f32) (x1 : Vec Ideal S128x2048 .f32) (x2 : Vec Ideal S128x128 .f32) (x3 : Vec Ideal S4x3072 .f32) (x4 : Vec Ideal S1x3072 .f32) (x5 : Vec Ideal S1x128 .f32) (x6 : Vec Ideal S1x128 .f32) (x7 : Vec Ideal S1x2048 .f32) (x8 : Vec Ideal S1x2048 .f32) :
    out0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = View.canon (Val := Elt Ideal) (s := S128x2048) [
      ⟨Rect.unit (s := S128x2048) ![0, 1536] S128x512.size inb_S128x2048_S128x512_0_1536, outP (uV x0 ha0 x3 x4) (k0_pay12 x2 x5) (cumV x2 x5 x6) 3 (by decide) (View.ld st0 (Rect.unit (s := S128x2048) ![0, 1536] S128x512.size inb_S128x2048_S128x512_0_1536)) (View.ld x1 (Rect.unit (s := S128x2048) ![0, 1536] S128x512.size inb_S128x2048_S128x512_0_1536)) x7 x8⟩,
      ⟨Rect.unit (s := S128x2048) ![0, 1024] S128x512.size inb_S128x2048_S128x512_0_1024, outP (uV x0 ha0 x3 x4) (k0_pay12 x2 x5) (cumV x2 x5 x6) 2 (by decide) (View.ld st0 (Rect.unit (s := S128x2048) ![0, 1024] S128x512.size inb_S128x2048_S128x512_0_1024)) (View.ld x1 (Rect.unit (s := S128x2048) ![0, 1024] S128x512.size inb_S128x2048_S128x512_0_1024)) x7 x8⟩,
      ⟨Rect.unit (s := S128x2048) ![0, 512] S128x512.size inb_S128x2048_S128x512_0_512, outP (uV x0 ha0 x3 x4) (k0_pay12 x2 x5) (cumV x2 x5 x6) 1 (by decide) (View.ld st0 (Rect.unit (s := S128x2048) ![0, 512] S128x512.size inb_S128x2048_S128x512_0_512)) (View.ld x1 (Rect.unit (s := S128x2048) ![0, 512] S128x512.size inb_S128x2048_S128x512_0_512)) x7 x8⟩,
      ⟨Rect.unit (s := S128x2048) ![0, 0] S128x512.size inb_S128x2048_S128x512_0_0, outP (uV x0 ha0 x3 x4) (k0_pay12 x2 x5) (cumV x2 x5 x6) 0 (by decide) (View.ld st0 (Rect.unit (s := S128x2048) ![0, 0] S128x512.size inb_S128x2048_S128x512_0_0)) (View.ld x1 (Rect.unit (s := S128x2048) ![0, 0] S128x512.size inb_S128x2048_S128x512_0_0)) x7 x8⟩] := by
  unfold out0_A_9
  rw [View.read_writes_junk_eq_canon]
  unfold kernelRun0_A
  dsimp only
  sl_unfold_words
  simp (disch := decide) only [↓ View.readCov_skip, ↓ View.readCov_cons_toLoadRect, ↓ View.readCov_fill]
  simp only [View.readAt_eq_ld, harg2.read_unread, harg3.read_unread, harg4.read_unread, harg5.read_unread, harg6.read_unread, harg7.read_unread, harg8.read_unread, harg9.read_unread, harg10.read_unread,
    View.ld_unit_zero (S := S128x3072) hz2, View.ld_unit_zero (S := S128x128) hz2, View.ld_unit_zero (S := S4x3072) hz2, View.ld_unit_zero (S := S1x3072) hz2, View.ld_unit_zero (S := S1x128) hz2, View.ld_unit_zero (S := S1x2048) hz2, View.ld_unit_zero (S := S8x3072) hz2]
  rfl

/-- What the first chunk leaves for the next chunk's convolution. -/
theorem haA (c : Dev nD) (i : grid0.Coords) (arg2 : Memref sig .tc .vmem S128x3072 .f32) (harg2 : arg2.IsWhole) (arg3 : Memref sig .tc .vmem S128x2048 .f32) (harg3 : arg3.IsWhole) (arg4 : Memref sig .tc .vmem S128x128 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S128x2048 .bf16) (harg11 : arg11.IsWhole) (arg12 : Memref sig .tc .vmem S128x2048 .f32) (harg12 : arg12.IsWhole) (arg13 : Memref sig .tc .vmem S8x3072 .f32) (harg13 : arg13.IsWhole) (hc0 : cond0_0 i)
    (x0 : Vec Ideal S128x3072 .f32) (x1 : Vec Ideal S128x2048 .f32) (x2 : Vec Ideal S128x128 .f32) (x3 : Vec Ideal S4x3072 .f32) (x4 : Vec Ideal S1x3072 .f32) (x5 : Vec Ideal S1x128 .f32) (x6 : Vec Ideal S1x128 .f32) (x7 : Vec Ideal S1x2048 .f32) (x8 : Vec Ideal S1x2048 .f32) :
    sout0_A_1 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = k0_pay7 (k0_pay4 x0) := by
  unfold sout0_A_1
  rw [View.read_writes_junk_eq_canon]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg12.read_unread, harg13.read_unread,
    View.ld_unit_zero (S := S128x3072) hz2, View.ld_unit_zero (S := S128x128) hz2, View.ld_unit_zero (S := S4x3072) hz2, View.ld_unit_zero (S := S1x3072) hz2, View.ld_unit_zero (S := S1x128) hz2, View.ld_unit_zero (S := S1x2048) hz2, View.ld_unit_zero (S := S8x3072) hz2]
  rw [View.canon_cons_unit_zero hz2]

end Cert.Ssd

end
-- ==== Proof.VecC.lean ====
module

public import proofs.«01_k».proof.Proof.VecB

@[expose] public section

set_option maxRecDepth 16384

noncomputable section

namespace Cert.Ssd

open Cert.KernelIdeal Cert.KernelIdeal.Gen Idealize.ShloMosaic Idealize.ShloMosaic.TcCoe

/-! ## The convolution -/

/-- A row `d` rows before row `i`, from the chunk's rows or the eight carried ones. -/
def shiftAt (x : Fin 128 → Fin 3072 → EReal) (h : Fin 8 → Fin 3072 → EReal) (d : ℕ) (i : Fin 128) (c : Fin 3072) : EReal :=
  if d ≤ i.val then x ⟨i.val - d, by omega⟩ c else h ⟨(i.val + 8 - d) % 8, by omega⟩ c

/-- The rows moved down by `d`, the first ones from the carried rows. -/
def SH (d : BitVec 32) (x0 : Vec Ideal S128x3072 .f32) (ha : Vec Ideal S8x3072 .f32) : FVec Ideal S128x3072 .f32 :=
  concatenate S128x3072 0 [⟨S8x3072, select (cmpi .sge (iota .tc S8x3072 32 [0] iota_S8x3072_d0_w32) (broadcast S8x3072 d))
      (extractStridedSlice S8x3072 ![0, 0] (dynamicRotate 0 d none (k0_pay4 x0) rotates_S128x3072_d0) slices_S128x3072_o0_0_S8x3072)
      (dynamicRotate 0 d none ha rotates_S8x3072_d0)⟩,
    ⟨S120x3072, extractStridedSlice S120x3072 ![8, 0] (dynamicRotate 0 d none (k0_pay4 x0) rotates_S128x3072_d0) slices_S128x3072_o8_0_S120x3072⟩]
    concatenates_S8x3072_S120x3072_S128x3072_d0

theorem SH1_apply (x0 : Vec Ideal S128x3072 .f32) (ha : Vec Ideal S8x3072 .f32) (i : Fin 128) (c : Fin 3072) :
    SH 1#32 x0 ha (ix2 i c) = shiftAt (fun i c => x0 (ix2 i c)) (fun i c => ha (ix2 i c)) 1 i c := by
  unfold SH shiftAt
  pointwise [k0_pay4]
  split
  · rw [cmpi_sge_ofNat _ 1 (by omega) (by omega), select_ite]
    split
    · congr 2; apply Fin.ext; show (i.val + 128 - 1) % 128 = i.val - 1; omega
    · rfl
  · refine Eq.trans ?_ (if_pos (by omega)).symm
    congr 2; apply Fin.ext; show (8 + (i.val - 8) + 128 - 1) % 128 = i.val - 1; omega

theorem SH2_apply (x0 : Vec Ideal S128x3072 .f32) (ha : Vec Ideal S8x3072 .f32) (i : Fin 128) (c : Fin 3072) :
    SH 2#32 x0 ha (ix2 i c) = shiftAt (fun i c => x0 (ix2 i c)) (fun i c => ha (ix2 i c)) 2 i c := by
  unfold SH shiftAt
  pointwise [k0_pay4]
  split
  · rw [cmpi_sge_ofNat _ 2 (by omega) (by omega), select_ite]
    split
    · congr 2; apply Fin.ext; show (i.val + 128 - 2) % 128 = i.val - 2; omega
    · rfl
  · refine Eq.trans ?_ (if_pos (by omega)).symm
    congr 2; apply Fin.ext; show (8 + (i.val - 8) + 128 - 2) % 128 = i.val - 2; omega

theorem SH3_apply (x0 : Vec Ideal S128x3072 .f32) (ha : Vec Ideal S8x3072 .f32) (i : Fin 128) (c : Fin 3072) :
    SH 3#32 x0 ha (ix2 i c) = shiftAt (fun i c => x0 (ix2 i c)) (fun i c => ha (ix2 i c)) 3 i c := by
  unfold SH shiftAt
  pointwise [k0_pay4]
  split
  · rw [cmpi_sge_ofNat _ 3 (by omega) (by omega), select_ite]
    split
    · congr 2; apply Fin.ext; show (i.val + 128 - 3) % 128 = i.val - 3; omega
    · rfl
  · refine Eq.trans ?_ (if_pos (by omega)).symm
    congr 2; apply Fin.ext; show (8 + (i.val - 8) + 128 - 3) % 128 = i.val - 3; omega

theorem uV_eq (x0 : Vec Ideal S128x3072 .f32) (ha : Vec Ideal S8x3072 .f32) (x3 : Vec Ideal S4x3072 .f32) (x4 : Vec Ideal S1x3072 .f32) :
    uV x0 ha x3 x4 = (fun v => mulf v (logistic v))
      (addf (addf (addf (addf (mulf (k0_pay4 x0) (broadcastTo S128x3072 (extractStridedSlice S1x3072 ![3, 0] x3 slices_S4x3072_o3_0_S1x3072) broadcasts_S1x3072_S128x3072))
          (broadcastTo S128x3072 (shapeCast S1x3072 x4 shapeCasts_S1x3072_S1x3072) broadcasts_S1x3072_S128x3072))
        (mulf (SH 1#32 x0 ha) (broadcastTo S128x3072 (extractStridedSlice S1x3072 ![2, 0] x3 slices_S4x3072_o2_0_S1x3072) broadcasts_S1x3072_S128x3072)))
        (mulf (SH 2#32 x0 ha) (broadcastTo S128x3072 (extractStridedSlice S1x3072 ![1, 0] x3 slices_S4x3072_o1_0_S1x3072) broadcasts_S1x3072_S128x3072)))
        (mulf (SH 3#32 x0 ha) (broadcastTo S128x3072 (extractStridedSlice S1x3072 ![0, 0] x3 slices_S4x3072_o0_0_S1x3072) broadcasts_S1x3072_S128x3072))) := rfl

/-- Softplus. -/
def softp (x : EReal) : EReal := max x 0 + Ideal.log1p (Ideal.exp (0 - FloatOps.absf (F := Ideal) (φ := .f32) x))

theorem dtV_apply (x2 : Vec Ideal S128x128 .f32) (x5 : Vec Ideal S1x128 .f32) (i j : Fin 128) :
    k0_pay12 x2 x5 (ix2 i j) = softp (x2 (ix2 i j) + x5 (ix2 0 j)) := by
  unfold softp
  pointwise [k0_pay12]

theorem daV_apply (x2 : Vec Ideal S128x128 .f32) (x5 x6 : Vec Ideal S1x128 .f32) (i j : Fin 128) :
    k0_pay13 x2 x5 x6 (ix2 i j) = k0_pay12 x2 x5 (ix2 i j) * (0 - Ideal.exp (x6 (ix2 0 j))) := by
  pointwise [k0_pay13]

/-- One doubling step of the running sum. -/
def DBL (d : BitVec 32) (v : FVec Ideal S128x128 .f32) : FVec Ideal S128x128 .f32 :=
  addf v (select (cmpi .sge (iota .tc S128x128 32 [0] iota_S128x128_d0_w32) (broadcast S128x128 d)) (dynamicRotate 0 d none v rotates_S128x128_d0)
    (broadcast S128x128 (Scalar.ofBits .f32 0x00000000#32)))

theorem cumV_eq (x2 : Vec Ideal S128x128 .f32) (x5 x6 : Vec Ideal S1x128 .f32) :
    cumV x2 x5 x6 = DBL 64#32 (DBL 32#32 (DBL 16#32 (DBL 8#32 (DBL 4#32 (DBL 2#32 (DBL 1#32 (k0_pay13 x2 x5 x6))))))) := rfl

theorem DBL1_sum (f : ℕ → EReal) (v : FVec Ideal S128x128 .f32) (j : Fin 128) (h : ∀ i : Fin 128, v (ix2 i j) = tailSum f 1 i.val) (i : Fin 128) :
    DBL 1#32 v (ix2 i j) = tailSum f 2 i.val := by
  unfold DBL
  pointwise
  rw [cmpi_sge_ofNat _ 1 (by omega) (by omega), select_ite, h i]
  refine Eq.trans ?_ (tailSum_double f 1 i.val)
  congr 1
  split
  · rw [h]
    congr 1
    show (i.val + 128 - 1) % 128 = i.val - 1
    omega
  · rfl

theorem DBL2_sum (f : ℕ → EReal) (v : FVec Ideal S128x128 .f32) (j : Fin 128) (h : ∀ i : Fin 128, v (ix2 i j) = tailSum f 2 i.val) (i : Fin 128) :
    DBL 2#32 v (ix2 i j) = tailSum f 4 i.val := by
  unfold DBL
  pointwise
  rw [cmpi_sge_ofNat _ 2 (by omega) (by omega), select_ite, h i]
  refine Eq.trans ?_ (tailSum_double f 2 i.val)
  congr 1
  split
  · rw [h]
    congr 1
    show (i.val + 128 - 2) % 128 = i.val - 2
    omega
  · rfl

theorem DBL4_sum (f : ℕ → EReal) (v : FVec Ideal S128x128 .f32) (j : Fin 128) (h : ∀ i : Fin 128, v (ix2 i j) = tailSum f 4 i.val) (i : Fin 128) :
    DBL 4#32 v (ix2 i j) = tailSum f 8 i.val := by
  unfold DBL
  pointwise
  rw [cmpi_sge_ofNat _ 4 (by omega) (by omega), select_ite, h i]
  refine Eq.trans ?_ (tailSum_double f 4 i.val)
  congr 1
  split
  · rw [h]
    congr 1
    show (i.val + 128 - 4) % 128 = i.val - 4
    omega
  · rfl

theorem DBL8_sum (f : ℕ → EReal) (v : FVec Ideal S128x128 .f32) (j : Fin 128) (h : ∀ i : Fin 128, v (ix2 i j) = tailSum f 8 i.val) (i : Fin 128) :
    DBL 8#32 v (ix2 i j) = tailSum f 16 i.val := by
  unfold DBL
  pointwise
  rw [cmpi_sge_ofNat _ 8 (by omega) (by omega), select_ite, h i]
  refine Eq.trans ?_ (tailSum_double f 8 i.val)
  congr 1
  split
  · rw [h]
    congr 1
    show (i.val + 128 - 8) % 128 = i.val - 8
    omega
  · rfl

theorem DBL16_sum (f : ℕ → EReal) (v : FVec Ideal S128x128 .f32) (j : Fin 128) (h : ∀ i : Fin 128, v (ix2 i j) = tailSum f 16 i.val) (i : Fin 128) :
    DBL 16#32 v (ix2 i j) = tailSum f 32 i.val := by
  unfold DBL
  pointwise
  rw [cmpi_sge_ofNat _ 16 (by omega) (by omega), select_ite, h i]
  refine Eq.trans ?_ (tailSum_double f 16 i.val)
  congr 1
  split
  · rw [h]
    congr 1
    show (i.val + 128 - 16) % 128 = i.val - 16
    omega
  · rfl

theorem DBL32_sum (f : ℕ → EReal) (v : FVec Ideal S128x128 .f32) (j : Fin 128) (h : ∀ i : Fin 128, v (ix2 i j) = tailSum f 32 i.val) (i : Fin 128) :
    DBL 32#32 v (ix2 i j) = tailSum f 64 i.val := by
  unfold DBL
  pointwise
  rw [cmpi_sge_ofNat _ 32 (by omega) (by omega), select_ite, h i]
  refine Eq.trans ?_ (tailSum_double f 32 i.val)
  congr 1
  split
  · rw [h]
    congr 1
    show (i.val + 128 - 32) % 128 = i.val - 32
    omega
  · rfl

theorem DBL64_sum (f : ℕ → EReal) (v : FVec Ideal S128x128 .f32) (j : Fin 128) (h : ∀ i : Fin 128, v (ix2 i j) = tailSum f 64 i.val) (i : Fin 128) :
    DBL 64#32 v (ix2 i j) = tailSum f 128 i.val := by
  unfold DBL
  pointwise
  rw [cmpi_sge_ofNat _ 64 (by omega) (by omega), select_ite, h i]
  refine Eq.trans ?_ (tailSum_double f 64 i.val)
  congr 1
  split
  · rw [h]
    congr 1
    show (i.val + 128 - 64) % 128 = i.val - 64
    omega
  · rfl

theorem cumV_apply (x2 : Vec Ideal S128x128 .f32) (x5 x6 : Vec Ideal S1x128 .f32) (i j : Fin 128) :
    cumV x2 x5 x6 (ix2 i j) = cumAt (fun k => k0_pay13 x2 x5 x6 (ix2 k j)) i := by
  have h1 : ∀ i : Fin 128, k0_pay13 x2 x5 x6 (ix2 i j) = tailSum (fun n => if h : n < 128 then k0_pay13 x2 x5 x6 (ix2 ⟨n, h⟩ j) else 0) 1 i.val := by
    intro i
    unfold tailSum
    rw [Finset.sum_range_one, if_pos (Nat.zero_le _), Nat.sub_zero]
    show _ = dite (i.val < 128) _ _
    rw [dif_pos i.isLt]
  rw [cumV_eq, DBL64_sum _ _ j (DBL32_sum _ _ j (DBL16_sum _ _ j (DBL8_sum _ _ j (DBL4_sum _ _ j (DBL2_sum _ _ j (DBL1_sum _ _ j h1)))))) i]
  rw [tailSum_all]
  congr 1
  funext k
  exact dif_pos k.isLt

/-- The activated convolution of a chunk's rows. -/
def convAt (x : Fin 128 → Fin 3072 → EReal) (h : Fin 8 → Fin 3072 → EReal) (w : Fin 4 → Fin 3072 → EReal) (b : Fin 3072 → EReal) (i : Fin 128) (c : Fin 3072) : EReal :=
  x i c * w 3 c + b c + shiftAt x h 1 i c * w 2 c + shiftAt x h 2 i c * w 1 c + shiftAt x h 3 i c * w 0 c

theorem uV_apply (x0 : Vec Ideal S128x3072 .f32) (ha : Vec Ideal S8x3072 .f32) (x3 : Vec Ideal S4x3072 .f32) (x4 : Vec Ideal S1x3072 .f32) (i : Fin 128) (c : Fin 3072) :
    uV x0 ha x3 x4 (ix2 i c) = (fun v => v * Ideal.logistic v)
      (convAt (fun i c => x0 (ix2 i c)) (fun i c => ha (ix2 i c)) (fun k c => x3 (ix2 k c)) (fun c => x4 (ix2 0 c)) i c) := by
  rw [uV_eq]
  pointwise [k0_pay4]
  rw [SH1_apply, SH2_apply, SH3_apply]
  rfl

/-! ## Rectangles -/

theorem rect_emb (g : ℕ) (hg : g < 4) (inb : ∀ a, (![0, 512 * g] : Fin 2 → ℕ) a + S128x512.size a ≤ S128x2048.size a) (n : Fin 128) (j : Fin 512) :
    (Rect.unit (s := S128x2048) ![0, 512 * g] S128x512.size inb).emb (ix2 n j) = ix2 n ⟨512 * g + j.val, by omega⟩ := by
  funext a
  apply Fin.ext
  match a with
  | ⟨0, _⟩ => show 0 + 1 * n.val = n.val; omega
  | ⟨1, _⟩ => show 512 * g + 1 * j.val = 512 * g + j.val; omega

section Groups

variable (u : FVec Ideal S128x3072 .f32) (dt cm : FVec Ideal S128x128 .f32)

/-- The vectors read as functions of row and channel or head. -/
def uA (i : Fin 128) (c : Fin 3072) : EReal := u (ix2 i c)
def hA (v : FVec Ideal S128x128 .f32) (i : Fin 128) (h : Fin 32) : EReal := v (ix2 i ⟨h.val, by omega⟩)
def sA (v : FVec Ideal S128x2048 .f32) (i : Fin 128) (j : Fin 2048) : EReal := v (ix2 i j)
def rA (v : FVec Ideal S1x2048 .f32) (j : Fin 2048) : EReal := v (ix2 0 j)

theorem xdtP_apply (i : Fin 128) (j : Fin 2048) : xdtP u dt (ix2 i j) = xdt (uA u) (hA dt) i j := by
  pointwise [xdtP, xsP]
  rw [EX_apply]
  unfold xdt uA hA
  congr 3

theorem txP_apply (i : Fin 128) (j : Fin 2048) :
    txP u dt cm (ix2 i j) = Ideal.exp (hA cm 127 (hd j) - hA cm i (hd j)) * xdt (uA u) (hA dt) i j := by
  rw [← xdtP_apply]
  pointwise [txP, lastP]
  rw [EX_apply, EX_apply]
  rfl

theorem newP_apply (g : ℕ) (hg : g < 4) (st : FVec Ideal S128x2048 .f32) (st' : FVec Ideal S128x512 .f32)
    (hst : ∀ (n : Fin 128) (j : Fin 512), st' (ix2 n j) = st (ix2 n ⟨512 * g + j.val, by omega⟩)) (n : Fin 128) (j : Fin 512) :
    newP u dt cm g hg st' (ix2 n j) = newSt (uA u) (hA dt) (hA cm) (sA st) n ⟨512 * g + j.val, by omega⟩ := by
  unfold newP
  rw [NEW_apply, hst]
  unfold newSt
  have e1 : (512 * g + j.val) / 512 = g := by omega
  congr 1
  · pointwise [lastP]
    rw [EX_apply]
    rfl
  · refine Finset.sum_congr rfl fun s _ => ?_
    rw [txP_apply]
    congr 1
    pointwise [bmP]
    unfold uA bcol
    congr 2
    apply Fin.ext
    show 2048 + (128 * g + n.val) = 2048 + 128 * ((512 * g + j.val) / 512) + n.val
    omega

theorem outP_apply (g : ℕ) (hg : g < 4) (st z : FVec Ideal S128x2048 .f32) (st' z' : FVec Ideal S128x512 .f32) (d gn : FVec Ideal S1x2048 .f32)
    (hst : ∀ (n : Fin 128) (j : Fin 512), st' (ix2 n j) = st (ix2 n ⟨512 * g + j.val, by omega⟩))
    (hz : ∀ (n : Fin 128) (j : Fin 512), z' (ix2 n j) = z (ix2 n ⟨512 * g + j.val, by omega⟩)) (t : Fin 128) (j : Fin 512) :
    outP u dt cm g hg st' z' d gn (ix2 t j) = outAt (uA u) (hA dt) (hA cm) (sA st) (sA z) (rA d) (rA gn) t ⟨512 * g + j.val, by omega⟩ := by
  unfold outP
  rw [FIN_apply]
  unfold outAt normed
  have key : ∀ k : Fin 512, gate (DG g hg cm (transpose S128x128 [1, 0] cm transposes_S128x128_p1_0_S128x128) (truncf .bf16 (xdtP u dt) bitsLt_bf16_f32) k0_pay61
      (iota .tc S128x128 32 [1] iota_S128x128_d1_w32) (CB g hg (bmP u) (cmP u)) (ix2 t k) + OFF g hg (cmP u) (exp (EX cm)) st' (ix2 t k)
      + (shapeCast S1x2048 d shapeCasts_S1x2048_S1x2048) (ix2 0 ⟨512 * g + k.val, by omega⟩) * xsP u (ix2 t ⟨512 * g + k.val, by omega⟩)) (z' (ix2 t k))
      = gate (yAt (uA u) (hA dt) (hA cm) (sA st) (rA d) t ⟨512 * g + k.val, by omega⟩) (sA z t ⟨512 * g + k.val, by omega⟩) := by
    intro k
    have e1 : (512 * g + k.val) / 512 = g := by omega
    congr 1
    · unfold yAt
      congr 1
      · congr 1
        · rw [DG_apply]
          unfold ydiag
          refine Finset.sum_congr rfl fun s _ => ?_
          congr 1
          · congr 1
            · rw [CB_apply]
              unfold cbAt
              refine Finset.sum_congr rfl fun n _ => ?_
              pointwise [bmP, cmP]
              unfold uA bcol ccol
              congr 3
              · apply Fin.ext
                show 2560 + (128 * g + n.val) = 2560 + 128 * ((512 * g + k.val) / 512) + n.val
                omega
              · apply Fin.ext
                show 2048 + (128 * g + n.val) = 2048 + 128 * ((512 * g + k.val) / 512) + n.val
                omega
            · unfold decay hA hd
              have e2 : 8 * g + k.val / 64 = (512 * g + k.val) / 64 := by omega
              simp only [e2]
          · pointwise
            exact xdtP_apply u dt s _
        · rw [OFF_apply]
          unfold yoff
          congr 1
          · refine Finset.sum_congr rfl fun n _ => ?_
            rw [hst]
            congr 1
            pointwise [cmP]
            unfold uA ccol
            congr 2
            apply Fin.ext
            show 2560 + (128 * g + n.val) = 2560 + 128 * ((512 * g + k.val) / 512) + n.val
            omega
          · pointwise
            rw [EX_apply]
            rfl
      · pointwise [xsP]
        unfold rA uA xcol
        congr 3
    · rw [hz]
      rfl
  simp only [key]
  have e1 : ∀ k : Fin 512, gcol ⟨512 * g + j.val, by omega⟩ k = ⟨512 * g + k.val, by omega⟩ := fun k => Fin.ext (by
    show 512 * ((512 * g + j.val) / 512) + k.val = 512 * g + k.val
    omega)
  simp only [e1]
  congr 1
  pointwise
  rfl

end Groups

end Cert.Ssd

end
-- ==== Proof.Math2.lean ====
/- The whole scan on extended reals: batch `b`, chunk `q` of 16, over the nine inputs as plain functions. -/
module

public import proofs.«01_k».proof.Proof.VecC

@[expose] public section

set_option maxRecDepth 16384

noncomputable section

namespace Cert.Ssd

open Idealize.ShloMosaic

/-- The nine inputs, read at coordinates. -/
structure Inputs where
  /-- the activations before the convolution -/
  x : Fin 32 → Fin 2048 → Fin 3072 → EReal
  /-- the gate -/
  z : Fin 32 → Fin 2048 → Fin 2048 → EReal
  /-- the step sizes before the bias -/
  dt : Fin 32 → Fin 2048 → Fin 32 → EReal
  /-- the convolution's taps -/
  w : Fin 4 → Fin 3072 → EReal
  /-- the convolution's bias -/
  wb : Fin 3072 → EReal
  /-- the step sizes' bias -/
  db : Fin 32 → EReal
  /-- the logarithm of the decay rates -/
  al : Fin 32 → EReal
  /-- the skip weights -/
  sk : Fin 32 → EReal
  /-- the norm's gain -/
  gn : Fin 2048 → EReal

/-- Row `i` of chunk `q`. -/
def row (q : ℕ) (i : Fin 128) : Fin 2048 := ⟨(q * 128 + i.val) % 2048, by omega⟩

/-- A value times its logistic. -/
def silu (v : EReal) : EReal := v * Ideal.logistic v

section Scan

variable (I : Inputs) (b : Fin 32)

/-- Chunk `q`'s inputs. -/
def XR (q : ℕ) (i : Fin 128) (c : Fin 3072) : EReal := I.x b (row q i) c

/-- The last eight rows of the chunk before, zero before the first. -/
def HAL (q : ℕ) (r : Fin 8) (c : Fin 3072) : EReal := if q = 0 then 0 else XR I b (q - 1) ⟨120 + r.val, by omega⟩ c

/-- Chunk `q`'s activations. -/
def UU (q : ℕ) (i : Fin 128) (c : Fin 3072) : EReal := silu (convAt (XR I b q) (HAL I b q) I.w I.wb i c)

/-- Chunk `q`'s step sizes. -/
def DT (q : ℕ) (i : Fin 128) (h : Fin 32) : EReal := softp (I.dt b (row q i) h + I.db h)

/-- Chunk `q`'s running log decays. -/
def CM (q : ℕ) (i : Fin 128) (h : Fin 32) : EReal := cumAt (fun k => DT I b q k h * (0 - Ideal.exp (I.al h))) i

/-- The state before chunk `q`. -/
def ST : ℕ → Fin 128 → Fin 2048 → EReal
  | 0 => fun _ _ => 0
  | q + 1 => newSt (UU I b q) (DT I b q) (CM I b q) (ST q)

/-- Chunk `q`'s result. -/
def RES (q : ℕ) (i : Fin 128) (j : Fin 2048) : EReal :=
  outAt (UU I b q) (DT I b q) (CM I b q) (ST I b q) (fun i j => I.z b (row q i) j) (fun j => I.sk (hd j)) I.gn i j

theorem ST_succ (q : ℕ) : ST I b (q + 1) = newSt (UU I b q) (DT I b q) (CM I b q) (ST I b q) := rfl

end Scan

end Cert.Ssd

end
-- ==== Proof.KBlk.lean ====
/- What each window of the scan's launch holds at a grid point, read off the arguments: point `t` is chunk
   `t % 16` of batch `t / 16`. -/
module

public import proofs.«01_k».proof.Proof.Gen.KernelIdeal.Value
public import proofs.«01_k».proof.Proof.Math2
public import Idealize.ShloMosaic.Lib.Claim
public import Idealize.ShloMosaic.Lib.KernelVsHost

@[expose] public section

set_option maxRecDepth 16384

noncomputable section

namespace Cert.Ssd

open Cert.KernelIdeal Cert.KernelIdeal.Gen Idealize.ShloMosaic Idealize.ShloMosaic.TcCoe Idealize.SL.Sem

variable (m : (ℓ : Loc nD τ sig) → Buf (Elt Ideal) ℓ) (c : Dev nD)

/-- The batch of a point. -/
def bt (t : ℕ) : Fin 32 := ⟨t / 16 % 32, Nat.mod_lt _ (by decide)⟩

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

theorem V_v0 : (V m c main_v0 : Vec Ideal S65536x3072 .f32) = shapeCast S65536x3072 (m (c, main_arg0)) shapeCasts_S32x2048x3072_S65536x3072 := by
  show StableHlo.after _ _ _ = _
  simp only [List.flatten_cons, List.flatten_nil, hostOps0, hostOps0_1, hostOps0_2, hostOps0_3, hostOps0_4, hostOps0_5, hostOps0_6, List.cons_append, List.nil_append, List.append_nil]
  entry_read
  rfl

theorem V_v1 : (V m c main_v1 : Vec Ideal S65536x2048 .f32) = shapeCast S65536x2048 (m (c, main_arg1)) shapeCasts_S32x2048x2048_S65536x2048 := by
  show StableHlo.after _ _ _ = _
  simp only [List.flatten_cons, List.flatten_nil, hostOps0, hostOps0_1, hostOps0_2, hostOps0_3, hostOps0_4, hostOps0_5, hostOps0_6, List.cons_append, List.nil_append, List.append_nil]
  entry_read
  rfl

theorem V_v3 : (V m c main_v3 : Vec Ideal S65536x128 .f32) = pad S65536x128 ![0, 0] ![0, 96] ![0, 0] (shapeCast S65536x32 (m (c, main_arg2)) shapeCasts_S32x2048x32_S65536x32) (sitofp (F := Ideal) .f32 (constantI S_ 32 0#32)) pads_S65536x32_S65536x128_000_0960 h_S_ := by
  show StableHlo.after _ _ _ = _
  simp only [List.flatten_cons, List.flatten_nil, hostOps0, hostOps0_1, hostOps0_2, hostOps0_3, hostOps0_4, hostOps0_5, hostOps0_6, List.cons_append, List.nil_append, List.append_nil]
  entry_read
  rfl

theorem V_v4 : (V m c main_v4 : Vec Ideal S1x3072 .f32) = shapeCast S1x3072 (m (c, main_arg4)) shapeCasts_S3072_S1x3072 := by
  show StableHlo.after _ _ _ = _
  simp only [List.flatten_cons, List.flatten_nil, hostOps0, hostOps0_1, hostOps0_2, hostOps0_3, hostOps0_4, hostOps0_5, hostOps0_6, List.cons_append, List.nil_append, List.append_nil]
  entry_read
  rfl

theorem V_v6 : (V m c main_v6 : Vec Ideal S1x128 .f32) = shapeCast S1x128 (pad S128 ![0] ![96] ![0] (m (c, main_arg5)) (sitofp (F := Ideal) .f32 (constantI S_ 32 0#32)) pads_S32_S128_0960 h_S_) shapeCasts_S128_S1x128 := by
  show StableHlo.after _ _ _ = _
  simp only [List.flatten_cons, List.flatten_nil, hostOps0, hostOps0_1, hostOps0_2, hostOps0_3, hostOps0_4, hostOps0_5, hostOps0_6, List.cons_append, List.nil_append, List.append_nil]
  entry_read
  rfl

theorem V_v8 : (V m c main_v8 : Vec Ideal S1x128 .f32) = shapeCast S1x128 (pad S128 ![0] ![96] ![0] (m (c, main_arg6)) (sitofp (F := Ideal) .f32 (constantI S_ 32 0#32)) pads_S32_S128_0960 h_S_) shapeCasts_S128_S1x128 := by
  show StableHlo.after _ _ _ = _
  simp only [List.flatten_cons, List.flatten_nil, hostOps0, hostOps0_1, hostOps0_2, hostOps0_3, hostOps0_4, hostOps0_5, hostOps0_6, List.cons_append, List.nil_append, List.append_nil]
  entry_read
  rfl

theorem V_v11 : (V m c main_v11 : Vec Ideal S1x2048 .f32) = shapeCast S1x2048 (shapeCast S2048 (broadcastInDim S32x64 ![0] bcast_S32_S32x64_0 (m (c, main_arg7))) shapeCasts_S32x64_S2048) shapeCasts_S2048_S1x2048 := by
  show StableHlo.after _ _ _ = _
  simp only [List.flatten_cons, List.flatten_nil, hostOps0, hostOps0_1, hostOps0_2, hostOps0_3, hostOps0_4, hostOps0_5, hostOps0_6, List.cons_append, List.nil_append, List.append_nil]
  entry_read
  rfl

theorem V_v12 : (V m c main_v12 : Vec Ideal S1x2048 .f32) = shapeCast S1x2048 (m (c, main_arg8)) shapeCasts_S2048_S1x2048 := by
  show StableHlo.after _ _ _ = _
  simp only [List.flatten_cons, List.flatten_nil, hostOps0, hostOps0_1, hostOps0_2, hostOps0_3, hostOps0_4, hostOps0_5, hostOps0_6, List.cons_append, List.nil_append, List.append_nil]
  entry_read
  rfl

theorem emb0 (t : Fin cfg0.N) (hN : t.val < 512) (i : Fin 128) (k : Fin 3072) :
    (((cfg0.win 0).blk t).view.emb (ix2 i k) : S65536x3072.Idx) = ix2 ⟨t.val * 128 + i.val, by omega⟩ k := by
  have h := idx0 t
  funext a
  apply Fin.ext
  match a with
  | ⟨0, _⟩ =>
    show win0_0.index t (0 : Fin 2) * 128 + 1 * i.val = t.val * 128 + i.val
    rw [h.1]; omega
  | ⟨1, _⟩ =>
    show win0_0.index t (1 : Fin 2) * 3072 + 1 * k.val = k.val
    rw [h.2]; omega

theorem rd0 (t : Fin cfg0.N) (hN : t.val < 512) (i : Fin 128) (k : Fin 3072) :
    (iblk m c 0 t : Vec Ideal S128x3072 .f32) (ix2 i k) = (V m c main_v0 : Vec Ideal S65536x3072 .f32) (ix2 ⟨t.val * 128 + i.val, by omega⟩ k) := by
  unfold iblk
  rw [View.read_apply, emb0 t hN i k]
  rfl

theorem emb1 (t : Fin cfg0.N) (hN : t.val < 512) (i : Fin 128) (k : Fin 2048) :
    (((cfg0.win 1).blk t).view.emb (ix2 i k) : S65536x2048.Idx) = ix2 ⟨t.val * 128 + i.val, by omega⟩ k := by
  have h := idx1 t
  funext a
  apply Fin.ext
  match a with
  | ⟨0, _⟩ =>
    show win0_1.index t (0 : Fin 2) * 128 + 1 * i.val = t.val * 128 + i.val
    rw [h.1]; omega
  | ⟨1, _⟩ =>
    show win0_1.index t (1 : Fin 2) * 2048 + 1 * k.val = k.val
    rw [h.2]; omega

theorem rd1 (t : Fin cfg0.N) (hN : t.val < 512) (i : Fin 128) (k : Fin 2048) :
    (iblk m c 1 t : Vec Ideal S128x2048 .f32) (ix2 i k) = (V m c main_v1 : Vec Ideal S65536x2048 .f32) (ix2 ⟨t.val * 128 + i.val, by omega⟩ k) := by
  unfold iblk
  rw [View.read_apply, emb1 t hN i k]
  rfl

theorem emb2 (t : Fin cfg0.N) (hN : t.val < 512) (i : Fin 128) (k : Fin 128) :
    (((cfg0.win 2).blk t).view.emb (ix2 i k) : S65536x128.Idx) = ix2 ⟨t.val * 128 + i.val, by omega⟩ k := by
  have h := idx2 t
  funext a
  apply Fin.ext
  match a with
  | ⟨0, _⟩ =>
    show win0_2.index t (0 : Fin 2) * 128 + 1 * i.val = t.val * 128 + i.val
    rw [h.1]; omega
  | ⟨1, _⟩ =>
    show win0_2.index t (1 : Fin 2) * 128 + 1 * k.val = k.val
    rw [h.2]; omega

theorem rd2 (t : Fin cfg0.N) (hN : t.val < 512) (i : Fin 128) (k : Fin 128) :
    (iblk m c 2 t : Vec Ideal S128x128 .f32) (ix2 i k) = (V m c main_v3 : Vec Ideal S65536x128 .f32) (ix2 ⟨t.val * 128 + i.val, by omega⟩ k) := by
  unfold iblk
  rw [View.read_apply, emb2 t hN i k]
  rfl

theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

theorem emb3 (t : Fin cfg0.N) (i : Fin 4) (k : Fin 3072) :
    (((cfg0.win 3).blk t).view.emb (ix2 i k) : S4x3072.Idx) = ix2 i k := by
  have h := idx3 t
  funext a
  apply Fin.ext
  match a with
  | ⟨0, _⟩ =>
    show win0_3.index t (0 : Fin 2) * 4 + 1 * i.val = i.val
    rw [h.1]; omega
  | ⟨1, _⟩ =>
    show win0_3.index t (1 : Fin 2) * 3072 + 1 * k.val = k.val
    rw [h.2]; omega

theorem rd3 (t : Fin cfg0.N) (i : Fin 4) (k : Fin 3072) :
    (iblk m c 3 t : Vec Ideal S4x3072 .f32) (ix2 i k) = (V m c main_arg3 : Vec Ideal S4x3072 .f32) (ix2 i k) := by
  unfold iblk
  rw [View.read_apply, emb3 t i k]
  rfl

theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

theorem emb4 (t : Fin cfg0.N) (i : Fin 1) (k : Fin 3072) :
    (((cfg0.win 4).blk t).view.emb (ix2 i k) : S1x3072.Idx) = ix2 i k := by
  have h := idx4 t
  funext a
  apply Fin.ext
  match a with
  | ⟨0, _⟩ =>
    show win0_4.index t (0 : Fin 2) * 1 + 1 * i.val = i.val
    rw [h.1]; omega
  | ⟨1, _⟩ =>
    show win0_4.index t (1 : Fin 2) * 3072 + 1 * k.val = k.val
    rw [h.2]; omega

theorem rd4 (t : Fin cfg0.N) (i : Fin 1) (k : Fin 3072) :
    (iblk m c 4 t : Vec Ideal S1x3072 .f32) (ix2 i k) = (V m c main_v4 : Vec Ideal S1x3072 .f32) (ix2 i k) := by
  unfold iblk
  rw [View.read_apply, emb4 t i k]
  rfl

theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

theorem emb5 (t : Fin cfg0.N) (i : Fin 1) (k : Fin 128) :
    (((cfg0.win 5).blk t).view.emb (ix2 i k) : S1x128.Idx) = ix2 i k := by
  have h := idx5 t
  funext a
  apply Fin.ext
  match a with
  | ⟨0, _⟩ =>
    show win0_5.index t (0 : Fin 2) * 1 + 1 * i.val = i.val
    rw [h.1]; omega
  | ⟨1, _⟩ =>
    show win0_5.index t (1 : Fin 2) * 128 + 1 * k.val = k.val
    rw [h.2]; omega

theorem rd5 (t : Fin cfg0.N) (i : Fin 1) (k : Fin 128) :
    (iblk m c 5 t : Vec Ideal S1x128 .f32) (ix2 i k) = (V m c main_v6 : Vec Ideal S1x128 .f32) (ix2 i k) := by
  unfold iblk
  rw [View.read_apply, emb5 t i k]
  rfl

theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

theorem emb6 (t : Fin cfg0.N) (i : Fin 1) (k : Fin 128) :
    (((cfg0.win 6).blk t).view.emb (ix2 i k) : S1x128.Idx) = ix2 i k := by
  have h := idx6 t
  funext a
  apply Fin.ext
  match a with
  | ⟨0, _⟩ =>
    show win0_6.index t (0 : Fin 2) * 1 + 1 * i.val = i.val
    rw [h.1]; omega
  | ⟨1, _⟩ =>
    show win0_6.index t (1 : Fin 2) * 128 + 1 * k.val = k.val
    rw [h.2]; omega

theorem rd6 (t : Fin cfg0.N) (i : Fin 1) (k : Fin 128) :
    (iblk m c 6 t : Vec Ideal S1x128 .f32) (ix2 i k) = (V m c main_v8 : Vec Ideal S1x128 .f32) (ix2 i k) := by
  unfold iblk
  rw [View.read_apply, emb6 t i k]
  rfl

theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

theorem emb7 (t : Fin cfg0.N) (i : Fin 1) (k : Fin 2048) :
    (((cfg0.win 7).blk t).view.emb (ix2 i k) : S1x2048.Idx) = ix2 i k := by
  have h := idx7 t
  funext a
  apply Fin.ext
  match a with
  | ⟨0, _⟩ =>
    show win0_7.index t (0 : Fin 2) * 1 + 1 * i.val = i.val
    rw [h.1]; omega
  | ⟨1, _⟩ =>
    show win0_7.index t (1 : Fin 2) * 2048 + 1 * k.val = k.val
    rw [h.2]; omega

theorem rd7 (t : Fin cfg0.N) (i : Fin 1) (k : Fin 2048) :
    (iblk m c 7 t : Vec Ideal S1x2048 .f32) (ix2 i k) = (V m c main_v11 : Vec Ideal S1x2048 .f32) (ix2 i k) := by
  unfold iblk
  rw [View.read_apply, emb7 t i k]
  rfl

theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)

theorem emb8 (t : Fin cfg0.N) (i : Fin 1) (k : Fin 2048) :
    (((cfg0.win 8).blk t).view.emb (ix2 i k) : S1x2048.Idx) = ix2 i k := by
  have h := idx8 t
  funext a
  apply Fin.ext
  match a with
  | ⟨0, _⟩ =>
    show win0_8.index t (0 : Fin 2) * 1 + 1 * i.val = i.val
    rw [h.1]; omega
  | ⟨1, _⟩ =>
    show win0_8.index t (1 : Fin 2) * 2048 + 1 * k.val = k.val
    rw [h.2]; omega

theorem rd8 (t : Fin cfg0.N) (i : Fin 1) (k : Fin 2048) :
    (iblk m c 8 t : Vec Ideal S1x2048 .f32) (ix2 i k) = (V m c main_v12 : Vec Ideal S1x2048 .f32) (ix2 i k) := by
  unfold iblk
  rw [View.read_apply, emb8 t i k]
  rfl

theorem lt512 (t : Fin cfg0.N) : t.val < 512 := lt_of_lt_of_eq t.isLt (show cfg0.N = 512 from N_0)

theorem rs3072 (x : Vec Ideal S32x2048x3072 .f32) (r : Fin 65536) (k : Fin 3072) :
    shapeCast S65536x3072 x shapeCasts_S32x2048x3072_S65536x3072 (ix2 r k) = x (ix3 ⟨r.val / 2048, by omega⟩ ⟨r.val % 2048, by omega⟩ k) :=
  shapeCast_apply _ _ _ _ (by
    rw [Shape.rowMajor_val_two, Shape.rowMajor_val_three]
    show (r.val / 2048 * 2048 + r.val % 2048) * 3072 + k.val = r.val * 3072 + k.val
    rw [Nat.div_add_mod'])

theorem rs2048 (x : Vec Ideal S32x2048x2048 .f32) (r : Fin 65536) (k : Fin 2048) :
    shapeCast S65536x2048 x shapeCasts_S32x2048x2048_S65536x2048 (ix2 r k) = x (ix3 ⟨r.val / 2048, by omega⟩ ⟨r.val % 2048, by omega⟩ k) :=
  shapeCast_apply _ _ _ _ (by
    rw [Shape.rowMajor_val_two, Shape.rowMajor_val_three]
    show (r.val / 2048 * 2048 + r.val % 2048) * 2048 + k.val = r.val * 2048 + k.val
    rw [Nat.div_add_mod'])

theorem rs32 (x : Vec Ideal S32x2048x32 .f32) (r : Fin 65536) (k : Fin 32) :
    shapeCast S65536x32 x shapeCasts_S32x2048x32_S65536x32 (ix2 r k) = x (ix3 ⟨r.val / 2048, by omega⟩ ⟨r.val % 2048, by omega⟩ k) :=
  shapeCast_apply _ _ _ _ (by
    rw [Shape.rowMajor_val_two, Shape.rowMajor_val_three]
    show (r.val / 2048 * 2048 + r.val % 2048) * 32 + k.val = r.val * 32 + k.val
    rw [Nat.div_add_mod'])

theorem coords (t : Fin cfg0.N) (i : Fin 128) (h : t.val * 128 + i.val < 65536) (h1 : (t.val * 128 + i.val) / 2048 < 32) (h2 : (t.val * 128 + i.val) % 2048 < 2048) :
    (⟨(t.val * 128 + i.val) / 2048, h1⟩ : Fin 32) = bt t.val ∧ (⟨(t.val * 128 + i.val) % 2048, h2⟩ : Fin 2048) = row (t.val % 16) i := by
  have := lt512 t
  have := i.isLt
  constructor <;> apply Fin.ext
  · show (t.val * 128 + i.val) / 2048 = t.val / 16 % 32
    omega
  · show (t.val * 128 + i.val) % 2048 = (t.val % 16 * 128 + i.val) % 2048
    omega

theorem blk0 (t : Fin cfg0.N) (i : Fin 128) (k : Fin 3072) :
    (iblk m c 0 t : Vec Ideal S128x3072 .f32) (ix2 i k) = (m (c, main_arg0) : Vec Ideal S32x2048x3072 .f32) (ix3 (bt t.val) (row (t.val % 16) i) k) := by
  have hN := lt512 t
  rw [rd0 m c t hN, V_v0, rs3072, (coords t i (by omega) (by omega) (by omega)).1, (coords t i (by omega) (by omega) (by omega)).2]

theorem blk1 (t : Fin cfg0.N) (i : Fin 128) (k : Fin 2048) :
    (iblk m c 1 t : Vec Ideal S128x2048 .f32) (ix2 i k) = (m (c, main_arg1) : Vec Ideal S32x2048x2048 .f32) (ix3 (bt t.val) (row (t.val % 16) i) k) := by
  have hN := lt512 t
  rw [rd1 m c t hN, V_v1, rs2048, (coords t i (by omega) (by omega) (by omega)).1, (coords t i (by omega) (by omega) (by omega)).2]

/-- A padded row's first 32 columns are the row's. -/
theorem pad32 (x : Vec Ideal S65536x32 .f32) (v : Vec Ideal S_ .f32) (r : Fin 65536) (k : Fin 32) :
    pad S65536x128 ![0, 0] ![0, 96] ![0, 0] x v pads_S65536x32_S65536x128_000_0960 h_S_ (ix2 r ⟨k.val, by omega⟩) = x (ix2 r k) := by
  refine pad_apply_of_inside _ _ _ _ _ _ _ _ (ix2 r k) ?_
  intro a
  match a with
  | ⟨0, _⟩ => show r.val = 0 + r.val * (0 + 1); omega
  | ⟨1, _⟩ => show k.val = 0 + k.val * (0 + 1); omega

theorem pad1 (x : Vec Ideal S32 .f32) (v : Vec Ideal S_ .f32) (k : Fin 32) :
    shapeCast S1x128 (pad S128 ![0] ![96] ![0] x v pads_S32_S128_0960 h_S_) shapeCasts_S128_S1x128 (ix2 0 ⟨k.val, by omega⟩) = x (ix1 k) := by
  rw [shapeCast_apply _ shapeCasts_S128_S1x128 (ix2 0 ⟨k.val, by omega⟩) (ix1 ⟨k.val, by omega⟩) (by rw [Shape.rowMajor_val_two, Shape.rowMajor_val_one]; show k.val = 0 * 128 + k.val; omega)]
  refine pad_apply_of_inside _ _ _ _ _ _ _ _ (ix1 k) ?_
  intro a
  match a with
  | ⟨0, _⟩ => show k.val = 0 + k.val * (0 + 1); omega

theorem blk2 (t : Fin cfg0.N) (i : Fin 128) (k : Fin 32) :
    (iblk m c 2 t : Vec Ideal S128x128 .f32) (ix2 i ⟨k.val, by omega⟩) = (m (c, main_arg2) : Vec Ideal S32x2048x32 .f32) (ix3 (bt t.val) (row (t.val % 16) i) k) := by
  have hN := lt512 t
  rw [rd2 m c t hN, V_v3, pad32, rs32, (coords t i (by omega) (by omega) (by omega)).1, (coords t i (by omega) (by omega) (by omega)).2]

theorem blk3 (t : Fin cfg0.N) (i : Fin 4) (k : Fin 3072) :
    (iblk m c 3 t : Vec Ideal S4x3072 .f32) (ix2 i k) = (m (c, main_arg3) : Vec Ideal S4x3072 .f32) (ix2 i k) := by
  rw [rd3, V_main_arg3]

theorem blk4 (t : Fin cfg0.N) (k : Fin 3072) :
    (iblk m c 4 t : Vec Ideal S1x3072 .f32) (ix2 0 k) = (m (c, main_arg4) : Vec Ideal S3072 .f32) (ix1 k) := by
  rw [rd4, V_v4]
  exact shapeCast_apply (s := S3072) _ _ _ _ (by rw [Shape.rowMajor_val_two, Shape.rowMajor_val_one]; show k.val = 0 * 3072 + k.val; omega)

theorem blk5 (t : Fin cfg0.N) (k : Fin 32) :
    (iblk m c 5 t : Vec Ideal S1x128 .f32) (ix2 0 ⟨k.val, by omega⟩) = (m (c, main_arg5) : Vec Ideal S32 .f32) (ix1 k) := by
  rw [rd5, V_v6, pad1]

theorem blk6 (t : Fin cfg0.N) (k : Fin 32) :
    (iblk m c 6 t : Vec Ideal S1x128 .f32) (ix2 0 ⟨k.val, by omega⟩) = (m (c, main_arg6) : Vec Ideal S32 .f32) (ix1 k) := by
  rw [rd6, V_v8, pad1]

theorem blk7 (t : Fin cfg0.N) (k : Fin 2048) :
    (iblk m c 7 t : Vec Ideal S1x2048 .f32) (ix2 0 k) = (m (c, main_arg7) : Vec Ideal S32 .f32) (ix1 (hd k)) := by
  rw [rd7, V_v11]
  rw [shapeCast_apply _ shapeCasts_S2048_S1x2048 (ix2 0 k) (ix1 k) (by rw [Shape.rowMajor_val_two, Shape.rowMajor_val_one]; show k.val = 0 * 2048 + k.val; omega)]
  rw [shapeCast_apply _ shapeCasts_S32x64_S2048 (ix1 k) (ix2 (hd k) ⟨k.val % 64, by omega⟩) (by rw [Shape.rowMajor_val_two, Shape.rowMajor_val_one]; show k.val / 64 * 64 + k.val % 64 = k.val; omega)]
  pointwise

theorem blk8 (t : Fin cfg0.N) (k : Fin 2048) :
    (iblk m c 8 t : Vec Ideal S1x2048 .f32) (ix2 0 k) = (m (c, main_arg8) : Vec Ideal S2048 .f32) (ix1 k) := by
  rw [rd8, V_v12]
  exact shapeCast_apply (s := S2048) _ _ _ _ (by rw [Shape.rowMajor_val_two, Shape.rowMajor_val_one]; show k.val = 0 * 2048 + k.val; omega)

end Cert.Ssd

end
-- ==== Proof.VecD.lean ====
module

public import proofs.«01_k».proof.Proof.VecC

@[expose] public section

set_option maxRecDepth 16384

noncomputable section

namespace Cert.Ssd

open Cert.KernelIdeal Cert.KernelIdeal.Gen Idealize.ShloMosaic Idealize.ShloMosaic.TcCoe

theorem rect_embO (o : ℕ) (ho : o ≤ 1536) (inb : ∀ a, (![0, o] : Fin 2 → ℕ) a + S128x512.size a ≤ S128x2048.size a) (n : Fin 128) (j : Fin 512) :
    (Rect.unit (s := S128x2048) ![0, o] S128x512.size inb).emb (ix2 n j) = ix2 n ⟨o + j.val, by omega⟩ := by
  funext a
  apply Fin.ext
  match a with
  | ⟨0, _⟩ => show 0 + 1 * n.val = n.val; omega
  | ⟨1, _⟩ => show o + 1 * j.val = o + j.val; omega

theorem mem_rectO (o : ℕ) (inb : ∀ a, (![0, o] : Fin 2 → ℕ) a + S128x512.size a ≤ S128x2048.size a) (n : Fin 128) (j : Fin 2048) (h : o ≤ j.val ∧ j.val < o + 512) :
    ix2 n j ∈ (Rect.unit (s := S128x2048) ![0, o] S128x512.size inb).set := by
  refine Rect.mem_set_unit.mpr fun a => ?_
  match a with
  | ⟨0, _⟩ => show 0 ≤ n.val ∧ n.val < 0 + 128; omega
  | ⟨1, _⟩ => show o ≤ j.val ∧ j.val < o + 512; exact h

theorem piece_of {e : EltTy} (G : S128x2048.Idx → Elt Ideal e) (p : S128x512.Idx → Elt Ideal e) (o : ℕ) (ho : o ≤ 1536) (inb : ∀ a, (![0, o] : Fin 2 → ℕ) a + S128x512.size a ≤ S128x2048.size a)
    (h : ∀ (n : Fin 128) (j : Fin 512), p (ix2 n j) = G (ix2 n ⟨o + j.val, by omega⟩)) (x : S128x512.Idx) :
    p x = G ((Rect.unit (s := S128x2048) ![0, o] S128x512.size inb).emb x) := by
  obtain ⟨a, b, e⟩ : ∃ (a : Fin 128) (b : Fin 512), x = ix2 a b := ⟨x 0, x 1, Idealize.ShloMosaic.eq_ix2 (n0 := 128) (n1 := 512) x⟩
  rw [e, h, rect_embO o ho inb a b]

/-- Four column blocks that agree with one function, stored over anything, leave that function. -/
theorem canon4 {e : EltTy} (G : S128x2048.Idx → Elt Ideal e) (p0 p1 p2 p3 : S128x512.Idx → Elt Ideal e) (L' : List (View.Piece (Elt Ideal) S128x2048 e))
    (h0 : ∀ (n : Fin 128) (j : Fin 512), p0 (ix2 n j) = G (ix2 n ⟨0 + j.val, by omega⟩))
    (h1 : ∀ (n : Fin 128) (j : Fin 512), p1 (ix2 n j) = G (ix2 n ⟨512 + j.val, by omega⟩))
    (h2 : ∀ (n : Fin 128) (j : Fin 512), p2 (ix2 n j) = G (ix2 n ⟨1024 + j.val, by omega⟩))
    (h3 : ∀ (n : Fin 128) (j : Fin 512), p3 (ix2 n j) = G (ix2 n ⟨1536 + j.val, by omega⟩)) (n : Fin 128) (j : Fin 2048) :
    View.canon (Val := Elt Ideal) (s := S128x2048) ([
      ⟨Rect.unit (s := S128x2048) ![0, 1536] S128x512.size inb_S128x2048_S128x512_0_1536, p3⟩,
      ⟨Rect.unit (s := S128x2048) ![0, 1024] S128x512.size inb_S128x2048_S128x512_0_1024, p2⟩,
      ⟨Rect.unit (s := S128x2048) ![0, 512] S128x512.size inb_S128x2048_S128x512_0_512, p1⟩,
      ⟨Rect.unit (s := S128x2048) ![0, 0] S128x512.size inb_S128x2048_S128x512_0_0, p0⟩] ++ L') (ix2 n j) = G (ix2 n j) := by
  refine View.canon_append_of_piecesOf G L' _ ?_ (ix2 n j) ?_
  · exact ⟨piece_of G p3 1536 (by decide) inb_S128x2048_S128x512_0_1536 h3, piece_of G p2 1024 (by decide) inb_S128x2048_S128x512_0_1024 h2, piece_of G p1 512 (by decide) inb_S128x2048_S128x512_0_512 h1, piece_of G p0 0 (by decide) inb_S128x2048_S128x512_0_0 h0, trivial⟩
  · have hj : j.val / 512 = 0 ∨ j.val / 512 = 1 ∨ j.val / 512 = 2 ∨ j.val / 512 = 3 := by omega
    rcases hj with e | e | e | e
    · exact ⟨_, List.mem_cons_of_mem _ (List.mem_cons_of_mem _ (List.mem_cons_of_mem _ List.mem_cons_self)), mem_rectO 0 inb_S128x2048_S128x512_0_0 n j (by omega)⟩
    · exact ⟨_, List.mem_cons_of_mem _ (List.mem_cons_of_mem _ List.mem_cons_self), mem_rectO 512 inb_S128x2048_S128x512_0_512 n j (by omega)⟩
    · exact ⟨_, List.mem_cons_of_mem _ List.mem_cons_self, mem_rectO 1024 inb_S128x2048_S128x512_0_1024 n j (by omega)⟩
    · exact ⟨_, List.mem_cons_self, mem_rectO 1536 inb_S128x2048_S128x512_0_1536 n j (by omega)⟩

theorem ld_col (v : FVec Ideal S128x2048 .f32) (o : ℕ) (ho : o ≤ 1536) (inb) (n : Fin 128) (j : Fin 512) :
    View.ld (Val := Elt Ideal) (e' := .f32) v (Rect.unit (s := S128x2048) ![0, o] S128x512.size inb) (ix2 n j) = v (ix2 n ⟨o + j.val, by omega⟩) :=
  congrArg v (rect_embO o ho inb n j)

theorem stB_apply (c : Dev nD) (i : grid0.Coords) (arg2 : Memref sig .tc .vmem S128x3072 .f32) (harg2 : arg2.IsWhole) (arg3 : Memref sig .tc .vmem S128x2048 .f32) (harg3 : arg3.IsWhole) (arg4 : Memref sig .tc .vmem S128x128 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S128x2048 .bf16) (harg11 : arg11.IsWhole) (arg12 : Memref sig .tc .vmem S128x2048 .f32) (harg12 : arg12.IsWhole) (arg13 : Memref sig .tc .vmem S8x3072 .f32) (harg13 : arg13.IsWhole) (hc0 : ¬cond0_0 i)
    (x0 : Vec Ideal S128x3072 .f32) (x1 : Vec Ideal S128x2048 .f32) (x2 : Vec Ideal S128x128 .f32) (x3 : Vec Ideal S4x3072 .f32) (x4 : Vec Ideal S1x3072 .f32) (x5 : Vec Ideal S1x128 .f32) (x6 : Vec Ideal S1x128 .f32) (x7 : Vec Ideal S1x2048 .f32) (x8 : Vec Ideal S1x2048 .f32) (xs0 : Vec Ideal S128x2048 .f32) (xs1 : Vec Ideal S8x3072 .f32) (n : Fin 128) (j : Fin 2048) :
    sout0_B_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1 (ix2 n j) = newSt (uA (uV x0 xs1 x3 x4)) (hA (k0_pay12 x2 x5)) (hA (cumV x2 x5 x6)) (sA xs0) n j := by
  rw [stB]
  exact canon4 (e := .f32) (fun y : S128x2048.Idx => newSt (uA (uV x0 xs1 x3 x4)) (hA (k0_pay12 x2 x5)) (hA (cumV x2 x5 x6)) (sA xs0) (y 0) (y 1)) _ _ _ _ []
    (fun n j => newP_apply _ _ _ 0 (by decide) xs0 _ (ld_col xs0 0 (by decide) inb_S128x2048_S128x512_0_0) n j)
    (fun n j => newP_apply _ _ _ 1 (by decide) xs0 _ (ld_col xs0 512 (by decide) inb_S128x2048_S128x512_0_512) n j)
    (fun n j => newP_apply _ _ _ 2 (by decide) xs0 _ (ld_col xs0 1024 (by decide) inb_S128x2048_S128x512_0_1024) n j)
    (fun n j => newP_apply _ _ _ 3 (by decide) xs0 _ (ld_col xs0 1536 (by decide) inb_S128x2048_S128x512_0_1536) n j) n j

theorem outB_apply (c : Dev nD) (i : grid0.Coords) (arg2 : Memref sig .tc .vmem S128x3072 .f32) (harg2 : arg2.IsWhole) (arg3 : Memref sig .tc .vmem S128x2048 .f32) (harg3 : arg3.IsWhole) (arg4 : Memref sig .tc .vmem S128x128 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S128x2048 .bf16) (harg11 : arg11.IsWhole) (arg12 : Memref sig .tc .vmem S128x2048 .f32) (harg12 : arg12.IsWhole) (arg13 : Memref sig .tc .vmem S8x3072 .f32) (harg13 : arg13.IsWhole) (hc0 : ¬cond0_0 i)
    (x0 : Vec Ideal S128x3072 .f32) (x1 : Vec Ideal S128x2048 .f32) (x2 : Vec Ideal S128x128 .f32) (x3 : Vec Ideal S4x3072 .f32) (x4 : Vec Ideal S1x3072 .f32) (x5 : Vec Ideal S1x128 .f32) (x6 : Vec Ideal S1x128 .f32) (x7 : Vec Ideal S1x2048 .f32) (x8 : Vec Ideal S1x2048 .f32) (xs0 : Vec Ideal S128x2048 .f32) (xs1 : Vec Ideal S8x3072 .f32) (n : Fin 128) (j : Fin 2048) :
    out0_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1 (ix2 n j) = outAt (uA (uV x0 xs1 x3 x4)) (hA (k0_pay12 x2 x5)) (hA (cumV x2 x5 x6)) (sA xs0) (sA x1) (rA x7) (rA x8) n j := by
  rw [outB]
  exact canon4 (e := .bf16) (fun y : S128x2048.Idx => outAt (uA (uV x0 xs1 x3 x4)) (hA (k0_pay12 x2 x5)) (hA (cumV x2 x5 x6)) (sA xs0) (sA x1) (rA x7) (rA x8) (y 0) (y 1)) _ _ _ _ []
    (fun n j => outP_apply _ _ _ 0 (by decide) xs0 x1 _ _ x7 x8 (ld_col xs0 0 (by decide) inb_S128x2048_S128x512_0_0) (ld_col x1 0 (by decide) inb_S128x2048_S128x512_0_0) n j)
    (fun n j => outP_apply _ _ _ 1 (by decide) xs0 x1 _ _ x7 x8 (ld_col xs0 512 (by decide) inb_S128x2048_S128x512_0_512) (ld_col x1 512 (by decide) inb_S128x2048_S128x512_0_512) n j)
    (fun n j => outP_apply _ _ _ 2 (by decide) xs0 x1 _ _ x7 x8 (ld_col xs0 1024 (by decide) inb_S128x2048_S128x512_0_1024) (ld_col x1 1024 (by decide) inb_S128x2048_S128x512_0_1024) n j)
    (fun n j => outP_apply _ _ _ 3 (by decide) xs0 x1 _ _ x7 x8 (ld_col xs0 1536 (by decide) inb_S128x2048_S128x512_0_1536) (ld_col x1 1536 (by decide) inb_S128x2048_S128x512_0_1536) n j) n j

theorem stA_apply (c : Dev nD) (i : grid0.Coords) (arg2 : Memref sig .tc .vmem S128x3072 .f32) (harg2 : arg2.IsWhole) (arg3 : Memref sig .tc .vmem S128x2048 .f32) (harg3 : arg3.IsWhole) (arg4 : Memref sig .tc .vmem S128x128 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S128x2048 .bf16) (harg11 : arg11.IsWhole) (arg12 : Memref sig .tc .vmem S128x2048 .f32) (harg12 : arg12.IsWhole) (arg13 : Memref sig .tc .vmem S8x3072 .f32) (harg13 : arg13.IsWhole) (hc0 : cond0_0 i)
    (x0 : Vec Ideal S128x3072 .f32) (x1 : Vec Ideal S128x2048 .f32) (x2 : Vec Ideal S128x128 .f32) (x3 : Vec Ideal S4x3072 .f32) (x4 : Vec Ideal S1x3072 .f32) (x5 : Vec Ideal S1x128 .f32) (x6 : Vec Ideal S1x128 .f32) (x7 : Vec Ideal S1x2048 .f32) (x8 : Vec Ideal S1x2048 .f32) (n : Fin 128) (j : Fin 2048) :
    sout0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 (ix2 n j) = newSt (uA (uV x0 ha0 x3 x4)) (hA (k0_pay12 x2 x5)) (hA (cumV x2 x5 x6)) (sA st0) n j := by
  rw [stA]
  exact canon4 (e := .f32) (fun y : S128x2048.Idx => newSt (uA (uV x0 ha0 x3 x4)) (hA (k0_pay12 x2 x5)) (hA (cumV x2 x5 x6)) (sA st0) (y 0) (y 1)) _ _ _ _ _
    (fun n j => newP_apply _ _ _ 0 (by decide) st0 _ (ld_col st0 0 (by decide) inb_S128x2048_S128x512_0_0) n j)
    (fun n j => newP_apply _ _ _ 1 (by decide) st0 _ (ld_col st0 512 (by decide) inb_S128x2048_S128x512_0_512) n j)
    (fun n j => newP_apply _ _ _ 2 (by decide) st0 _ (ld_col st0 1024 (by decide) inb_S128x2048_S128x512_0_1024) n j)
    (fun n j => newP_apply _ _ _ 3 (by decide) st0 _ (ld_col st0 1536 (by decide) inb_S128x2048_S128x512_0_1536) n j) n j

theorem outA_apply (c : Dev nD) (i : grid0.Coords) (arg2 : Memref sig .tc .vmem S128x3072 .f32) (harg2 : arg2.IsWhole) (arg3 : Memref sig .tc .vmem S128x2048 .f32) (harg3 : arg3.IsWhole) (arg4 : Memref sig .tc .vmem S128x128 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S128x2048 .bf16) (harg11 : arg11.IsWhole) (arg12 : Memref sig .tc .vmem S128x2048 .f32) (harg12 : arg12.IsWhole) (arg13 : Memref sig .tc .vmem S8x3072 .f32) (harg13 : arg13.IsWhole) (hc0 : cond0_0 i)
    (x0 : Vec Ideal S128x3072 .f32) (x1 : Vec Ideal S128x2048 .f32) (x2 : Vec Ideal S128x128 .f32) (x3 : Vec Ideal S4x3072 .f32) (x4 : Vec Ideal S1x3072 .f32) (x5 : Vec Ideal S1x128 .f32) (x6 : Vec Ideal S1x128 .f32) (x7 : Vec Ideal S1x2048 .f32) (x8 : Vec Ideal S1x2048 .f32) (n : Fin 128) (j : Fin 2048) :
    out0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 (ix2 n j) = outAt (uA (uV x0 ha0 x3 x4)) (hA (k0_pay12 x2 x5)) (hA (cumV x2 x5 x6)) (sA st0) (sA x1) (rA x7) (rA x8) n j := by
  rw [outA]
  exact canon4 (e := .bf16) (fun y : S128x2048.Idx => outAt (uA (uV x0 ha0 x3 x4)) (hA (k0_pay12 x2 x5)) (hA (cumV x2 x5 x6)) (sA st0) (sA x1) (rA x7) (rA x8) (y 0) (y 1)) _ _ _ _ []
    (fun n j => outP_apply _ _ _ 0 (by decide) st0 x1 _ _ x7 x8 (ld_col st0 0 (by decide) inb_S128x2048_S128x512_0_0) (ld_col x1 0 (by decide) inb_S128x2048_S128x512_0_0) n j)
    (fun n j => outP_apply _ _ _ 1 (by decide) st0 x1 _ _ x7 x8 (ld_col st0 512 (by decide) inb_S128x2048_S128x512_0_512) (ld_col x1 512 (by decide) inb_S128x2048_S128x512_0_512) n j)
    (fun n j => outP_apply _ _ _ 2 (by decide) st0 x1 _ _ x7 x8 (ld_col st0 1024 (by decide) inb_S128x2048_S128x512_0_1024) (ld_col x1 1024 (by decide) inb_S128x2048_S128x512_0_1024) n j)
    (fun n j => outP_apply _ _ _ 3 (by decide) st0 x1 _ _ x7 x8 (ld_col st0 1536 (by decide) inb_S128x2048_S128x512_0_1536) (ld_col x1 1536 (by decide) inb_S128x2048_S128x512_0_1536) n j) n j

theorem ha_apply (x0 : Vec Ideal S128x3072 .f32) (r : Fin 8) (c : Fin 3072) : k0_pay7 (k0_pay4 x0) (ix2 r c) = x0 (ix2 ⟨120 + r.val, by omega⟩ c) := by
  pointwise [k0_pay7, k0_pay4]

theorem st0_apply (n : Fin 128) (j : Fin 2048) : st0 (ix2 n j) = 0 := by
  unfold st0
  pointwise [k0_pay2]

theorem ha0_apply (r : Fin 8) (c : Fin 3072) : ha0 (ix2 r c) = 0 := by
  unfold ha0
  pointwise [k0_pay3]

end Cert.Ssd

end
-- ==== Proof.KVal.lean ====
/- The scan's launch at the exact reals: what every grid point leaves in the output block and in the two carried
   buffers, and so the whole result, over the inputs at coordinates. -/
module

public import proofs.«01_k».proof.Proof.KBlk
public import proofs.«01_k».proof.Proof.VecD

@[expose] public section

set_option maxRecDepth 16384

noncomputable section

namespace Cert.Ssd

open Cert.KernelIdeal Cert.KernelIdeal.Gen Idealize.ShloMosaic Idealize.ShloMosaic.TcCoe Idealize.SL.Sem

variable (m : (ℓ : Loc nD τ sig) → Buf (Elt Ideal) ℓ) (c : Dev nD)

/-- The launch's inputs at coordinates. -/
def inp : Inputs where
  x := fun b r k => (m (c, main_arg0) : Vec Ideal S32x2048x3072 .f32) (ix3 b r k)
  z := fun b r k => (m (c, main_arg1) : Vec Ideal S32x2048x2048 .f32) (ix3 b r k)
  dt := fun b r k => (m (c, main_arg2) : Vec Ideal S32x2048x32 .f32) (ix3 b r k)
  w := fun a k => (m (c, main_arg3) : Vec Ideal S4x3072 .f32) (ix2 a k)
  wb := fun k => (m (c, main_arg4) : Vec Ideal S3072 .f32) (ix1 k)
  db := fun k => (m (c, main_arg5) : Vec Ideal S32 .f32) (ix1 k)
  al := fun k => (m (c, main_arg6) : Vec Ideal S32 .f32) (ix1 k)
  sk := fun k => (m (c, main_arg7) : Vec Ideal S32 .f32) (ix1 k)
  gn := fun k => (m (c, main_arg8) : Vec Ideal S2048 .f32) (ix1 k)

theorem u_eq (t : Fin cfg0.N) (ha : Vec Ideal S8x3072 .f32) (h : ∀ r k, ha (ix2 r k) = HAL (inp m c) (bt t.val) (t.val % 16) r k) :
    uA (uV (iblk m c 0 t) ha (iblk m c 3 t) (iblk m c 4 t)) = UU (inp m c) (bt t.val) (t.val % 16) := by
  funext i k
  unfold uA
  rw [uV_apply]
  show silu _ = silu _
  congr 1
  have e0 : (fun i k => (iblk m c 0 t : Vec Ideal S128x3072 .f32) (ix2 i k)) = XR (inp m c) (bt t.val) (t.val % 16) := by
    funext i k; rw [blk0]; rfl
  have e1 : (fun r k => ha (ix2 r k)) = HAL (inp m c) (bt t.val) (t.val % 16) := by
    funext r k; exact h r k
  have e3 : (fun i k => (iblk m c 3 t : Vec Ideal S4x3072 .f32) (ix2 i k)) = (inp m c).w := by
    funext i k; rw [blk3]; rfl
  have e4 : (fun k => (iblk m c 4 t : Vec Ideal S1x3072 .f32) (ix2 0 k)) = (inp m c).wb := by
    funext k; rw [blk4]; rfl
  rw [← e0, ← e1, ← e3, ← e4]

theorem dt_at (t : Fin cfg0.N) (i : Fin 128) (h : Fin 32) :
    k0_pay12 (F := Ideal) (iblk m c 2 t) (iblk m c 5 t) (ix2 i ⟨h.val, by omega⟩) = DT (inp m c) (bt t.val) (t.val % 16) i h := by
  rw [dtV_apply, blk2, blk5]
  rfl

theorem dt_eq (t : Fin cfg0.N) :
    hA (k0_pay12 (F := Ideal) (iblk m c 2 t) (iblk m c 5 t)) = DT (inp m c) (bt t.val) (t.val % 16) := by
  funext i h
  exact dt_at m c t i h

theorem cm_eq (t : Fin cfg0.N) :
    hA (cumV (iblk m c 2 t) (iblk m c 5 t) (iblk m c 6 t)) = CM (inp m c) (bt t.val) (t.val % 16) := by
  funext i h
  show cumV _ _ _ (ix2 i ⟨h.val, _⟩) = _
  rw [cumV_apply]
  unfold CM
  congr 1
  funext k
  rw [daV_apply, dt_at, blk6]
  rfl

theorem z_eq (t : Fin cfg0.N) : sA (iblk m c 1 t) = fun i j => (inp m c).z (bt t.val) (row (t.val % 16) i) j := by
  funext i j
  exact blk1 m c t i j

theorem d_eq (t : Fin cfg0.N) : rA (iblk m c 7 t) = fun j => (inp m c).sk (hd j) := by
  funext j
  exact blk7 m c t j

theorem gn_eq (t : Fin cfg0.N) : rA (iblk m c 8 t) = (inp m c).gn := by
  funext j
  exact blk8 m c t j

/-- What a point leaves: its chunk's result, the state after the chunk, and the chunk's last eight rows. -/
def Inv (t : Fin cfg0.N) : Prop :=
  (∀ i j, (outsAt0 m c t.val t.isLt).1 (ix2 i j) = RES (inp m c) (bt t.val) (t.val % 16) i j)
  ∧ (∀ n j, (outsAt0 m c t.val t.isLt).2.1 (ix2 n j) = ST (inp m c) (bt t.val) (t.val % 16 + 1) n j)
  ∧ (∀ r k, (outsAt0 m c t.val t.isLt).2.2 (ix2 r k) = XR (inp m c) (bt t.val) (t.val % 16) ⟨120 + r.val, by omega⟩ k)

theorem inv_A (t : Fin cfg0.N) (h0 : t.val % 16 = 0) : Inv m c t := by
  have hu := u_eq m c t ha0 (fun r k => by rw [ha0_apply, h0]; rfl)
  have hs : sA st0 = ST (inp m c) (bt t.val) (t.val % 16) := by
    funext n j
    rw [h0]
    exact st0_apply n j
  unfold Inv
  rw [outsAt0_A m c t h0]
  dsimp only
  refine ⟨fun i j => ?_, fun n j => ?_, fun r k => ?_⟩
  · rw [outA_apply, hu, dt_eq, cm_eq, hs, z_eq, d_eq, gn_eq, RES]
  · rw [stA_apply, hu, dt_eq, cm_eq, hs, ST_succ]
  · rw [haA, ha_apply, blk0, XR]
    rfl

theorem inv_B (t : Fin cfg0.N) (h0 : ¬t.val % 16 = 0)
    (ih : Inv m c ⟨t.val - 1, Nat.lt_of_le_of_lt (Nat.sub_le _ _) t.isLt⟩) : Inv m c t := by
  obtain ⟨_, ih1, ih2⟩ := ih
  have eb : bt (t.val - 1) = bt t.val := by
    apply Fin.ext
    show (t.val - 1) / 16 % 32 = t.val / 16 % 32
    omega
  have eq : (t.val - 1) % 16 = t.val % 16 - 1 := by omega
  have eq' : t.val % 16 - 1 + 1 = t.val % 16 := by omega
  dsimp only at ih1 ih2
  simp only [eb, eq, eq'] at ih1 ih2
  have hu := u_eq m c t (outsAt0 m c (t.val - 1) (Nat.lt_of_le_of_lt (Nat.sub_le _ _) t.isLt)).2.2 (fun r k => by
    rw [ih2]
    unfold HAL
    rw [if_neg h0])
  have hs : sA (outsAt0 m c (t.val - 1) (Nat.lt_of_le_of_lt (Nat.sub_le _ _) t.isLt)).2.1 = ST (inp m c) (bt t.val) (t.val % 16) := by
    funext n j
    exact ih1 n j
  unfold Inv
  rw [outsAt0_B m c t h0]
  dsimp only
  refine ⟨fun i j => ?_, fun n j => ?_, fun r k => ?_⟩
  · rw [outB_apply, hu, dt_eq, cm_eq, hs, z_eq, d_eq, gn_eq, RES]
  · rw [stB_apply, hu, dt_eq, cm_eq, hs, ST_succ]
  · rw [haB, ha_apply, blk0, XR]
    rfl

theorem inv : ∀ (n : ℕ) (h : n < cfg0.N), Inv m c ⟨n, h⟩
  | 0, h => inv_A m c ⟨0, h⟩ rfl
  | n + 1, h => by
    by_cases h0 : (n + 1) % 16 = 0
    · exact inv_A m c ⟨n + 1, h⟩ h0
    · exact inv_B m c ⟨n + 1, h⟩ h0 (inv n _)

/-- THE LAUNCH'S RESULT: row `128 t + i` is row `i` of the chunk point `t` computes. -/
theorem kernel_value (r : Fin 65536) (j : Fin 2048) :
    (Cert.KernelIdeal.Value.G9 m c : Vec Ideal S65536x2048 .bf16) (ix2 r j)
      = RES (inp m c) (bt (r.val / 128)) (r.val / 128 % 16) ⟨r.val % 128, by omega⟩ j := by
  have h : r.val / 128 < cfg0.N := by rw [show cfg0.N = 512 from N_0]; omega
  have hp : Cert.KernelIdeal.Value.pt9Of (ix2 r j : S65536x2048.Idx) = r.val / 128 := by
    show 1 * (r.val / 128 - 0) + 1 * (j.val / 2048 - 0) = r.val / 128
    omega
  have h' : Cert.KernelIdeal.Value.pt9Of (ix2 r j : S65536x2048.Idx) < cfg0.N := by rw [hp]; exact h
  have hl : Cert.KernelIdeal.Value.loc9Of (ix2 r j : S65536x2048.Idx) = ix2 ⟨r.val % 128, by omega⟩ j := by
    funext a
    apply Fin.ext
    match a with
    | ⟨0, _⟩ => rfl
    | ⟨1, _⟩ => show j.val % 2048 = j.val; omega
  have key := (inv m c _ h').1 ⟨r.val % 128, by omega⟩ j
  dsimp only at key
  rw [Cert.KernelIdeal.Value.outsAt0_sweep m c _ h'] at key
  unfold Cert.KernelIdeal.Value.G9
  rw [dif_pos h', hl]
  refine key.trans ?_
  rw [hp]

end Cert.Ssd

end
-- ==== Proof.RWin.lean ====
/- The reference's running sum, a windowed sum of 128 rows over 127 zero rows and the chunk's own, is the running sum. -/
module

public import proofs.«01_k».proof.Proof.Gen.ReferenceIdeal.Run
public import proofs.«01_k».proof.Proof.Math

@[expose] public section

set_option maxRecDepth 16384

noncomputable section

namespace Cert.Ssd.Ref

open Cert.ReferenceIdeal Cert.ReferenceIdeal.Gen Idealize.ShloMosaic

theorem foldl_add {N : ℕ} (f : Fin N → EReal) (v : EReal) : (List.finRange N).foldl (fun r n => r + f n) v = v + ∑ n, f n := by
  have h : ∀ (l : List (Fin N)) (v : EReal), l.foldl (fun r n => r + f n) v = v + (l.map f).sum := by
    intro l
    induction l with
    | nil => intro v; simp
    | cons a l ih => intro v; rw [List.foldl_cons, ih, List.map_cons, List.sum_cons, add_assoc]
  rw [h, Fin.sum_univ_def]

/-- Positions of the window: its one long axis. -/
def winEquiv : Fin 128 ≃ (⟨4, ![1, 128, 1, 1]⟩ : Shape).Idx where
  toFun w := ix4 0 w 0 0
  invFun x := x 1
  left_inv _ := rfl
  right_inv x := by
    funext a
    match a with
    | ⟨0, _⟩ => exact Subsingleton.elim (α := Fin 1) _ _
    | ⟨1, _⟩ => rfl
    | ⟨2, _⟩ => exact Subsingleton.elim (α := Fin 1) _ _
    | ⟨3, _⟩ => exact Subsingleton.elim (α := Fin 1) _ _

theorem win_sum (f : Fin 128 → EReal) (i : Fin 128) :
    (∑ w : Fin 128, if h : 127 ≤ i.val + w.val ∧ i.val + w.val - 127 < 128 then f ⟨i.val + w.val - 127, h.2⟩ else 0) = cumAt f i := by
  unfold cumAt
  have e1 : ∀ w : Fin 128, (if h : 127 ≤ i.val + w.val ∧ i.val + w.val - 127 < 128 then f ⟨i.val + w.val - 127, h.2⟩ else 0)
      = if 127 ≤ i.val + w.val then f ⟨(i.val + w.val - 127) % 128, Nat.mod_lt _ (by decide)⟩ else 0 := by
    intro w
    by_cases h : 127 ≤ i.val + w.val
    · rw [dif_pos ⟨h, by omega⟩, if_pos h]
      congr 1
      apply Fin.ext
      show i.val + w.val - 127 = (i.val + w.val - 127) % 128
      omega
    · rw [dif_neg (fun hc => h hc.1), if_neg h]
  rw [Finset.sum_congr rfl fun w _ => e1 w, ← Finset.sum_filter, ← Finset.sum_filter]
  refine Finset.sum_nbij' (fun w => ⟨(i.val + w.val - 127) % 128, Nat.mod_lt _ (by decide)⟩)
    (fun k => ⟨(k.val + 127 - i.val) % 128, Nat.mod_lt _ (by decide)⟩) ?_ ?_ ?_ ?_ ?_
  all_goals
    intro a ha
    simp only [Finset.mem_filter, Finset.mem_univ, true_and] at ha ⊢
  · omega
  · omega
  · apply Fin.ext
    show ((i.val + a.val - 127) % 128 + 127 - i.val) % 128 = a.val
    omega
  · apply Fin.ext
    show (i.val + (a.val + 127 - i.val) % 128 - 127) % 128 = a.val
    omega

/-- The windowed sum of 128 rows, padded with 127 zero rows in front, is the running sum. -/
theorem window_cum (x : FVec Ideal S32x128x4x8 .f32) (v : FVec Ideal S_ .f32) (hv : v (Shape.Idx.first h_S_) = (0 : EReal)) (b : Fin 32) (i : Fin 128) (g : Fin 4) (h : Fin 8) :
    Host.reduceWindowAdd ![1, 128, 1, 1] ![1, 1, 1, 1] ![0, 127, 0, 0] ![0, 0, 0, 0] x v reduceWindows_S32x128x4x8_S32x128x4x8_w1s1p0_0_w128s1p127_0_w1s1p0_0_w1s1p0_0 h_S_ (ix4 b i g h)
      = cumAt (fun k => x (ix4 b k g h)) i := by
  unfold Host.reduceWindowAdd
  rw [hv, Ideal.hostReduceWindowAdd_def]
  unfold Ideal.hostReduceWindowAdd Host.reduceWindow
  refine (foldl_add _ _).trans ?_
  rw [zero_add, ← win_sum]
  rw [← Equiv.sum_comp (winEquiv.trans (Shape.rowMajor _))]
  refine Finset.sum_congr rfl fun w _ => ?_
  simp only [Equiv.trans_apply, Equiv.symm_apply_apply]
  by_cases hw : 127 ≤ i.val + w.val ∧ i.val + w.val - 127 < 128
  · rw [dif_pos hw, dif_pos (by
      intro a
      match a with
      | ⟨0, _⟩ => show 0 ≤ b.val * 1 + 0 ∧ b.val * 1 + 0 - 0 < 32; omega
      | ⟨1, _⟩ => show 127 ≤ i.val * 1 + w.val ∧ i.val * 1 + w.val - 127 < 128; omega
      | ⟨2, _⟩ => show 0 ≤ g.val * 1 + 0 ∧ g.val * 1 + 0 - 0 < 4; omega
      | ⟨3, _⟩ => show 0 ≤ h.val * 1 + 0 ∧ h.val * 1 + 0 - 0 < 8; omega)]
    congr 1
    funext a
    apply Fin.ext
    match a with
    | ⟨0, _⟩ => show b.val * 1 + 0 - 0 = b.val; omega
    | ⟨1, _⟩ => show i.val * 1 + w.val - 127 = i.val + w.val - 127; omega
    | ⟨2, _⟩ => show g.val * 1 + 0 - 0 = g.val; omega
    | ⟨3, _⟩ => show h.val * 1 + 0 - 0 = h.val; omega
  · rw [dif_neg hw, dif_neg (by
      intro hc
      have h0 := hc ⟨1, by decide⟩
      have h1 : 127 ≤ i.val * 1 + w.val ∧ i.val * 1 + w.val - 127 < 128 := h0
      omega)]

end Cert.Ssd.Ref

end
-- ==== Proof.RStep.lean ====
/- One step of the reference's scan over chunks, read at coordinates. -/
module

public import proofs.«01_k».proof.Proof.Gen.ReferenceIdeal.Run
public import proofs.«01_k».proof.Proof.Math2
public import proofs.«01_k».proof.Proof.RWin
public import Idealize.ShloMosaic.Lib.DynamicIndex
public import Idealize.ShloMosaic.Lib.KernelVsHost

@[expose] public section

set_option maxRecDepth 16384

noncomputable section

namespace Cert.Ssd.Ref

open Cert.ReferenceIdeal Cert.ReferenceIdeal.Gen Cert.ReferenceIdeal.Value Idealize.ShloMosaic Idealize.ShloMosaic.TcCoe Idealize.SL.Sem
open Idealize.ShloMosaic.StableHlo

variable (V0 : Valuation τ sig (Elt Ideal))

/-- The inputs times their step sizes. -/
def A0 (i0 : Fin 16) (i1 : Fin 32) (i2 : Fin 128) (i3 : Fin 4) (i4 : Fin 8) (i5 : Fin 64) : EReal := (V0 (Proc.devRef .tc main_v70_0) : Vec Ideal S16x32x128x4x8x64 .f32) (ix6 i0 i1 i2 i3 i4 i5)
/-- The log decays. -/
def A1 (i0 : Fin 16) (i1 : Fin 32) (i2 : Fin 128) (i3 : Fin 4) (i4 : Fin 8) : EReal := (V0 (Proc.devRef .tc main_v70_1) : Vec Ideal S16x32x128x4x8 .f32) (ix5 i0 i1 i2 i3 i4)
/-- The input projections. -/
def A2 (i0 : Fin 16) (i1 : Fin 32) (i2 : Fin 128) (i3 : Fin 4) (i4 : Fin 128) : EReal := (V0 (Proc.devRef .tc main_v70_2) : Vec Ideal S16x32x128x4x128 .f32) (ix5 i0 i1 i2 i3 i4)
/-- The output projections. -/
def A3 (i0 : Fin 16) (i1 : Fin 32) (i2 : Fin 128) (i3 : Fin 4) (i4 : Fin 128) : EReal := (V0 (Proc.devRef .tc main_v70_3) : Vec Ideal S16x32x128x4x128 .f32) (ix5 i0 i1 i2 i3 i4)
/-- The inputs. -/
def A4 (i0 : Fin 16) (i1 : Fin 32) (i2 : Fin 128) (i3 : Fin 4) (i4 : Fin 8) (i5 : Fin 64) : EReal := (V0 (Proc.devRef .tc main_v70_4) : Vec Ideal S16x32x128x4x8x64 .f32) (ix6 i0 i1 i2 i3 i4 i5)
/-- The skip weights. -/
def A6 (i0 : Fin 4) (i1 : Fin 8) (i2 : Fin 1) : EReal := (V0 (Proc.devRef .tc main_v70_6) : Vec Ideal S4x8x1 .f32) (ix3 i0 i1 i2)
/-- The carried state. -/
def A8 (i0 : Fin 32) (i1 : Fin 4) (i2 : Fin 8) (i3 : Fin 64) (i4 : Fin 128) : EReal := (V0 (Proc.devRef .tc main_v70_8) : Vec Ideal S32x4x8x64x128 .f32) (ix5 i0 i1 i2 i3 i4)
/-- The results so far. -/
def A9 (i0 : Fin 16) (i1 : Fin 32) (i2 : Fin 128) (i3 : Fin 4) (i4 : Fin 8) (i5 : Fin 64) : EReal := (V0 (Proc.devRef .tc main_v70_9) : Vec Ideal S16x32x128x4x8x64 .f32) (ix6 i0 i1 i2 i3 i4 i5)
/-- The chunk's inputs times their step sizes. -/
def C93 (i0 : Fin 32) (i1 : Fin 128) (i2 : Fin 4) (i3 : Fin 8) (i4 : Fin 64) : EReal := (res_main_while0b_v93 V0 : Vec Ideal S32x128x4x8x64 .f32) (ix5 i0 i1 i2 i3 i4)
/-- The chunk's input projections. -/
def C95 (i0 : Fin 32) (i1 : Fin 128) (i2 : Fin 4) (i3 : Fin 128) : EReal := (res_main_while0b_v95 V0 : Vec Ideal S32x128x4x128 .f32) (ix4 i0 i1 i2 i3)
/-- The chunk's output projections. -/
def C96 (i0 : Fin 32) (i1 : Fin 128) (i2 : Fin 4) (i3 : Fin 128) : EReal := (res_main_while0b_v96 V0 : Vec Ideal S32x128x4x128 .f32) (ix4 i0 i1 i2 i3)
/-- The chunk's running log decays. -/
def C98 (i0 : Fin 32) (i1 : Fin 128) (i2 : Fin 4) (i3 : Fin 8) : EReal := (res_main_while0b_v98 V0 : Vec Ideal S32x128x4x8 .f32) (ix4 i0 i1 i2 i3)

theorem step8 (b : Fin 32) (g : Fin 4) (h : Fin 8) (p : Fin 64) (n : Fin 128) :
    (step_main_v70_8 V0 : Vec Ideal S32x4x8x64x128 .f32) (ix5 b g h p n)
      = A8 V0 b g h p n * Ideal.exp (C98 V0 b 127 g h)
        + ∑ s : Fin 128, (Ideal.exp (C98 V0 b 127 g h - C98 V0 b s g h) * C93 V0 b s g h p) * C95 V0 b s g n := by
  unfold step_main_v70_8 A8 C98 C93 C95
  generalize res_main_while0b_v98 V0 = c98
  generalize res_main_while0b_v93 V0 = c93
  generalize res_main_while0b_v95 V0 = c95
  generalize V0 (Proc.devRef .tc main_v70_8) = c8
  rw [id_eq]
  pointwise

theorem slices0 (q : ℕ) (hq : q < 16) : S16x32x128x4x8x64.Slices ![q, 0, 0, 0, 0, 0] S1x32x128x4x8x64 :=
  ⟨rfl, fun a => match a with
    | ⟨0, _⟩ => by show q + 1 ≤ 16; omega
    | ⟨1, _⟩ => by show 0 + 32 ≤ 32; omega
    | ⟨2, _⟩ => by show 0 + 128 ≤ 128; omega
    | ⟨3, _⟩ => by show 0 + 4 ≤ 4; omega
    | ⟨4, _⟩ => by show 0 + 8 ≤ 8; omega
    | ⟨5, _⟩ => by show 0 + 64 ≤ 64; omega⟩

theorem v93 (q : ℕ) (hq : q < 16) (h7 : V0 (Proc.devRef .tc main_v70_7) = fun _ => BitVec.ofNat 32 q) (i0 : Fin 32) (i1 : Fin 128) (i2 : Fin 4) (i3 : Fin 8) (i4 : Fin 64) :
    C93 V0 i0 i1 i2 i3 i4 = A0 V0 ⟨q, hq⟩ i0 i1 i2 i3 i4 := by
  unfold C93 A0 res_main_while0b_v93
  rw [h7]
  generalize V0 (Proc.devRef .tc main_v70_0) = c0
  rw [Host.dynamicSlice_eq_extractStridedSlice S1x32x128x4x8x64 _ _ ![q, 0, 0, 0, 0, 0] _ (slices0 q hq) (by
    intro a
    match a with
    | ⟨0, _⟩ => exact toInt_ofNat_of_lt (by omega)
    | ⟨1, _⟩ => rfl
    | ⟨2, _⟩ => rfl
    | ⟨3, _⟩ => rfl
    | ⟨4, _⟩ => rfl
    | ⟨5, _⟩ => rfl)]
  pointwise

theorem slices2 (q : ℕ) (hq : q < 16) : S16x32x128x4x128.Slices ![q, 0, 0, 0, 0] S1x32x128x4x128 :=
  ⟨rfl, fun a => match a with
    | ⟨0, _⟩ => by show q + 1 ≤ 16; omega
    | ⟨1, _⟩ => by show 0 + 32 ≤ 32; omega
    | ⟨2, _⟩ => by show 0 + 128 ≤ 128; omega
    | ⟨3, _⟩ => by show 0 + 4 ≤ 4; omega
    | ⟨4, _⟩ => by show 0 + 128 ≤ 128; omega⟩

theorem v95 (q : ℕ) (hq : q < 16) (h7 : V0 (Proc.devRef .tc main_v70_7) = fun _ => BitVec.ofNat 32 q) (i0 : Fin 32) (i1 : Fin 128) (i2 : Fin 4) (i3 : Fin 128) :
    C95 V0 i0 i1 i2 i3 = A2 V0 ⟨q, hq⟩ i0 i1 i2 i3 := by
  unfold C95 A2 res_main_while0b_v95
  rw [h7]
  generalize V0 (Proc.devRef .tc main_v70_2) = c0
  rw [Host.dynamicSlice_eq_extractStridedSlice S1x32x128x4x128 _ _ ![q, 0, 0, 0, 0] _ (slices2 q hq) (by
    intro a
    match a with
    | ⟨0, _⟩ => exact toInt_ofNat_of_lt (by omega)
    | ⟨1, _⟩ => rfl
    | ⟨2, _⟩ => rfl
    | ⟨3, _⟩ => rfl
    | ⟨4, _⟩ => rfl)]
  pointwise

theorem slices3 (q : ℕ) (hq : q < 16) : S16x32x128x4x128.Slices ![q, 0, 0, 0, 0] S1x32x128x4x128 :=
  ⟨rfl, fun a => match a with
    | ⟨0, _⟩ => by show q + 1 ≤ 16; omega
    | ⟨1, _⟩ => by show 0 + 32 ≤ 32; omega
    | ⟨2, _⟩ => by show 0 + 128 ≤ 128; omega
    | ⟨3, _⟩ => by show 0 + 4 ≤ 4; omega
    | ⟨4, _⟩ => by show 0 + 128 ≤ 128; omega⟩

theorem v96 (q : ℕ) (hq : q < 16) (h7 : V0 (Proc.devRef .tc main_v70_7) = fun _ => BitVec.ofNat 32 q) (i0 : Fin 32) (i1 : Fin 128) (i2 : Fin 4) (i3 : Fin 128) :
    C96 V0 i0 i1 i2 i3 = A3 V0 ⟨q, hq⟩ i0 i1 i2 i3 := by
  unfold C96 A3 res_main_while0b_v96
  rw [h7]
  generalize V0 (Proc.devRef .tc main_v70_3) = c0
  rw [Host.dynamicSlice_eq_extractStridedSlice S1x32x128x4x128 _ _ ![q, 0, 0, 0, 0] _ (slices3 q hq) (by
    intro a
    match a with
    | ⟨0, _⟩ => exact toInt_ofNat_of_lt (by omega)
    | ⟨1, _⟩ => rfl
    | ⟨2, _⟩ => rfl
    | ⟨3, _⟩ => rfl
    | ⟨4, _⟩ => rfl)]
  pointwise

/-- The lower triangle. -/
def A5 (i s : Fin 128) : BitVec 1 := (V0 (Proc.devRef .tc main_v70_5) : IVec S128x128 1) (ix2 i s)

/-- The chunk's result. -/
def YR (q : Fin 16) (b : Fin 32) (i : Fin 128) (g : Fin 4) (h : Fin 8) (p : Fin 64) : EReal :=
  (∑ s : Fin 128, C93 V0 b s g h p * ((∑ n : Fin 128, C95 V0 b s g n * C96 V0 b i g n)
      * Ideal.exp (if A5 V0 i s = 1 then C98 V0 b i g h - C98 V0 b s g h else Ideal.ofBits .f32 0xFF800000#32)))
    + (∑ n : Fin 128, A8 V0 b g h p n * C96 V0 b i g n) * Ideal.exp (C98 V0 b i g h)
    + A6 V0 g h 0 * A4 V0 q b i g h p

theorem updates9 (q : ℕ) (hq : q < 16) : S16x32x128x4x8x64.Slices ![q, 0, 0, 0, 0, 0] S1x32x128x4x8x64 := slices0 q hq

theorem step9 (q : ℕ) (hq : q < 16) (h7 : V0 (Proc.devRef .tc main_v70_7) = fun _ => BitVec.ofNat 32 q) (r : Fin 16) (b : Fin 32) (i : Fin 128) (g : Fin 4) (h : Fin 8) (p : Fin 64) :
    (step_main_v70_9 V0 : Vec Ideal S16x32x128x4x8x64 .f32) (ix6 r b i g h p) = if r.val = q then YR V0 r b i g h p else A9 V0 r b i g h p := by
  unfold step_main_v70_9 YR A9 A8 A6 A5 A4 C98 C93 C95 C96
  rw [h7]
  generalize res_main_while0b_v98 V0 = c98
  generalize res_main_while0b_v93 V0 = c93
  generalize res_main_while0b_v95 V0 = c95
  generalize res_main_while0b_v96 V0 = c96
  generalize V0 (Proc.devRef .tc main_v70_8) = c8
  generalize V0 (Proc.devRef .tc main_v70_9) = c9
  generalize V0 (Proc.devRef .tc main_v70_4) = c4
  generalize V0 (Proc.devRef .tc main_v70_5) = c5
  generalize V0 (Proc.devRef .tc main_v70_6) = c6
  rw [id_eq]
  rw [Host.dynamicSlice_eq_extractStridedSlice S1x32x128x4x8x64 _ _ ![q, 0, 0, 0, 0, 0] _ (slices0 q hq) (by
    intro a
    match a with
    | ⟨0, _⟩ => exact toInt_ofNat_of_lt (by omega)
    | ⟨1, _⟩ => rfl
    | ⟨2, _⟩ => rfl
    | ⟨3, _⟩ => rfl
    | ⟨4, _⟩ => rfl
    | ⟨5, _⟩ => rfl)]
  rw [Host.dynamicUpdateSlice_eq_updateSlice _ _ _ _ ![q, 0, 0, 0, 0, 0] (by
    intro a
    match a with
    | ⟨0, _⟩ =>
      show (min (max (BitVec.ofNat 32 q).toInt 0) ((16 - 1 : ℕ) : Int)).toNat = q
      rw [toInt_ofNat_of_lt (by omega)]
      omega
    | ⟨1, _⟩ => rfl
    | ⟨2, _⟩ => rfl
    | ⟨3, _⟩ => rfl
    | ⟨4, _⟩ => rfl
    | ⟨5, _⟩ => rfl) (slices0 q hq)]
  rw [updateSlice_apply]
  by_cases hr : r.val = q
  · rw [if_pos hr, dif_pos (by
      intro a
      match a with
      | ⟨0, _⟩ => show q ≤ r.val ∧ r.val < q + 1; omega
      | ⟨1, _⟩ => show 0 ≤ b.val ∧ b.val < 0 + 32; omega
      | ⟨2, _⟩ => show 0 ≤ i.val ∧ i.val < 0 + 128; omega
      | ⟨3, _⟩ => show 0 ≤ g.val ∧ g.val < 0 + 4; omega
      | ⟨4, _⟩ => show 0 ≤ h.val ∧ h.val < 0 + 8; omega
      | ⟨5, _⟩ => show 0 ≤ p.val ∧ p.val < 0 + 64; omega)]
    obtain rfl : r = ⟨q, hq⟩ := Fin.ext hr
    pointwise
    rfl
  · rw [if_neg hr, dif_neg (by
      intro hc
      have h0 := hc ⟨0, by decide⟩
      have h1 : q ≤ r.val ∧ r.val < q + 1 := h0
      omega)]

theorem slices1 (q : ℕ) (hq : q < 16) : S16x32x128x4x8.Slices ![q, 0, 0, 0, 0] S1x32x128x4x8 :=
  ⟨rfl, fun a => match a with
    | ⟨0, _⟩ => by show q + 1 ≤ 16; omega
    | ⟨1, _⟩ => by show 0 + 32 ≤ 32; omega
    | ⟨2, _⟩ => by show 0 + 128 ≤ 128; omega
    | ⟨3, _⟩ => by show 0 + 4 ≤ 4; omega
    | ⟨4, _⟩ => by show 0 + 8 ≤ 8; omega⟩

theorem v98 (q : ℕ) (hq : q < 16) (h7 : V0 (Proc.devRef .tc main_v70_7) = fun _ => BitVec.ofNat 32 q) (b : Fin 32) (i : Fin 128) (g : Fin 4) (h : Fin 8) :
    C98 V0 b i g h = cumAt (fun k => A1 V0 ⟨q, hq⟩ b k g h) i := by
  unfold C98 A1 res_main_while0b_v98
  rw [h7]
  generalize V0 (Proc.devRef .tc main_v70_1) = c0
  refine (window_cum _ _ (by pointwise) b i g h).trans ?_
  congr 1
  funext k
  rw [Host.dynamicSlice_eq_extractStridedSlice S1x32x128x4x8 _ _ ![q, 0, 0, 0, 0] _ (slices1 q hq) (by
    intro a
    match a with
    | ⟨0, _⟩ => exact toInt_ofNat_of_lt (by omega)
    | ⟨1, _⟩ => rfl
    | ⟨2, _⟩ => rfl
    | ⟨3, _⟩ => rfl
    | ⟨4, _⟩ => rfl)]
  pointwise

end Cert.Ssd.Ref

end
-- ==== Proof.RPre.lean ====
/- The reference's host operations in front of its scan, read entry by entry. -/
module

public import proofs.«01_k».proof.Proof.RStep

@[expose] public section

set_option maxRecDepth 16384

noncomputable section

namespace Cert.Ssd.Ref

open Cert.ReferenceIdeal Cert.ReferenceIdeal.Gen Cert.ReferenceIdeal.Value
open Idealize.ShloMosaic Idealize.ShloMosaic.TcCoe Idealize.ShloMosaic.StableHlo
open Idealize.SL Idealize.SL.Sem

variable (V : Valuation τ sig (Elt Ideal))

/-- `v0` at coordinates. -/
def Xv0 (i0 : Fin 32) (i1 : Fin 2051) (i2 : Fin 3072) : EReal := (V (Proc.devRef .tc main_v0) : Vec Ideal S32x2051x3072 .f32) (ix3 i0 i1 i2)
/-- `v32` at coordinates. -/
def Xv32 (i0 : Fin 32) (i1 : Fin 2048) (i2 : Fin 3072) : EReal := (V (Proc.devRef .tc main_v32) : Vec Ideal S32x2048x3072 .f32) (ix3 i0 i1 i2)
/-- `v33` at coordinates. -/
def Xv33 (i0 : Fin 32) (i1 : Fin 2048) (i2 : Fin 3072) : EReal := (V (Proc.devRef .tc main_v33) : Vec Ideal S32x2048x3072 .f32) (ix3 i0 i1 i2)
/-- `v34` at coordinates. -/
def Xv34 (i0 : Fin 32) (i1 : Fin 2048) (i2 : Fin 2048) : EReal := (V (Proc.devRef .tc main_v34) : Vec Ideal S32x2048x2048 .f32) (ix3 i0 i1 i2)
/-- `v35` at coordinates. -/
def Xv35 (i0 : Fin 32) (i1 : Fin 2048) (i2 : Fin 512) : EReal := (V (Proc.devRef .tc main_v35) : Vec Ideal S32x2048x512 .f32) (ix3 i0 i1 i2)
/-- `v36` at coordinates. -/
def Xv36 (i0 : Fin 32) (i1 : Fin 2048) (i2 : Fin 512) : EReal := (V (Proc.devRef .tc main_v36) : Vec Ideal S32x2048x512 .f32) (ix3 i0 i1 i2)
/-- `v39` at coordinates. -/
def Xv39 (i0 : Fin 32) (i1 : Fin 2048) (i2 : Fin 32) : EReal := (V (Proc.devRef .tc main_v39) : Vec Ideal S32x2048x32 .f32) (ix3 i0 i1 i2)
/-- `v40` at coordinates. -/
def Xv40 (i0 : Fin 32) (i1 : Fin 2048) (i2 : Fin 32) : EReal := (V (Proc.devRef .tc main_v40) : Vec Ideal S32x2048x32 .f32) (ix3 i0 i1 i2)
/-- `arg0` at coordinates. -/
def Xarg0 (i0 : Fin 32) (i1 : Fin 2048) (i2 : Fin 3072) : EReal := (V (Proc.devRef .tc main_arg0) : Vec Ideal S32x2048x3072 .f32) (ix3 i0 i1 i2)
/-- `arg2` at coordinates. -/
def Xarg2 (i0 : Fin 32) (i1 : Fin 2048) (i2 : Fin 32) : EReal := (V (Proc.devRef .tc main_arg2) : Vec Ideal S32x2048x32 .f32) (ix3 i0 i1 i2)
/-- `arg3` at coordinates. -/
def Xarg3 (i0 : Fin 4) (i1 : Fin 3072) : EReal := (V (Proc.devRef .tc main_arg3) : Vec Ideal S4x3072 .f32) (ix2 i0 i1)
/-- `arg4` at coordinates. -/
def Xarg4 (i0 : Fin 3072) : EReal := (V (Proc.devRef .tc main_arg4) : Vec Ideal S3072 .f32) (ix1 i0)
/-- `arg5` at coordinates. -/
def Xarg5 (i0 : Fin 32) : EReal := (V (Proc.devRef .tc main_arg5) : Vec Ideal S32 .f32) (ix1 i0)
/-- `arg6` at coordinates. -/
def Xarg6 (i0 : Fin 32) : EReal := (V (Proc.devRef .tc main_arg6) : Vec Ideal S32 .f32) (ix1 i0)
/-- `arg7` at coordinates. -/
def Xarg7 (i0 : Fin 32) : EReal := (V (Proc.devRef .tc main_arg7) : Vec Ideal S32 .f32) (ix1 i0)
/-- `v57` at coordinates. -/
def Xv57 (i0 : Fin 16) (i1 : Fin 32) (i2 : Fin 128) (i3 : Fin 4) (i4 : Fin 8) (i5 : Fin 64) : EReal := (V (Proc.devRef .tc main_v57) : Vec Ideal S16x32x128x4x8x64 .f32) (ix6 i0 i1 i2 i3 i4 i5)
/-- `v59` at coordinates. -/
def Xv59 (i0 : Fin 16) (i1 : Fin 32) (i2 : Fin 128) (i3 : Fin 4) (i4 : Fin 8) : EReal := (V (Proc.devRef .tc main_v59) : Vec Ideal S16x32x128x4x8 .f32) (ix5 i0 i1 i2 i3 i4)
/-- `v61` at coordinates. -/
def Xv61 (i0 : Fin 16) (i1 : Fin 32) (i2 : Fin 128) (i3 : Fin 4) (i4 : Fin 128) : EReal := (V (Proc.devRef .tc main_v61) : Vec Ideal S16x32x128x4x128 .f32) (ix5 i0 i1 i2 i3 i4)
/-- `v63` at coordinates. -/
def Xv63 (i0 : Fin 16) (i1 : Fin 32) (i2 : Fin 128) (i3 : Fin 4) (i4 : Fin 128) : EReal := (V (Proc.devRef .tc main_v63) : Vec Ideal S16x32x128x4x128 .f32) (ix5 i0 i1 i2 i3 i4)
/-- `v65` at coordinates. -/
def Xv65 (i0 : Fin 16) (i1 : Fin 32) (i2 : Fin 128) (i3 : Fin 4) (i4 : Fin 8) (i5 : Fin 64) : EReal := (V (Proc.devRef .tc main_v65) : Vec Ideal S16x32x128x4x8x64 .f32) (ix6 i0 i1 i2 i3 i4 i5)
/-- `v55` at coordinates. -/
def Xv55 (i0 : Fin 4) (i1 : Fin 8) (i2 : Fin 1) : EReal := (V (Proc.devRef .tc main_v55) : Vec Ideal S4x8x1 .f32) (ix3 i0 i1 i2)
/-- `v54` at coordinates. -/
def Xv54 (i0 : Fin 32) (i1 : Fin 2048) (i2 : Fin 4) (i3 : Fin 8) (i4 : Fin 64) : EReal := (V (Proc.devRef .tc main_v54) : Vec Ideal S32x2048x4x8x64 .f32) (ix5 i0 i1 i2 i3 i4)

theorem r65a (x : FVec Ideal S32x2048x2048 .f32) (b : Fin 32) (i : Fin 2048) (h : Fin 32) (p : Fin 64) :
    shapeCast S32x2048x32x64 x shapeCasts_S32x2048x2048_S32x2048x32x64 (ix4 b i h p) = x (ix3 b i ⟨h.val * 64 + p.val, by omega⟩) := by pointwise
theorem r65b (x : FVec Ideal S32x2048x32x64 .f32) (b : Fin 32) (i : Fin 2048) (g : Fin 4) (h : Fin 8) (p : Fin 64) :
    shapeCast S32x2048x4x8x64 x shapeCasts_S32x2048x32x64_S32x2048x4x8x64 (ix5 b i g h p) = x (ix4 b i ⟨g.val * 8 + h.val, by omega⟩ p) := by pointwise
theorem r65c (x : FVec Ideal S32x2048x4x8x64 .f32) (b : Fin 32) (q : Fin 16) (s : Fin 128) (g : Fin 4) (h : Fin 8) (p : Fin 64) :
    shapeCast S32x16x128x4x8x64 x shapeCasts_S32x2048x4x8x64_S32x16x128x4x8x64 (ix6 b q s g h p) = x (ix5 b ⟨q.val * 128 + s.val, by omega⟩ g h p) := by pointwise

theorem g2_v32 (b : Fin 32) (i : Fin 2048) (c : Fin 3072) : Xv32 (after (hostOps0_2 (F := Ideal)) V) b i c = ((((0 + Xarg3 V 0 c * Xv0 V b ⟨i.val + 0, by omega⟩ c) + Xarg3 V 1 c * Xv0 V b ⟨i.val + 1, by omega⟩ c) + Xarg3 V 2 c * Xv0 V b ⟨i.val + 2, by omega⟩ c) + Xarg3 V 3 c * Xv0 V b ⟨i.val + 3, by omega⟩ c) + Xarg4 V c := by
  show StableHlo.after _ _ _ _ = _
  simp only [hostOps0_2]
  entry_read
  unfold Xarg3 Xv0 Xarg4
  pointwise
  simp only [Nat.add_comm 1 i.val, Nat.add_comm 2 i.val, Nat.add_comm 3 i.val]

theorem g3_v33 (b : Fin 32) (i : Fin 2048) (c : Fin 3072) : Xv33 (after (hostOps0_3 (F := Ideal)) V) b i c = silu (Xv32 V b i c) := by
  show StableHlo.after _ _ _ _ = _
  simp only [hostOps0_3]
  entry_read
  unfold Xv32 silu
  simp only [TRef.ofBuf_toBuf]
  change (fun x : FVec Ideal S32x2048x3072 .f32 => (mulf x (Host.divf (broadcastInDim S32x2048x3072 ![] bcast_S_S32x2048x3072 (constant S_ FTy.f32 1065353216#32))
      (addf (broadcastInDim S32x2048x3072 ![] bcast_S_S32x2048x3072 (constant S_ FTy.f32 1065353216#32)) (Host.exp (Host.negf x)))) : FVec Ideal S32x2048x3072 .f32) (ix3 b i c)) (V (Proc.devRef .tc main_v32)) = _
  generalize V (Proc.devRef .tc main_v32) = x
  dsimp only
  pointwise
  rfl

theorem g4_v34 (b : Fin 32) (i : Fin 2048) (c : Fin 2048) : Xv34 (after (hostOps0_4 (F := Ideal)) V) b i c = Xv33 V b i ⟨c.val, by omega⟩ := by
  show StableHlo.after _ _ _ _ = _
  simp only [hostOps0_4]
  entry_read
  unfold Xv33
  pointwise

theorem g4_v35 (b : Fin 32) (i : Fin 2048) (c : Fin 512) : Xv35 (after (hostOps0_4 (F := Ideal)) V) b i c = Xv33 V b i ⟨2048 + c.val, by omega⟩ := by
  show StableHlo.after _ _ _ _ = _
  simp only [hostOps0_4]
  entry_read
  unfold Xv33
  pointwise

theorem g4_v36 (b : Fin 32) (i : Fin 2048) (c : Fin 512) : Xv36 (after (hostOps0_4 (F := Ideal)) V) b i c = Xv33 V b i ⟨2560 + c.val, by omega⟩ := by
  show StableHlo.after _ _ _ _ = _
  simp only [hostOps0_4]
  entry_read
  unfold Xv33
  pointwise

theorem g4_v39 (b : Fin 32) (i : Fin 2048) (c : Fin 32) : Xv39 (after (hostOps0_4 (F := Ideal)) V) b i c = Xarg2 V b i c + Xarg5 V c := by
  show StableHlo.after _ _ _ _ = _
  simp only [hostOps0_4]
  entry_read
  unfold Xarg2 Xarg5
  pointwise

theorem g5_v40 (b : Fin 32) (i : Fin 2048) (c : Fin 32) : Xv40 (after (hostOps0_5 (F := Ideal)) V) b i c = softp (Xv39 V b i c) := by
  show StableHlo.after _ _ _ _ = _
  simp only [hostOps0_5]
  entry_read
  unfold Xv39 softp
  simp only [TRef.ofBuf_toBuf]
  change (fun x : FVec Ideal S32x2048x32 .f32 => (select (cmpf CmpFPredicate.une (subf x (broadcastInDim S32x2048x32 ![] bcast_S_S32x2048x32 (constant S_ FTy.f32 0#32))) (subf x (broadcastInDim S32x2048x32 ![] bcast_S_S32x2048x32 (constant S_ FTy.f32 0#32)))) (addf x (broadcastInDim S32x2048x32 ![] bcast_S_S32x2048x32 (constant S_ FTy.f32 0#32)))
      (addf (maximumf x (broadcastInDim S32x2048x32 ![] bcast_S_S32x2048x32 (constant S_ FTy.f32 0#32))) (Host.log1p (Host.exp (Host.negf (Host.absf (subf x (broadcastInDim S32x2048x32 ![] bcast_S_S32x2048x32 (constant S_ FTy.f32 0#32)))))))) : FVec Ideal S32x2048x32 .f32) (ix3 b i c)) (V (Proc.devRef .tc main_v39)) = _
  generalize V (Proc.devRef .tc main_v39) = x
  dsimp only
  pointwise
  rw [if_neg (fun hc => hc rfl), zero_sub]

theorem g6_v57 (q : Fin 16) (b : Fin 32) (s : Fin 128) (g : Fin 4) (h : Fin 8) (p : Fin 64) : Xv57 (after (hostOps0_6 (F := Ideal)) V) q b s g h p = Xv34 V b ⟨q.val * 128 + s.val, by omega⟩ ⟨(g.val * 8 + h.val) * 64 + p.val, by omega⟩ * Xv40 V b ⟨q.val * 128 + s.val, by omega⟩ ⟨g.val * 8 + h.val, by omega⟩ := by
  show StableHlo.after _ _ _ _ = _
  simp only [hostOps0_6]
  entry_read
  unfold Xv34 Xv40
  pointwise

theorem g6_v59 (q : Fin 16) (b : Fin 32) (s : Fin 128) (g : Fin 4) (h : Fin 8) : Xv59 (after (hostOps0_6 (F := Ideal)) V) q b s g h = Xv40 V b ⟨q.val * 128 + s.val, by omega⟩ ⟨g.val * 8 + h.val, by omega⟩ * (0 - Ideal.exp (Xarg6 V ⟨g.val * 8 + h.val, by omega⟩)) := by
  show StableHlo.after _ _ _ _ = _
  simp only [hostOps0_6]
  entry_read
  unfold Xarg6 Xv40
  pointwise
  rw [zero_sub]

theorem g6_v61 (q : Fin 16) (b : Fin 32) (s : Fin 128) (g : Fin 4) (n : Fin 128) : Xv61 (after (hostOps0_6 (F := Ideal)) V) q b s g n = Xv35 V b ⟨q.val * 128 + s.val, by omega⟩ ⟨g.val * 128 + n.val, by omega⟩ := by
  show StableHlo.after _ _ _ _ = _
  simp only [hostOps0_6]
  entry_read
  unfold Xv35
  pointwise

theorem g6_v63 (q : Fin 16) (b : Fin 32) (s : Fin 128) (g : Fin 4) (n : Fin 128) : Xv63 (after (hostOps0_6 (F := Ideal)) V) q b s g n = Xv36 V b ⟨q.val * 128 + s.val, by omega⟩ ⟨g.val * 128 + n.val, by omega⟩ := by
  show StableHlo.after _ _ _ _ = _
  simp only [hostOps0_6]
  entry_read
  unfold Xv36
  pointwise

theorem g6a_v54 (b : Fin 32) (i : Fin 2048) (g : Fin 4) (h : Fin 8) (p : Fin 64) : Xv54 (after ((hostOps0_6 (F := Ideal)).take 14) V) b i g h p = Xv34 V b i ⟨(g.val * 8 + h.val) * 64 + p.val, by omega⟩ := by
  show StableHlo.after _ _ _ _ = _
  simp only [hostOps0_6, List.take_succ_cons, List.take_zero]
  entry_read
  unfold Xv34
  exact (r65b _ b i g h p).trans (r65a _ b i _ p)

theorem g6b_v65 (q : Fin 16) (b : Fin 32) (s : Fin 128) (g : Fin 4) (h : Fin 8) (p : Fin 64) : Xv65 (after ((hostOps0_6 (F := Ideal)).drop 14) V) q b s g h p = Xv54 V b ⟨q.val * 128 + s.val, by omega⟩ g h p := by
  show StableHlo.after _ _ _ _ = _
  simp only [hostOps0_6, List.drop_succ_cons, List.drop_zero]
  entry_read
  unfold Xv54
  pointwise

theorem g6_v65 (q : Fin 16) (b : Fin 32) (s : Fin 128) (g : Fin 4) (h : Fin 8) (p : Fin 64) : Xv65 (after (hostOps0_6 (F := Ideal)) V) q b s g h p = Xv34 V b ⟨q.val * 128 + s.val, by omega⟩ ⟨(g.val * 8 + h.val) * 64 + p.val, by omega⟩ := by
  rw [← List.take_append_drop 14 (hostOps0_6 (F := Ideal)), after_append]
  exact (g6b_v65 _ q b s g h p).trans (g6a_v54 V b _ g h p)

theorem g6_v55 (g : Fin 4) (h : Fin 8) : Xv55 (after (hostOps0_6 (F := Ideal)) V) g h 0 = Xarg7 V ⟨g.val * 8 + h.val, by omega⟩ := by
  show StableHlo.after _ _ _ _ = _
  simp only [hostOps0_6]
  entry_read
  unfold Xarg7
  pointwise

end Cert.Ssd.Ref

end
-- ==== Proof.REntry.lean ====
/- What the reference's scan starts from: every carried buffer, read entry by entry as the mathematics names it. -/
module

public import proofs.«01_k».proof.Proof.RPre

@[expose] public section

set_option maxRecDepth 16384

noncomputable section

namespace Cert.Ssd.Ref

open Cert.ReferenceIdeal Cert.ReferenceIdeal.Gen Cert.ReferenceIdeal.Value
open Idealize.ShloMosaic Idealize.ShloMosaic.TcCoe Idealize.ShloMosaic.StableHlo
open Idealize.SL Idealize.SL.Sem

section Groups

variable (V : Valuation τ sig (Elt Ideal))

/-- The mask at coordinates. -/
def Xv67 (i s : Fin 128) : BitVec 1 := (V (Proc.devRef .tc main_v67) : IVec S128x128 1) (ix2 i s)
/-- The full mask at coordinates. -/
def Xv66 (i s : Fin 128) : BitVec 1 := (V (Proc.devRef .tc main_v66) : IVec S128x128 1) (ix2 i s)
/-- The integer zero. -/
def Xc : IVec S_ 32 := V (Proc.devRef .tc main_c)

theorem g0_c : Xc (after (hostOps0 (F := Ideal)) V) = constantI S_ 32 0#32 := by
  show StableHlo.after _ _ _ = _
  simp only [hostOps0]
  entry_read
  rfl

theorem pad0 (x : FVec Ideal S32x2048x3072 .f32) (v : FVec Ideal S_ .f32) (hv : v (Shape.Idx.first h_S_) = (0 : EReal)) (b : Fin 32) (r : Fin 2051) (c : Fin 3072) :
    pad S32x2051x3072 ![0, 3, 0] ![0, 0, 0] ![0, 0, 0] x v pads_S32x2048x3072_S32x2051x3072_000_300_000 h_S_ (ix3 b r c)
      = if h : 3 ≤ r.val then x (ix3 b ⟨r.val - 3, by omega⟩ c) else 0 := by
  by_cases h : 3 ≤ r.val
  · rw [dif_pos h]
    refine pad_apply_of_inside _ _ _ _ _ _ _ _ (ix3 b ⟨r.val - 3, by omega⟩ c) (fun a => ?_)
    match a with
    | ⟨0, _⟩ => show b.val = 0 + b.val * 1; omega
    | ⟨1, _⟩ => show r.val = 3 + (r.val - 3) * 1; omega
    | ⟨2, _⟩ => show c.val = 0 + c.val * 1; omega
  · rw [dif_neg h]
    refine (pad_apply_of_not_inside _ _ _ _ _ _ _ _ ⟨1, by decide⟩ (fun hc => h ?_)).trans hv
    have h1 : 3 ≤ r.val := hc.1
    exact h1

theorem g1_v0 (hc : Xc V = constantI S_ 32 0#32) (b : Fin 32) (r : Fin 2051) (c : Fin 3072) :
    Xv0 (after (hostOps0_1 (F := Ideal)) V) b r c = if h : 3 ≤ r.val then Xarg0 V b ⟨r.val - 3, by omega⟩ c else 0 := by
  show StableHlo.after _ _ _ _ = _
  simp only [hostOps0_1]
  entry_read
  unfold Xarg0
  simp only [TRef.ofBuf_toBuf]
  refine pad0 (V (Proc.devRef .tc main_arg0)) (sitofp .f32 (Xc V)) ?_ b r c
  rw [hc]
  show (((0#32).toInt : ℝ) : EReal) = 0
  simp

theorem g7_v67 (h66 : ∀ i s, Xv66 V i s = 1#1) (i s : Fin 128) : Xv67 (after (hostOps0_7 (F := Ideal)) V) i s = if s.val ≤ i.val then 1#1 else 0#1 := by
  show StableHlo.after _ _ _ _ = _
  simp only [hostOps0_7]
  entry_read
  simp only [TRef.ofBuf_toBuf]
  change (fun x : IVec S128x128 1 => (select (cmpi .sge (addi (iotaInDim S128x128 32 0) (broadcastInDim S128x128 ![] bcast_S_S128x128 (constantI S_ 32 0#32))) (iotaInDim S128x128 32 1)) x (broadcastInDim S128x128 ![] bcast_S_S128x128 (constantI S_ 1 0#1)) : IVec S128x128 1) (ix2 i s)) (V (Proc.devRef .tc main_v66)) = _
  have h := h66 i s
  unfold Xv66 at h
  revert h
  generalize V (Proc.devRef .tc main_v66) = x
  intro h
  dsimp only
  pointwise
  rw [h]
  rw [show IntOp.addi (BitVec.ofNat 32 i.val) 0#32 = BitVec.ofNat 32 i.val from BitVec.add_zero _, cmpi_sge_ofNat _ _ (by omega) (by omega), select_ite]

theorem g6_v66 (i s : Fin 128) : Xv66 (after (hostOps0_6 (F := Ideal)) V) i s = 1#1 := by
  show StableHlo.after _ _ _ _ = _
  simp only [hostOps0_6]
  entry_read
  pointwise

theorem g8_A0 : A0 (after (hostOps0_8 (F := Ideal)) V) = Xv57 V := by
  unfold A0 Xv57
  rw [show after (hostOps0_8 (F := Ideal)) V (Proc.devRef .tc main_v70_0) = V (Proc.devRef .tc main_v57) by
    show StableHlo.after _ _ _ = _
    simp only [hostOps0_8]
    entry_read
    rfl]

theorem g8_A1 : A1 (after (hostOps0_8 (F := Ideal)) V) = Xv59 V := by
  unfold A1 Xv59
  rw [show after (hostOps0_8 (F := Ideal)) V (Proc.devRef .tc main_v70_1) = V (Proc.devRef .tc main_v59) by
    show StableHlo.after _ _ _ = _
    simp only [hostOps0_8]
    entry_read
    rfl]

theorem g8_A2 : A2 (after (hostOps0_8 (F := Ideal)) V) = Xv61 V := by
  unfold A2 Xv61
  rw [show after (hostOps0_8 (F := Ideal)) V (Proc.devRef .tc main_v70_2) = V (Proc.devRef .tc main_v61) by
    show StableHlo.after _ _ _ = _
    simp only [hostOps0_8]
    entry_read
    rfl]

theorem g8_A3 : A3 (after (hostOps0_8 (F := Ideal)) V) = Xv63 V := by
  unfold A3 Xv63
  rw [show after (hostOps0_8 (F := Ideal)) V (Proc.devRef .tc main_v70_3) = V (Proc.devRef .tc main_v63) by
    show StableHlo.after _ _ _ = _
    simp only [hostOps0_8]
    entry_read
    rfl]

theorem g8_A4 : A4 (after (hostOps0_8 (F := Ideal)) V) = Xv65 V := by
  unfold A4 Xv65
  rw [show after (hostOps0_8 (F := Ideal)) V (Proc.devRef .tc main_v70_4) = V (Proc.devRef .tc main_v65) by
    show StableHlo.after _ _ _ = _
    simp only [hostOps0_8]
    entry_read
    rfl]

theorem g8_A6 : A6 (after (hostOps0_8 (F := Ideal)) V) = Xv55 V := by
  unfold A6 Xv55
  rw [show after (hostOps0_8 (F := Ideal)) V (Proc.devRef .tc main_v70_6) = V (Proc.devRef .tc main_v55) by
    show StableHlo.after _ _ _ = _
    simp only [hostOps0_8]
    entry_read
    rfl]

theorem g8_A5 : A5 (after (hostOps0_8 (F := Ideal)) V) = Xv67 V := by
  unfold A5 Xv67
  rw [show after (hostOps0_8 (F := Ideal)) V (Proc.devRef .tc main_v70_5) = V (Proc.devRef .tc main_v67) by
    show StableHlo.after _ _ _ = _
    simp only [hostOps0_8]
    entry_read
    rfl]

theorem g8_A8 (b : Fin 32) (g : Fin 4) (h : Fin 8) (p : Fin 64) (n : Fin 128) : A8 (after (hostOps0_8 (F := Ideal)) V) b g h p n = 0 := by
  show StableHlo.after _ _ _ _ = _
  simp only [hostOps0_8]
  entry_read
  pointwise

theorem k5_v34 : Xv34 (after (hostOps0_5 (F := Ideal)) V) = Xv34 V := by
  unfold Xv34
  rw [after_of_writes_sub hostOps0_5 V hostOps0_5_writes (by decide +kernel)]

theorem k5_v35 : Xv35 (after (hostOps0_5 (F := Ideal)) V) = Xv35 V := by
  unfold Xv35
  rw [after_of_writes_sub hostOps0_5 V hostOps0_5_writes (by decide +kernel)]

theorem k5_v36 : Xv36 (after (hostOps0_5 (F := Ideal)) V) = Xv36 V := by
  unfold Xv36
  rw [after_of_writes_sub hostOps0_5 V hostOps0_5_writes (by decide +kernel)]

theorem k7_v57 : Xv57 (after (hostOps0_7 (F := Ideal)) V) = Xv57 V := by
  unfold Xv57
  rw [after_of_writes_sub hostOps0_7 V hostOps0_7_writes (by decide +kernel)]

theorem k7_v59 : Xv59 (after (hostOps0_7 (F := Ideal)) V) = Xv59 V := by
  unfold Xv59
  rw [after_of_writes_sub hostOps0_7 V hostOps0_7_writes (by decide +kernel)]

theorem k7_v61 : Xv61 (after (hostOps0_7 (F := Ideal)) V) = Xv61 V := by
  unfold Xv61
  rw [after_of_writes_sub hostOps0_7 V hostOps0_7_writes (by decide +kernel)]

theorem k7_v63 : Xv63 (after (hostOps0_7 (F := Ideal)) V) = Xv63 V := by
  unfold Xv63
  rw [after_of_writes_sub hostOps0_7 V hostOps0_7_writes (by decide +kernel)]

theorem k7_v65 : Xv65 (after (hostOps0_7 (F := Ideal)) V) = Xv65 V := by
  unfold Xv65
  rw [after_of_writes_sub hostOps0_7 V hostOps0_7_writes (by decide +kernel)]

theorem k7_v55 : Xv55 (after (hostOps0_7 (F := Ideal)) V) = Xv55 V := by
  unfold Xv55
  rw [after_of_writes_sub hostOps0_7 V hostOps0_7_writes (by decide +kernel)]

theorem k0_arg0 : Xarg0 (after (hostOps0 (F := Ideal)) V) = Xarg0 V := by
  unfold Xarg0
  rw [after_of_writes_sub hostOps0 V hostOps0_writes (by decide +kernel)]

theorem k0_arg3 : Xarg3 (after (hostOps0 (F := Ideal)) V) = Xarg3 V := by
  unfold Xarg3
  rw [after_of_writes_sub hostOps0 V hostOps0_writes (by decide +kernel)]

theorem k1_arg3 : Xarg3 (after (hostOps0_1 (F := Ideal)) V) = Xarg3 V := by
  unfold Xarg3
  rw [after_of_writes_sub hostOps0_1 V hostOps0_1_writes (by decide +kernel)]

theorem k0_arg4 : Xarg4 (after (hostOps0 (F := Ideal)) V) = Xarg4 V := by
  unfold Xarg4
  rw [after_of_writes_sub hostOps0 V hostOps0_writes (by decide +kernel)]

theorem k1_arg4 : Xarg4 (after (hostOps0_1 (F := Ideal)) V) = Xarg4 V := by
  unfold Xarg4
  rw [after_of_writes_sub hostOps0_1 V hostOps0_1_writes (by decide +kernel)]

theorem k0_arg2 : Xarg2 (after (hostOps0 (F := Ideal)) V) = Xarg2 V := by
  unfold Xarg2
  rw [after_of_writes_sub hostOps0 V hostOps0_writes (by decide +kernel)]

theorem k1_arg2 : Xarg2 (after (hostOps0_1 (F := Ideal)) V) = Xarg2 V := by
  unfold Xarg2
  rw [after_of_writes_sub hostOps0_1 V hostOps0_1_writes (by decide +kernel)]

theorem k2_arg2 : Xarg2 (after (hostOps0_2 (F := Ideal)) V) = Xarg2 V := by
  unfold Xarg2
  rw [after_of_writes_sub hostOps0_2 V hostOps0_2_writes (by decide +kernel)]

theorem k3_arg2 : Xarg2 (after (hostOps0_3 (F := Ideal)) V) = Xarg2 V := by
  unfold Xarg2
  rw [after_of_writes_sub hostOps0_3 V hostOps0_3_writes (by decide +kernel)]

theorem k0_arg5 : Xarg5 (after (hostOps0 (F := Ideal)) V) = Xarg5 V := by
  unfold Xarg5
  rw [after_of_writes_sub hostOps0 V hostOps0_writes (by decide +kernel)]

theorem k1_arg5 : Xarg5 (after (hostOps0_1 (F := Ideal)) V) = Xarg5 V := by
  unfold Xarg5
  rw [after_of_writes_sub hostOps0_1 V hostOps0_1_writes (by decide +kernel)]

theorem k2_arg5 : Xarg5 (after (hostOps0_2 (F := Ideal)) V) = Xarg5 V := by
  unfold Xarg5
  rw [after_of_writes_sub hostOps0_2 V hostOps0_2_writes (by decide +kernel)]

theorem k3_arg5 : Xarg5 (after (hostOps0_3 (F := Ideal)) V) = Xarg5 V := by
  unfold Xarg5
  rw [after_of_writes_sub hostOps0_3 V hostOps0_3_writes (by decide +kernel)]

theorem k0_arg6 : Xarg6 (after (hostOps0 (F := Ideal)) V) = Xarg6 V := by
  unfold Xarg6
  rw [after_of_writes_sub hostOps0 V hostOps0_writes (by decide +kernel)]

theorem k1_arg6 : Xarg6 (after (hostOps0_1 (F := Ideal)) V) = Xarg6 V := by
  unfold Xarg6
  rw [after_of_writes_sub hostOps0_1 V hostOps0_1_writes (by decide +kernel)]

theorem k2_arg6 : Xarg6 (after (hostOps0_2 (F := Ideal)) V) = Xarg6 V := by
  unfold Xarg6
  rw [after_of_writes_sub hostOps0_2 V hostOps0_2_writes (by decide +kernel)]

theorem k3_arg6 : Xarg6 (after (hostOps0_3 (F := Ideal)) V) = Xarg6 V := by
  unfold Xarg6
  rw [after_of_writes_sub hostOps0_3 V hostOps0_3_writes (by decide +kernel)]

theorem k4_arg6 : Xarg6 (after (hostOps0_4 (F := Ideal)) V) = Xarg6 V := by
  unfold Xarg6
  rw [after_of_writes_sub hostOps0_4 V hostOps0_4_writes (by decide +kernel)]

theorem k5_arg6 : Xarg6 (after (hostOps0_5 (F := Ideal)) V) = Xarg6 V := by
  unfold Xarg6
  rw [after_of_writes_sub hostOps0_5 V hostOps0_5_writes (by decide +kernel)]

theorem k0_arg7 : Xarg7 (after (hostOps0 (F := Ideal)) V) = Xarg7 V := by
  unfold Xarg7
  rw [after_of_writes_sub hostOps0 V hostOps0_writes (by decide +kernel)]

theorem k1_arg7 : Xarg7 (after (hostOps0_1 (F := Ideal)) V) = Xarg7 V := by
  unfold Xarg7
  rw [after_of_writes_sub hostOps0_1 V hostOps0_1_writes (by decide +kernel)]

theorem k2_arg7 : Xarg7 (after (hostOps0_2 (F := Ideal)) V) = Xarg7 V := by
  unfold Xarg7
  rw [after_of_writes_sub hostOps0_2 V hostOps0_2_writes (by decide +kernel)]

theorem k3_arg7 : Xarg7 (after (hostOps0_3 (F := Ideal)) V) = Xarg7 V := by
  unfold Xarg7
  rw [after_of_writes_sub hostOps0_3 V hostOps0_3_writes (by decide +kernel)]

theorem k4_arg7 : Xarg7 (after (hostOps0_4 (F := Ideal)) V) = Xarg7 V := by
  unfold Xarg7
  rw [after_of_writes_sub hostOps0_4 V hostOps0_4_writes (by decide +kernel)]

theorem k5_arg7 : Xarg7 (after (hostOps0_5 (F := Ideal)) V) = Xarg7 V := by
  unfold Xarg7
  rw [after_of_writes_sub hostOps0_5 V hostOps0_5_writes (by decide +kernel)]

end Groups

/-- The nine inputs of a valuation, read at coordinates. -/
def rin (V : Valuation τ sig (Elt Ideal)) : Inputs where
  x := Xarg0 V
  z := fun b r k => (V (Proc.devRef .tc main_arg1) : Vec Ideal S32x2048x2048 .f32) (ix3 b r k)
  dt := Xarg2 V
  w := Xarg3 V
  wb := Xarg4 V
  db := Xarg5 V
  al := Xarg6 V
  sk := Xarg7 V
  gn := fun k => (V (Proc.devRef .tc main_arg8) : Vec Ideal S2048 .f32) (ix1 k)

theorem shift_eq (I : Inputs) (b : Fin 32) (q : Fin 16) (s : Fin 128) (c : Fin 3072) (d : ℕ) (hd : d ≤ 3) :
    shiftAt (XR I b q.val) (HAL I b q.val) d s c = if h : d ≤ q.val * 128 + s.val then I.x b ⟨q.val * 128 + s.val - d, by omega⟩ c else 0 := by
  have hq := q.isLt
  have hs := s.isLt
  unfold shiftAt HAL XR row
  by_cases h1 : d ≤ s.val
  · rw [if_pos h1, dif_pos (by omega)]
    congr 1
    apply Fin.ext
    show (q.val * 128 + (s.val - d)) % 2048 = q.val * 128 + s.val - d
    omega
  · rw [if_neg h1]
    by_cases h2 : q.val = 0
    · rw [if_pos h2, dif_neg (by omega)]
    · rw [if_neg h2, dif_pos (by omega)]
      congr 1
      apply Fin.ext
      show ((q.val - 1) * 128 + (120 + (s.val + 8 - d) % 8)) % 2048 = q.val * 128 + s.val - d
      omega

section Entry

variable (V : Valuation τ sig (Elt Ideal))

/-- The buffers after the padding. -/
abbrev V1 : Valuation τ sig (Elt Ideal) := after (hostOps0_1 (F := Ideal)) (after (hostOps0 (F := Ideal)) V)
/-- The buffers after the convolution. -/
abbrev V2 : Valuation τ sig (Elt Ideal) := after (hostOps0_2 (F := Ideal)) (V1 V)
/-- The buffers after the activation. -/
abbrev V3 : Valuation τ sig (Elt Ideal) := after (hostOps0_3 (F := Ideal)) (V2 V)
/-- The buffers after the split. -/
abbrev V4 : Valuation τ sig (Elt Ideal) := after (hostOps0_4 (F := Ideal)) (V3 V)
/-- The buffers after the softplus. -/
abbrev V5 : Valuation τ sig (Elt Ideal) := after (hostOps0_5 (F := Ideal)) (V4 V)
/-- The buffers after the chunking. -/
abbrev V6 : Valuation τ sig (Elt Ideal) := after (hostOps0_6 (F := Ideal)) (V5 V)
/-- The buffers after the mask. -/
abbrev V7 : Valuation τ sig (Elt Ideal) := after (hostOps0_7 (F := Ideal)) (V6 V)
/-- The buffers the scan starts from. -/
abbrev V8 : Valuation τ sig (Elt Ideal) := after (hostOps0_8 (F := Ideal)) (V7 V)

theorem e_v0 (b : Fin 32) (q : Fin 16) (s : Fin 128) (c : Fin 3072) (k : ℕ) (hk : k ≤ 3) (hlt : q.val * 128 + s.val + k < 2051) :
    Xv0 (V1 V) b ⟨q.val * 128 + s.val + k, hlt⟩ c = shiftAt (XR (rin V) b q.val) (HAL (rin V) b q.val) (3 - k) s c := by
  rw [g1_v0 _ (g0_c V), shift_eq _ _ _ _ _ _ (by omega), k0_arg0]
  by_cases h : 3 ≤ q.val * 128 + s.val + k
  · rw [dif_pos h, dif_pos (by omega)]
    show Xarg0 V b _ c = Xarg0 V b _ c
    congr 1
    apply Fin.ext
    show q.val * 128 + s.val + k - 3 = q.val * 128 + s.val - (3 - k)
    omega
  · rw [dif_neg h, dif_neg (by omega)]

theorem shift_zero (x : Fin 128 → Fin 3072 → EReal) (h : Fin 8 → Fin 3072 → EReal) (s : Fin 128) (c : Fin 3072) : shiftAt x h 0 s c = x s c := by
  unfold shiftAt
  rw [if_pos (Nat.zero_le _)]
  rfl

theorem e_v33 (b : Fin 32) (q : Fin 16) (s : Fin 128) (c : Fin 3072) :
    Xv33 (V3 V) b ⟨q.val * 128 + s.val, by omega⟩ c = UU (rin V) b q.val s c := by
  rw [g3_v33]
  unfold UU
  congr 1
  rw [g2_v32]
  dsimp only
  rw [e_v0 V b q s c 0 (by omega), e_v0 V b q s c 1 (by omega), e_v0 V b q s c 2 (by omega), e_v0 V b q s c 3 (by omega)]
  unfold convAt
  rw [show 3 - 3 = 0 from rfl, shift_zero, k1_arg3, k0_arg3, k1_arg4, k0_arg4, zero_add]
  show Xarg3 V 0 c * _ + Xarg3 V 1 c * _ + Xarg3 V 2 c * _ + Xarg3 V 3 c * _ + Xarg4 V c = _ * Xarg3 V 3 c + Xarg4 V c + _ * Xarg3 V 2 c + _ * Xarg3 V 1 c + _ * Xarg3 V 0 c
  simp only [mul_comm (Xarg3 V _ c), show 3 - 1 = 2 from rfl, show 3 - 2 = 1 from rfl, show 3 - 0 = 3 from rfl]
  abel

theorem e_v40 (b : Fin 32) (q : Fin 16) (s : Fin 128) (h : Fin 32) :
    Xv40 (V5 V) b ⟨q.val * 128 + s.val, by omega⟩ h = DT (rin V) b q.val s h := by
  rw [g5_v40, g4_v39, k3_arg2, k2_arg2, k1_arg2, k0_arg2, k3_arg5, k2_arg5, k1_arg5, k0_arg5]
  unfold DT row
  have hr : (q.val * 128 + s.val) % 2048 = q.val * 128 + s.val := by omega
  simp only [hr]
  rfl

/-- A channel from its group, head and place. -/
def jx (g : Fin 4) (h : Fin 8) (p : Fin 64) : Fin 2048 := ⟨(g.val * 8 + h.val) * 64 + p.val, by omega⟩

theorem e_v34 (b : Fin 32) (q : Fin 16) (s : Fin 128) (j : Fin 2048) :
    Xv34 (V5 V) b ⟨q.val * 128 + s.val, by omega⟩ j = UU (rin V) b q.val s (xcol j) := by
  rw [k5_v34, g4_v34, e_v33]
  rfl

theorem hd_jx (g : Fin 4) (h : Fin 8) (p : Fin 64) : hd (jx g h p) = ⟨g.val * 8 + h.val, by omega⟩ := by
  apply Fin.ext
  show ((g.val * 8 + h.val) * 64 + p.val) / 64 = g.val * 8 + h.val
  omega

theorem e_A0 (q : Fin 16) (b : Fin 32) (s : Fin 128) (g : Fin 4) (h : Fin 8) (p : Fin 64) :
    A0 (V8 V) q b s g h p = xdt (UU (rin V) b q.val) (DT (rin V) b q.val) s (jx g h p) := by
  rw [g8_A0, k7_v57, g6_v57, e_v34, e_v40]
  unfold xdt
  rw [hd_jx]
  rfl

theorem e_A1 (q : Fin 16) (b : Fin 32) (s : Fin 128) (g : Fin 4) (h : Fin 8) (p : Fin 64) :
    A1 (V8 V) q b s g h = DT (rin V) b q.val s (hd (jx g h p)) * (0 - Ideal.exp ((rin V).al (hd (jx g h p)))) := by
  rw [g8_A1, k7_v59, g6_v59, e_v40, k5_arg6, k4_arg6, k3_arg6, k2_arg6, k1_arg6, k0_arg6, hd_jx]
  rfl

theorem e_A2 (q : Fin 16) (b : Fin 32) (s : Fin 128) (g : Fin 4) (h : Fin 8) (p : Fin 64) (n : Fin 128) :
    A2 (V8 V) q b s g n = UU (rin V) b q.val s (bcol (jx g h p) n) := by
  rw [g8_A2, k7_v61, g6_v61, k5_v35, g4_v35, e_v33]
  congr 1
  apply Fin.ext
  show 2048 + (g.val * 128 + n.val) = 2048 + 128 * (((g.val * 8 + h.val) * 64 + p.val) / 512) + n.val
  omega

theorem e_A3 (q : Fin 16) (b : Fin 32) (s : Fin 128) (g : Fin 4) (h : Fin 8) (p : Fin 64) (n : Fin 128) :
    A3 (V8 V) q b s g n = UU (rin V) b q.val s (ccol (jx g h p) n) := by
  rw [g8_A3, k7_v63, g6_v63, k5_v36, g4_v36, e_v33]
  congr 1
  apply Fin.ext
  show 2560 + (g.val * 128 + n.val) = 2560 + 128 * (((g.val * 8 + h.val) * 64 + p.val) / 512) + n.val
  omega

theorem e_A4 (q : Fin 16) (b : Fin 32) (s : Fin 128) (g : Fin 4) (h : Fin 8) (p : Fin 64) :
    A4 (V8 V) q b s g h p = UU (rin V) b q.val s (xcol (jx g h p)) := by
  rw [g8_A4, k7_v65, g6_v65, e_v34]
  rfl

theorem e_A5 (i s : Fin 128) : A5 (V8 V) i s = if s.val ≤ i.val then 1#1 else 0#1 := by
  rw [g8_A5, g7_v67 _ (g6_v66 _)]

theorem e_A6 (g : Fin 4) (h : Fin 8) (p : Fin 64) : A6 (V8 V) g h 0 = (rin V).sk (hd (jx g h p)) := by
  rw [g8_A6, k7_v55, g6_v55, k5_arg7, k4_arg7, k3_arg7, k2_arg7, k1_arg7, k0_arg7, hd_jx]
  rfl

theorem e_A8 (b : Fin 32) (g : Fin 4) (h : Fin 8) (p : Fin 64) (n : Fin 128) : A8 (V8 V) b g h p n = 0 := g8_A8 _ b g h p n

end Entry

end Cert.Ssd.Ref

end
-- ==== Proof.RVal.lean ====
/- The reference's scan: after `k` trips the state and the first `k` chunks' results are the mathematics'. -/
module

public import proofs.«01_k».proof.Proof.REntry

@[expose] public section

set_option maxRecDepth 16384

noncomputable section

namespace Cert.Ssd.Ref

open Cert.ReferenceIdeal Cert.ReferenceIdeal.Gen Cert.ReferenceIdeal.Value
open Idealize.ShloMosaic Idealize.ShloMosaic.TcCoe Idealize.ShloMosaic.StableHlo
open Idealize.SL Idealize.SL.Sem

section

variable (V : Valuation τ sig (Elt Ideal))

/-- The buffers before trip `k`. -/
abbrev WW (k : ℕ) : Valuation τ sig (Elt Ideal) := (STEP (F := Ideal))^[k] (V8 V)

theorem WW_succ (k : ℕ) : WW V (k + 1) = STEP (WW V k) := Function.iterate_succ_apply' _ _ _

theorem w0 : ∀ k, A0 (WW V k) = A0 (V8 V)
  | 0 => rfl
  | k + 1 => by rw [WW_succ, ← w0 k]; unfold A0; rw [STEP_main_v70_0]
theorem w1 : ∀ k, A1 (WW V k) = A1 (V8 V)
  | 0 => rfl
  | k + 1 => by rw [WW_succ, ← w1 k]; unfold A1; rw [STEP_main_v70_1]
theorem w2 : ∀ k, A2 (WW V k) = A2 (V8 V)
  | 0 => rfl
  | k + 1 => by rw [WW_succ, ← w2 k]; unfold A2; rw [STEP_main_v70_2]
theorem w3 : ∀ k, A3 (WW V k) = A3 (V8 V)
  | 0 => rfl
  | k + 1 => by rw [WW_succ, ← w3 k]; unfold A3; rw [STEP_main_v70_3]
theorem w4 : ∀ k, A4 (WW V k) = A4 (V8 V)
  | 0 => rfl
  | k + 1 => by rw [WW_succ, ← w4 k]; unfold A4; rw [STEP_main_v70_4]
theorem w5 : ∀ k, A5 (WW V k) = A5 (V8 V)
  | 0 => rfl
  | k + 1 => by rw [WW_succ, ← w5 k]; unfold A5; rw [STEP_main_v70_5]
theorem w6 : ∀ k, A6 (WW V k) = A6 (V8 V)
  | 0 => rfl
  | k + 1 => by rw [WW_succ, ← w6 k]; unfold A6; rw [STEP_main_v70_6]

theorem g8_7 (V : Valuation τ sig (Elt Ideal)) : after (hostOps0_8 (F := Ideal)) V (Proc.devRef .tc main_v70_7) = fun _ => BitVec.ofNat 32 0 := by
  show StableHlo.after _ _ _ = _
  simp only [hostOps0_8]
  entry_read
  rfl

theorem w7 : ∀ k, (WW V k) (Proc.devRef .tc main_v70_7) = fun _ => BitVec.ofNat 32 k
  | 0 => g8_7 _
  | k + 1 => by
    rw [WW_succ, STEP_main_v70_7]
    unfold step_main_v70_7
    rw [w7 k]
    funext x
    show BitVec.ofNat 32 k + 1#32 = BitVec.ofNat 32 (k + 1)
    rw [BitVec.ofNat_add]

section Trip

variable (k : ℕ) (hk : k < 16)
include hk

theorem t93 (b : Fin 32) (s : Fin 128) (g : Fin 4) (h : Fin 8) (p : Fin 64) :
    C93 (WW V k) b s g h p = xdt (UU (rin V) b k) (DT (rin V) b k) s (jx g h p) := by
  rw [v93 _ k hk (w7 V k), w0, e_A0]

theorem t95 (b : Fin 32) (s : Fin 128) (g : Fin 4) (h : Fin 8) (p : Fin 64) (n : Fin 128) :
    C95 (WW V k) b s g n = UU (rin V) b k s (bcol (jx g h p) n) := by
  rw [v95 _ k hk (w7 V k), w2, e_A2 _ _ _ _ _ h p]

theorem t96 (b : Fin 32) (s : Fin 128) (g : Fin 4) (h : Fin 8) (p : Fin 64) (n : Fin 128) :
    C96 (WW V k) b s g n = UU (rin V) b k s (ccol (jx g h p) n) := by
  rw [v96 _ k hk (w7 V k), w3, e_A3 _ _ _ _ _ h p]

theorem t98 (b : Fin 32) (s : Fin 128) (g : Fin 4) (h : Fin 8) (p : Fin 64) :
    C98 (WW V k) b s g h = CM (rin V) b k s (hd (jx g h p)) := by
  rw [v98 _ k hk (w7 V k), w1]
  unfold CM
  congr 1
  funext i
  rw [e_A1 _ _ _ _ _ _ p]

end Trip

theorem mask_iff (i s : Fin 128) : ((if s.val ≤ i.val then 1#1 else 0#1) = (1 : BitVec 1)) = (s.val ≤ i.val) := by
  by_cases h : s.val ≤ i.val
  · rw [if_pos h]; exact eq_true rfl |>.trans (eq_true h).symm
  · rw [if_neg h]; exact (eq_false (by decide)).trans (eq_false h).symm

/-- The state before trip `k`. -/
theorem w8 : ∀ k, k ≤ 16 → ∀ (b : Fin 32) (g : Fin 4) (h : Fin 8) (p : Fin 64) (n : Fin 128),
    A8 (WW V k) b g h p n = ST (rin V) b k n (jx g h p)
  | 0, _, b, g, h, p, n => e_A8 V b g h p n
  | k + 1, hk, b, g, h, p, n => by
    have e : A8 (WW V (k + 1)) b g h p n = (step_main_v70_8 (WW V k) : Vec Ideal S32x4x8x64x128 .f32) (ix5 b g h p n) := by
      rw [WW_succ]
      unfold A8
      rw [STEP_main_v70_8]
    rw [e, step8, w8 k (by omega), ST_succ, t98 V k (by omega) b 127 g h p]
    unfold newSt
    congr 1
    refine Finset.sum_congr rfl fun s _ => ?_
    rw [t98 V k (by omega) b s g h p, t93 V k (by omega), t95 V k (by omega) b s g h p, mul_comm]

theorem YR_eq (k : ℕ) (hk : k < 16) (b : Fin 32) (i : Fin 128) (g : Fin 4) (h : Fin 8) (p : Fin 64) :
    YR (WW V k) ⟨k, hk⟩ b i g h p
      = yAt (UU (rin V) b k) (DT (rin V) b k) (CM (rin V) b k) (ST (rin V) b k) (fun j => (rin V).sk (hd j)) i (jx g h p) := by
  unfold YR yAt
  rw [w6, e_A6 V g h p, w4, e_A4]
  congr 1
  congr 1
  · unfold ydiag cbAt decay
    refine Finset.sum_congr rfl fun s _ => ?_
    rw [t93 V k hk, w5, e_A5, t98 V k hk b i g h p, t98 V k hk b s g h p, mul_comm]
    simp only [mask_iff]
    congr 1
    congr 1
    refine Finset.sum_congr rfl fun n _ => ?_
    rw [t95 V k hk b s g h p, t96 V k hk b i g h p, mul_comm]
  · unfold yoff
    rw [t98 V k hk b i g h p]
    congr 1
    refine Finset.sum_congr rfl fun n _ => ?_
    rw [t96 V k hk b i g h p, w8 V k (by omega), mul_comm]

/-- The results the first `k` trips have written. -/
theorem w9 : ∀ k, k ≤ 16 → ∀ (r : Fin 16), r.val < k → ∀ (b : Fin 32) (i : Fin 128) (g : Fin 4) (h : Fin 8) (p : Fin 64),
    A9 (WW V k) r b i g h p
      = yAt (UU (rin V) b r.val) (DT (rin V) b r.val) (CM (rin V) b r.val) (ST (rin V) b r.val) (fun j => (rin V).sk (hd j)) i (jx g h p)
  | 0, _, r, hr, b, i, g, h, p => absurd hr (by omega)
  | k + 1, hk, r, hr, b, i, g, h, p => by
    have e : A9 (WW V (k + 1)) r b i g h p = (step_main_v70_9 (WW V k) : Vec Ideal S16x32x128x4x8x64 .f32) (ix6 r b i g h p) := by
      rw [WW_succ]
      unfold A9
      rw [STEP_main_v70_9]
    rw [e, step9 _ k (by omega) (w7 V k)]
    by_cases h1 : r.val = k
    · rw [if_pos h1]
      obtain ⟨r, hr'⟩ := r
      obtain rfl : r = k := h1
      exact YR_eq V r (by omega) b i g h p
    · rw [if_neg h1]
      exact w9 k (by omega) r (by omega) b i g h p

end

end Cert.Ssd.Ref

end
-- ==== Proof.ROut.lean ====
/- The reference's gating and group norm after the scan, read at coordinates. -/
module

public import proofs.«01_k».proof.Proof.RStep

@[expose] public section

set_option maxRecDepth 16384

noncomputable section

namespace Cert.Ssd.Ref

open Cert.ReferenceIdeal Cert.ReferenceIdeal.Gen Cert.ReferenceIdeal.Value
open Idealize.ShloMosaic Idealize.ShloMosaic.TcCoe Idealize.ShloMosaic.StableHlo
open Idealize.SL Idealize.SL.Sem

/-- The scan's results row by row. -/
def yF (y : FVec Ideal S16x32x128x4x8x64 .f32) : FVec Ideal S32x2048x2048 .f32 :=
  shapeCast S32x2048x2048 (shapeCast S32x2048x32x64 (transpose S32x16x128x4x8x64 [1, 0, 2, 3, 4, 5] y transposes_S16x32x128x4x8x64_S32x16x128x4x8x64_1_0_2_3_4_5) shapeCasts_S32x16x128x4x8x64_S32x2048x32x64) shapeCasts_S32x2048x32x64_S32x2048x2048

/-- The gated results. -/
def gF (y z : FVec Ideal S32x2048x2048 .f32) : FVec Ideal S32x2048x2048 .f32 :=
  mulf y (mulf z (Host.divf (broadcastInDim S32x2048x2048 ![] bcast_S_S32x2048x2048 (constant S_ .f32 0x3F800000#32)) (addf (broadcastInDim S32x2048x2048 ![] bcast_S_S32x2048x2048 (constant S_ .f32 0x3F800000#32)) (Host.exp (Host.negf z)))))

/-- The gated results by group. -/
def gG (g : FVec Ideal S32x2048x2048 .f32) : FVec Ideal S32x2048x4x512 .f32 := shapeCast S32x2048x4x512 g shapeCasts_S32x2048x2048_S32x2048x4x512

/-- The group's norm. -/
def nF (x : FVec Ideal S32x2048x4x512 .f32) : FVec Ideal S32x2048x4x512 .f32 :=
  mulf x (broadcastInDim S32x2048x4x512 ![0, 1, 2, 3] bcast_S32x2048x4x1_S32x2048x4x512_0_1_2_3 (Host.rsqrt (addf (Host.divf (broadcastInDim S32x2048x4x1 ![0, 1, 2] bcast_S32x2048x4_S32x2048x4x1_0_1_2 (Host.reduceAdd (mulf x x) (constant S_ .f32 0x00000000#32) reducesTo_S32x2048x4x512_S32x2048x4_d3 h_S_)) (broadcastInDim S32x2048x4x1 ![] bcast_S_S32x2048x4x1 (constant S_ .f32 0x44000000#32))) (broadcastInDim S32x2048x4x1 ![] bcast_S_S32x2048x4x1 (constant S_ .f32 0x358637BD#32)))))

/-- The result's rows. -/
def oF (x : FVec Ideal S32x2048x4x512 .f32) (gn : FVec Ideal S2048 .f32) : FVec Ideal S65536x2048 .bf16 :=
  truncf .bf16 (shapeCast S65536x2048 (mulf (shapeCast S32x2048x2048 x shapeCasts_S32x2048x4x512_S32x2048x2048) (broadcastInDim S32x2048x2048 ![0, 1, 2] bcast_S1x1x2048_S32x2048x2048_0_1_2 (broadcastInDim S1x1x2048 ![2] bcast_S2048_S1x1x2048_2 gn))) shapeCasts_S32x2048x2048_S65536x2048) bitsLt_bf16_f32

theorem out_eq (V0 : Valuation τ sig (Elt Ideal)) : out_main_v92 V0
    = oF (nF (gG (gF (yF (V0 (Proc.devRef .tc main_v70_9))) (V0 (Proc.devRef .tc main_arg1))))) (V0 (Proc.devRef .tc main_arg8)) := rfl

theorem yFa (x : FVec Ideal S32x2048x32x64 .f32) (b : Fin 32) (i : Fin 2048) (j : Fin 2048) :
    shapeCast S32x2048x2048 x shapeCasts_S32x2048x32x64_S32x2048x2048 (ix3 b i j) = x (ix4 b i ⟨j.val / 64, by omega⟩ ⟨j.val % 64, by omega⟩) := by pointwise
theorem yFb (x : FVec Ideal S32x16x128x4x8x64 .f32) (b : Fin 32) (i : Fin 2048) (h : Fin 32) (p : Fin 64) :
    shapeCast S32x2048x32x64 x shapeCasts_S32x16x128x4x8x64_S32x2048x32x64 (ix4 b i h p)
      = x (ix6 b ⟨i.val / 128, by omega⟩ ⟨i.val % 128, by omega⟩ ⟨h.val / 8, by omega⟩ ⟨h.val % 8, by omega⟩ p) := by pointwise
theorem yFc (x : FVec Ideal S16x32x128x4x8x64 .f32) (q : Fin 16) (b : Fin 32) (s : Fin 128) (g : Fin 4) (h : Fin 8) (p : Fin 64) :
    transpose S32x16x128x4x8x64 [1, 0, 2, 3, 4, 5] x transposes_S16x32x128x4x8x64_S32x16x128x4x8x64_1_0_2_3_4_5 (ix6 b q s g h p) = x (ix6 q b s g h p) := by pointwise

theorem yF_apply (y : FVec Ideal S16x32x128x4x8x64 .f32) (b : Fin 32) (i : Fin 2048) (j : Fin 2048) :
    yF y (ix3 b i j) = y (ix6 ⟨i.val / 128, by omega⟩ b ⟨i.val % 128, by omega⟩ ⟨j.val / 64 / 8, by omega⟩ ⟨j.val / 64 % 8, by omega⟩ ⟨j.val % 64, by omega⟩) :=
  (yFa _ b i j).trans ((yFb _ b i _ _).trans (yFc y _ b _ _ _ _))

theorem gF_apply (y z : FVec Ideal S32x2048x2048 .f32) (b : Fin 32) (i : Fin 2048) (j : Fin 2048) :
    gF y z (ix3 b i j) = gate (y (ix3 b i j)) (z (ix3 b i j)) := by
  unfold gF gate
  pointwise
  rfl

theorem gG_apply (y : FVec Ideal S32x2048x2048 .f32) (b : Fin 32) (i : Fin 2048) (g : Fin 4) (k : Fin 512) :
    gG y (ix4 b i g k) = y (ix3 b i ⟨512 * g.val + k.val, by omega⟩) := by
  unfold gG
  pointwise
  simp only [Nat.mul_comm 512 g.val]

theorem nF_apply (x : FVec Ideal S32x2048x4x512 .f32) (b : Fin 32) (i : Fin 2048) (g : Fin 4) (k : Fin 512) :
    nF x (ix4 b i g k) = x (ix4 b i g k) * Ideal.rsqrt (Ideal.div (∑ k : Fin 512, x (ix4 b i g k) * x (ix4 b i g k)) (Ideal.ofBits .f32 0x44000000#32) + Ideal.ofBits .f32 0x358637BD#32) := by
  unfold nF
  pointwise

theorem oFa (x : FVec Ideal S32x2048x4x512 .f32) (b : Fin 32) (i : Fin 2048) (j : Fin 2048) :
    shapeCast S32x2048x2048 x shapeCasts_S32x2048x4x512_S32x2048x2048 (ix3 b i j) = x (ix4 b i ⟨j.val / 512, by omega⟩ ⟨j.val % 512, by omega⟩) := by pointwise

theorem oF_apply (x : FVec Ideal S32x2048x4x512 .f32) (gn : FVec Ideal S2048 .f32) (r : Fin 65536) (j : Fin 2048) :
    oF x gn (ix2 r j) = x (ix4 ⟨r.val / 2048, by omega⟩ ⟨r.val % 2048, by omega⟩ ⟨j.val / 512, by omega⟩ ⟨j.val % 512, by omega⟩) * gn (ix1 j) := by
  unfold oF
  rw [← oFa x]
  generalize shapeCast S32x2048x2048 x shapeCasts_S32x2048x4x512_S32x2048x2048 = w
  pointwise

/-- The reference's result at an entry, from the scan's results. -/
theorem out_apply (V0 : Valuation τ sig (Elt Ideal)) (r : Fin 65536) (j : Fin 2048) :
    (out_main_v92 V0 : Vec Ideal S65536x2048 .bf16) (ix2 r j)
      = normed (fun j => gate (A9 V0 ⟨r.val % 2048 / 128, by omega⟩ ⟨r.val / 2048, by omega⟩ ⟨r.val % 2048 % 128, by omega⟩ ⟨j.val / 64 / 8, by omega⟩ ⟨j.val / 64 % 8, by omega⟩ ⟨j.val % 64, by omega⟩)
          ((V0 (Proc.devRef .tc main_arg1) : Vec Ideal S32x2048x2048 .f32) (ix3 ⟨r.val / 2048, by omega⟩ ⟨r.val % 2048, by omega⟩ j)))
          (fun j => (V0 (Proc.devRef .tc main_arg8) : Vec Ideal S2048 .f32) (ix1 j)) j := by
  rw [out_eq]
  unfold A9
  generalize V0 (Proc.devRef .tc main_v70_9) = y
  generalize V0 (Proc.devRef .tc main_arg1) = z
  generalize V0 (Proc.devRef .tc main_arg8) = gn
  refine (oF_apply _ gn r j).trans ?_
  have hj : (⟨512 * (j.val / 512) + j.val % 512, by omega⟩ : Fin 2048) = j := Fin.ext (by show 512 * (j.val / 512) + j.val % 512 = j.val; omega)
  rw [nF_apply, gG_apply _ _ _ ⟨j.val / 512, by omega⟩ ⟨j.val % 512, by omega⟩]
  dsimp only
  rw [hj]
  simp only [gG_apply, gF_apply, yF_apply]
  rfl

end Cert.Ssd.Ref

end
-- ==== Proof.RRes.lean ====
/- The reference's result, entry by entry, is the mathematics' result of its inputs. -/
module

public import proofs.«01_k».proof.Proof.RVal
public import proofs.«01_k».proof.Proof.ROut

@[expose] public section

set_option maxRecDepth 16384

noncomputable section

namespace Cert.Ssd.Ref

open Cert.ReferenceIdeal Cert.ReferenceIdeal.Gen Cert.ReferenceIdeal.Value
open Idealize.ShloMosaic Idealize.ShloMosaic.TcCoe Idealize.ShloMosaic.StableHlo
open Idealize.SL Idealize.SL.Sem

variable (m : (ℓ : Loc nD τ sig) → Buf (Elt Ideal) ℓ) (c : Dev nD)

theorem normed_congr {f f' gn gn' : Fin 2048 → EReal} (hf : ∀ j, f j = f' j) (hg : ∀ j, gn j = gn' j) (j : Fin 2048) : normed f gn j = normed f' gn' j := by
  rw [show f = f' from funext hf, show gn = gn' from funext hg]

theorem gate_congr {y y' z z' : EReal} (hy : y = y') (hz : z = z') : gate y z = gate y' z' := by rw [hy, hz]

theorem reference_value (r : Fin 65536) (j : Fin 2048) :
    (out_main_v92 ((STEP (F := Ideal))^[16] (entryContents preI m c)) : Vec Ideal S65536x2048 .bf16) (ix2 r j)
      = RES (rin (launchContents m c)) ⟨r.val / 2048, by omega⟩ (r.val % 2048 / 128) ⟨r.val % 2048 % 128, by omega⟩ j := by
  rw [out_apply, iter_main_arg1, iter_main_arg8]
  have e : entryContents preI m c = V8 (launchContents m c) := rfl
  rw [e]
  unfold RES outAt
  refine normed_congr (fun j => gate_congr ?_ ?_) (fun j => rfl) j
  · have hj : jx ⟨j.val / 64 / 8, by omega⟩ ⟨j.val / 64 % 8, by omega⟩ ⟨j.val % 64, by omega⟩ = j := by
      apply Fin.ext
      show (j.val / 64 / 8 * 8 + j.val / 64 % 8) * 64 + j.val % 64 = j.val
      omega
    rw [w9 (launchContents m c) 16 (le_refl _) _ (by show r.val % 2048 / 128 < 16; omega), hj]
  · have hr : row (r.val % 2048 / 128) ⟨r.val % 2048 % 128, by omega⟩ = ⟨r.val % 2048, by omega⟩ := by
      apply Fin.ext
      show (r.val % 2048 / 128 * 128 + r.val % 2048 % 128) % 2048 = r.val % 2048
      omega
    dsimp only
    rw [hr]
    rfl

end Cert.Ssd.Ref

end
-- ==== Proof.FMath.lean ====
/- The mathematics of the feed-forward part, on extended reals, named once: a row's root-mean-square norm, the gated
   products and the sum over the hidden width, whole and block by block. -/
module

public import Idealize.ShloMosaic.Lib.Pointwise

@[expose] public section

noncomputable section

namespace Cert.Ffn

open Idealize.ShloMosaic

/-- The arguments at coordinates: the activations, the norm's gain and the three weights. -/
structure Inputs where
  h : Fin 65536 → Fin 1024 → EReal
  g : Fin 1024 → EReal
  wg : Fin 1024 → Fin 3584 → EReal
  wu : Fin 1024 → Fin 3584 → EReal
  wd : Fin 3584 → Fin 1024 → EReal

/-- A row `x` normed by its root mean square, times the gain. -/
def norm (x g : Fin 1024 → EReal) (k : Fin 1024) : EReal :=
  x k * Ideal.rsqrt (Ideal.div (∑ q : Fin 1024, x q * x q) (Ideal.ofBits .f32 0x44800000#32) + Ideal.ofBits .f32 0x358637BD#32) * g k

/-- A hidden unit's value from the normed row and the unit's two weight columns. -/
def act (xn wg wu : Fin 1024 → EReal) : EReal :=
  (∑ k : Fin 1024, xn k * wg k) * Ideal.logistic (∑ k : Fin 1024, xn k * wg k) * ∑ k : Fin 1024, xn k * wu k

/-- The hidden unit at place `f` of block `b`. -/
def col (b : ℕ) (f : Fin 512) : Fin 3584 := ⟨(512 * b + f.val) % 3584, Nat.mod_lt _ (by decide)⟩

variable (I : Inputs)

/-- Row `r`'s hidden unit `f`. -/
def hid (r : Fin 65536) (f : Fin 3584) : EReal := act (norm (I.h r) I.g) (fun k => I.wg k f) (fun k => I.wu k f)

/-- What block `b` of the hidden units adds to row `r`'s entry `j`. -/
def part (r : Fin 65536) (j : Fin 1024) (b : ℕ) : EReal := ∑ f : Fin 512, hid I r (col b f) * I.wd (col b f) j

/-- The first `n` blocks' sum. -/
def acc (r : Fin 65536) (j : Fin 1024) (n : ℕ) : EReal := ∑ b ∈ Finset.range n, part I r j b

theorem acc_zero (r : Fin 65536) (j : Fin 1024) : acc I r j 0 = 0 := rfl

theorem acc_succ (r : Fin 65536) (j : Fin 1024) (n : ℕ) : acc I r j (n + 1) = acc I r j n + part I r j n :=
  Finset.sum_range_succ _ _

/-- The seven blocks are the whole sum over the hidden units. -/
theorem acc_all (r : Fin 65536) (j : Fin 1024) : acc I r j 7 = ∑ f : Fin 3584, hid I r f * I.wd f j := by
  unfold acc part
  rw [Finset.sum_range, ← Fintype.sum_prod_type']
  refine Fintype.sum_equiv (finProdFinEquiv (m := 7) (n := 512)) _ _ fun x => ?_
  have hx : col x.1.val x.2 = (finProdFinEquiv (m := 7) (n := 512) x : Fin 3584) := by
    apply Fin.ext
    show (512 * x.1.val + x.2.val) % 3584 = x.2.val + 512 * x.1.val
    have := x.1.isLt
    have := x.2.isLt
    omega
  rw [hx]

/-- The result: the activations plus the feed-forward part. -/
def res (r : Fin 65536) (j : Fin 1024) : EReal := I.h r j + ∑ f : Fin 3584, hid I r f * I.wd f j

end Cert.Ffn

end
-- ==== Proof.FBlk.lean ====
/- What each window of the feed-forward launch holds at a grid point, read off the arguments: point `t` is block
   `t % 7` of the hidden units for row block `t / 7`. -/
module

public import proofs.«01_k».proof.Proof.FMath
public import proofs.«01_k».proof.Proof.Gen.Kernel2Ideal.Value
public import Idealize.ShloMosaic.Lib.Claim
public import Idealize.ShloMosaic.Lib.KernelVsHost

@[expose] public section

set_option maxRecDepth 16384

noncomputable section

namespace Cert.Ffn

open Cert.Kernel2Ideal Cert.Kernel2Ideal.Gen Idealize.ShloMosaic Idealize.ShloMosaic.TcCoe Idealize.SL.Sem

variable (m : (ℓ : Loc nD τ sig) → Buf (Elt Ideal) ℓ) (c : Dev nD)

/-- Row `i` of point `t`'s row block. -/
def row (t : ℕ) (i : Fin 1024) : Fin 65536 := ⟨(t / 7 * 1024 + i.val) % 65536, Nat.mod_lt _ (by decide)⟩

/-- The launch's inputs at coordinates. -/
def inp : Inputs where
  h := fun r k => (m (c, main_arg0) : Vec Ideal S65536x1024 .f32) (ix2 r k)
  g := fun k => (m (c, main_arg1) : Vec Ideal S1024 .f32) (ix1 k)
  wg := fun k f => (m (c, main_arg2) : Vec Ideal S1024x3584 .f32) (ix2 k f)
  wu := fun k f => (m (c, main_arg3) : Vec Ideal S1024x3584 .f32) (ix2 k f)
  wd := fun f j => (m (c, main_arg4) : Vec Ideal S3584x1024 .f32) (ix2 f j)

theorem idx0 : ∀ t : Fin cfg0.N, win0_0.index t (0 : Fin 2) = t.val / 7 ∧ win0_0.index t (1 : Fin 2) = 0 :=
  (by decide +kernel : ∀ t : Fin grid0.N, win0_0.index t (0 : Fin 2) = t.val / 7 ∧ win0_0.index t (1 : Fin 2) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = 0 ∧ win0_2.index t (1 : Fin 2) = t.val % 7 :=
  (by decide +kernel : ∀ t : Fin grid0.N, win0_2.index t (0 : Fin 2) = 0 ∧ win0_2.index t (1 : Fin 2) = t.val % 7)
theorem idx3 : ∀ t : Fin cfg0.N, win0_3.index t (0 : Fin 2) = 0 ∧ win0_3.index t (1 : Fin 2) = t.val % 7 :=
  (by decide +kernel : ∀ t : Fin grid0.N, win0_3.index t (0 : Fin 2) = 0 ∧ win0_3.index t (1 : Fin 2) = t.val % 7)
theorem idx4 : ∀ t : Fin cfg0.N, win0_4.index t (0 : Fin 2) = t.val % 7 ∧ win0_4.index t (1 : Fin 2) = 0 :=
  (by decide +kernel : ∀ t : Fin grid0.N, win0_4.index t (0 : Fin 2) = t.val % 7 ∧ win0_4.index t (1 : Fin 2) = 0)

theorem V_v0 : (V m c main_v0 : Vec Ideal S1x1024 .f32) = shapeCast S1x1024 (m (c, main_arg1)) shapeCasts_S1024_S1x1024 := by
  show StableHlo.after _ _ _ = _
  simp only [List.flatten_cons, List.flatten_nil, hostOps0, List.cons_append, List.nil_append, List.append_nil]
  entry_read
  rfl

theorem V_v1 : (V m c main_v1 : Vec Ideal S1024x3584 .bf16) = (truncf (F := Ideal) .bf16 (m (c, main_arg2) : FVec Ideal S1024x3584 .f32) bitsLt_bf16_f32 : FVec Ideal S1024x3584 .bf16) := by
  show StableHlo.after _ _ _ = _
  simp only [List.flatten_cons, List.flatten_nil, hostOps0, List.cons_append, List.nil_append, List.append_nil]
  entry_read
  rfl

theorem V_v2 : (V m c main_v2 : Vec Ideal S1024x3584 .bf16) = (truncf (F := Ideal) .bf16 (m (c, main_arg3) : FVec Ideal S1024x3584 .f32) bitsLt_bf16_f32 : FVec Ideal S1024x3584 .bf16) := by
  show StableHlo.after _ _ _ = _
  simp only [List.flatten_cons, List.flatten_nil, hostOps0, List.cons_append, List.nil_append, List.append_nil]
  entry_read
  rfl

theorem V_v3 : (V m c main_v3 : Vec Ideal S3584x1024 .bf16) = (truncf (F := Ideal) .bf16 (m (c, main_arg4) : FVec Ideal S3584x1024 .f32) bitsLt_bf16_f32 : FVec Ideal S3584x1024 .bf16) := by
  show StableHlo.after _ _ _ = _
  simp only [List.flatten_cons, List.flatten_nil, hostOps0, List.cons_append, List.nil_append, List.append_nil]
  entry_read
  rfl

theorem emb0 (t : Fin cfg0.N) (i : Fin 1024) (k : Fin 1024) :
    (((cfg0.win 0).blk t).view.emb (ix2 i k) : S65536x1024.Idx) = ix2 (row t.val i) (k) := by
  have h := idx0 t
  have ht : t.val < 448 := lt_of_lt_of_eq t.isLt N_0
  funext a
  apply Fin.ext
  match a with
  | ⟨0, _⟩ =>
    show win0_0.index t (0 : Fin 2) * 1024 + 1 * i.val = (t.val / 7 * 1024 + i.val) % 65536
    rw [h.1]
    omega
  | ⟨1, _⟩ =>
    show win0_0.index t (1 : Fin 2) * 1024 + 1 * k.val = k.val
    rw [h.2]
    omega

theorem rd0 (t : Fin cfg0.N) (i : Fin 1024) (k : Fin 1024) :
    (iblk m c 0 t : Vec Ideal S1024x1024 .f32) (ix2 i k) = (V m c main_arg0 : Vec Ideal S65536x1024 .f32) (ix2 (row t.val i) (k)) := by
  unfold iblk
  rw [View.read_apply, emb0]
  rfl

theorem emb1 (t : Fin cfg0.N) (i : Fin 1) (k : Fin 1024) :
    (((cfg0.win 1).blk t).view.emb (ix2 i k) : S1x1024.Idx) = ix2 (i) (k) := by
  have h := idx1 t
  have ht : t.val < 448 := lt_of_lt_of_eq t.isLt N_0
  funext a
  apply Fin.ext
  match a with
  | ⟨0, _⟩ =>
    show win0_1.index t (0 : Fin 2) * 1 + 1 * i.val = i.val
    rw [h.1]
    omega
  | ⟨1, _⟩ =>
    show win0_1.index t (1 : Fin 2) * 1024 + 1 * k.val = k.val
    rw [h.2]
    omega

theorem rd1 (t : Fin cfg0.N) (i : Fin 1) (k : Fin 1024) :
    (iblk m c 1 t : Vec Ideal S1x1024 .f32) (ix2 i k) = (V m c main_v0 : Vec Ideal S1x1024 .f32) (ix2 (i) (k)) := by
  unfold iblk
  rw [View.read_apply, emb1]
  rfl

theorem emb2 (t : Fin cfg0.N) (i : Fin 1024) (k : Fin 512) :
    (((cfg0.win 2).blk t).view.emb (ix2 i k) : S1024x3584.Idx) = ix2 (i) (col (t.val % 7) k) := by
  have h := idx2 t
  have ht : t.val < 448 := lt_of_lt_of_eq t.isLt N_0
  funext a
  apply Fin.ext
  match a with
  | ⟨0, _⟩ =>
    show win0_2.index t (0 : Fin 2) * 1024 + 1 * i.val = i.val
    rw [h.1]
    omega
  | ⟨1, _⟩ =>
    show win0_2.index t (1 : Fin 2) * 512 + 1 * k.val = (512 * (t.val % 7) + k.val) % 3584
    rw [h.2]
    omega

theorem rd2 (t : Fin cfg0.N) (i : Fin 1024) (k : Fin 512) :
    (iblk m c 2 t : Vec Ideal S1024x512 .bf16) (ix2 i k) = (V m c main_v1 : Vec Ideal S1024x3584 .bf16) (ix2 (i) (col (t.val % 7) k)) := by
  unfold iblk
  rw [View.read_apply, emb2]
  rfl

theorem emb3 (t : Fin cfg0.N) (i : Fin 1024) (k : Fin 512) :
    (((cfg0.win 3).blk t).view.emb (ix2 i k) : S1024x3584.Idx) = ix2 (i) (col (t.val % 7) k) := by
  have h := idx3 t
  have ht : t.val < 448 := lt_of_lt_of_eq t.isLt N_0
  funext a
  apply Fin.ext
  match a with
  | ⟨0, _⟩ =>
    show win0_3.index t (0 : Fin 2) * 1024 + 1 * i.val = i.val
    rw [h.1]
    omega
  | ⟨1, _⟩ =>
    show win0_3.index t (1 : Fin 2) * 512 + 1 * k.val = (512 * (t.val % 7) + k.val) % 3584
    rw [h.2]
    omega

theorem rd3 (t : Fin cfg0.N) (i : Fin 1024) (k : Fin 512) :
    (iblk m c 3 t : Vec Ideal S1024x512 .bf16) (ix2 i k) = (V m c main_v2 : Vec Ideal S1024x3584 .bf16) (ix2 (i) (col (t.val % 7) k)) := by
  unfold iblk
  rw [View.read_apply, emb3]
  rfl

theorem emb4 (t : Fin cfg0.N) (i : Fin 512) (k : Fin 1024) :
    (((cfg0.win 4).blk t).view.emb (ix2 i k) : S3584x1024.Idx) = ix2 (col (t.val % 7) i) (k) := by
  have h := idx4 t
  have ht : t.val < 448 := lt_of_lt_of_eq t.isLt N_0
  funext a
  apply Fin.ext
  match a with
  | ⟨0, _⟩ =>
    show win0_4.index t (0 : Fin 2) * 512 + 1 * i.val = (512 * (t.val % 7) + i.val) % 3584
    rw [h.1]
    omega
  | ⟨1, _⟩ =>
    show win0_4.index t (1 : Fin 2) * 1024 + 1 * k.val = k.val
    rw [h.2]
    omega

theorem rd4 (t : Fin cfg0.N) (i : Fin 512) (k : Fin 1024) :
    (iblk m c 4 t : Vec Ideal S512x1024 .bf16) (ix2 i k) = (V m c main_v3 : Vec Ideal S3584x1024 .bf16) (ix2 (col (t.val % 7) i) (k)) := by
  unfold iblk
  rw [View.read_apply, emb4]
  rfl

theorem V_v0_at (i : Fin 1) (k : Fin 1024) :
    (shapeCast S1x1024 (m (c, main_arg1) : Vec Ideal S1024 .f32) shapeCasts_S1024_S1x1024 : Vec Ideal S1x1024 .f32) (ix2 i k) = (inp m c).g k := by
  unfold inp
  pointwise

theorem blk0 (t : Fin cfg0.N) (i : Fin 1024) (k : Fin 1024) : (iblk m c 0 t : Vec Ideal S1024x1024 .f32) (ix2 i k) = (inp m c).h (row t.val i) k := by
  rw [rd0, V_main_arg0]
  rfl

theorem blk1 (t : Fin cfg0.N) (i : Fin 1) (k : Fin 1024) : (iblk m c 1 t : Vec Ideal S1x1024 .f32) (ix2 i k) = (inp m c).g k := by
  rw [rd1, V_v0]
  exact V_v0_at m c i k

theorem blk2 (t : Fin cfg0.N) (i : Fin 1024) (k : Fin 512) : (iblk m c 2 t : Vec Ideal S1024x512 .bf16) (ix2 i k) = (inp m c).wg i (col (t.val % 7) k) := by
  rw [rd2, V_v1]
  rfl

theorem blk3 (t : Fin cfg0.N) (i : Fin 1024) (k : Fin 512) : (iblk m c 3 t : Vec Ideal S1024x512 .bf16) (ix2 i k) = (inp m c).wu i (col (t.val % 7) k) := by
  rw [rd3, V_v2]
  rfl

theorem blk4 (t : Fin cfg0.N) (i : Fin 512) (k : Fin 1024) : (iblk m c 4 t : Vec Ideal S512x1024 .bf16) (ix2 i k) = (inp m c).wd (col (t.val % 7) i) k := by
  rw [rd4, V_v3]
  rfl

end Cert.Ffn

end
-- ==== Proof.FVec.lean ====
/- The feed-forward kernel's body, read at an index: the normed rows, one block's contribution, and what each kind of
   grid point leaves in the two carried buffers and in the output block. -/
module

public import proofs.«01_k».proof.Proof.FMath
public import proofs.«01_k».proof.Proof.Gen.Kernel2Ideal.Value
public import Idealize.ShloMosaic.Lib.Claim

@[expose] public section

set_option maxRecDepth 16384

noncomputable section

namespace Cert.Ffn

open Cert.Kernel2Ideal Cert.Kernel2Ideal.Gen Idealize.ShloMosaic Idealize.ShloMosaic.TcCoe Idealize.SL.Sem

theorem pay1_apply (x : Vec Ideal S1024x1024 .f32) (g : Vec Ideal S1x1024 .f32) (i k : Fin 1024) :
    k0_pay1 x g (ix2 i k) = norm (fun q => x (ix2 i q)) (fun q => g (ix2 0 q)) k := by
  unfold norm
  pointwise [k0_pay1]

theorem pay2_apply (i k : Fin 1024) : (k0_pay2 (F := Ideal)) (ix2 i k) = 0 := by
  pointwise [k0_pay2]

theorem pay3_apply (xn : Vec Ideal S1024x1024 .bf16) (wg wu : Vec Ideal S1024x512 .bf16) (a : Vec Ideal S1024x1024 .f32)
    (wd : Vec Ideal S512x1024 .bf16) (i j : Fin 1024) :
    k0_pay3 xn wg wu a wd (ix2 i j) = a (ix2 i j) + ∑ f : Fin 512,
      act (fun k => xn (ix2 i k)) (fun k => wg (ix2 k f)) (fun k => wu (ix2 k f)) * wd (ix2 f j) := by
  unfold act
  pointwise [k0_pay3]

theorem pay4_apply (x a : Vec Ideal S1024x1024 .f32) (i j : Fin 1024) : k0_pay4 x a (ix2 i j) = x (ix2 i j) + a (ix2 i j) := by
  pointwise [k0_pay4]

theorem z2 : ∀ a : Fin 2, (![0, 0] : Fin 2 → ℕ) a = 0 := by decide

end Cert.Ffn

end
-- ==== Proof.FOut.lean ====
/- What each kind of grid point of the feed-forward launch leaves: the case's stores read back as the body's terms. -/
module

public import proofs.«01_k».proof.Proof.FVec
public import Idealize.ShloMosaic.Lib.Pipeline.ReadBack

@[expose] public section

set_option maxRecDepth 16384

noncomputable section

namespace Cert.Ffn

open Cert.Kernel2Ideal Cert.Kernel2Ideal.Gen Idealize.ShloMosaic Idealize.ShloMosaic.TcCoe Idealize.SL.Sem

theorem hz2 : (![0, 0] : Fin 2 → Nat) = fun _ => 0 := by funext a; match a with | ⟨0, _⟩ => rfl | ⟨1, _⟩ => rfl

/-- At a row block's first point the carried rows are the normed rows. -/
theorem xnA (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S512x1024 .bf16) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1024x1024 .f32) (harg9 : arg9.IsWhole) (hc0 : cond0_0 i) (hc1 : ¬cond0_1 i)
    (x0 : Vec Ideal S1024x1024 .f32) (x1 : Vec Ideal S1x1024 .f32) (x2 : Vec Ideal S1024x512 .bf16) (x3 : Vec Ideal S1024x512 .bf16) (x4 : Vec Ideal S512x1024 .bf16) :
    sout0_A_0 c i arg2 harg2 arg3 harg3 arg4 harg4 arg5 harg5 arg6 harg6 arg7 harg7 arg8 harg8 arg9 harg9 hc0 hc1 x0 x1 x2 x3 x4 = k0_pay1 x0 x1 := by
  unfold sout0_A_0
  rw [View.read_writes_junk_eq_canon]
  unfold kernelRun0_A
  dsimp only
  sl_unfold_words
  simp only [View.readAt_eq_ld, harg2.read_unread, harg3.read_unread, harg4.read_unread, harg5.read_unread, harg6.read_unread,
    View.ld_unit_zero (S := S1024x1024) hz2, View.ld_unit_zero (S := S1x1024) hz2, View.ld_unit_zero (S := S1024x512) hz2, View.ld_unit_zero (S := S512x1024) hz2]
  rw [View.canon_cons_unit_zero hz2]

/-- At a row block's first point the running sum is the first contribution on zero. -/
theorem accA (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S512x1024 .bf16) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1024x1024 .f32) (harg9 : arg9.IsWhole) (hc0 : cond0_0 i) (hc1 : ¬cond0_1 i)
    (x0 : Vec Ideal S1024x1024 .f32) (x1 : Vec Ideal S1x1024 .f32) (x2 : Vec Ideal S1024x512 .bf16) (x3 : Vec Ideal S1024x512 .bf16) (x4 : Vec Ideal S512x1024 .bf16) :
    sout0_A_1 c i arg2 harg2 arg3 harg3 arg4 harg4 arg5 harg5 arg6 harg6 arg7 harg7 arg8 harg8 arg9 harg9 hc0 hc1 x0 x1 x2 x3 x4 = k0_pay3 (k0_pay1 x0 x1) x2 x3 (k0_pay2 (F := Ideal) : FVec Ideal S1024x1024 .f32) x4 := by
  unfold sout0_A_1
  rw [View.read_writes_junk_eq_canon]
  unfold kernelRun0_A
  dsimp only
  sl_unfold_words
  simp (disch := decide) only [↓ View.readCov_skip, ↓ View.readCov_cons_toLoadRect, ↓ View.readCov_fill]
  simp only [View.readAt_eq_ld, harg2.read_unread, harg3.read_unread, harg4.read_unread, harg5.read_unread, harg6.read_unread,
    View.ld_unit_zero (S := S1024x1024) hz2, View.ld_unit_zero (S := S1x1024) hz2, View.ld_unit_zero (S := S1024x512) hz2, View.ld_unit_zero (S := S512x1024) hz2]
  rw [View.canon_cons_unit_zero hz2]

/-- A middle point adds its contribution to the running sum. -/
theorem accB (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S512x1024 .bf16) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1024x1024 .f32) (harg9 : arg9.IsWhole) (hc0 : ¬cond0_0 i) (hc1 : ¬cond0_1 i)
    (x0 : Vec Ideal S1024x1024 .f32) (x1 : Vec Ideal S1x1024 .f32) (x2 : Vec Ideal S1024x512 .bf16) (x3 : Vec Ideal S1024x512 .bf16) (x4 : Vec Ideal S512x1024 .bf16) (xs0 : Vec Ideal S1024x1024 .bf16) (xs1 : Vec Ideal S1024x1024 .f32) :
    sout0_B_1 c i arg2 harg2 arg3 harg3 arg4 harg4 arg5 harg5 arg6 harg6 arg7 harg7 arg8 harg8 arg9 harg9 hc0 hc1 x0 x1 x2 x3 x4 xs0 xs1 = k0_pay3 xs0 x2 x3 xs1 x4 := by
  unfold sout0_B_1
  rw [View.read_writes_junk_eq_canon]
  unfold kernelRun0_B
  dsimp only
  sl_unfold_words
  simp only [View.readAt_eq_ld, harg2.read_unread, harg3.read_unread, harg4.read_unread, harg5.read_unread, harg6.read_unread, harg8.read_unread, harg9.read_unread,
    View.ld_unit_zero (S := S1024x1024) hz2, View.ld_unit_zero (S := S1x1024) hz2, View.ld_unit_zero (S := S1024x512) hz2, View.ld_unit_zero (S := S512x1024) hz2]
  rw [View.canon_cons_unit_zero hz2]

/-- So does the last point. -/
theorem accC (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S512x1024 .bf16) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1024x1024 .f32) (harg9 : arg9.IsWhole) (hc0 : ¬cond0_0 i) (hc1 : cond0_1 i)
    (x0 : Vec Ideal S1024x1024 .f32) (x1 : Vec Ideal S1x1024 .f32) (x2 : Vec Ideal S1024x512 .bf16) (x3 : Vec Ideal S1024x512 .bf16) (x4 : Vec Ideal S512x1024 .bf16) (xs0 : Vec Ideal S1024x1024 .bf16) (xs1 : Vec Ideal S1024x1024 .f32) :
    sout0_C_1 c i arg2 harg2 arg3 harg3 arg4 harg4 arg5 harg5 arg6 harg6 arg7 harg7 arg8 harg8 arg9 harg9 hc0 hc1 x0 x1 x2 x3 x4 xs0 xs1 = k0_pay3 xs0 x2 x3 xs1 x4 := by
  unfold sout0_C_1
  rw [View.read_writes_junk_eq_canon]
  unfold kernelRun0_C
  dsimp only
  sl_unfold_words
  simp only [View.readAt_eq_ld, harg2.read_unread, harg3.read_unread, harg4.read_unread, harg5.read_unread, harg6.read_unread, harg8.read_unread, harg9.read_unread,
    View.ld_unit_zero (S := S1024x1024) hz2, View.ld_unit_zero (S := S1x1024) hz2, View.ld_unit_zero (S := S1024x512) hz2, View.ld_unit_zero (S := S512x1024) hz2]
  rw [View.canon_cons_unit_zero hz2]

/-- The last point leaves the activations plus the running sum. -/
theorem outC (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S512x1024 .bf16) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1024x1024 .f32) (harg9 : arg9.IsWhole) (hc0 : ¬cond0_0 i) (hc1 : cond0_1 i)
    (x0 : Vec Ideal S1024x1024 .f32) (x1 : Vec Ideal S1x1024 .f32) (x2 : Vec Ideal S1024x512 .bf16) (x3 : Vec Ideal S1024x512 .bf16) (x4 : Vec Ideal S512x1024 .bf16) (xs0 : Vec Ideal S1024x1024 .bf16) (xs1 : Vec Ideal S1024x1024 .f32) :
    out0_C_5 c i arg2 harg2 arg3 harg3 arg4 harg4 arg5 harg5 arg6 harg6 arg7 harg7 arg8 harg8 arg9 harg9 hc0 hc1 x0 x1 x2 x3 x4 xs0 xs1 = k0_pay4 x0 (k0_pay3 xs0 x2 x3 xs1 x4) := by
  unfold out0_C_5
  rw [View.read_writes_junk_eq_canon]
  unfold kernelRun0_C
  dsimp only
  sl_unfold_words
  simp (disch := decide) only [↓ View.readCov_skip, ↓ View.readCov_cons_toLoadRect, ↓ View.readCov_fill]
  simp only [View.readAt_eq_ld, harg2.read_unread, harg3.read_unread, harg4.read_unread, harg5.read_unread, harg6.read_unread, harg8.read_unread, harg9.read_unread,
    View.ld_unit_zero (S := S1024x1024) hz2, View.ld_unit_zero (S := S1x1024) hz2, View.ld_unit_zero (S := S1024x512) hz2, View.ld_unit_zero (S := S512x1024) hz2]
  rw [View.canon_cons_unit_zero hz2]

end Cert.Ffn

end
-- ==== Proof.FVal.lean ====
/- The feed-forward launch at the exact reals: what every grid point leaves, and so the whole result, over the inputs at
   coordinates. -/
module

public import proofs.«01_k».proof.Proof.FBlk
public import proofs.«01_k».proof.Proof.FOut

@[expose] public section

set_option maxRecDepth 16384

noncomputable section

namespace Cert.Ffn

open Cert.Kernel2Ideal Cert.Kernel2Ideal.Gen Idealize.ShloMosaic Idealize.ShloMosaic.TcCoe Idealize.SL.Sem

variable (m : (ℓ : Loc nD τ sig) → Buf (Elt Ideal) ℓ) (c : Dev nD)

/-- A point's contribution, from the normed rows it carries. -/
theorem sum_eq (t : Fin cfg0.N) (xn : Vec Ideal S1024x1024 .bf16) (i j : Fin 1024)
    (h : ∀ k, xn (ix2 i k) = norm ((inp m c).h (row t.val i)) (inp m c).g k) :
    (∑ f : Fin 512, act (fun k => xn (ix2 i k)) (fun k => (iblk m c 2 t : Vec Ideal S1024x512 .bf16) (ix2 k f))
      (fun k => (iblk m c 3 t : Vec Ideal S1024x512 .bf16) (ix2 k f)) * (iblk m c 4 t : Vec Ideal S512x1024 .bf16) (ix2 f j))
      = part (inp m c) (row t.val i) j (t.val % 7) := by
  unfold part hid
  refine Finset.sum_congr rfl fun f _ => ?_
  have e : (fun k => xn (ix2 i k)) = norm ((inp m c).h (row t.val i)) (inp m c).g := funext h
  have e2 : (fun k => (iblk m c 2 t : Vec Ideal S1024x512 .bf16) (ix2 k f)) = fun k => (inp m c).wg k (col (t.val % 7) f) :=
    funext fun k => blk2 m c t k f
  have e3 : (fun k => (iblk m c 3 t : Vec Ideal S1024x512 .bf16) (ix2 k f)) = fun k => (inp m c).wu k (col (t.val % 7) f) :=
    funext fun k => blk3 m c t k f
  rw [e, e2, e3, blk4]

/-- The first point's normed rows. -/
theorem xn_eq (t : Fin cfg0.N) (i k : Fin 1024) :
    k0_pay1 (F := Ideal) (iblk m c 0 t) (iblk m c 1 t) (ix2 i k) = norm ((inp m c).h (row t.val i)) (inp m c).g k := by
  rw [pay1_apply]
  have e0 : (fun q => (iblk m c 0 t : Vec Ideal S1024x1024 .f32) (ix2 i q)) = (inp m c).h (row t.val i) :=
    funext fun q => blk0 m c t i q
  have e1 : (fun q => (iblk m c 1 t : Vec Ideal S1x1024 .f32) (ix2 0 q)) = (inp m c).g := funext fun q => blk1 m c t 0 q
  rw [← e0, ← e1]

/-- What a point leaves: the normed rows, the sum of the blocks so far and, at a row block's last point, the result. -/
def Inv (t : Fin cfg0.N) : Prop :=
  (∀ i k, (outsAt0 m c t.val t.isLt).2.1 (ix2 i k) = norm ((inp m c).h (row t.val i)) (inp m c).g k)
  ∧ (∀ i j, (outsAt0 m c t.val t.isLt).2.2 (ix2 i j) = acc (inp m c) (row t.val i) j (t.val % 7 + 1))
  ∧ (t.val % 7 = 6 → ∀ i j, (outsAt0 m c t.val t.isLt).1 (ix2 i j) = res (inp m c) (row t.val i) j)

theorem inv_A (t : Fin cfg0.N) (h0 : t.val % 7 = 0) : Inv m c t := by
  have h1 : ¬t.val % 7 = 6 := by omega
  unfold Inv
  rw [outsAt0_A m c t h0 h1]
  dsimp only
  refine ⟨fun i k => ?_, fun i j => ?_, fun h => absurd h h1⟩
  · rw [xnA, xn_eq]
  · rw [accA, pay3_apply, pay2_apply, sum_eq m c t _ i j (xn_eq m c t i), acc_succ, h0, acc_zero]

theorem prev (t : Fin cfg0.N) (h0 : ¬t.val % 7 = 0)
    (ih : Inv m c ⟨t.val - 1, Nat.lt_of_le_of_lt (Nat.sub_le _ _) t.isLt⟩) :
    (∀ i k, (outsAt0 m c (t.val - 1) (Nat.lt_of_le_of_lt (Nat.sub_le _ _) t.isLt)).2.1 (ix2 i k) = norm ((inp m c).h (row t.val i)) (inp m c).g k)
    ∧ (∀ i j, (outsAt0 m c (t.val - 1) (Nat.lt_of_le_of_lt (Nat.sub_le _ _) t.isLt)).2.2 (ix2 i j) = acc (inp m c) (row t.val i) j (t.val % 7)) := by
  obtain ⟨ih1, ih2, _⟩ := ih
  have er : ∀ i, row (t.val - 1) i = row t.val i := fun i => by
    apply Fin.ext
    show ((t.val - 1) / 7 * 1024 + i.val) % 65536 = (t.val / 7 * 1024 + i.val) % 65536
    have : (t.val - 1) / 7 = t.val / 7 := by omega
    rw [this]
  have eq : (t.val - 1) % 7 + 1 = t.val % 7 := by omega
  dsimp only at ih1 ih2
  simp only [er, eq] at ih1 ih2
  exact ⟨ih1, ih2⟩

theorem inv_B (t : Fin cfg0.N) (h0 : ¬t.val % 7 = 0)
    (ih : Inv m c ⟨t.val - 1, Nat.lt_of_le_of_lt (Nat.sub_le _ _) t.isLt⟩) : Inv m c t := by
  obtain ⟨p1, p2⟩ := prev m c t h0 ih
  unfold Inv
  by_cases h1 : t.val % 7 = 6
  · rw [outsAt0_C m c t h0 h1]
    dsimp only
    refine ⟨fun i k => ?_, fun i j => ?_, fun _ i j => ?_⟩
    · unfold sout0_C_0
      exact p1 i k
    · rw [accC, pay3_apply, sum_eq m c t _ i j (p1 i), p2, acc_succ]
    · rw [outC, pay4_apply, pay3_apply, sum_eq m c t _ i j (p1 i), p2, ← acc_succ, blk0, h1, acc_all, res]
  · rw [outsAt0_B m c t h0 h1]
    dsimp only
    refine ⟨fun i k => ?_, fun i j => ?_, fun h => absurd h h1⟩
    · unfold sout0_B_0
      exact p1 i k
    · rw [accB, pay3_apply, sum_eq m c t _ i j (p1 i), p2, acc_succ]

theorem inv : ∀ (n : ℕ) (h : n < cfg0.N), Inv m c ⟨n, h⟩
  | 0, h => inv_A m c ⟨0, h⟩ rfl
  | n + 1, h => by
    by_cases h0 : (n + 1) % 7 = 0
    · exact inv_A m c ⟨n + 1, h⟩ h0
    · exact inv_B m c ⟨n + 1, h⟩ h0 (inv n _)

/-- THE LAUNCH'S RESULT, entry by entry. -/
theorem kernel_value (r : Fin 65536) (j : Fin 1024) :
    (Cert.Kernel2Ideal.Value.G5 m c : Vec Ideal S65536x1024 .f32) (ix2 r j) = res (inp m c) r j := by
  have hN : cfg0.N = 448 := N_0
  have hp : Cert.Kernel2Ideal.Value.pt5Of (ix2 r j : S65536x1024.Idx) = 7 * (r.val / 1024) + 6 := by
    show 7 * (1 * (r.val / 1024 - 0) + 1 * (j.val / 1024 - 0)) + 6 = 7 * (r.val / 1024) + 6
    omega
  have h' : Cert.Kernel2Ideal.Value.pt5Of (ix2 r j : S65536x1024.Idx) < cfg0.N := by rw [hp, hN]; omega
  have hl : Cert.Kernel2Ideal.Value.loc5Of (ix2 r j : S65536x1024.Idx) = ix2 ⟨r.val % 1024, by omega⟩ j := by
    funext a
    apply Fin.ext
    match a with
    | ⟨0, _⟩ => rfl
    | ⟨1, _⟩ => show j.val % 1024 = j.val; omega
  have key := (inv m c _ h').2.2 (by dsimp only; rw [hp]; omega) ⟨r.val % 1024, by omega⟩ j
  dsimp only at key
  rw [Cert.Kernel2Ideal.Value.outsAt0_sweep m c _ h'] at key
  unfold Cert.Kernel2Ideal.Value.G5
  rw [dif_pos h', hl]
  refine key.trans ?_
  have er : row (Cert.Kernel2Ideal.Value.pt5Of (ix2 r j : S65536x1024.Idx)) ⟨r.val % 1024, by omega⟩ = r := by
    apply Fin.ext
    rw [hp]
    show ((7 * (r.val / 1024) + 6) / 7 * 1024 + r.val % 1024) % 65536 = r.val
    omega
  rw [er]

end Cert.Ffn

end
-- ==== Proof.FRef.lean ====
/- The feed-forward reference at the exact reals: its composed term at an index is the mathematics. -/
module

public import proofs.«01_k».proof.Proof.FMath
public import proofs.«01_k».proof.Proof.Gen.Reference2Ideal.Run
public import Idealize.ShloMosaic.Lib.KernelVsHost

@[expose] public section

set_option maxRecDepth 16384

noncomputable section

namespace Cert.Ffn.Ref

open Cert.Reference2Ideal Cert.Reference2Ideal.Gen Cert.Reference2Ideal.Value
open Idealize.ShloMosaic Idealize.ShloMosaic.TcCoe Idealize.ShloMosaic.StableHlo
open Idealize.SL Idealize.SL.Sem

variable (a0 : FVec Ideal S65536x1024 .f32) (a1 : FVec Ideal S1024 .f32) (a2 a3 : FVec Ideal S1024x3584 .f32) (a4 : FVec Ideal S3584x1024 .f32)

/-- The normed rows. -/
def hnV : FVec Ideal S65536x1024 .f32 :=
  mulf (mulf a0 (broadcastInDim S65536x1024 ![0, 1] bcast_S65536x1_S65536x1024_0_1 (Host.rsqrt (addf (Host.divf (broadcastInDim S65536x1 ![0] bcast_S65536_S65536x1_0 (Host.reduceAdd (mulf a0 a0) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 a1))

/-- The normed rows through one of the two first weights. -/
def upV (hn : FVec Ideal S65536x1024 .f32) (w : FVec Ideal S1024x3584 .f32) : FVec Ideal S65536x3584 .f32 :=
  Host.dotGeneral dot_S65536x1024_S1024x3584_S65536x3584_1_0_0_1_n_n none hn w

/-- The hidden units. -/
def actV (g u : FVec Ideal S65536x3584 .f32) : FVec Ideal S65536x3584 .f32 :=
  mulf (mulf g (Host.divf (broadcastInDim S65536x3584 ![] bcast_S_S65536x3584 (constant S_ .f32 0x3F800000#32)) (addf (broadcastInDim S65536x3584 ![] bcast_S_S65536x3584 (constant S_ .f32 0x3F800000#32)) (Host.exp (Host.negf g))))) u

/-- The reference's result. -/
def outV : FVec Ideal S65536x1024 .f32 :=
  addf a0 (Host.dotGeneral dot_S65536x3584_S3584x1024_S65536x1024_1_0_0_1_n_n none (actV (upV (hnV a0 a1) a2) (upV (hnV a0 a1) a3)) a4)

/-- The arguments at coordinates. -/
def rin : Inputs where
  h := fun r k => a0 (ix2 r k)
  g := fun k => a1 (ix1 k)
  wg := fun k f => a2 (ix2 k f)
  wu := fun k f => a3 (ix2 k f)
  wd := fun f j => a4 (ix2 f j)

theorem hnV_apply (r : Fin 65536) (k : Fin 1024) :
    hnV a0 a1 (ix2 r k) = norm (fun q => a0 (ix2 r q)) (fun q => a1 (ix1 q)) k := by
  unfold norm
  pointwise [hnV]

theorem upV_apply (hn : FVec Ideal S65536x1024 .f32) (w : FVec Ideal S1024x3584 .f32) (r : Fin 65536) (f : Fin 3584) :
    upV hn w (ix2 r f) = ∑ k : Fin 1024, hn (ix2 r k) * w (ix2 k f) := by
  pointwise [upV]

theorem actV_apply (g u : FVec Ideal S65536x3584 .f32) (r : Fin 65536) (f : Fin 3584) :
    actV g u (ix2 r f) = g (ix2 r f) * Ideal.logistic (g (ix2 r f)) * u (ix2 r f) := by
  pointwise [actV]
  rfl

theorem outV_dot (r : Fin 65536) (j : Fin 1024) :
    outV a0 a1 a2 a3 a4 (ix2 r j) = a0 (ix2 r j) + ∑ f : Fin 3584, actV (upV (hnV a0 a1) a2) (upV (hnV a0 a1) a3) (ix2 r f) * a4 (ix2 f j) := by
  pointwise [outV]

theorem outV_apply (r : Fin 65536) (j : Fin 1024) : outV a0 a1 a2 a3 a4 (ix2 r j) = res (rin a0 a1 a2 a3 a4) r j := by
  have e : (fun k => hnV a0 a1 (ix2 r k)) = norm ((rin a0 a1 a2 a3 a4).h r) (rin a0 a1 a2 a3 a4).g :=
    funext fun k => hnV_apply a0 a1 r k
  rw [outV_dot]
  unfold res
  refine congrArg (fun s => a0 (ix2 r j) + s) (Finset.sum_congr rfl fun f _ => ?_)
  unfold hid act
  rw [actV_apply, upV_apply, upV_apply, ← e]
  rfl

end Cert.Ffn.Ref

end
-- ==== Proof.OddIn.lean ====
/- The input projection of the odd layers: the normed rows through the projection, in three pieces, on both sides. -/
module

public import proofs.«01_k».proof.Proof.FRef
public import proofs.«01_k».proof.Proof.Gen.Kernel3Ideal.Value
public import proofs.«01_k».proof.Proof.Gen.Reference3Ideal.Run
public import Idealize.ShloMosaic.Lib.Claim
public import Idealize.ShloMosaic.Lib.Pointwise
public import Idealize.ShloMosaic.Lib.KernelVsHost
public import Idealize.ShloMosaic.Lib.Pipeline.ReadBack

@[expose] public section

set_option maxRecDepth 16384

noncomputable section

namespace Cert.OddIn

section Kernel

open Cert.Kernel3Ideal Cert.Kernel3Ideal.Gen Idealize.ShloMosaic Idealize.ShloMosaic.TcCoe Idealize.SL.Sem

/-- Row `i` of point `t`'s row block. -/
def row (t : ℕ) (i : Fin 256) : Fin 65536 := ⟨(t * 256 + i.val) % 65536, Nat.mod_lt _ (by decide)⟩

theorem row_split (r : Fin 65536) : row (r.val / 256) ⟨r.val % 256, Nat.mod_lt _ (by decide)⟩ = r := by
  apply Fin.ext
  show (r.val / 256 * 256 + r.val % 256) % 65536 = r.val
  omega

theorem hz2 : (![0, 0] : Fin 2 → Nat) = fun _ => 0 := by funext a; match a with | ⟨0, _⟩ => rfl | ⟨1, _⟩ => rfl

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

theorem emb0 (t : Fin cfg0.N) (i : Fin 256) (k : Fin 1024) :
    (((cfg0.win 0).blk t).view.emb (ix2 i k) : S65536x1024.Idx) = ix2 (row t.val i) (k) := by
  have h := idx0 t
  have ht : t.val < 256 := lt_of_lt_of_eq t.isLt N_0
  funext a
  apply Fin.ext
  match a with
  | ⟨0, _⟩ =>
    show win0_0.index t (0 : Fin 2) * 256 + 1 * i.val = (t.val * 256 + i.val) % 65536
    rw [h.1]
    omega
  | ⟨1, _⟩ =>
    show win0_0.index t (1 : Fin 2) * 1024 + 1 * k.val = k.val
    rw [h.2]
    omega

theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

theorem emb1 (t : Fin cfg0.N) (i : Fin 1) (k : Fin 1024) :
    (((cfg0.win 1).blk t).view.emb (ix2 i k) : S1x1024.Idx) = ix2 (i) (k) := by
  have h := idx1 t
  have ht : t.val < 256 := lt_of_lt_of_eq t.isLt N_0
  funext a
  apply Fin.ext
  match a with
  | ⟨0, _⟩ =>
    show win0_1.index t (0 : Fin 2) * 1 + 1 * i.val = i.val
    rw [h.1]
    omega
  | ⟨1, _⟩ =>
    show win0_1.index t (1 : Fin 2) * 1024 + 1 * k.val = k.val
    rw [h.2]
    omega

theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

theorem emb2 (t : Fin cfg0.N) (i : Fin 1024) (k : Fin 5248) :
    (((cfg0.win 2).blk t).view.emb (ix2 i k) : S1024x5248.Idx) = ix2 (i) (k) := by
  have h := idx2 t
  have ht : t.val < 256 := lt_of_lt_of_eq t.isLt N_0
  funext a
  apply Fin.ext
  match a with
  | ⟨0, _⟩ =>
    show win0_2.index t (0 : Fin 2) * 1024 + 1 * i.val = i.val
    rw [h.1]
    omega
  | ⟨1, _⟩ =>
    show win0_2.index t (1 : Fin 2) * 5248 + 1 * k.val = k.val
    rw [h.2]
    omega

theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

theorem emb3 (t : Fin cfg0.N) (i : Fin 256) (k : Fin 2048) :
    (((cfg0.win 3).blk t).view.emb (ix2 i k) : S65536x2048.Idx) = ix2 (row t.val i) (k) := by
  have h := idx3 t
  have ht : t.val < 256 := lt_of_lt_of_eq t.isLt N_0
  funext a
  apply Fin.ext
  match a with
  | ⟨0, _⟩ =>
    show win0_3.index t (0 : Fin 2) * 256 + 1 * i.val = (t.val * 256 + i.val) % 65536
    rw [h.1]
    omega
  | ⟨1, _⟩ =>
    show win0_3.index t (1 : Fin 2) * 2048 + 1 * k.val = k.val
    rw [h.2]
    omega

theorem idx4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)

theorem emb4 (t : Fin cfg0.N) (i : Fin 256) (k : Fin 3072) :
    (((cfg0.win 4).blk t).view.emb (ix2 i k) : S65536x3072.Idx) = ix2 (row t.val i) (k) := by
  have h := idx4 t
  have ht : t.val < 256 := lt_of_lt_of_eq t.isLt N_0
  funext a
  apply Fin.ext
  match a with
  | ⟨0, _⟩ =>
    show win0_4.index t (0 : Fin 2) * 256 + 1 * i.val = (t.val * 256 + i.val) % 65536
    rw [h.1]
    omega
  | ⟨1, _⟩ =>
    show win0_4.index t (1 : Fin 2) * 3072 + 1 * k.val = k.val
    rw [h.2]
    omega

theorem idx5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)

theorem emb5 (t : Fin cfg0.N) (i : Fin 256) (k : Fin 128) :
    (((cfg0.win 5).blk t).view.emb (ix2 i k) : S65536x128.Idx) = ix2 (row t.val i) (k) := by
  have h := idx5 t
  have ht : t.val < 256 := lt_of_lt_of_eq t.isLt N_0
  funext a
  apply Fin.ext
  match a with
  | ⟨0, _⟩ =>
    show win0_5.index t (0 : Fin 2) * 256 + 1 * i.val = (t.val * 256 + i.val) % 65536
    rw [h.1]
    omega
  | ⟨1, _⟩ =>
    show win0_5.index t (1 : Fin 2) * 128 + 1 * k.val = k.val
    rw [h.2]
    omega

/-- A piece's column among the padded weight's columns. -/
def zc (j : Fin 2048) : Fin 5248 := ⟨j.val, by omega⟩
def xc (j : Fin 3072) : Fin 5248 := ⟨2048 + j.val, by omega⟩
def dc (j : Fin 128) : Fin 5248 := ⟨5120 + j.val, by omega⟩

/-- Row `r` normed, through weight column `j`. -/
def dotcol (h : FVec Ideal S65536x1024 .f32) (g : FVec Ideal S1024 .f32) (w : FVec Ideal S1024x5152 .f32) (r : Fin 65536) (j : Fin 5152) : EReal :=
  ∑ k : Fin 1024, Cert.Ffn.norm (fun q => h (ix2 r q)) (fun q => g (ix1 q)) k * w (ix2 k j)

/-- What both sides compute at a column of the padded weight: zero past the last weight column. -/
def rows (h : FVec Ideal S65536x1024 .f32) (g : FVec Ideal S1024 .f32) (w : FVec Ideal S1024x5152 .f32) (r : Fin 65536) (j : Fin 5248) : EReal :=
  if l : j.val < 5152 then dotcol h g w r ⟨j.val, l⟩ else 0

theorem rows_pos {h : FVec Ideal S65536x1024 .f32} {g : FVec Ideal S1024 .f32} {w : FVec Ideal S1024x5152 .f32} {r : Fin 65536} (j : Fin 5248) (l : j.val < 5152) :
    rows h g w r j = dotcol h g w r ⟨j.val, l⟩ := dif_pos l

theorem rows_neg {h : FVec Ideal S65536x1024 .f32} {g : FVec Ideal S1024 .f32} {w : FVec Ideal S1024x5152 .f32} {r : Fin 65536} (j : Fin 5248) (l : ¬j.val < 5152) :
    rows h g w r j = 0 := dif_neg l

/-- An entry of the padded weight. -/
def wcol (w : FVec Ideal S1024x5152 .f32) (k : Fin 1024) (j : Fin 5248) : EReal :=
  if l : j.val < 5152 then w (ix2 k ⟨j.val, l⟩) else 0

theorem normed_apply (h : Vec Ideal S256x1024 .f32) (g : Vec Ideal S1x1024 .f32) (i : Fin 256) (k : Fin 1024) :
    k0_pay1 h g (ix2 i k) = Cert.Ffn.norm (fun q => h (ix2 i q)) (fun q => g (ix2 0 q)) k := by
  unfold Cert.Ffn.norm
  pointwise [k0_pay1]

theorem z_pay (h : Vec Ideal S256x1024 .f32) (g : Vec Ideal S1x1024 .f32) (w : Vec Ideal S1024x2048 .bf16) (i : Fin 256) (j : Fin 2048) :
    k0_pay2 h g w (ix2 i j) = ∑ k : Fin 1024, k0_pay1 h g (ix2 i k) * w (ix2 k j) := by
  pointwise [k0_pay2]

theorem z_ld (w : Vec Ideal S1024x5248 .bf16) (k : Fin 1024) (j : Fin 2048) : View.ld w r0_2 (ix2 k j) = w (ix2 k (zc j)) := by
  refine congrArg w (funext fun a => Fin.ext ?_)
  match a with
  | ⟨0, _⟩ =>
    show 0 + 1 * k.val = k.val
    omega
  | ⟨1, _⟩ =>
    show 0 + 1 * j.val = j.val
    omega

theorem z_pay' (h : Vec Ideal S256x1024 .f32) (g : Vec Ideal S1x1024 .f32) (w : Vec Ideal S1024x5248 .bf16) (i : Fin 256) (j : Fin 2048) :
    k0_pay2 h g (View.ld w r0_2) (ix2 i j) = ∑ k : Fin 1024, k0_pay1 h g (ix2 i k) * w (ix2 k (zc j)) :=
  (z_pay h g _ i j).trans (Finset.sum_congr rfl fun k _ => congrArg (fun q => k0_pay1 h g (ix2 i k) * q) (z_ld w k j))

theorem x_pay (h : Vec Ideal S256x1024 .f32) (g : Vec Ideal S1x1024 .f32) (w : Vec Ideal S1024x3072 .bf16) (i : Fin 256) (j : Fin 3072) :
    k0_pay3 h g w (ix2 i j) = ∑ k : Fin 1024, k0_pay1 h g (ix2 i k) * w (ix2 k j) := by
  pointwise [k0_pay3]

theorem x_ld (w : Vec Ideal S1024x5248 .bf16) (k : Fin 1024) (j : Fin 3072) : View.ld w r0_4 (ix2 k j) = w (ix2 k (xc j)) := by
  refine congrArg w (funext fun a => Fin.ext ?_)
  match a with
  | ⟨0, _⟩ =>
    show 0 + 1 * k.val = k.val
    omega
  | ⟨1, _⟩ =>
    show 2048 + 1 * j.val = 2048 + j.val
    omega

theorem x_pay' (h : Vec Ideal S256x1024 .f32) (g : Vec Ideal S1x1024 .f32) (w : Vec Ideal S1024x5248 .bf16) (i : Fin 256) (j : Fin 3072) :
    k0_pay3 h g (View.ld w r0_4) (ix2 i j) = ∑ k : Fin 1024, k0_pay1 h g (ix2 i k) * w (ix2 k (xc j)) :=
  (x_pay h g _ i j).trans (Finset.sum_congr rfl fun k _ => congrArg (fun q => k0_pay1 h g (ix2 i k) * q) (x_ld w k j))

theorem d_pay (h : Vec Ideal S256x1024 .f32) (g : Vec Ideal S1x1024 .f32) (w : Vec Ideal S1024x128 .bf16) (i : Fin 256) (j : Fin 128) :
    k0_pay4 h g w (ix2 i j) = ∑ k : Fin 1024, k0_pay1 h g (ix2 i k) * w (ix2 k j) := by
  pointwise [k0_pay4]

theorem d_ld (w : Vec Ideal S1024x5248 .bf16) (k : Fin 1024) (j : Fin 128) : View.ld w r0_6 (ix2 k j) = w (ix2 k (dc j)) := by
  refine congrArg w (funext fun a => Fin.ext ?_)
  match a with
  | ⟨0, _⟩ =>
    show 0 + 1 * k.val = k.val
    omega
  | ⟨1, _⟩ =>
    show 5120 + 1 * j.val = 5120 + j.val
    omega

theorem d_pay' (h : Vec Ideal S256x1024 .f32) (g : Vec Ideal S1x1024 .f32) (w : Vec Ideal S1024x5248 .bf16) (i : Fin 256) (j : Fin 128) :
    k0_pay4 h g (View.ld w r0_6) (ix2 i j) = ∑ k : Fin 1024, k0_pay1 h g (ix2 i k) * w (ix2 k (dc j)) :=
  (d_pay h g _ i j).trans (Finset.sum_congr rfl fun k _ => congrArg (fun q => k0_pay1 h g (ix2 i k) * q) (d_ld w k j))

theorem sit0 : (FloatOps.sitofp FTy.f32 0#32 : Ideal FTy.f32) = (0 : EReal) := by
  show (((0#32 : BitVec 32).toInt : ℝ) : EReal) = 0
  simp

theorem gain_apply (g : FVec Ideal S1024 .f32) (q : Fin 1024) : (shapeCast S1x1024 g shapeCasts_S1024_S1x1024 : FVec Ideal S1x1024 .f32) (ix2 0 q) = g (ix1 q) := by
  pointwise

/-- The weight's last piece, padded to a whole tile of columns. -/
def tailV (w : FVec Ideal S1024x5152 .f32) : FVec Ideal S1024x128 .f32 :=
  pad S1024x128 ![0, 0] ![0, 96] ![0, 0] (extractStridedSlice S1024x32 ![0, 5120] w slices_S1024x5152_S1024x32_0_5120) (sitofp (F := Ideal) .f32 (constantI S_ 32 0#32)) pads_S1024x32_S1024x128_000_0960 h_S_

/-- The padded weight. -/
def wideV (w : FVec Ideal S1024x5152 .f32) : FVec Ideal S1024x5248 .bf16 :=
  truncf (F := Ideal) .bf16 (concatenate S1024x5248 1 [⟨S1024x2048, (extractStridedSlice S1024x2048 ![0, 0] w slices_S1024x5152_S1024x2048_0_0)⟩, ⟨S1024x3072, (extractStridedSlice S1024x3072 ![0, 2048] w slices_S1024x5152_S1024x3072_0_2048)⟩, ⟨S1024x128, tailV w⟩] concatenates_S1024x2048_S1024x3072_S1024x128_S1024x5248_d1) bitsLt_bf16_f32

theorem tailV_apply (w : FVec Ideal S1024x5152 .f32) (k : Fin 1024) (j : Fin 128) :
    tailV w (ix2 k j) = if l : j.val < 32 then w (ix2 k ⟨5120 + j.val, by omega⟩) else 0 := by
  pointwise [tailV]
  rw [sit0]

theorem wideV_apply (w : FVec Ideal S1024x5152 .f32) (k : Fin 1024) (j : Fin 5248) :
    wideV w (ix2 k j) = wcol w k j := by
  unfold wcol
  pointwise [wideV]
  by_cases a : j.val < 2048
  · rw [dif_pos a, dif_pos (by omega)]
  · rw [dif_neg a]
    have e : 2048 + (j.val - 2048) = j.val := by omega
    by_cases b : j.val - 2048 < 3072
    · rw [dif_pos b, dif_pos (by omega)]
      exact congrArg (fun q => w (ix2 k q)) (Fin.ext e)
    · rw [dif_neg b, tailV_apply]
      by_cases d : j.val < 5152
      · rw [dif_pos d, dif_pos (show j.val - 2048 - 3072 < 32 by omega)]
        exact congrArg (fun q => w (ix2 k q)) (Fin.ext (show 5120 + (j.val - 2048 - 3072) = j.val by omega))
      · rw [dif_neg d, dif_neg (show ¬j.val - 2048 - 3072 < 32 by omega)]

variable (m : (ℓ : Loc nD τ sig) → Buf (Elt Ideal) ℓ) (c : Dev nD)

theorem rd0 (t : Fin cfg0.N) (i : Fin 256) (k : Fin 1024) :
    (iblk m c 0 t : Vec Ideal S256x1024 .f32) (ix2 i k) = (V m c main_arg0 : Vec Ideal S65536x1024 .f32) (ix2 (row t.val i) (k)) := by
  unfold iblk
  rw [View.read_apply, emb0]
  rfl

theorem rd1 (t : Fin cfg0.N) (i : Fin 1) (k : Fin 1024) :
    (iblk m c 1 t : Vec Ideal S1x1024 .f32) (ix2 i k) = (V m c main_v6 : Vec Ideal S1x1024 .f32) (ix2 (i) (k)) := by
  unfold iblk
  rw [View.read_apply, emb1]
  rfl

theorem rd2 (t : Fin cfg0.N) (i : Fin 1024) (k : Fin 5248) :
    (iblk m c 2 t : Vec Ideal S1024x5248 .bf16) (ix2 i k) = (V m c main_v5 : Vec Ideal S1024x5248 .bf16) (ix2 (i) (k)) := by
  unfold iblk
  rw [View.read_apply, emb2]
  rfl

theorem V_v6 : (V m c main_v6 : Vec Ideal S1x1024 .f32) = (shapeCast S1x1024 (m (c, main_arg1) : FVec Ideal S1024 .f32) shapeCasts_S1024_S1x1024 : FVec Ideal S1x1024 .f32) := by
  show StableHlo.after _ _ _ = _
  simp only [List.flatten_cons, List.flatten_nil, hostOps0, hostOps0_1, hostOps0_2, List.cons_append, List.nil_append, List.append_nil]
  entry_read
  rfl

theorem V_v5 : (V m c main_v5 : Vec Ideal S1024x5248 .bf16) = wideV (m (c, main_arg2)) := by
  show StableHlo.after _ _ _ = _
  simp only [List.flatten_cons, List.flatten_nil, hostOps0, hostOps0_1, hostOps0_2, List.cons_append, List.nil_append, List.append_nil, StableHlo.TRef.binary, StableHlo.TRef.unary, StableHlo.TRef.toBuf, StableHlo.TRef.ofBuf, cast_eq]
  after_results
  rfl

theorem blk0 (t : Fin cfg0.N) (i : Fin 256) (k : Fin 1024) :
    (iblk m c 0 t : Vec Ideal S256x1024 .f32) (ix2 i k) = (m (c, main_arg0) : FVec Ideal S65536x1024 .f32) (ix2 (row t.val i) k) := by
  rw [rd0, V_main_arg0]

theorem blk1 (t : Fin cfg0.N) (k : Fin 1024) :
    (iblk m c 1 t : Vec Ideal S1x1024 .f32) (ix2 0 k) = (m (c, main_arg1) : FVec Ideal S1024 .f32) (ix1 k) := by
  rw [rd1, V_v6]
  exact gain_apply _ _

theorem blk2 (t : Fin cfg0.N) (k : Fin 1024) (j : Fin 5248) :
    (iblk m c 2 t : Vec Ideal S1024x5248 .bf16) (ix2 k j) = wcol (m (c, main_arg2)) k j := by
  rw [rd2, V_v5]
  exact wideV_apply _ _ _

/-- The body's sum at a row of point `t`'s block and a column of the padded weight. -/
theorem dot_eq (t : Fin cfg0.N) (i : Fin 256) (j : Fin 5248) :
    (∑ k : Fin 1024, k0_pay1 (iblk m c 0 t) (iblk m c 1 t) (ix2 i k) * (iblk m c 2 t : Vec Ideal S1024x5248 .bf16) (ix2 k j))
      = rows (m (c, main_arg0)) (m (c, main_arg1)) (m (c, main_arg2)) (row t.val i) j := by
  simp only [normed_apply, blk0, blk1, blk2]
  unfold rows wcol
  by_cases l : j.val < 5152
  · simp only [dif_pos l]
    rfl
  · simp only [dif_neg l, mul_zero, Finset.sum_const_zero]

theorem flush3 : ∀ t : Fin cfg0.N, (cfg0.win 3).flush t = true :=
  (by decide +kernel : ∀ t : Fin grid0.N, win0_3.flush t = true)

/-- The launch's array at the end, at a row of point `t`'s block, is what the body computes there. -/
theorem arr3 (t : Fin cfg0.N) (i : Fin 256) (j : Fin 2048) :
    ((dats m 0 c).arrAt 3 cfg0.N : Vec Ideal S65536x2048 .f32) (ix2 (row t.val i) j) = k0_pay2 (iblk m c 0 t) (iblk m c 1 t) (View.ld (iblk m c 2 t) r0_2) (ix2 i j) := by
  have h := congrFun (Value.blocks3 m c t (flush3 t)) (ix2 i j)
  rw [View.read_apply, emb3, Value.flushed3] at h
  refine h.trans ?_
  show out0_3 (iblk m c 0 t) (iblk m c 1 t) (iblk m c 2 t) (ix2 i j) = _
  unfold out0_3
  rw [View.canon_cons_unit_zero hz2]
  simp only [View.ld_unit_zero (S := S256x1024) hz2, View.ld_unit_zero (S := S1x1024) hz2]
  rfl

/-- A LAUNCH'S RESULT, entry by entry. -/
theorem kernel_z (r : Fin 65536) (j : Fin 2048) :
    ((dats m 0 c).arrAt 3 cfg0.N : Vec Ideal S65536x2048 .f32) (ix2 r j)
      = rows (m (c, main_arg0)) (m (c, main_arg1)) (m (c, main_arg2)) r (zc j) := by
  have hN : cfg0.N = 256 := N_0
  have h := arr3 m c ⟨r.val / 256, by rw [hN]; omega⟩ ⟨r.val % 256, Nat.mod_lt _ (by decide)⟩ j
  rw [z_pay', dot_eq, row_split] at h
  exact h

theorem flush4 : ∀ t : Fin cfg0.N, (cfg0.win 4).flush t = true :=
  (by decide +kernel : ∀ t : Fin grid0.N, win0_4.flush t = true)

/-- The launch's array at the end, at a row of point `t`'s block, is what the body computes there. -/
theorem arr4 (t : Fin cfg0.N) (i : Fin 256) (j : Fin 3072) :
    ((dats m 0 c).arrAt 4 cfg0.N : Vec Ideal S65536x3072 .f32) (ix2 (row t.val i) j) = k0_pay3 (iblk m c 0 t) (iblk m c 1 t) (View.ld (iblk m c 2 t) r0_4) (ix2 i j) := by
  have h := congrFun (Value.blocks4 m c t (flush4 t)) (ix2 i j)
  rw [View.read_apply, emb4, Value.flushed4] at h
  refine h.trans ?_
  show out0_4 (iblk m c 0 t) (iblk m c 1 t) (iblk m c 2 t) (ix2 i j) = _
  unfold out0_4
  rw [View.canon_cons_unit_zero hz2]
  simp only [View.ld_unit_zero (S := S256x1024) hz2, View.ld_unit_zero (S := S1x1024) hz2]
  rfl

/-- A LAUNCH'S RESULT, entry by entry. -/
theorem kernel_x (r : Fin 65536) (j : Fin 3072) :
    ((dats m 0 c).arrAt 4 cfg0.N : Vec Ideal S65536x3072 .f32) (ix2 r j)
      = rows (m (c, main_arg0)) (m (c, main_arg1)) (m (c, main_arg2)) r (xc j) := by
  have hN : cfg0.N = 256 := N_0
  have h := arr4 m c ⟨r.val / 256, by rw [hN]; omega⟩ ⟨r.val % 256, Nat.mod_lt _ (by decide)⟩ j
  rw [x_pay', dot_eq, row_split] at h
  exact h

theorem flush5 : ∀ t : Fin cfg0.N, (cfg0.win 5).flush t = true :=
  (by decide +kernel : ∀ t : Fin grid0.N, win0_5.flush t = true)

/-- The launch's array at the end, at a row of point `t`'s block, is what the body computes there. -/
theorem arr5 (t : Fin cfg0.N) (i : Fin 256) (j : Fin 128) :
    ((dats m 0 c).arrAt 5 cfg0.N : Vec Ideal S65536x128 .f32) (ix2 (row t.val i) j) = k0_pay4 (iblk m c 0 t) (iblk m c 1 t) (View.ld (iblk m c 2 t) r0_6) (ix2 i j) := by
  have h := congrFun (Value.blocks5 m c t (flush5 t)) (ix2 i j)
  rw [View.read_apply, emb5, Value.flushed5] at h
  refine h.trans ?_
  show out0_5 (iblk m c 0 t) (iblk m c 1 t) (iblk m c 2 t) (ix2 i j) = _
  unfold out0_5
  rw [View.canon_cons_unit_zero hz2]
  simp only [View.ld_unit_zero (S := S256x1024) hz2, View.ld_unit_zero (S := S1x1024) hz2]
  rfl

/-- A LAUNCH'S RESULT, entry by entry. -/
theorem kernel_d (r : Fin 65536) (j : Fin 128) :
    ((dats m 0 c).arrAt 5 cfg0.N : Vec Ideal S65536x128 .f32) (ix2 r j)
      = rows (m (c, main_arg0)) (m (c, main_arg1)) (m (c, main_arg2)) r (dc j) := by
  have hN : cfg0.N = 256 := N_0
  have h := arr5 m c ⟨r.val / 256, by rw [hN]; omega⟩ ⟨r.val % 256, Nat.mod_lt _ (by decide)⟩ j
  rw [d_pay', dot_eq, row_split] at h
  exact h

end Kernel

section Reference

open Cert.Reference3Ideal Cert.Reference3Ideal.Gen Idealize.ShloMosaic Idealize.ShloMosaic.TcCoe Idealize.ShloMosaic.StableHlo
open Idealize.SL Idealize.SL.Sem

variable (a0 : FVec Ideal S65536x1024 .f32) (a1 : FVec Ideal S1024 .f32) (a2 : FVec Ideal S1024x5152 .f32)

/-- The reference's whole product. -/
def prodV : FVec Ideal S65536x5152 .f32 :=
  Host.dotGeneral dot_S65536x1024_S1024x5152_S65536x5152_1_0_0_1_n_n none (Cert.Ffn.Ref.hnV a0 a1) a2

/-- The reference's three results, of the whole product. -/
def zV (p : FVec Ideal S65536x5152 .f32) : FVec Ideal S65536x2048 .f32 := extractStridedSlice S65536x2048 ![0, 0] p slices_S65536x5152_S65536x2048_0_0
def xV (p : FVec Ideal S65536x5152 .f32) : FVec Ideal S65536x3072 .f32 := extractStridedSlice S65536x3072 ![0, 2048] p slices_S65536x5152_S65536x3072_0_2048
def dV (p : FVec Ideal S65536x5152 .f32) : FVec Ideal S65536x128 .f32 :=
  pad S65536x128 ![0, 0] ![0, 96] ![0, 0] (extractStridedSlice S65536x32 ![0, 5120] p slices_S65536x5152_S65536x32_0_5120) (sitofp (F := Ideal) .f32 (constantI S_ 32 0#32)) pads_S65536x32_S65536x128_000_0960 h_S_

theorem prodV_apply (r : Fin 65536) (j : Fin 5152) : prodV a0 a1 a2 (ix2 r j) = dotcol a0 a1 a2 r j := by
  unfold dotcol
  simp only [← Cert.Ffn.Ref.hnV_apply]
  pointwise [prodV]

theorem zV_slice (p : FVec Ideal S65536x5152 .f32) (r : Fin 65536) (j : Fin 2048) : zV p (ix2 r j) = p (ix2 r ⟨j.val, by omega⟩) := by
  pointwise [zV]

theorem xV_slice (p : FVec Ideal S65536x5152 .f32) (r : Fin 65536) (j : Fin 3072) : xV p (ix2 r j) = p (ix2 r ⟨2048 + j.val, by omega⟩) := by
  pointwise [xV]

theorem dV_slice (p : FVec Ideal S65536x5152 .f32) (r : Fin 65536) (j : Fin 128) :
    dV p (ix2 r j) = if l : j.val < 32 then p (ix2 r ⟨5120 + j.val, by omega⟩) else 0 := by
  pointwise [dV]
  rw [sit0]

theorem zV_apply (r : Fin 65536) (j : Fin 2048) : zV (prodV a0 a1 a2) (ix2 r j) = rows a0 a1 a2 r (zc j) := by
  rw [zV_slice, prodV_apply]
  exact (rows_pos (zc j) (show j.val < 5152 by omega)).symm

theorem xV_apply (r : Fin 65536) (j : Fin 3072) : xV (prodV a0 a1 a2) (ix2 r j) = rows a0 a1 a2 r (xc j) := by
  rw [xV_slice, prodV_apply]
  exact (rows_pos (xc j) (show 2048 + j.val < 5152 by omega)).symm

theorem dV_apply (r : Fin 65536) (j : Fin 128) : dV (prodV a0 a1 a2) (ix2 r j) = rows a0 a1 a2 r (dc j) := by
  rw [dV_slice]
  by_cases l : j.val < 32
  · rw [dif_pos l, prodV_apply]
    exact (rows_pos (dc j) (show 5120 + j.val < 5152 by omega)).symm
  · rw [dif_neg l]
    exact (rows_neg (dc j) (show ¬5120 + j.val < 5152 by omega)).symm

end Reference

end Cert.OddIn

end
-- ==== Proof.OddOut.lean ====
/- The output projection of the odd layers: the activations plus the scan's rows through the projection, on both sides. -/
module

public import proofs.«01_k».proof.Proof.Gen.Kernel4Ideal.Value
public import proofs.«01_k».proof.Proof.Gen.Reference4Ideal.Run
public import Idealize.ShloMosaic.Lib.Claim
public import Idealize.ShloMosaic.Lib.Pointwise
public import Idealize.ShloMosaic.Lib.KernelVsHost
public import Idealize.ShloMosaic.Lib.Pipeline.ReadBack

@[expose] public section

set_option maxRecDepth 16384

noncomputable section

namespace Cert.OddOut

section Kernel

open Cert.Kernel4Ideal Cert.Kernel4Ideal.Gen Idealize.ShloMosaic Idealize.ShloMosaic.TcCoe Idealize.SL.Sem

/-- Row `i` of point `t`'s row block. -/
def row (t : ℕ) (i : Fin 512) : Fin 65536 := ⟨(t * 512 + i.val) % 65536, Nat.mod_lt _ (by decide)⟩

theorem row_split (r : Fin 65536) : row (r.val / 512) ⟨r.val % 512, Nat.mod_lt _ (by decide)⟩ = r := by
  apply Fin.ext
  show (r.val / 512 * 512 + r.val % 512) % 65536 = r.val
  omega

theorem hz2 : (![0, 0] : Fin 2 → Nat) = fun _ => 0 := by funext a; match a with | ⟨0, _⟩ => rfl | ⟨1, _⟩ => rfl

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

theorem emb0 (t : Fin cfg0.N) (i : Fin 512) (k : Fin 1024) :
    (((cfg0.win 0).blk t).view.emb (ix2 i k) : S65536x1024.Idx) = ix2 (row t.val i) (k) := by
  have h := idx0 t
  have ht : t.val < 128 := lt_of_lt_of_eq t.isLt N_0
  funext a
  apply Fin.ext
  match a with
  | ⟨0, _⟩ =>
    show win0_0.index t (0 : Fin 2) * 512 + 1 * i.val = (t.val * 512 + i.val) % 65536
    rw [h.1]
    omega
  | ⟨1, _⟩ =>
    show win0_0.index t (1 : Fin 2) * 1024 + 1 * k.val = k.val
    rw [h.2]
    omega

theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

theorem emb1 (t : Fin cfg0.N) (i : Fin 512) (k : Fin 2048) :
    (((cfg0.win 1).blk t).view.emb (ix2 i k) : S65536x2048.Idx) = ix2 (row t.val i) (k) := by
  have h := idx1 t
  have ht : t.val < 128 := lt_of_lt_of_eq t.isLt N_0
  funext a
  apply Fin.ext
  match a with
  | ⟨0, _⟩ =>
    show win0_1.index t (0 : Fin 2) * 512 + 1 * i.val = (t.val * 512 + i.val) % 65536
    rw [h.1]
    omega
  | ⟨1, _⟩ =>
    show win0_1.index t (1 : Fin 2) * 2048 + 1 * k.val = k.val
    rw [h.2]
    omega

theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

theorem emb2 (t : Fin cfg0.N) (i : Fin 2048) (k : Fin 1024) :
    (((cfg0.win 2).blk t).view.emb (ix2 i k) : S2048x1024.Idx) = ix2 (i) (k) := by
  have h := idx2 t
  have ht : t.val < 128 := lt_of_lt_of_eq t.isLt N_0
  funext a
  apply Fin.ext
  match a with
  | ⟨0, _⟩ =>
    show win0_2.index t (0 : Fin 2) * 2048 + 1 * i.val = i.val
    rw [h.1]
    omega
  | ⟨1, _⟩ =>
    show win0_2.index t (1 : Fin 2) * 1024 + 1 * k.val = k.val
    rw [h.2]
    omega

theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

theorem emb3 (t : Fin cfg0.N) (i : Fin 512) (k : Fin 1024) :
    (((cfg0.win 3).blk t).view.emb (ix2 i k) : S65536x1024.Idx) = ix2 (row t.val i) (k) := by
  have h := idx3 t
  have ht : t.val < 128 := lt_of_lt_of_eq t.isLt N_0
  funext a
  apply Fin.ext
  match a with
  | ⟨0, _⟩ =>
    show win0_3.index t (0 : Fin 2) * 512 + 1 * i.val = (t.val * 512 + i.val) % 65536
    rw [h.1]
    omega
  | ⟨1, _⟩ =>
    show win0_3.index t (1 : Fin 2) * 1024 + 1 * k.val = k.val
    rw [h.2]
    omega

/-- What both sides compute. -/
def rows (h : FVec Ideal S65536x1024 .f32) (y : FVec Ideal S65536x2048 .bf16) (w : FVec Ideal S2048x1024 .f32) (r : Fin 65536) (j : Fin 1024) : EReal :=
  h (ix2 r j) + ∑ k : Fin 2048, y (ix2 r k) * w (ix2 k j)

theorem pay_apply (h : Vec Ideal S512x1024 .f32) (y : Vec Ideal S512x2048 .bf16) (w : Vec Ideal S2048x1024 .bf16) (i : Fin 512) (j : Fin 1024) :
    k0_pay1 h y w (ix2 i j) = h (ix2 i j) + ∑ k : Fin 2048, y (ix2 i k) * w (ix2 k j) := by
  pointwise [k0_pay1]

variable (m : (ℓ : Loc nD τ sig) → Buf (Elt Ideal) ℓ) (c : Dev nD)

theorem rd0 (t : Fin cfg0.N) (i : Fin 512) (k : Fin 1024) :
    (iblk m c 0 t : Vec Ideal S512x1024 .f32) (ix2 i k) = (V m c main_arg0 : Vec Ideal S65536x1024 .f32) (ix2 (row t.val i) (k)) := by
  unfold iblk
  rw [View.read_apply, emb0]
  rfl

theorem rd1 (t : Fin cfg0.N) (i : Fin 512) (k : Fin 2048) :
    (iblk m c 1 t : Vec Ideal S512x2048 .bf16) (ix2 i k) = (V m c main_arg1 : Vec Ideal S65536x2048 .bf16) (ix2 (row t.val i) (k)) := by
  unfold iblk
  rw [View.read_apply, emb1]
  rfl

theorem rd2 (t : Fin cfg0.N) (i : Fin 2048) (k : Fin 1024) :
    (iblk m c 2 t : Vec Ideal S2048x1024 .bf16) (ix2 i k) = (V m c main_v0 : Vec Ideal S2048x1024 .bf16) (ix2 (i) (k)) := by
  unfold iblk
  rw [View.read_apply, emb2]
  rfl

theorem V_v0 : (V m c main_v0 : Vec Ideal S2048x1024 .bf16) = (truncf (F := Ideal) .bf16 (m (c, main_arg2) : FVec Ideal S2048x1024 .f32) bitsLt_bf16_f32 : FVec Ideal S2048x1024 .bf16) := by
  show StableHlo.after _ _ _ = _
  simp only [List.flatten_cons, List.flatten_nil, hostOps0, List.cons_append, List.nil_append, List.append_nil]
  entry_read
  rfl

theorem flush3 : ∀ t : Fin cfg0.N, (cfg0.win 3).flush t = true :=
  (by decide +kernel : ∀ t : Fin grid0.N, win0_3.flush t = true)

/-- The launch's array at the end, at a row of point `t`'s block, is what the body computes there. -/
theorem arr3 (t : Fin cfg0.N) (i : Fin 512) (j : Fin 1024) :
    ((dats m 0 c).arrAt 3 cfg0.N : Vec Ideal S65536x1024 .f32) (ix2 (row t.val i) j) = k0_pay1 (iblk m c 0 t) (iblk m c 1 t) (iblk m c 2 t) (ix2 i j) := by
  have h := congrFun (Value.blocks3 m c t (flush3 t)) (ix2 i j)
  rw [View.read_apply, emb3, Value.flushed3] at h
  refine h.trans ?_
  show out0_3 (iblk m c 0 t) (iblk m c 1 t) (iblk m c 2 t) (ix2 i j) = _
  unfold out0_3
  rw [View.canon_cons_unit_zero hz2]
  simp only [View.ld_unit_zero (S := S512x1024) hz2, View.ld_unit_zero (S := S512x2048) hz2, View.ld_unit_zero (S := S2048x1024) hz2]

/-- THE LAUNCH'S RESULT, entry by entry. -/
theorem kernel_value (r : Fin 65536) (j : Fin 1024) :
    ((dats m 0 c).arrAt 3 cfg0.N : Vec Ideal S65536x1024 .f32) (ix2 r j)
      = rows (m (c, main_arg0)) (m (c, main_arg1)) (m (c, main_arg2)) r j := by
  have hN : cfg0.N = 128 := N_0
  have h := arr3 m c ⟨r.val / 512, by rw [hN]; omega⟩ ⟨r.val % 512, Nat.mod_lt _ (by decide)⟩ j
  rw [pay_apply] at h
  simp only [rd0, rd1, rd2, row_split, V_main_arg0, V_main_arg1, V_v0] at h
  exact h

end Kernel

section Reference

open Cert.Reference4Ideal Cert.Reference4Ideal.Gen Idealize.ShloMosaic Idealize.ShloMosaic.TcCoe Idealize.ShloMosaic.StableHlo
open Idealize.SL Idealize.SL.Sem

/-- The reference's result. -/
def outV (a0 : FVec Ideal S65536x1024 .f32) (a1 : FVec Ideal S65536x2048 .bf16) (a2 : FVec Ideal S2048x1024 .f32) : FVec Ideal S65536x1024 .f32 :=
  addf a0 (Host.dotGeneral dot_S65536x2048_S2048x1024_S65536x1024_1_0_0_1_n_n none (extf .f32 a1 bitsLt_bf16_f32) a2)

theorem outV_apply (a0 : FVec Ideal S65536x1024 .f32) (a1 : FVec Ideal S65536x2048 .bf16) (a2 : FVec Ideal S2048x1024 .f32) (r : Fin 65536) (j : Fin 1024) :
    outV a0 a1 a2 (ix2 r j) = rows a0 a1 a2 r j := by
  unfold rows
  pointwise [outV]

end Reference

end Cert.OddOut

end
-- ==== Proof.EvenOut.lean ====
/- The output projection of the even layers: the activations plus the two branches' rows through the two halves of
   the projection, on both sides. -/
module

public import proofs.«01_k».proof.Proof.Gen.Kernel5Ideal.Value
public import proofs.«01_k».proof.Proof.Gen.Reference5Ideal.Run
public import Idealize.ShloMosaic.Lib.Claim
public import Idealize.ShloMosaic.Lib.Pointwise
public import Idealize.ShloMosaic.Lib.KernelVsHost
public import Idealize.ShloMosaic.Lib.Pipeline.ReadBack

@[expose] public section

set_option maxRecDepth 16384

noncomputable section

namespace Cert.EvenOut

section Kernel

open Cert.Kernel5Ideal Cert.Kernel5Ideal.Gen Idealize.ShloMosaic Idealize.ShloMosaic.TcCoe Idealize.SL.Sem

/-- Row `i` of point `t`'s row block. -/
def row (t : ℕ) (i : Fin 512) : Fin 65536 := ⟨(t * 512 + i.val) % 65536, Nat.mod_lt _ (by decide)⟩

theorem row_split (r : Fin 65536) : row (r.val / 512) ⟨r.val % 512, Nat.mod_lt _ (by decide)⟩ = r := by
  apply Fin.ext
  show (r.val / 512 * 512 + r.val % 512) % 65536 = r.val
  omega

theorem hz2 : (![0, 0] : Fin 2 → Nat) = fun _ => 0 := by funext a; match a with | ⟨0, _⟩ => rfl | ⟨1, _⟩ => rfl

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

theorem emb0 (t : Fin cfg0.N) (i : Fin 512) (k : Fin 1024) :
    (((cfg0.win 0).blk t).view.emb (ix2 i k) : S65536x1024.Idx) = ix2 (row t.val i) (k) := by
  have h := idx0 t
  have ht : t.val < 128 := lt_of_lt_of_eq t.isLt N_0
  funext a
  apply Fin.ext
  match a with
  | ⟨0, _⟩ =>
    show win0_0.index t (0 : Fin 2) * 512 + 1 * i.val = (t.val * 512 + i.val) % 65536
    rw [h.1]
    omega
  | ⟨1, _⟩ =>
    show win0_0.index t (1 : Fin 2) * 1024 + 1 * k.val = k.val
    rw [h.2]
    omega

theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

theorem emb1 (t : Fin cfg0.N) (i : Fin 512) (k : Fin 512) :
    (((cfg0.win 1).blk t).view.emb (ix2 i k) : S65536x512.Idx) = ix2 (row t.val i) (k) := by
  have h := idx1 t
  have ht : t.val < 128 := lt_of_lt_of_eq t.isLt N_0
  funext a
  apply Fin.ext
  match a with
  | ⟨0, _⟩ =>
    show win0_1.index t (0 : Fin 2) * 512 + 1 * i.val = (t.val * 512 + i.val) % 65536
    rw [h.1]
    omega
  | ⟨1, _⟩ =>
    show win0_1.index t (1 : Fin 2) * 512 + 1 * k.val = k.val
    rw [h.2]
    omega

theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

theorem emb2 (t : Fin cfg0.N) (i : Fin 512) (k : Fin 1024) :
    (((cfg0.win 2).blk t).view.emb (ix2 i k) : S512x1024.Idx) = ix2 (i) (k) := by
  have h := idx2 t
  have ht : t.val < 128 := lt_of_lt_of_eq t.isLt N_0
  funext a
  apply Fin.ext
  match a with
  | ⟨0, _⟩ =>
    show win0_2.index t (0 : Fin 2) * 512 + 1 * i.val = i.val
    rw [h.1]
    omega
  | ⟨1, _⟩ =>
    show win0_2.index t (1 : Fin 2) * 1024 + 1 * k.val = k.val
    rw [h.2]
    omega

theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

theorem emb3 (t : Fin cfg0.N) (i : Fin 512) (k : Fin 512) :
    (((cfg0.win 3).blk t).view.emb (ix2 i k) : S65536x512.Idx) = ix2 (row t.val i) (k) := by
  have h := idx3 t
  have ht : t.val < 128 := lt_of_lt_of_eq t.isLt N_0
  funext a
  apply Fin.ext
  match a with
  | ⟨0, _⟩ =>
    show win0_3.index t (0 : Fin 2) * 512 + 1 * i.val = (t.val * 512 + i.val) % 65536
    rw [h.1]
    omega
  | ⟨1, _⟩ =>
    show win0_3.index t (1 : Fin 2) * 512 + 1 * k.val = k.val
    rw [h.2]
    omega

theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

theorem emb4 (t : Fin cfg0.N) (i : Fin 512) (k : Fin 1024) :
    (((cfg0.win 4).blk t).view.emb (ix2 i k) : S512x1024.Idx) = ix2 (i) (k) := by
  have h := idx4 t
  have ht : t.val < 128 := lt_of_lt_of_eq t.isLt N_0
  funext a
  apply Fin.ext
  match a with
  | ⟨0, _⟩ =>
    show win0_4.index t (0 : Fin 2) * 512 + 1 * i.val = i.val
    rw [h.1]
    omega
  | ⟨1, _⟩ =>
    show win0_4.index t (1 : Fin 2) * 1024 + 1 * k.val = k.val
    rw [h.2]
    omega

theorem idx5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)

theorem emb5 (t : Fin cfg0.N) (i : Fin 512) (k : Fin 1024) :
    (((cfg0.win 5).blk t).view.emb (ix2 i k) : S65536x1024.Idx) = ix2 (row t.val i) (k) := by
  have h := idx5 t
  have ht : t.val < 128 := lt_of_lt_of_eq t.isLt N_0
  funext a
  apply Fin.ext
  match a with
  | ⟨0, _⟩ =>
    show win0_5.index t (0 : Fin 2) * 512 + 1 * i.val = (t.val * 512 + i.val) % 65536
    rw [h.1]
    omega
  | ⟨1, _⟩ =>
    show win0_5.index t (1 : Fin 2) * 1024 + 1 * k.val = k.val
    rw [h.2]
    omega

/-- The projection's rows of the first branch and of the second. -/
def top (k : Fin 512) : Fin 1024 := ⟨k.val, by omega⟩
def bot (k : Fin 512) : Fin 1024 := ⟨512 + k.val, by omega⟩

/-- What both sides compute. -/
def rows (h : FVec Ideal S65536x1024 .f32) (a b : FVec Ideal S65536x512 .bf16) (w : FVec Ideal S1024x1024 .f32) (r : Fin 65536) (j : Fin 1024) : EReal :=
  h (ix2 r j) + ∑ k : Fin 512, a (ix2 r k) * w (ix2 (top k) j) + ∑ k : Fin 512, b (ix2 r k) * w (ix2 (bot k) j)

theorem pay_apply (h : Vec Ideal S512x1024 .f32) (a : Vec Ideal S512x512 .bf16) (wa : Vec Ideal S512x1024 .bf16) (b : Vec Ideal S512x512 .bf16) (wb : Vec Ideal S512x1024 .bf16) (i : Fin 512) (j : Fin 1024) :
    k0_pay1 h a wa b wb (ix2 i j) = h (ix2 i j) + ∑ k : Fin 512, a (ix2 i k) * wa (ix2 k j) + ∑ k : Fin 512, b (ix2 i k) * wb (ix2 k j) := by
  pointwise [k0_pay1]

/-- The projection's two halves, at the matrix unit's format. -/
def half (w : FVec Ideal S1024x1024 .f32) : FVec Ideal S512x1024 .bf16 :=
  extractStridedSlice S512x1024 ![0, 0] (truncf (F := Ideal) .bf16 w bitsLt_bf16_f32) slices_S1024x1024_S512x1024_0_0
def half' (w : FVec Ideal S1024x1024 .f32) : FVec Ideal S512x1024 .bf16 :=
  extractStridedSlice S512x1024 ![512, 0] (truncf (F := Ideal) .bf16 w bitsLt_bf16_f32) slices_S1024x1024_S512x1024_512_0

theorem half_apply (w : FVec Ideal S1024x1024 .f32) (k : Fin 512) (j : Fin 1024) : half w (ix2 k j) = w (ix2 (top k) j) := by
  pointwise [half]
  rfl

theorem half'_apply (w : FVec Ideal S1024x1024 .f32) (k : Fin 512) (j : Fin 1024) : half' w (ix2 k j) = w (ix2 (bot k) j) := by
  pointwise [half']
  rfl

variable (m : (ℓ : Loc nD τ sig) → Buf (Elt Ideal) ℓ) (c : Dev nD)

theorem rd0 (t : Fin cfg0.N) (i : Fin 512) (k : Fin 1024) :
    (iblk m c 0 t : Vec Ideal S512x1024 .f32) (ix2 i k) = (V m c main_arg0 : Vec Ideal S65536x1024 .f32) (ix2 (row t.val i) (k)) := by
  unfold iblk
  rw [View.read_apply, emb0]
  rfl

theorem rd1 (t : Fin cfg0.N) (i : Fin 512) (k : Fin 512) :
    (iblk m c 1 t : Vec Ideal S512x512 .bf16) (ix2 i k) = (V m c main_arg1 : Vec Ideal S65536x512 .bf16) (ix2 (row t.val i) (k)) := by
  unfold iblk
  rw [View.read_apply, emb1]
  rfl

theorem rd2 (t : Fin cfg0.N) (i : Fin 512) (k : Fin 1024) :
    (iblk m c 2 t : Vec Ideal S512x1024 .bf16) (ix2 i k) = (V m c main_v1 : Vec Ideal S512x1024 .bf16) (ix2 (i) (k)) := by
  unfold iblk
  rw [View.read_apply, emb2]
  rfl

theorem rd3 (t : Fin cfg0.N) (i : Fin 512) (k : Fin 512) :
    (iblk m c 3 t : Vec Ideal S512x512 .bf16) (ix2 i k) = (V m c main_arg2 : Vec Ideal S65536x512 .bf16) (ix2 (row t.val i) (k)) := by
  unfold iblk
  rw [View.read_apply, emb3]
  rfl

theorem rd4 (t : Fin cfg0.N) (i : Fin 512) (k : Fin 1024) :
    (iblk m c 4 t : Vec Ideal S512x1024 .bf16) (ix2 i k) = (V m c main_v2 : Vec Ideal S512x1024 .bf16) (ix2 (i) (k)) := by
  unfold iblk
  rw [View.read_apply, emb4]
  rfl

theorem V_v1 : (V m c main_v1 : Vec Ideal S512x1024 .bf16) = half (m (c, main_arg3)) := by
  show StableHlo.after _ _ _ = _
  simp only [List.flatten_cons, List.flatten_nil, hostOps0, List.cons_append, List.nil_append, List.append_nil]
  entry_read
  rfl

theorem V_v2 : (V m c main_v2 : Vec Ideal S512x1024 .bf16) = half' (m (c, main_arg3)) := by
  show StableHlo.after _ _ _ = _
  simp only [List.flatten_cons, List.flatten_nil, hostOps0, List.cons_append, List.nil_append, List.append_nil]
  entry_read
  rfl

theorem blk0 (t : Fin cfg0.N) (i : Fin 512) (k : Fin 1024) :
    (iblk m c 0 t : Vec Ideal S512x1024 .f32) (ix2 i k) = (m (c, main_arg0) : FVec Ideal S65536x1024 .f32) (ix2 (row t.val i) k) := by
  rw [rd0, V_main_arg0]

theorem blk1 (t : Fin cfg0.N) (i : Fin 512) (k : Fin 512) :
    (iblk m c 1 t : Vec Ideal S512x512 .bf16) (ix2 i k) = (m (c, main_arg1) : FVec Ideal S65536x512 .bf16) (ix2 (row t.val i) k) := by
  rw [rd1, V_main_arg1]

theorem blk2 (t : Fin cfg0.N) (i : Fin 512) (k : Fin 1024) :
    (iblk m c 2 t : Vec Ideal S512x1024 .bf16) (ix2 i k) = (m (c, main_arg3) : FVec Ideal S1024x1024 .f32) (ix2 (top i) k) := by
  rw [rd2, V_v1]
  exact half_apply _ _ _

theorem blk3 (t : Fin cfg0.N) (i : Fin 512) (k : Fin 512) :
    (iblk m c 3 t : Vec Ideal S512x512 .bf16) (ix2 i k) = (m (c, main_arg2) : FVec Ideal S65536x512 .bf16) (ix2 (row t.val i) k) := by
  rw [rd3, V_main_arg2]

theorem blk4 (t : Fin cfg0.N) (i : Fin 512) (k : Fin 1024) :
    (iblk m c 4 t : Vec Ideal S512x1024 .bf16) (ix2 i k) = (m (c, main_arg3) : FVec Ideal S1024x1024 .f32) (ix2 (bot i) k) := by
  rw [rd4, V_v2]
  exact half'_apply _ _ _

theorem flush5 : ∀ t : Fin cfg0.N, (cfg0.win 5).flush t = true :=
  (by decide +kernel : ∀ t : Fin grid0.N, win0_5.flush t = true)

/-- The launch's array at the end, at a row of point `t`'s block, is what the body computes there. -/
theorem arr5 (t : Fin cfg0.N) (i : Fin 512) (j : Fin 1024) :
    ((dats m 0 c).arrAt 5 cfg0.N : Vec Ideal S65536x1024 .f32) (ix2 (row t.val i) j) = k0_pay1 (iblk m c 0 t) (iblk m c 1 t) (iblk m c 2 t) (iblk m c 3 t) (iblk m c 4 t) (ix2 i j) := by
  have h := congrFun (Value.blocks5 m c t (flush5 t)) (ix2 i j)
  rw [View.read_apply, emb5, Value.flushed5] at h
  refine h.trans ?_
  show out0_5 (iblk m c 0 t) (iblk m c 1 t) (iblk m c 2 t) (iblk m c 3 t) (iblk m c 4 t) (ix2 i j) = _
  unfold out0_5
  rw [View.canon_cons_unit_zero hz2]
  simp only [View.ld_unit_zero (S := S512x1024) hz2, View.ld_unit_zero (S := S512x512) hz2]

/-- THE LAUNCH'S RESULT, entry by entry. -/
theorem kernel_value (r : Fin 65536) (j : Fin 1024) :
    ((dats m 0 c).arrAt 5 cfg0.N : Vec Ideal S65536x1024 .f32) (ix2 r j)
      = rows (m (c, main_arg0)) (m (c, main_arg1)) (m (c, main_arg2)) (m (c, main_arg3)) r j := by
  have hN : cfg0.N = 128 := N_0
  have h := arr5 m c ⟨r.val / 512, by rw [hN]; omega⟩ ⟨r.val % 512, Nat.mod_lt _ (by decide)⟩ j
  rw [pay_apply] at h
  simp only [blk0, blk1, blk2, blk3, blk4, row_split] at h
  exact h

end Kernel

section Reference

open Cert.Reference5Ideal Cert.Reference5Ideal.Gen Idealize.ShloMosaic Idealize.ShloMosaic.TcCoe Idealize.ShloMosaic.StableHlo
open Idealize.SL Idealize.SL.Sem

/-- The two branches side by side. -/
def catV (a1 a2 : FVec Ideal S65536x512 .bf16) : FVec Ideal S65536x1024 .f32 :=
  concatenate S65536x1024 1 [⟨S65536x512, (extf (F := Ideal) .f32 a1 bitsLt_bf16_f32)⟩, ⟨S65536x512, (extf (F := Ideal) .f32 a2 bitsLt_bf16_f32)⟩] concatenates_S65536x512_S65536x512_S65536x1024_d1

/-- The reference's result. -/
def outV (a0 : FVec Ideal S65536x1024 .f32) (a1 a2 : FVec Ideal S65536x512 .bf16) (a3 : FVec Ideal S1024x1024 .f32) : FVec Ideal S65536x1024 .f32 :=
  addf a0 (Host.dotGeneral dot_S65536x1024_S1024x1024_S65536x1024_1_0_0_1_n_n none (catV a1 a2) a3)

theorem catV_top (a1 a2 : FVec Ideal S65536x512 .bf16) (r : Fin 65536) (k : Fin 512) : catV a1 a2 (ix2 r (top k)) = a1 (ix2 r k) := by
  pointwise [catV]
  exact dif_pos k.isLt

theorem catV_bot (a1 a2 : FVec Ideal S65536x512 .bf16) (r : Fin 65536) (k : Fin 512) : catV a1 a2 (ix2 r (bot k)) = a2 (ix2 r k) := by
  pointwise [catV]
  refine (dif_neg (Nat.not_lt.2 (Nat.le_add_right 512 k.val))).trans (congrArg (fun q => a2 (ix2 r q)) (Fin.ext ?_))
  show 512 + k.val - 512 = k.val
  omega

theorem outV_dot (a0 : FVec Ideal S65536x1024 .f32) (a1 a2 : FVec Ideal S65536x512 .bf16) (a3 : FVec Ideal S1024x1024 .f32) (r : Fin 65536) (j : Fin 1024) :
    outV a0 a1 a2 a3 (ix2 r j) = a0 (ix2 r j) + ∑ k : Fin 1024, catV a1 a2 (ix2 r k) * a3 (ix2 k j) := by
  pointwise [outV]

theorem outV_apply (a0 : FVec Ideal S65536x1024 .f32) (a1 a2 : FVec Ideal S65536x512 .bf16) (a3 : FVec Ideal S1024x1024 .f32) (r : Fin 65536) (j : Fin 1024) :
    outV a0 a1 a2 a3 (ix2 r j) = rows a0 a1 a2 a3 r j := by
  rw [outV_dot]
  unfold rows
  rw [add_assoc]
  refine congrArg (fun s => a0 (ix2 r j) + s) ?_
  refine (Fin.sum_univ_add (a := 512) (b := 512) fun k : Fin 1024 => catV a1 a2 (ix2 r k) * a3 (ix2 k j)).trans ?_
  refine congrArg₂ (· + ·) (Finset.sum_congr rfl fun k _ => ?_) (Finset.sum_congr rfl fun k _ => ?_)
  · exact congrArg (· * a3 (ix2 (top k) j)) (catV_top a1 a2 r k)
  · exact congrArg (· * a3 (ix2 (bot k) j)) (catV_bot a1 a2 r k)

end Reference

end Cert.EvenOut

end
-- ==== Proof.Ple.lean ====
/- The per-layer embedding: the activations plus the gated projection of the embedding rows, on both sides. -/
module

public import proofs.«01_k».proof.Proof.FRef
public import proofs.«01_k».proof.Proof.Gen.Kernel6Ideal.Value
public import proofs.«01_k».proof.Proof.Gen.Reference6Ideal.Run
public import Idealize.ShloMosaic.Lib.Claim
public import Idealize.ShloMosaic.Lib.Pointwise
public import Idealize.ShloMosaic.Lib.KernelVsHost
public import Idealize.ShloMosaic.Lib.Pipeline.ReadBack

@[expose] public section

set_option maxRecDepth 16384

noncomputable section

namespace Cert.Ple

section Kernel

open Cert.Kernel6Ideal Cert.Kernel6Ideal.Gen Idealize.ShloMosaic Idealize.ShloMosaic.TcCoe Idealize.SL.Sem

/-- Row `i` of point `t`'s row block. -/
def row (t : ℕ) (i : Fin 512) : Fin 65536 := ⟨(t * 512 + i.val) % 65536, Nat.mod_lt _ (by decide)⟩

theorem row_split (r : Fin 65536) : row (r.val / 512) ⟨r.val % 512, Nat.mod_lt _ (by decide)⟩ = r := by
  apply Fin.ext
  show (r.val / 512 * 512 + r.val % 512) % 65536 = r.val
  omega

theorem hz2 : (![0, 0] : Fin 2 → Nat) = fun _ => 0 := by funext a; match a with | ⟨0, _⟩ => rfl | ⟨1, _⟩ => rfl

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

theorem emb0 (t : Fin cfg0.N) (i : Fin 512) (k : Fin 1024) :
    (((cfg0.win 0).blk t).view.emb (ix2 i k) : S65536x1024.Idx) = ix2 (row t.val i) (k) := by
  have h := idx0 t
  have ht : t.val < 128 := lt_of_lt_of_eq t.isLt N_0
  funext a
  apply Fin.ext
  match a with
  | ⟨0, _⟩ =>
    show win0_0.index t (0 : Fin 2) * 512 + 1 * i.val = (t.val * 512 + i.val) % 65536
    rw [h.1]
    omega
  | ⟨1, _⟩ =>
    show win0_0.index t (1 : Fin 2) * 1024 + 1 * k.val = k.val
    rw [h.2]
    omega

theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

theorem emb1 (t : Fin cfg0.N) (i : Fin 512) (k : Fin 256) :
    (((cfg0.win 1).blk t).view.emb (ix2 i k) : S65536x256.Idx) = ix2 (row t.val i) (k) := by
  have h := idx1 t
  have ht : t.val < 128 := lt_of_lt_of_eq t.isLt N_0
  funext a
  apply Fin.ext
  match a with
  | ⟨0, _⟩ =>
    show win0_1.index t (0 : Fin 2) * 512 + 1 * i.val = (t.val * 512 + i.val) % 65536
    rw [h.1]
    omega
  | ⟨1, _⟩ =>
    show win0_1.index t (1 : Fin 2) * 256 + 1 * k.val = k.val
    rw [h.2]
    omega

theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

theorem emb2 (t : Fin cfg0.N) (i : Fin 1) (k : Fin 1024) :
    (((cfg0.win 2).blk t).view.emb (ix2 i k) : S1x1024.Idx) = ix2 (i) (k) := by
  have h := idx2 t
  have ht : t.val < 128 := lt_of_lt_of_eq t.isLt N_0
  funext a
  apply Fin.ext
  match a with
  | ⟨0, _⟩ =>
    show win0_2.index t (0 : Fin 2) * 1 + 1 * i.val = i.val
    rw [h.1]
    omega
  | ⟨1, _⟩ =>
    show win0_2.index t (1 : Fin 2) * 1024 + 1 * k.val = k.val
    rw [h.2]
    omega

theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

theorem emb3 (t : Fin cfg0.N) (i : Fin 1024) (k : Fin 1024) :
    (((cfg0.win 3).blk t).view.emb (ix2 i k) : S1024x1024.Idx) = ix2 (i) (k) := by
  have h := idx3 t
  have ht : t.val < 128 := lt_of_lt_of_eq t.isLt N_0
  funext a
  apply Fin.ext
  match a with
  | ⟨0, _⟩ =>
    show win0_3.index t (0 : Fin 2) * 1024 + 1 * i.val = i.val
    rw [h.1]
    omega
  | ⟨1, _⟩ =>
    show win0_3.index t (1 : Fin 2) * 1024 + 1 * k.val = k.val
    rw [h.2]
    omega

theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

theorem emb4 (t : Fin cfg0.N) (i : Fin 256) (k : Fin 1024) :
    (((cfg0.win 4).blk t).view.emb (ix2 i k) : S256x1024.Idx) = ix2 (i) (k) := by
  have h := idx4 t
  have ht : t.val < 128 := lt_of_lt_of_eq t.isLt N_0
  funext a
  apply Fin.ext
  match a with
  | ⟨0, _⟩ =>
    show win0_4.index t (0 : Fin 2) * 256 + 1 * i.val = i.val
    rw [h.1]
    omega
  | ⟨1, _⟩ =>
    show win0_4.index t (1 : Fin 2) * 1024 + 1 * k.val = k.val
    rw [h.2]
    omega

theorem idx5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)

theorem emb5 (t : Fin cfg0.N) (i : Fin 512) (k : Fin 1024) :
    (((cfg0.win 5).blk t).view.emb (ix2 i k) : S65536x1024.Idx) = ix2 (row t.val i) (k) := by
  have h := idx5 t
  have ht : t.val < 128 := lt_of_lt_of_eq t.isLt N_0
  funext a
  apply Fin.ext
  match a with
  | ⟨0, _⟩ =>
    show win0_5.index t (0 : Fin 2) * 512 + 1 * i.val = (t.val * 512 + i.val) % 65536
    rw [h.1]
    omega
  | ⟨1, _⟩ =>
    show win0_5.index t (1 : Fin 2) * 1024 + 1 * k.val = k.val
    rw [h.2]
    omega

/-- An entry from the activation, the embedding row and its projection column, the normed row and its gate column. -/
def entry (h : EReal) (p q : Fin 256 → EReal) (x g : Fin 1024 → EReal) : EReal :=
  h + Ideal.logistic (∑ k : Fin 1024, x k * g k) * ∑ k : Fin 256, p k * q k

/-- What both sides compute. -/
def rows (h : FVec Ideal S65536x1024 .f32) (p : FVec Ideal S65536x256 .f32) (g : FVec Ideal S1024 .f32) (gw : FVec Ideal S1024x1024 .f32) (pw : FVec Ideal S256x1024 .f32) (r : Fin 65536) (j : Fin 1024) : EReal :=
  entry (h (ix2 r j)) (fun k => p (ix2 r k)) (fun k => pw (ix2 k j)) (Cert.Ffn.norm (fun q => h (ix2 r q)) (fun q => g (ix1 q))) (fun k => gw (ix2 k j))

theorem pay_apply (h : Vec Ideal S512x1024 .f32) (p : Vec Ideal S512x256 .f32) (pw : Vec Ideal S256x1024 .bf16) (g : Vec Ideal S1x1024 .f32) (gw : Vec Ideal S1024x1024 .bf16) (i : Fin 512) (j : Fin 1024) :
    k0_pay1 h p pw g gw (ix2 i j) = entry (h (ix2 i j)) (fun k => p (ix2 i k)) (fun k => pw (ix2 k j)) (Cert.Ffn.norm (fun q => h (ix2 i q)) (fun q => g (ix2 0 q))) (fun k => gw (ix2 k j)) := by
  unfold entry Cert.Ffn.norm
  pointwise [k0_pay1]

theorem gain_apply (g : FVec Ideal S1024 .f32) (q : Fin 1024) : (shapeCast S1x1024 g shapeCasts_S1024_S1x1024 : FVec Ideal S1x1024 .f32) (ix2 0 q) = g (ix1 q) := by
  pointwise

variable (m : (ℓ : Loc nD τ sig) → Buf (Elt Ideal) ℓ) (c : Dev nD)

theorem rd0 (t : Fin cfg0.N) (i : Fin 512) (k : Fin 1024) :
    (iblk m c 0 t : Vec Ideal S512x1024 .f32) (ix2 i k) = (V m c main_arg0 : Vec Ideal S65536x1024 .f32) (ix2 (row t.val i) (k)) := by
  unfold iblk
  rw [View.read_apply, emb0]
  rfl

theorem rd1 (t : Fin cfg0.N) (i : Fin 512) (k : Fin 256) :
    (iblk m c 1 t : Vec Ideal S512x256 .f32) (ix2 i k) = (V m c main_arg1 : Vec Ideal S65536x256 .f32) (ix2 (row t.val i) (k)) := by
  unfold iblk
  rw [View.read_apply, emb1]
  rfl

theorem rd2 (t : Fin cfg0.N) (i : Fin 1) (k : Fin 1024) :
    (iblk m c 2 t : Vec Ideal S1x1024 .f32) (ix2 i k) = (V m c main_v0 : Vec Ideal S1x1024 .f32) (ix2 (i) (k)) := by
  unfold iblk
  rw [View.read_apply, emb2]
  rfl

theorem rd3 (t : Fin cfg0.N) (i : Fin 1024) (k : Fin 1024) :
    (iblk m c 3 t : Vec Ideal S1024x1024 .bf16) (ix2 i k) = (V m c main_v1 : Vec Ideal S1024x1024 .bf16) (ix2 (i) (k)) := by
  unfold iblk
  rw [View.read_apply, emb3]
  rfl

theorem rd4 (t : Fin cfg0.N) (i : Fin 256) (k : Fin 1024) :
    (iblk m c 4 t : Vec Ideal S256x1024 .bf16) (ix2 i k) = (V m c main_v2 : Vec Ideal S256x1024 .bf16) (ix2 (i) (k)) := by
  unfold iblk
  rw [View.read_apply, emb4]
  rfl

theorem V_v0 : (V m c main_v0 : Vec Ideal S1x1024 .f32) = (shapeCast S1x1024 (m (c, main_arg2) : FVec Ideal S1024 .f32) shapeCasts_S1024_S1x1024 : FVec Ideal S1x1024 .f32) := by
  show StableHlo.after _ _ _ = _
  simp only [List.flatten_cons, List.flatten_nil, hostOps0, List.cons_append, List.nil_append, List.append_nil]
  entry_read
  rfl

theorem V_v1 : (V m c main_v1 : Vec Ideal S1024x1024 .bf16) = (truncf (F := Ideal) .bf16 (m (c, main_arg3) : FVec Ideal S1024x1024 .f32) bitsLt_bf16_f32 : FVec Ideal S1024x1024 .bf16) := by
  show StableHlo.after _ _ _ = _
  simp only [List.flatten_cons, List.flatten_nil, hostOps0, List.cons_append, List.nil_append, List.append_nil]
  entry_read
  rfl

theorem V_v2 : (V m c main_v2 : Vec Ideal S256x1024 .bf16) = (truncf (F := Ideal) .bf16 (m (c, main_arg4) : FVec Ideal S256x1024 .f32) bitsLt_bf16_f32 : FVec Ideal S256x1024 .bf16) := by
  show StableHlo.after _ _ _ = _
  simp only [List.flatten_cons, List.flatten_nil, hostOps0, List.cons_append, List.nil_append, List.append_nil]
  entry_read
  rfl

theorem blk0 (t : Fin cfg0.N) (i : Fin 512) (k : Fin 1024) :
    (iblk m c 0 t : Vec Ideal S512x1024 .f32) (ix2 i k) = (m (c, main_arg0) : FVec Ideal S65536x1024 .f32) (ix2 (row t.val i) k) := by
  rw [rd0, V_main_arg0]

theorem blk1 (t : Fin cfg0.N) (i : Fin 512) (k : Fin 256) :
    (iblk m c 1 t : Vec Ideal S512x256 .f32) (ix2 i k) = (m (c, main_arg1) : FVec Ideal S65536x256 .f32) (ix2 (row t.val i) k) := by
  rw [rd1, V_main_arg1]

theorem blk2 (t : Fin cfg0.N) (k : Fin 1024) :
    (iblk m c 2 t : Vec Ideal S1x1024 .f32) (ix2 0 k) = (m (c, main_arg2) : FVec Ideal S1024 .f32) (ix1 k) := by
  rw [rd2, V_v0]
  exact gain_apply _ _

theorem blk3 (t : Fin cfg0.N) (i : Fin 1024) (k : Fin 1024) :
    (iblk m c 3 t : Vec Ideal S1024x1024 .bf16) (ix2 i k) = (m (c, main_arg3) : FVec Ideal S1024x1024 .f32) (ix2 i k) := by
  rw [rd3, V_v1]
  rfl

theorem blk4 (t : Fin cfg0.N) (i : Fin 256) (k : Fin 1024) :
    (iblk m c 4 t : Vec Ideal S256x1024 .bf16) (ix2 i k) = (m (c, main_arg4) : FVec Ideal S256x1024 .f32) (ix2 i k) := by
  rw [rd4, V_v2]
  rfl

theorem flush5 : ∀ t : Fin cfg0.N, (cfg0.win 5).flush t = true :=
  (by decide +kernel : ∀ t : Fin grid0.N, win0_5.flush t = true)

/-- The launch's array at the end, at a row of point `t`'s block, is what the body computes there. -/
theorem arr5 (t : Fin cfg0.N) (i : Fin 512) (j : Fin 1024) :
    ((dats m 0 c).arrAt 5 cfg0.N : Vec Ideal S65536x1024 .f32) (ix2 (row t.val i) j) = k0_pay1 (iblk m c 0 t) (iblk m c 1 t) (iblk m c 4 t) (iblk m c 2 t) (iblk m c 3 t) (ix2 i j) := by
  have h := congrFun (Value.blocks5 m c t (flush5 t)) (ix2 i j)
  rw [View.read_apply, emb5, Value.flushed5] at h
  refine h.trans ?_
  show out0_5 (iblk m c 0 t) (iblk m c 1 t) (iblk m c 2 t) (iblk m c 3 t) (iblk m c 4 t) (ix2 i j) = _
  unfold out0_5
  rw [View.canon_cons_unit_zero hz2]
  simp only [View.ld_unit_zero (S := S512x1024) hz2, View.ld_unit_zero (S := S512x256) hz2, View.ld_unit_zero (S := S1x1024) hz2, View.ld_unit_zero (S := S1024x1024) hz2, View.ld_unit_zero (S := S256x1024) hz2]

/-- THE LAUNCH'S RESULT, entry by entry. -/
theorem kernel_value (r : Fin 65536) (j : Fin 1024) :
    ((dats m 0 c).arrAt 5 cfg0.N : Vec Ideal S65536x1024 .f32) (ix2 r j)
      = rows (m (c, main_arg0)) (m (c, main_arg1)) (m (c, main_arg2)) (m (c, main_arg3)) (m (c, main_arg4)) r j := by
  have hN : cfg0.N = 128 := N_0
  have h := arr5 m c ⟨r.val / 512, by rw [hN]; omega⟩ ⟨r.val % 512, Nat.mod_lt _ (by decide)⟩ j
  rw [pay_apply] at h
  simp only [blk0, blk1, blk2, blk3, blk4, row_split] at h
  exact h

end Kernel

section Reference

open Cert.Reference6Ideal Cert.Reference6Ideal.Gen Idealize.ShloMosaic Idealize.ShloMosaic.TcCoe Idealize.ShloMosaic.StableHlo
open Idealize.SL Idealize.SL.Sem

variable (a0 : FVec Ideal S65536x1024 .f32) (a1 : FVec Ideal S65536x256 .f32) (a2 : FVec Ideal S1024 .f32) (a3 : FVec Ideal S1024x1024 .f32) (a4 : FVec Ideal S256x1024 .f32)

/-- The reference's gate of normed rows. -/
def gateV (hn : FVec Ideal S65536x1024 .f32) : FVec Ideal S65536x1024 .f32 :=
  Host.divf (broadcastInDim S65536x1024 ![] bcast_S_S65536x1024 (constant S_ .f32 0x3F800000#32)) (addf (broadcastInDim S65536x1024 ![] bcast_S_S65536x1024 (constant S_ .f32 0x3F800000#32)) (Host.exp (Host.negf (Host.dotGeneral dot_S65536x1024_S1024x1024_S65536x1024_1_0_0_1_n_n none hn a3))))

/-- The reference's result. -/
def outV : FVec Ideal S65536x1024 .f32 :=
  addf a0 (mulf (gateV a3 (Cert.Ffn.Ref.hnV a0 a2)) (Host.dotGeneral dot_S65536x256_S256x1024_S65536x1024_1_0_0_1_n_n none a1 a4))

theorem gateV_apply (hn : FVec Ideal S65536x1024 .f32) (r : Fin 65536) (j : Fin 1024) :
    gateV a3 hn (ix2 r j) = Ideal.logistic (∑ k : Fin 1024, hn (ix2 r k) * a3 (ix2 k j)) := by
  pointwise [gateV]
  rfl

theorem outV_dot (r : Fin 65536) (j : Fin 1024) :
    outV a0 a1 a2 a3 a4 (ix2 r j) = a0 (ix2 r j) + gateV a3 (Cert.Ffn.Ref.hnV a0 a2) (ix2 r j) * ∑ k : Fin 256, a1 (ix2 r k) * a4 (ix2 k j) := by
  pointwise [outV]

theorem outV_apply (r : Fin 65536) (j : Fin 1024) : outV a0 a1 a2 a3 a4 (ix2 r j) = rows a0 a1 a2 a3 a4 r j := by
  rw [outV_dot, gateV_apply]
  unfold rows entry
  simp only [Cert.Ffn.Ref.hnV_apply]

end Reference

end Cert.Ple

end
-- ==== Proof.PleLast.lean ====
/- The last per-layer embedding, normed by the final gain, on both sides. -/
module

public import proofs.«01_k».proof.Proof.Ple
public import proofs.«01_k».proof.Proof.Gen.Kernel8Ideal.Value
public import proofs.«01_k».proof.Proof.Gen.Reference8Ideal.Run
public import Idealize.ShloMosaic.Lib.Claim
public import Idealize.ShloMosaic.Lib.Pointwise
public import Idealize.ShloMosaic.Lib.KernelVsHost
public import Idealize.ShloMosaic.Lib.Pipeline.ReadBack

@[expose] public section

set_option maxRecDepth 16384

noncomputable section

namespace Cert.PleLast

section Kernel

open Cert.Kernel8Ideal Cert.Kernel8Ideal.Gen Idealize.ShloMosaic Idealize.ShloMosaic.TcCoe Idealize.SL.Sem

open Cert.Ple (row row_split hz2)

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

theorem emb0 (t : Fin cfg0.N) (i : Fin 512) (k : Fin 1024) :
    (((cfg0.win 0).blk t).view.emb (ix2 i k) : S65536x1024.Idx) = ix2 (row t.val i) (k) := by
  have h := idx0 t
  have ht : t.val < 128 := lt_of_lt_of_eq t.isLt N_0
  funext a
  apply Fin.ext
  match a with
  | ⟨0, _⟩ =>
    show win0_0.index t (0 : Fin 2) * 512 + 1 * i.val = (t.val * 512 + i.val) % 65536
    rw [h.1]
    omega
  | ⟨1, _⟩ =>
    show win0_0.index t (1 : Fin 2) * 1024 + 1 * k.val = k.val
    rw [h.2]
    omega

theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

theorem emb1 (t : Fin cfg0.N) (i : Fin 512) (k : Fin 256) :
    (((cfg0.win 1).blk t).view.emb (ix2 i k) : S65536x256.Idx) = ix2 (row t.val i) (k) := by
  have h := idx1 t
  have ht : t.val < 128 := lt_of_lt_of_eq t.isLt N_0
  funext a
  apply Fin.ext
  match a with
  | ⟨0, _⟩ =>
    show win0_1.index t (0 : Fin 2) * 512 + 1 * i.val = (t.val * 512 + i.val) % 65536
    rw [h.1]
    omega
  | ⟨1, _⟩ =>
    show win0_1.index t (1 : Fin 2) * 256 + 1 * k.val = k.val
    rw [h.2]
    omega

theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

theorem emb2 (t : Fin cfg0.N) (i : Fin 1) (k : Fin 1024) :
    (((cfg0.win 2).blk t).view.emb (ix2 i k) : S1x1024.Idx) = ix2 (i) (k) := by
  have h := idx2 t
  have ht : t.val < 128 := lt_of_lt_of_eq t.isLt N_0
  funext a
  apply Fin.ext
  match a with
  | ⟨0, _⟩ =>
    show win0_2.index t (0 : Fin 2) * 1 + 1 * i.val = i.val
    rw [h.1]
    omega
  | ⟨1, _⟩ =>
    show win0_2.index t (1 : Fin 2) * 1024 + 1 * k.val = k.val
    rw [h.2]
    omega

theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

theorem emb3 (t : Fin cfg0.N) (i : Fin 1024) (k : Fin 1024) :
    (((cfg0.win 3).blk t).view.emb (ix2 i k) : S1024x1024.Idx) = ix2 (i) (k) := by
  have h := idx3 t
  have ht : t.val < 128 := lt_of_lt_of_eq t.isLt N_0
  funext a
  apply Fin.ext
  match a with
  | ⟨0, _⟩ =>
    show win0_3.index t (0 : Fin 2) * 1024 + 1 * i.val = i.val
    rw [h.1]
    omega
  | ⟨1, _⟩ =>
    show win0_3.index t (1 : Fin 2) * 1024 + 1 * k.val = k.val
    rw [h.2]
    omega

theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

theorem emb4 (t : Fin cfg0.N) (i : Fin 256) (k : Fin 1024) :
    (((cfg0.win 4).blk t).view.emb (ix2 i k) : S256x1024.Idx) = ix2 (i) (k) := by
  have h := idx4 t
  have ht : t.val < 128 := lt_of_lt_of_eq t.isLt N_0
  funext a
  apply Fin.ext
  match a with
  | ⟨0, _⟩ =>
    show win0_4.index t (0 : Fin 2) * 256 + 1 * i.val = i.val
    rw [h.1]
    omega
  | ⟨1, _⟩ =>
    show win0_4.index t (1 : Fin 2) * 1024 + 1 * k.val = k.val
    rw [h.2]
    omega

theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

theorem emb5 (t : Fin cfg0.N) (i : Fin 1) (k : Fin 1024) :
    (((cfg0.win 5).blk t).view.emb (ix2 i k) : S1x1024.Idx) = ix2 (i) (k) := by
  have h := idx5 t
  have ht : t.val < 128 := lt_of_lt_of_eq t.isLt N_0
  funext a
  apply Fin.ext
  match a with
  | ⟨0, _⟩ =>
    show win0_5.index t (0 : Fin 2) * 1 + 1 * i.val = i.val
    rw [h.1]
    omega
  | ⟨1, _⟩ =>
    show win0_5.index t (1 : Fin 2) * 1024 + 1 * k.val = k.val
    rw [h.2]
    omega

theorem idx6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)

theorem emb6 (t : Fin cfg0.N) (i : Fin 512) (k : Fin 1024) :
    (((cfg0.win 6).blk t).view.emb (ix2 i k) : S65536x1024.Idx) = ix2 (row t.val i) (k) := by
  have h := idx6 t
  have ht : t.val < 128 := lt_of_lt_of_eq t.isLt N_0
  funext a
  apply Fin.ext
  match a with
  | ⟨0, _⟩ =>
    show win0_6.index t (0 : Fin 2) * 512 + 1 * i.val = (t.val * 512 + i.val) % 65536
    rw [h.1]
    omega
  | ⟨1, _⟩ =>
    show win0_6.index t (1 : Fin 2) * 1024 + 1 * k.val = k.val
    rw [h.2]
    omega

/-- What both sides compute: the embedded rows, normed by the final gain. -/
def rows (h : FVec Ideal S65536x1024 .f32) (p : FVec Ideal S65536x256 .f32) (g : FVec Ideal S1024 .f32) (gw : FVec Ideal S1024x1024 .f32) (pw : FVec Ideal S256x1024 .f32) (fg : FVec Ideal S1024 .f32) (r : Fin 65536) (j : Fin 1024) : EReal :=
  Cert.Ffn.norm (Cert.Ple.rows h p g gw pw r) (fun q => fg (ix1 q)) j

theorem pay_apply (fg : Vec Ideal S1x1024 .f32) (h : Vec Ideal S512x1024 .f32) (p : Vec Ideal S512x256 .f32) (pw : Vec Ideal S256x1024 .bf16) (g : Vec Ideal S1x1024 .f32) (gw : Vec Ideal S1024x1024 .bf16) (i : Fin 512) (j : Fin 1024) :
    k0_pay1 (k0_pay2 fg) (k0_pay3 h p pw g gw) (ix2 i j)
      = Cert.Ffn.norm (fun q => Cert.Ple.entry (h (ix2 i q)) (fun k => p (ix2 i k)) (fun k => pw (ix2 k q)) (Cert.Ffn.norm (fun q => h (ix2 i q)) (fun q => g (ix2 0 q))) (fun k => gw (ix2 k q)))
        (fun q => fg (ix2 0 q)) j := by
  unfold Cert.Ple.entry Cert.Ffn.norm
  pointwise [k0_pay1, k0_pay2, k0_pay3]

theorem gain_apply (g : FVec Ideal S1024 .f32) (q : Fin 1024) : (shapeCast S1x1024 g shapeCasts_S1024_S1x1024 : FVec Ideal S1x1024 .f32) (ix2 0 q) = g (ix1 q) := by
  pointwise

variable (m : (ℓ : Loc nD τ sig) → Buf (Elt Ideal) ℓ) (c : Dev nD)

theorem rd0 (t : Fin cfg0.N) (i : Fin 512) (k : Fin 1024) :
    (iblk m c 0 t : Vec Ideal S512x1024 .f32) (ix2 i k) = (V m c main_arg0 : Vec Ideal S65536x1024 .f32) (ix2 (row t.val i) (k)) := by
  unfold iblk
  rw [View.read_apply, emb0]
  rfl

theorem rd1 (t : Fin cfg0.N) (i : Fin 512) (k : Fin 256) :
    (iblk m c 1 t : Vec Ideal S512x256 .f32) (ix2 i k) = (V m c main_arg1 : Vec Ideal S65536x256 .f32) (ix2 (row t.val i) (k)) := by
  unfold iblk
  rw [View.read_apply, emb1]
  rfl

theorem rd2 (t : Fin cfg0.N) (i : Fin 1) (k : Fin 1024) :
    (iblk m c 2 t : Vec Ideal S1x1024 .f32) (ix2 i k) = (V m c main_v0 : Vec Ideal S1x1024 .f32) (ix2 (i) (k)) := by
  unfold iblk
  rw [View.read_apply, emb2]
  rfl

theorem rd3 (t : Fin cfg0.N) (i : Fin 1024) (k : Fin 1024) :
    (iblk m c 3 t : Vec Ideal S1024x1024 .bf16) (ix2 i k) = (V m c main_v1 : Vec Ideal S1024x1024 .bf16) (ix2 (i) (k)) := by
  unfold iblk
  rw [View.read_apply, emb3]
  rfl

theorem rd4 (t : Fin cfg0.N) (i : Fin 256) (k : Fin 1024) :
    (iblk m c 4 t : Vec Ideal S256x1024 .bf16) (ix2 i k) = (V m c main_v2 : Vec Ideal S256x1024 .bf16) (ix2 (i) (k)) := by
  unfold iblk
  rw [View.read_apply, emb4]
  rfl

theorem rd5 (t : Fin cfg0.N) (i : Fin 1) (k : Fin 1024) :
    (iblk m c 5 t : Vec Ideal S1x1024 .f32) (ix2 i k) = (V m c main_v3 : Vec Ideal S1x1024 .f32) (ix2 (i) (k)) := by
  unfold iblk
  rw [View.read_apply, emb5]
  rfl

theorem V_v3 : (V m c main_v3 : Vec Ideal S1x1024 .f32) = (shapeCast S1x1024 (m (c, main_arg5) : FVec Ideal S1024 .f32) shapeCasts_S1024_S1x1024 : FVec Ideal S1x1024 .f32) := by
  show StableHlo.after _ _ _ = _
  simp only [List.flatten_cons, List.flatten_nil, hostOps0, List.cons_append, List.nil_append, List.append_nil]
  entry_read
  rfl

theorem V_v0 : (V m c main_v0 : Vec Ideal S1x1024 .f32) = (shapeCast S1x1024 (m (c, main_arg2) : FVec Ideal S1024 .f32) shapeCasts_S1024_S1x1024 : FVec Ideal S1x1024 .f32) := by
  show StableHlo.after _ _ _ = _
  simp only [List.flatten_cons, List.flatten_nil, hostOps0, List.cons_append, List.nil_append, List.append_nil]
  entry_read
  rfl

theorem V_v1 : (V m c main_v1 : Vec Ideal S1024x1024 .bf16) = (truncf (F := Ideal) .bf16 (m (c, main_arg3) : FVec Ideal S1024x1024 .f32) bitsLt_bf16_f32 : FVec Ideal S1024x1024 .bf16) := by
  show StableHlo.after _ _ _ = _
  simp only [List.flatten_cons, List.flatten_nil, hostOps0, List.cons_append, List.nil_append, List.append_nil]
  entry_read
  rfl

theorem V_v2 : (V m c main_v2 : Vec Ideal S256x1024 .bf16) = (truncf (F := Ideal) .bf16 (m (c, main_arg4) : FVec Ideal S256x1024 .f32) bitsLt_bf16_f32 : FVec Ideal S256x1024 .bf16) := by
  show StableHlo.after _ _ _ = _
  simp only [List.flatten_cons, List.flatten_nil, hostOps0, List.cons_append, List.nil_append, List.append_nil]
  entry_read
  rfl

theorem blk0 (t : Fin cfg0.N) (i : Fin 512) (k : Fin 1024) :
    (iblk m c 0 t : Vec Ideal S512x1024 .f32) (ix2 i k) = (m (c, main_arg0) : FVec Ideal S65536x1024 .f32) (ix2 (row t.val i) k) := by
  rw [rd0, V_main_arg0]

theorem blk1 (t : Fin cfg0.N) (i : Fin 512) (k : Fin 256) :
    (iblk m c 1 t : Vec Ideal S512x256 .f32) (ix2 i k) = (m (c, main_arg1) : FVec Ideal S65536x256 .f32) (ix2 (row t.val i) k) := by
  rw [rd1, V_main_arg1]

theorem blk2 (t : Fin cfg0.N) (k : Fin 1024) :
    (iblk m c 2 t : Vec Ideal S1x1024 .f32) (ix2 0 k) = (m (c, main_arg2) : FVec Ideal S1024 .f32) (ix1 k) := by
  rw [rd2, V_v0]
  exact gain_apply _ _

theorem blk3 (t : Fin cfg0.N) (i : Fin 1024) (k : Fin 1024) :
    (iblk m c 3 t : Vec Ideal S1024x1024 .bf16) (ix2 i k) = (m (c, main_arg3) : FVec Ideal S1024x1024 .f32) (ix2 i k) := by
  rw [rd3, V_v1]
  rfl

theorem blk4 (t : Fin cfg0.N) (i : Fin 256) (k : Fin 1024) :
    (iblk m c 4 t : Vec Ideal S256x1024 .bf16) (ix2 i k) = (m (c, main_arg4) : FVec Ideal S256x1024 .f32) (ix2 i k) := by
  rw [rd4, V_v2]
  rfl

theorem blk5 (t : Fin cfg0.N) (k : Fin 1024) :
    (iblk m c 5 t : Vec Ideal S1x1024 .f32) (ix2 0 k) = (m (c, main_arg5) : FVec Ideal S1024 .f32) (ix1 k) := by
  rw [rd5, V_v3]
  exact gain_apply _ _

theorem flush6 : ∀ t : Fin cfg0.N, (cfg0.win 6).flush t = true :=
  (by decide +kernel : ∀ t : Fin grid0.N, win0_6.flush t = true)

/-- The launch's array at the end, at a row of point `t`'s block, is what the body computes there. -/
theorem arr6 (t : Fin cfg0.N) (i : Fin 512) (j : Fin 1024) :
    ((dats m 0 c).arrAt 6 cfg0.N : Vec Ideal S65536x1024 .f32) (ix2 (row t.val i) j) = k0_pay1 (k0_pay2 (iblk m c 5 t)) (k0_pay3 (iblk m c 0 t) (iblk m c 1 t) (iblk m c 4 t) (iblk m c 2 t) (iblk m c 3 t)) (ix2 i j) := by
  have h := congrFun (Value.blocks6 m c t (flush6 t)) (ix2 i j)
  rw [View.read_apply, emb6, Value.flushed6] at h
  refine h.trans ?_
  show out0_6 (iblk m c 0 t) (iblk m c 1 t) (iblk m c 2 t) (iblk m c 3 t) (iblk m c 4 t) (iblk m c 5 t) (ix2 i j) = _
  unfold out0_6
  rw [View.canon_cons_unit_zero hz2]
  simp only [View.ld_unit_zero (S := S512x1024) hz2, View.ld_unit_zero (S := S512x256) hz2, View.ld_unit_zero (S := S1x1024) hz2, View.ld_unit_zero (S := S1024x1024) hz2, View.ld_unit_zero (S := S256x1024) hz2]

/-- THE LAUNCH'S RESULT, entry by entry. -/
theorem kernel_value (r : Fin 65536) (j : Fin 1024) :
    ((dats m 0 c).arrAt 6 cfg0.N : Vec Ideal S65536x1024 .f32) (ix2 r j)
      = rows (m (c, main_arg0)) (m (c, main_arg1)) (m (c, main_arg2)) (m (c, main_arg3)) (m (c, main_arg4)) (m (c, main_arg5)) r j := by
  have hN : cfg0.N = 128 := N_0
  have h := arr6 m c ⟨r.val / 512, by rw [hN]; omega⟩ ⟨r.val % 512, Nat.mod_lt _ (by decide)⟩ j
  rw [pay_apply] at h
  simp only [blk0, blk1, blk2, blk3, blk4, blk5, row_split] at h
  exact h

end Kernel

section Reference

open Idealize.ShloMosaic
open Cert.Reference8Ideal

variable (a0 : FVec Ideal S65536x1024 .f32) (a1 : FVec Ideal S65536x256 .f32) (a2 : FVec Ideal S1024 .f32) (a3 : FVec Ideal S1024x1024 .f32) (a4 : FVec Ideal S256x1024 .f32) (a5 : FVec Ideal S1024 .f32)

/-- The reference's result. -/
def outV : FVec Ideal S65536x1024 .f32 := Cert.Ffn.Ref.hnV (Cert.Ple.outV a0 a1 a2 a3 a4) a5

theorem outV_apply (r : Fin 65536) (j : Fin 1024) : outV a0 a1 a2 a3 a4 a5 (ix2 r j) = rows a0 a1 a2 a3 a4 a5 r j := by
  unfold outV rows
  rw [Cert.Ffn.Ref.hnV_apply]
  refine congrArg (fun x => Cert.Ffn.norm x _ j) ?_
  funext q
  exact Cert.Ple.outV_apply a0 a1 a2 a3 a4 r q

end Reference

end Cert.PleLast

end
-- ==== Proof.RtMath.lean ====
/- The router's choice: the first greatest of eight scores, the first greatest of the others, and their two weights. -/
module

public import proofs.«01_k».proof.Proof.Ple
public import Idealize.ShloMosaic.Lib.SortPrefix
public import Idealize.ShloMosaic.Lib.SortFacts
public import Idealize.ShloMosaic.PureOps.Ideal.Laws
public import Idealize.ShloMosaic.PureOps.Reduce

@[expose] public section

noncomputable section

namespace Cert.Rt

open Idealize.ShloMosaic

/-- `a` is the first greatest of the scores and `b` the first greatest of the others. -/
structure Top (l : Fin 8 → EReal) (a b : Fin 8) : Prop where
  ne : b ≠ a
  fst : ∀ k, l k < l a ∨ (l k = l a ∧ a ≤ k)
  snd : ∀ k, k ≠ a → l k < l b ∨ (l k = l b ∧ b ≤ k)

theorem best (l : Fin 8 → EReal) (s : Finset (Fin 8)) (hs : s.Nonempty) : ∃ a ∈ s, ∀ k ∈ s, l k < l a ∨ (l k = l a ∧ a ≤ k) := by
  obtain ⟨a, ha, h⟩ := s.exists_max_image (fun k => toLex (l k, OrderDual.toDual k)) hs
  refine ⟨a, ha, fun k hk => ?_⟩
  have := h k hk
  rw [Prod.Lex.le_iff] at this
  simpa using this

theorem exists_top (l : Fin 8 → EReal) : ∃ a b, Top l a b := by
  obtain ⟨a, _, ha⟩ := best l Finset.univ ⟨0, Finset.mem_univ _⟩
  have hs : (Finset.univ.erase a : Finset (Fin 8)).Nonempty := by
    rw [← Finset.card_pos, Finset.card_erase_of_mem (Finset.mem_univ a)]
    decide
  obtain ⟨b, hb, h⟩ := best l (Finset.univ.erase a) hs
  exact ⟨a, b, (Finset.mem_erase.mp hb).1, fun k => ha k (Finset.mem_univ k), fun k hk => h k (Finset.mem_erase.mpr ⟨hk, Finset.mem_univ k⟩)⟩

theorem Top.le {l : Fin 8 → EReal} {a b : Fin 8} (t : Top l a b) (k : Fin 8) : l k ≤ l a := by
  rcases t.fst k with h | h
  · exact h.le
  · exact h.1.le

theorem Top.le2 {l : Fin 8 → EReal} {a b : Fin 8} (t : Top l a b) (k : Fin 8) (hk : k ≠ a) : l k ≤ l b := by
  rcases t.snd k hk with h | h
  · exact h.le
  · exact h.1.le

/-- The two weights, at their lanes of a row of 128; zero at the others. -/
def gates (l : Fin 8 → EReal) (a b : Fin 8) (j : Fin 128) : EReal :=
  if j.val = a.val then Ideal.div 1 (1 + Ideal.exp (l b - l a))
  else if j.val = b.val then Ideal.div (Ideal.exp (l b - l a)) (1 + Ideal.exp (l b - l a)) else 0

/-! ### The sort -/

theorem insert_congr {ι : Type} (R B : ι → ι → Bool) (a : ι) (l : List ι) (h : ∀ b ∈ l, R b a = B b a) : insertBefore R a l = insertBefore B a l := by
  induction l with
  | nil => rfl
  | cons b l ih =>
    unfold insertBefore
    rw [h b List.mem_cons_self, ih fun c hc => h c (List.mem_cons_of_mem _ hc)]

/-- Inserting in order asks only whether a later position is before an earlier one. -/
theorem sort_congr {n : Nat} (R B : Fin n → Fin n → Bool) (l : List (Fin n)) (hl : l.Pairwise (· < ·)) (h : ∀ a b : Fin n, a < b → R b a = B b a) :
    stableSort R l = stableSort B l := by
  induction l with
  | nil => rfl
  | cons a l ih =>
    rw [List.pairwise_cons] at hl
    unfold stableSort
    rw [ih hl.2]
    exact insert_congr R B a _ fun b hb => h a b (hl.1 b ((perm_stableSort B l).mem_iff.mp hb))

theorem sortedFrom_congr_late {n : Nat} (R B : Fin n → Fin n → Bool) (h : ∀ a b : Fin n, a < b → R b a = B b a) : sortedFrom R = sortedFrom B := by
  have e : sortPositions n R = sortPositions n B := sort_congr R B _ (List.pairwise_lt_finRange n) h
  funext k
  unfold sortedFrom
  simp only [List.get_eq_getElem, e]
  rfl

/-- A sort of eight scores, greatest first, puts the two greatest first. -/
theorem sorted_top {l : Fin 8 → EReal} {a b : Fin 8} (t : Top l a b) (R : Fin 8 → Fin 8 → Bool) (hR : ∀ k k', R k k' = decide (l k' < l k)) (i : Fin 2) :
    sortedFrom R (i.castLE (by decide)) = (![a, b] : Fin 2 → Fin 8) i := by
  have hB := StrictTotalBefore.of_key_then_position (fun x y : EReal => decide (y < x)) l (by simp)
    (fun x y z h h' => by simp only [decide_eq_true_eq] at *; exact h'.trans h)
    (fun x y => by simp only [decide_eq_true_eq]; rcases lt_trichotomy x y with h | h | h <;> simp [h])
  rw [sortedFrom_congr_late R _ fun x y hxy => ?_]
  · refine hB.sortedFrom_eq_of_prefix (by decide) ![a, b] ?_ ?_ ?_ i
    · intro x y h
      have hab := t.ne
      fin_cases x <;> fin_cases y <;> simp_all [eq_comm]
    · intro x y hxy
      have := t.fst b
      fin_cases x <;> fin_cases y <;> first
        | exact absurd hxy (by decide)
        | (simp only [Bool.or_eq_false_iff, Bool.and_eq_false_iff, decide_eq_false_iff_not]
           show ¬ l a < l b ∧ (¬ l b = l a ∨ ¬ b < a)
           rcases this with h | h
           · exact ⟨h.not_gt, Or.inl h.ne⟩
           · exact ⟨h.1.le.not_gt, Or.inr h.2.not_gt⟩)
    · intro x p hp
      have hpa : p ≠ a := fun h => hp 0 h.symm
      have hpb : p ≠ b := fun h => hp 1 h.symm
      have key : ∀ q : Fin 8, (l p < l q ∨ (l p = l q ∧ q ≤ p)) → (decide (l q < l p) || (decide (l p = l q) && decide (p < q))) = false := by
        intro q hq
        simp only [Bool.or_eq_false_iff, Bool.and_eq_false_iff, decide_eq_false_iff_not]
        rcases hq with h | h
        · exact ⟨h.not_gt, Or.inl h.ne⟩
        · exact ⟨h.1.le.not_gt, Or.inr h.2.not_gt⟩
      fin_cases x
      · exact key a (t.fst p)
      · exact key b (t.snd p hpa)
  · rw [hR]
    simp [hxy.not_gt]

/-! ### The folds -/

theorem fold_max {ι : Type} (s : Finset ι) (f : ι → EReal) (v : EReal) (h1 : ∃ i ∈ s, f i = v) (h2 : ∀ i ∈ s, f i ≤ v) :
    s.fold max ⊥ f = v := by
  refine le_antisymm ?_ ?_
  · exact (Finset.fold_max_le v).mpr ⟨bot_le, h2⟩
  · obtain ⟨i, hi, e⟩ := h1
    exact (Finset.le_fold_max v).mpr (Or.inr ⟨i, hi, e.ge⟩)

theorem toInt_minsi (x y : BitVec 32) : (IntOp.minsi x y).toInt = min x.toInt y.toInt := by
  unfold IntOp.minsi
  rw [BitVec.slt]
  split
  · rename_i h; simp only [decide_eq_true_eq] at h; omega
  · rename_i h; simp only [decide_eq_true_eq] at h; omega

theorem fold_min {ι : Type} (s : Finset ι) (f : ι → BitVec 32) (c w : BitVec 32) (h1 : ∃ i ∈ s, f i = w) (h2 : ∀ i ∈ s, w.toInt ≤ (f i).toInt)
    (hc : w.toInt ≤ c.toInt) : s.fold IntOp.minsi c f = w := by
  apply BitVec.eq_of_toInt_eq
  have e := Finset.fold_hom (op := IntOp.minsi (w := 32)) (op' := (min : Int → Int → Int)) (s := s) (f := f) (b := c) (m := BitVec.toInt) toInt_minsi
  rw [← e]
  refine le_antisymm ?_ ?_
  · obtain ⟨i, hi, e⟩ := h1
    exact (Finset.fold_min_le w.toInt).mpr (Or.inr ⟨i, hi, by rw [e]⟩)
  · exact (Finset.le_fold_min w.toInt).mpr ⟨hc, h2⟩

/-! ### The weights -/

/-- The one-hot sum of the two softmax weights is the row of gates. -/
theorem onehot {l : Fin 8 → EReal} {a b : Fin 8} (t : Top l a b) (ht : l a ≠ ⊤) (hb : l a ≠ ⊥) (e : Fin 8) :
    (if a = e then (1 : EReal) else 0) * Ideal.div (Ideal.exp (l a - l a)) (Ideal.exp (l a - l a) + Ideal.exp (l b - l a))
      + (if b = e then (1 : EReal) else 0) * Ideal.div (Ideal.exp (l b - l a)) (Ideal.exp (l a - l a) + Ideal.exp (l b - l a))
    = gates l a b ⟨e.val, by omega⟩ := by
  have h0 : Ideal.exp (l a - l a) = 1 := by
    rw [EReal.sub_self ht hb]
    show ((Real.exp 0 : ℝ) : EReal) = 1
    rw [Real.exp_zero]
    rfl
  rw [h0]
  unfold gates
  by_cases ha : a = e
  · subst ha
    simp [t.ne]
  · by_cases hb : b = e
    · subst hb
      have : ¬ (b.val = a.val) := fun h => t.ne (Fin.ext h)
      simp [ha, this]
    · have h1 : ¬ (e.val = a.val) := fun h => ha (Fin.ext h.symm)
      have h2 : ¬ (e.val = b.val) := fun h => hb (Fin.ext h.symm)
      simp [ha, hb, h1, h2]

/-- A row's eight scores: the normed row against each column. -/
def score (h g : Fin 1024 → EReal) (w : Fin 1024 → Fin 8 → EReal) (e : Fin 8) : EReal := ∑ k : Fin 1024, Cert.Ffn.norm h g k * w k e

end Cert.Rt
-- ==== Proof.RtKer.lean ====
/- The router's launch: what its body leaves in a row of 128 lanes. -/
module

public import proofs.«01_k».proof.Proof.RtMath
public import proofs.«01_k».proof.Proof.Gen.Kernel9Ideal.Value
public import Idealize.ShloMosaic.Lib.Claim
public import Idealize.ShloMosaic.Lib.Pointwise
public import Idealize.ShloMosaic.Lib.KernelVsHost
public import Idealize.ShloMosaic.Lib.Pipeline.ReadBack

@[expose] public section

set_option maxRecDepth 16384

noncomputable section

namespace Cert.Rt

open Cert.Kernel9Ideal Cert.Kernel9Ideal.Gen Idealize.ShloMosaic Idealize.ShloMosaic.TcCoe Idealize.SL.Sem

open Cert.Ple (row row_split hz2)

/-! ### A row's reductions -/

theorem drop_row (i k : Nat) (hi : i < 512) (hk : k < 128) : reduces_S512x128_S512.drop (ix2 ⟨i, hi⟩ ⟨k, hk⟩) = ix1 (⟨i, hi⟩ : Fin 512) := by
  funext b
  match b with
  | ⟨0, _⟩ => exact Fin.ext (reduces_S512x128_S512.drop_apply_val_of_eq _ 0 0)

theorem mem_row (i : Fin 512) (x : S512x128.Idx) (h : reduces_S512x128_S512.drop x = ix1 i) : ∃ k : Fin 128, x = ix2 i k := by
  have h0 : (reduces_S512x128_S512.drop x 0 : Nat) = x 0 := reduces_S512x128_S512.drop_apply_val_of_eq _ 0 0
  rw [h] at h0
  refine ⟨x 1, ?_⟩
  funext b
  match b with
  | ⟨0, _⟩ => exact Fin.ext h0.symm
  | ⟨1, _⟩ => rfl

theorem neg_inf : Ideal.ofBits .f32 0xFF800000#32 = ⊥ := by simp [Ideal.ofBits, Ideal.ieee]

theorem red_max (x : FVec Ideal S512x128 .f32) (i : Fin 512) (v : EReal) (h1 : ∃ k, x (ix2 i k) = v) (h2 : ∀ k, x (ix2 i k) ≤ v) :
    multiReduction .maximumf [1] S512 x 0xFF800000#32 reduces_S512x128_S512 (.inl rfl) rfl (ix1 i) = v := by
  refine (multiReduction_maximumf_eq_fold x _ _ _ _ _).trans ?_
  have hb : (FloatOps.ofBits .f32 0xFF800000#32 : Ideal .f32) = (⊥ : EReal) := neg_inf
  rw [hb]
  refine fold_max _ x v ?_ ?_
  · obtain ⟨k, hk⟩ := h1
    exact ⟨ix2 i k, Finset.mem_filter.mpr ⟨Finset.mem_univ _, drop_row _ _ i.2 k.2⟩, hk⟩
  · intro y hy
    obtain ⟨k, rfl⟩ := mem_row i y (Finset.mem_filter.mp hy).2
    exact h2 k

theorem red_min (x : IVec S512x128 32) (i : Fin 512) (w : BitVec 32) (h1 : ∃ k, x (ix2 i k) = w) (h2 : ∀ k, w.toInt ≤ (x (ix2 i k)).toInt) (hc : w.toInt ≤ 2147483647) :
    multiReductionI .minsi [1] S512 x 2147483647#32 reduces_S512x128_S512 rfl (ix1 i) = w := by
  refine (multiReductionI_eq_fold .minsi x _ _ _ _).trans ?_
  refine fold_min _ x _ w ?_ ?_ hc
  · obtain ⟨k, hk⟩ := h1
    exact ⟨ix2 i k, Finset.mem_filter.mpr ⟨Finset.mem_univ _, drop_row _ _ i.2 k.2⟩, hk⟩
  · intro y hy
    obtain ⟨k, rfl⟩ := mem_row i y (Finset.mem_filter.mp hy).2
    exact h2 k

/-! ### The payloads -/

variable (h : Vec Ideal S512x1024 .f32) (g : Vec Ideal S1x1024 .f32) (w : Vec Ideal S1024x128 .f32)

/-- The scores of a row of the block. -/
def sc (i : Fin 512) : Fin 8 → EReal := score (fun q => h (ix2 i q)) (fun q => g (ix2 0 q)) (fun q e => w (ix2 q ⟨e.val, by omega⟩))

theorem iota_at (i : Fin 512) (k : Fin 128) : iota .tc S512x128 32 [1] iota_S512x128_d1_w32 (ix2 i k) = BitVec.ofNat 32 k.val := by
  pointwise

theorem lane_lt : ∀ k : Fin 128, IntOp.cmpi .slt (BitVec.ofNat 32 k.val) 8#32 = if k.val < 8 then 1#1 else 0#1 := by decide +kernel

theorem lane_eq : ∀ k a : Fin 128, IntOp.cmpi .eq (BitVec.ofNat 32 k.val) (BitVec.ofNat 32 a.val) = if k.val = a.val then 1#1 else 0#1 := by decide +kernel

theorem lane_int : ∀ k : Fin 128, (BitVec.ofNat 32 k.val).toInt = k.val := by decide +kernel

theorem sel_one {α : Type} (x y : α) : Scalar.select 1#1 x y = x := rfl

theorem sel_zero {α : Type} (x y : α) : Scalar.select 0#1 x y = y := rfl

theorem pay2_apply (i : Fin 512) (k : Fin 128) : k0_pay2 h g w (ix2 i k) = if hk : k.val < 8 then sc h g w i ⟨k.val, hk⟩ else ⊥ := by
  have e : k0_pay2 h g w (ix2 i k) = Scalar.select (IntOp.cmpi .slt (BitVec.ofNat 32 k.val) 8#32) (∑ x : Fin 1024, Cert.Ffn.norm (fun q => h (ix2 i q)) (fun q => g (ix2 0 q)) x * w (ix2 x k)) (Ideal.ofBits .f32 0xFF800000#32) := by
    unfold Cert.Ffn.norm
    pointwise [k0_pay2]
  rw [e, lane_lt, neg_inf]
  by_cases hk : k.val < 8
  · rw [if_pos hk, dif_pos hk, sel_one]
    rfl
  · rw [if_neg hk, dif_neg hk, sel_zero]

theorem pay2_low (i : Fin 512) (e : Fin 8) : k0_pay2 h g w (ix2 i ⟨e.val, by omega⟩) = sc h g w i e := by
  rw [pay2_apply, dif_pos e.2]

theorem col_f (x : FVec Ideal S512 .f32) (i : Fin 512) : (shapeCast S512x1 x shapeCasts_S512_S512x1 : FVec Ideal S512x1 .f32) (ix2 i 0) = x (ix1 i) := by
  pointwise

theorem col_i (x : IVec S512 32) (i : Fin 512) : (shapeCast S512x1 x shapeCasts_S512_S512x1 : IVec S512x1 32) (ix2 i 0) = x (ix1 i) := by
  pointwise

theorem pay3_eq (i : Fin 512) : k0_pay3 h g w (ix2 i 0) = multiReduction .maximumf [1] S512 (k0_pay2 h g w) 0xFF800000#32 reduces_S512x128_S512 (.inl rfl) rfl (ix1 i) := by
  unfold k0_pay3
  exact col_f _ i

theorem pay4_eq (i : Fin 512) : k0_pay4 h g w (ix2 i 0) = multiReductionI .minsi [1] S512 (select (cmpf .oeq (k0_pay2 h g w) (broadcastTo S512x128 (k0_pay3 h g w) broadcasts_S512x1_S512x128)) (iota .tc S512x128 32 [1] iota_S512x128_d1_w32) (broadcast S512x128 128#32)) 2147483647#32 reduces_S512x128_S512 rfl (ix1 i) := by
  unfold k0_pay4
  exact col_i _ i

theorem pay6_eq (i : Fin 512) : k0_pay6 h g w (ix2 i 0) = multiReduction .maximumf [1] S512 (k0_pay5 h g w) 0xFF800000#32 reduces_S512x128_S512 (.inl rfl) rfl (ix1 i) := by
  unfold k0_pay6
  exact col_f _ i

variable {h g w} {i : Fin 512} {a b : Fin 8} (t : Top (sc h g w i) a b) (hf : ∀ e, sc h g w i e ≠ ⊥)
include t

theorem pay3_top : k0_pay3 h g w (ix2 i 0) = sc h g w i a := by
  refine (pay3_eq h g w i).trans (red_max _ i _ ⟨⟨a.val, by omega⟩, pay2_low h g w i a⟩ fun k => ?_)
  rw [pay2_apply]
  split
  · exact t.le _
  · exact bot_le

theorem pay4_top : k0_pay4 h g w (ix2 i 0) = BitVec.ofNat 32 a.val := by
  have key : ∀ k : Fin 128, select (cmpf .oeq (k0_pay2 h g w) (broadcastTo S512x128 (k0_pay3 h g w) broadcasts_S512x1_S512x128)) (iota .tc S512x128 32 [1] iota_S512x128_d1_w32) (broadcast S512x128 128#32) (ix2 i k)
      = Scalar.select (Ideal.cmp .oeq (k0_pay2 h g w (ix2 i k)) (k0_pay3 h g w (ix2 i 0))) (BitVec.ofNat 32 k.val) 128#32 := by
    intro k
    pointwise
  have ha : (BitVec.ofNat 32 a.val).toInt = a.val := lane_int ⟨a.val, by omega⟩
  refine (pay4_eq h g w i).trans (red_min _ i _ ⟨⟨a.val, by omega⟩, ?_⟩ (fun k => ?_) ?_)
  · rw [key, pay3_top t, pay2_low]
    simp [Ideal.cmp, sel_one]
  · rw [key, pay3_top t, pay2_apply, ha]
    by_cases hk : k.val < 8
    · rw [dif_pos hk]
      by_cases he : sc h g w i ⟨k.val, hk⟩ = sc h g w i a
      · have : Ideal.cmp .oeq (sc h g w i ⟨k.val, hk⟩) (sc h g w i a) = 1#1 := by simp [Ideal.cmp, he]
        rw [this, sel_one, lane_int]
        rcases t.fst ⟨k.val, hk⟩ with h | h
        · exact absurd he h.ne
        · exact_mod_cast h.2
      · have : Ideal.cmp .oeq (sc h g w i ⟨k.val, hk⟩) (sc h g w i a) = 0#1 := by simp [Ideal.cmp, he]
        rw [this, sel_zero]
        show (a.val : Int) ≤ 128
        omega
    · rw [dif_neg hk]
      rcases BitVec.eq_zero_or_eq_one (Ideal.cmp .oeq ⊥ (sc h g w i a)) with this | this
      · rw [this, sel_zero]
        show (a.val : Int) ≤ 128
        omega
      · rw [this, sel_one, lane_int]
        omega
  · rw [ha]
    omega

theorem pay5_top (k : Fin 128) : k0_pay5 h g w (ix2 i k) = if k.val = a.val then ⊥ else k0_pay2 h g w (ix2 i k) := by
  have e : k0_pay5 h g w (ix2 i k) = Scalar.select (IntOp.cmpi .eq (BitVec.ofNat 32 k.val) (k0_pay4 h g w (ix2 i 0))) (Ideal.ofBits .f32 0xFF800000#32) (k0_pay2 h g w (ix2 i k)) := by
    pointwise [k0_pay5]
  rw [e, pay4_top t, lane_eq k ⟨a.val, by omega⟩, neg_inf]
  split
  · exact sel_one _ _
  · exact sel_zero _ _

theorem pay5_b : k0_pay5 h g w (ix2 i ⟨b.val, by omega⟩) = sc h g w i b := by
  rw [pay5_top t, if_neg fun h => t.ne (Fin.ext h), pay2_low]

theorem pay6_top : k0_pay6 h g w (ix2 i 0) = sc h g w i b := by
  refine (pay6_eq h g w i).trans (red_max _ i _ ⟨⟨b.val, by omega⟩, pay5_b t⟩ fun k => ?_)
  rw [pay5_top t, pay2_apply]
  split_ifs with h1 h2
  · exact bot_le
  · exact t.le2 _ fun h => h1 (congrArg Fin.val h)
  · exact bot_le

include hf

theorem pay7_top : multiReductionI .minsi [1] S512 (k0_pay7 h g w) 2147483647#32 reduces_S512x128_S512 rfl (ix1 i) = BitVec.ofNat 32 b.val := by
  have key : ∀ k : Fin 128, k0_pay7 h g w (ix2 i k)
      = Scalar.select (Ideal.cmp .oeq (k0_pay5 h g w (ix2 i k)) (k0_pay6 h g w (ix2 i 0))) (BitVec.ofNat 32 k.val) 128#32 := by
    intro k
    pointwise [k0_pay7]
  have hb : (BitVec.ofNat 32 b.val).toInt = b.val := lane_int ⟨b.val, by omega⟩
  refine red_min _ i _ ⟨⟨b.val, by omega⟩, ?_⟩ (fun k => ?_) ?_
  · rw [key, pay6_top t, pay5_b t]
    simp [Ideal.cmp, sel_one]
  · rw [key, pay6_top t, hb]
    by_cases he : k0_pay5 h g w (ix2 i k) = sc h g w i b
    · have : Ideal.cmp .oeq (k0_pay5 h g w (ix2 i k)) (sc h g w i b) = 1#1 := by simp [Ideal.cmp, he]
      rw [this, sel_one, lane_int]
      rw [pay5_top t, pay2_apply] at he
      split_ifs at he with h1 h2
      · exact absurd he.symm (hf b)
      · rcases t.snd ⟨k.val, h2⟩ (fun h => h1 (congrArg Fin.val h)) with h | h
        · exact absurd he h.ne
        · exact_mod_cast h.2
      · exact absurd he.symm (hf b)
    · have : Ideal.cmp .oeq (k0_pay5 h g w (ix2 i k)) (sc h g w i b) = 0#1 := by simp [Ideal.cmp, he]
      rw [this, sel_zero]
      show (b.val : Int) ≤ 128
      omega
  · rw [hb]
    omega

/-- The body's row is the row of gates. -/
theorem pay1_top (j : Fin 128) :
    k0_pay1 (iota .tc S512x128 32 [1] iota_S512x128_d1_w32) (k0_pay3 h g w) (k0_pay4 h g w) (k0_pay6 h g w) (k0_pay7 h g w) (ix2 i j)
      = gates (sc h g w i) a b j := by
  have key : ∀ (v24 : FVec Ideal S512x1 .f32) (v30 : IVec S512x1 32) (v36 : FVec Ideal S512x1 .f32) (v40 : IVec S512x128 32) (v41 : IVec S512 32), v41 = multiReductionI .minsi [1] S512 v40 2147483647#32 reduces_S512x128_S512 rfl →
      k0_pay1 (iota .tc S512x128 32 [1] iota_S512x128_d1_w32) v24 v30 v36 v40 (ix2 i j)
      = Scalar.select (IntOp.cmpi .eq (BitVec.ofNat 32 j.val) (v30 (ix2 i 0)))
          (Ideal.div (Ideal.ofBits .f32 0x3F800000#32) (Ideal.ofBits .f32 0x3F800000#32 + Ideal.exp (v36 (ix2 i 0) - v24 (ix2 i 0))))
          (Scalar.select (IntOp.cmpi .eq (BitVec.ofNat 32 j.val) (v41 (ix1 i)))
            (Ideal.div (Ideal.exp (v36 (ix2 i 0) - v24 (ix2 i 0))) (Ideal.ofBits .f32 0x3F800000#32 + Ideal.exp (v36 (ix2 i 0) - v24 (ix2 i 0))))
            (Ideal.ofBits .f32 0x00000000#32)) := by
    intro v24 v30 v36 v40 v41 e
    unfold k0_pay1
    simp only [← e]
    clear e
    pointwise
  have h1 : Ideal.ofBits .f32 0x3F800000#32 = 1 := by simp
  have h0 : Ideal.ofBits .f32 0x00000000#32 = 0 := by simp
  rw [key _ _ _ _ _ rfl, pay7_top t hf, pay3_top t, pay4_top t, pay6_top t, h1, h0, lane_eq j ⟨a.val, by omega⟩, lane_eq j ⟨b.val, by omega⟩]
  unfold gates
  by_cases ha : j.val = a.val
  · simp only [if_pos ha]
    exact sel_one _ _
  · simp only [if_neg ha]
    rw [sel_zero]
    by_cases hb : j.val = b.val
    · simp only [if_pos hb]
      exact sel_one _ _
    · simp only [if_neg hb]
      exact sel_zero _ _

end Cert.Rt
-- ==== Proof.RtLaunch.lean ====
/- The router's launch: its array, row by row, is the two weights of each row's two greatest scores. -/
module

public import proofs.«01_k».proof.Proof.RtKer

@[expose] public section

set_option maxRecDepth 16384

noncomputable section

namespace Cert.Rt

open Cert.Kernel9Ideal Cert.Kernel9Ideal.Gen Idealize.ShloMosaic Idealize.ShloMosaic.TcCoe Idealize.SL.Sem

open Cert.Ple (row row_split hz2)

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

theorem emb0 (t : Fin cfg0.N) (i : Fin 512) (k : Fin 1024) :
    (((cfg0.win 0).blk t).view.emb (ix2 i k) : S65536x1024.Idx) = ix2 (row t.val i) k := by
  have h := idx0 t
  have ht : t.val < 128 := lt_of_lt_of_eq t.isLt N_0
  funext a
  apply Fin.ext
  match a with
  | ⟨0, _⟩ =>
    show win0_0.index t (0 : Fin 2) * 512 + 1 * i.val = (t.val * 512 + i.val) % 65536
    rw [h.1]
    omega
  | ⟨1, _⟩ =>
    show win0_0.index t (1 : Fin 2) * 1024 + 1 * k.val = k.val
    rw [h.2]
    omega

theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

theorem emb1 (t : Fin cfg0.N) (i : Fin 1) (k : Fin 1024) :
    (((cfg0.win 1).blk t).view.emb (ix2 i k) : S1x1024.Idx) = ix2 (i) k := by
  have h := idx1 t
  have ht : t.val < 128 := lt_of_lt_of_eq t.isLt N_0
  funext a
  apply Fin.ext
  match a with
  | ⟨0, _⟩ =>
    show win0_1.index t (0 : Fin 2) * 1 + 1 * i.val = i.val
    rw [h.1]
    omega
  | ⟨1, _⟩ =>
    show win0_1.index t (1 : Fin 2) * 1024 + 1 * k.val = k.val
    rw [h.2]
    omega

theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

theorem emb2 (t : Fin cfg0.N) (i : Fin 1024) (k : Fin 128) :
    (((cfg0.win 2).blk t).view.emb (ix2 i k) : S1024x128.Idx) = ix2 (i) k := by
  have h := idx2 t
  have ht : t.val < 128 := lt_of_lt_of_eq t.isLt N_0
  funext a
  apply Fin.ext
  match a with
  | ⟨0, _⟩ =>
    show win0_2.index t (0 : Fin 2) * 1024 + 1 * i.val = i.val
    rw [h.1]
    omega
  | ⟨1, _⟩ =>
    show win0_2.index t (1 : Fin 2) * 128 + 1 * k.val = k.val
    rw [h.2]
    omega

theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

theorem emb3 (t : Fin cfg0.N) (i : Fin 512) (k : Fin 128) :
    (((cfg0.win 3).blk t).view.emb (ix2 i k) : S65536x128.Idx) = ix2 (row t.val i) k := by
  have h := idx3 t
  have ht : t.val < 128 := lt_of_lt_of_eq t.isLt N_0
  funext a
  apply Fin.ext
  match a with
  | ⟨0, _⟩ =>
    show win0_3.index t (0 : Fin 2) * 512 + 1 * i.val = (t.val * 512 + i.val) % 65536
    rw [h.1]
    omega
  | ⟨1, _⟩ =>
    show win0_3.index t (1 : Fin 2) * 128 + 1 * k.val = k.val
    rw [h.2]
    omega

variable (m : (ℓ : Loc nD τ sig) → Buf (Elt Ideal) ℓ) (c : Dev nD)

theorem rd0 (t : Fin cfg0.N) (i : Fin 512) (k : Fin 1024) :
    (iblk m c 0 t : Vec Ideal S512x1024 .f32) (ix2 i k) = (V m c main_arg0 : Vec Ideal S65536x1024 .f32) (ix2 (row t.val i) k) := by
  unfold iblk
  rw [View.read_apply, emb0]
  rfl

theorem rd1 (t : Fin cfg0.N) (i : Fin 1) (k : Fin 1024) :
    (iblk m c 1 t : Vec Ideal S1x1024 .f32) (ix2 i k) = (V m c main_v0 : Vec Ideal S1x1024 .f32) (ix2 (i) k) := by
  unfold iblk
  rw [View.read_apply, emb1]
  rfl

theorem rd2 (t : Fin cfg0.N) (i : Fin 1024) (k : Fin 128) :
    (iblk m c 2 t : Vec Ideal S1024x128 .f32) (ix2 i k) = (V m c main_v1 : Vec Ideal S1024x128 .f32) (ix2 (i) k) := by
  unfold iblk
  rw [View.read_apply, emb2]
  rfl

theorem V_v0 : (V m c main_v0 : Vec Ideal S1x1024 .f32) = shapeCast S1x1024 (m (c, main_arg1)) shapeCasts_S1024_S1x1024 := by
  show StableHlo.after _ _ _ = _
  simp only [List.flatten_cons, List.flatten_nil, hostOps0, hostOps0_1, List.cons_append, List.nil_append, List.append_nil]
  entry_read
  rfl

theorem V_v1 : (V m c main_v1 : Vec Ideal S1024x128 .f32) = pad S1024x128 ![0, 0] ![0, 120] ![0, 0] (m (c, main_arg2)) (sitofp (F := Ideal) .f32 (constantI S_ 32 0#32)) pads_S1024x8_S1024x128_000_01200 h_S_ := by
  show StableHlo.after _ _ _ = _
  simp only [List.flatten_cons, List.flatten_nil, hostOps0, hostOps0_1, List.cons_append, List.nil_append, List.append_nil]
  entry_read
  rfl

theorem gain_apply (g : FVec Ideal S1024 .f32) (q : Fin 1024) : (shapeCast S1x1024 g shapeCasts_S1024_S1x1024 : FVec Ideal S1x1024 .f32) (ix2 0 q) = g (ix1 q) := by
  pointwise

/-- A padded row of the router begins with the row's eight columns. -/
theorem pad8 (x : Vec Ideal S1024x8 .f32) (v : Vec Ideal S_ .f32) (r : Fin 1024) (e : Fin 8) :
    pad S1024x128 ![0, 0] ![0, 120] ![0, 0] x v pads_S1024x8_S1024x128_000_01200 h_S_ (ix2 r ⟨e.val, by omega⟩) = x (ix2 r e) := by
  refine pad_apply_of_inside _ _ _ _ _ _ _ _ (ix2 r e) ?_
  intro a
  match a with
  | ⟨0, _⟩ => show r.val = 0 + r.val * (0 + 1); omega
  | ⟨1, _⟩ => show e.val = 0 + e.val * (0 + 1); omega

/-- A row's scores, of the arguments. -/
def inScore (a0 : FVec Ideal S65536x1024 .f32) (a1 : FVec Ideal S1024 .f32) (a2 : FVec Ideal S1024x8 .f32) (r : Fin 65536) : Fin 8 → EReal :=
  score (fun q => a0 (ix2 r q)) (fun q => a1 (ix1 q)) (fun q e => a2 (ix2 q e))

/-- The same, of the memory's arguments. -/
def inM (m : (ℓ : Loc nD τ sig) → Buf (Elt Ideal) ℓ) (c : Dev nD) : Fin 65536 → Fin 8 → EReal :=
  inScore (m (c, main_arg0)) (m (c, main_arg1)) (m (c, main_arg2))

theorem sc_blk (t : Fin cfg0.N) (i : Fin 512) :
    sc (iblk m c 0 t) (iblk m c 1 t) (iblk m c 2 t) i = inM m c (row t.val i) := by
  have e0 : (fun q => (iblk m c 0 t : Vec Ideal S512x1024 .f32) (ix2 i q)) = fun q => (m (c, main_arg0) : FVec Ideal S65536x1024 .f32) (ix2 (row t.val i) q) := by
    funext q
    rw [rd0, V_main_arg0]
  have e1 : (fun q => (iblk m c 1 t : Vec Ideal S1x1024 .f32) (ix2 0 q)) = fun q => (m (c, main_arg1) : FVec Ideal S1024 .f32) (ix1 q) := by
    funext q
    rw [rd1, V_v0]
    exact gain_apply _ _
  have e2 : (fun q (e : Fin 8) => (iblk m c 2 t : Vec Ideal S1024x128 .f32) (ix2 q ⟨e.val, by omega⟩)) = fun q e => (m (c, main_arg2) : FVec Ideal S1024x8 .f32) (ix2 q e) := by
    funext q e
    rw [rd2, V_v1, pad8]
  unfold sc inM inScore
  rw [e0, e1, e2]

theorem flush3 : ∀ t : Fin cfg0.N, (cfg0.win 3).flush t = true :=
  (by decide +kernel : ∀ t : Fin grid0.N, win0_3.flush t = true)

/-- The launch's array at the end, at a row of point `t`'s block, is what the body computes there. -/
theorem arr3 (t : Fin cfg0.N) (i : Fin 512) (j : Fin 128) :
    ((dats m 0 c).arrAt 3 cfg0.N : Vec Ideal S65536x128 .f32) (ix2 (row t.val i) j)
      = k0_pay1 (iota .tc S512x128 32 [1] iota_S512x128_d1_w32) (k0_pay3 (iblk m c 0 t) (iblk m c 1 t) (iblk m c 2 t)) (k0_pay4 (iblk m c 0 t) (iblk m c 1 t) (iblk m c 2 t)) (k0_pay6 (iblk m c 0 t) (iblk m c 1 t) (iblk m c 2 t)) (k0_pay7 (iblk m c 0 t) (iblk m c 1 t) (iblk m c 2 t)) (ix2 i j) := by
  have h := congrFun (Value.blocks3 m c t (flush3 t)) (ix2 i j)
  rw [View.read_apply, emb3, Value.flushed3] at h
  refine h.trans ?_
  show out0_3 (iblk m c 0 t) (iblk m c 1 t) (iblk m c 2 t) (ix2 i j) = _
  unfold out0_3
  rw [View.canon_cons_unit_zero hz2]
  simp only [View.ld_unit_zero (S := S512x1024) hz2, View.ld_unit_zero (S := S1x1024) hz2, View.ld_unit_zero (S := S1024x128) hz2]

/-- THE LAUNCH'S RESULT, entry by entry. -/
theorem kernel_value (r : Fin 65536) (j : Fin 128) (a b : Fin 8) (t : Top (inM m c r) a b)
    (hf : ∀ e, inM m c r e ≠ ⊥) :
    ((dats m 0 c).arrAt 3 cfg0.N : Vec Ideal S65536x128 .f32) (ix2 r j)
      = gates (inM m c r) a b j := by
  have hN : cfg0.N = 128 := N_0
  have h := arr3 m c ⟨r.val / 512, by rw [hN]; omega⟩ ⟨r.val % 512, Nat.mod_lt _ (by decide)⟩ j
  have hs := sc_blk m c ⟨r.val / 512, by rw [hN]; omega⟩ ⟨r.val % 512, Nat.mod_lt _ (by decide)⟩
  simp only [row_split] at h hs
  rw [h, ← hs]
  rw [← hs] at t hf
  exact pay1_top t hf j

end Cert.Rt
-- ==== Proof.RtRef.lean ====
/- The router's reference: its composed term at an index. -/
module

public import proofs.«01_k».proof.Proof.RtLaunch
public import proofs.«01_k».proof.Proof.FRef
public import proofs.«01_k».proof.Proof.Gen.Reference9Ideal.Run
public import Idealize.ShloMosaic.Lib.KernelVsHost
public import Idealize.ShloMosaic.Lib.Pointwise

@[expose] public section

set_option maxRecDepth 16384

noncomputable section

namespace Cert.Rt.Ref

open Cert.Reference9Ideal Cert.Reference9Ideal.Gen Cert.Reference9Ideal.Value
open Idealize.ShloMosaic Idealize.ShloMosaic.TcCoe Idealize.ShloMosaic.StableHlo
open Idealize.SL Idealize.SL.Sem

/-- The scores. -/
def lgV (a0 : FVec Ideal S65536x1024 .f32) (a1 : FVec Ideal S1024 .f32) (a2 : FVec Ideal S1024x8 .f32) : FVec Ideal S65536x8 .f32 :=
  Host.dotGeneral dot_S65536x1024_S1024x8_S65536x8_1_0_0_1_n_n none (Cert.Ffn.Ref.hnV a0 a1) a2

/-- The two greatest of each row, and where they are. -/
def tkV (x : FVec Ideal S65536x8 .f32) : (FVec Ideal S65536x2 .f32) × IVec S65536x2 32 :=
  Host.topK S65536x2 1 (FloatOps.cmpfTotal .gt) x sliceFits_S65536x8_S65536x2

def mxV (v : FVec Ideal S65536x2 .f32) : FVec Ideal S65536 .f32 :=
  Host.reduce FloatOps.maximumf v (constant S_ .f32 0xFF800000#32) reducesTo_S65536x2_S65536_d1 h_S_

def exV (v : FVec Ideal S65536x2 .f32) : FVec Ideal S65536x2 .f32 :=
  Host.exp (subf v (broadcastInDim S65536x2 ![0, 1] bcast_S65536x1_S65536x2_0_1 (broadcastInDim S65536x1 ![0] bcast_S65536_S65536x1_0 (maximumf (broadcastInDim S65536 ![] bcast_S_S65536 (constant S_ .f32 0xFF800000#32)) (mxV v)))))

def smV (x : FVec Ideal S65536x2 .f32) : FVec Ideal S65536x2 .f32 :=
  Host.divf x (broadcastInDim S65536x2 ![0, 1] bcast_S65536x1_S65536x2_0_1 (broadcastInDim S65536x1 ![0] bcast_S65536_S65536x1_0 (Host.reduceAdd x (constant S_ .f32 0x00000000#32) reducesTo_S65536x2_S65536_d1 h_S_)))

def ohV (i : IVec S65536x2 32) (w : FVec Ideal S65536x2 .f32) : FVec Ideal S65536x8 .f32 :=
  Host.reduceAdd (mulf (uitofp .f32 (cmpi .eq (broadcastInDim S65536x2x8 ![0, 1, 2] bcast_S65536x2x1_S65536x2x8_0_1_2 (broadcastInDim S65536x2x1 ![0, 1] bcast_S65536x2_S65536x2x1_0_1 i)) (broadcastInDim S65536x2x8 ![0, 1, 2] bcast_S1x1x8_S65536x2x8_0_1_2 (iotaInDim S1x1x8 32 2)))) (broadcastInDim S65536x2x8 ![0, 1, 2] bcast_S65536x2x1_S65536x2x8_0_1_2 (broadcastInDim S65536x2x1 ![0, 1] bcast_S65536x2_S65536x2x1_0_1 w))) (constant S_ .f32 0x00000000#32) reducesTo_S65536x2x8_S65536x8_d1 h_S_

def ctV (x : FVec Ideal S65536x8 .f32) : FVec Ideal S65536x128 .f32 :=
  concatenate S65536x128 1 [⟨S65536x8, x⟩, ⟨S65536x120, (broadcastInDim S65536x120 ![] bcast_S_S65536x120 (constant S_ .f32 0x00000000#32))⟩] concatenates_S65536x8_S65536x120_S65536x128_d1

/-- The reference's result. -/
def outV (a0 : FVec Ideal S65536x1024 .f32) (a1 : FVec Ideal S1024 .f32) (a2 : FVec Ideal S1024x8 .f32) : FVec Ideal S65536x128 .f32 :=
  ctV (ohV (tkV (lgV a0 a1 a2)).2 (smV (exV (tkV (lgV a0 a1 a2)).1)))

theorem lgV_apply (a0 : FVec Ideal S65536x1024 .f32) (a1 : FVec Ideal S1024 .f32) (a2 : FVec Ideal S1024x8 .f32) (r : Fin 65536) (e : Fin 8) :
    lgV a0 a1 a2 (ix2 r e) = inScore a0 a1 a2 r e := by
  have h : ∀ x : FVec Ideal S65536x1024 .f32, Host.dotGeneral dot_S65536x1024_S1024x8_S65536x8_1_0_0_1_n_n none x a2 (ix2 r e) = ∑ k : Fin 1024, x (ix2 r k) * a2 (ix2 k e) := by
    intro x
    pointwise
  unfold inScore score
  refine (h _).trans (Finset.sum_congr rfl fun k _ => ?_)
  rw [Cert.Ffn.Ref.hnV_apply]

theorem along_row (r : Fin 65536) (i k : Fin 8) : Shape.Idx.along (ix2 r i : S65536x8.Idx) 1 k = ix2 r k := by
  funext b
  match b with
  | ⟨0, _⟩ => rfl
  | ⟨1, _⟩ => rfl

def srt (x : FVec Ideal S65536x8 .f32) (r : Fin 65536) (i : Fin 2) : Fin 8 :=
  sortedFrom (fun k k' => (FloatOps.cmpfTotal .gt (x (ix2 r k)) (x (ix2 r k')) : BitVec 1) == 1#1) (i.castLE (by decide))

theorem slice_row {α : Type} (x : S65536x8.Idx → α) (r : Fin 65536) (i : Fin 2) :
    extractStridedSlice S65536x2 (fun _ => 0) x sliceFits_S65536x8_S65536x2 (ix2 r i) = x (ix2 r (i.castLE (by decide))) := by
  refine congrArg x ?_
  funext b
  match b with
  | ⟨0, _⟩ => exact Fin.ext (Nat.zero_add _)
  | ⟨1, _⟩ => exact Fin.ext (Nat.zero_add _)

theorem tkV_fst (x : FVec Ideal S65536x8 .f32) (r : Fin 65536) (i : Fin 2) : (tkV x).1 (ix2 r i) = x (ix2 r (srt x r i)) := by
  unfold tkV Host.topK Host.sort2 srt
  simp only [slice_row]
  rw [dif_pos (show 1 < S65536x8.rank by decide)]
  refine (congrArg x (along_row r _ _)).trans ?_
  refine congrArg (fun f => x (ix2 r (sortedFrom f _))) ?_
  funext k k'
  exact congrArg₂ (fun p q => (FloatOps.cmpfTotal .gt (x p) (x q) : BitVec 1) == 1#1) (along_row r _ k) (along_row r _ k')

theorem tkV_snd (x : FVec Ideal S65536x8 .f32) (r : Fin 65536) (i : Fin 2) : (tkV x).2 (ix2 r i) = BitVec.ofNat 32 (srt x r i).val := by
  unfold tkV Host.topK Host.sort2 srt
  simp only [slice_row]
  rw [dif_pos (show 1 < S65536x8.rank by decide)]
  show BitVec.ofNat 32 (sortedFrom _ _ : Fin 8).val = _
  refine congrArg (fun f => BitVec.ofNat 32 (sortedFrom (n := 8) f _ : Fin 8).val) ?_
  funext k k'
  exact congrArg₂ (fun p q => (FloatOps.cmpfTotal .gt (x p) (x q) : BitVec 1) == 1#1) (along_row r _ k) (along_row r _ k')

theorem srt_top (x : FVec Ideal S65536x8 .f32) (r : Fin 65536) (l : Fin 8 → EReal) (hl : ∀ e, x (ix2 r e) = l e) (a b : Fin 8) (t : Top l a b) (i : Fin 2) :
    srt x r i = (![a, b] : Fin 2 → Fin 8) i := by
  refine sorted_top t _ (fun k k' => ?_) i
  show (Ideal.cmpTotal .gt (x (ix2 r k)) (x (ix2 r k')) == 1#1) = _
  rw [hl, hl]
  by_cases h : l k' < l k <;> simp [Ideal.cmpTotal, Ideal.cmp, CmpDirection.ordered, h]

/-! ### The softmax of two -/

theorem drop_two (r k : Nat) (hr : r < 65536) (hk : k < 2) : reducesTo_S65536x2_S65536_d1.drop (ix2 ⟨r, hr⟩ ⟨k, hk⟩) = ix1 (⟨r, hr⟩ : Fin 65536) := by
  funext b
  match b with
  | ⟨0, _⟩ => exact Fin.ext (reducesTo_S65536x2_S65536_d1.drop_apply_val_of_eq _ 0 0)

theorem mem_two (r : Fin 65536) (x : S65536x2.Idx) (h : reducesTo_S65536x2_S65536_d1.drop x = ix1 r) : ∃ k : Fin 2, x = ix2 r k := by
  have h0 : (reducesTo_S65536x2_S65536_d1.drop x 0 : Nat) = x 0 := reducesTo_S65536x2_S65536_d1.drop_apply_val_of_eq _ 0 0
  rw [h] at h0
  refine ⟨x 1, ?_⟩
  funext b
  match b with
  | ⟨0, _⟩ => exact Fin.ext h0.symm
  | ⟨1, _⟩ => rfl

theorem mxV_apply (v : FVec Ideal S65536x2 .f32) (r : Fin 65536) (h : v (ix2 r 1) ≤ v (ix2 r 0)) : mxV v (ix1 r) = v (ix2 r 0) := by
  unfold mxV
  refine (Host.reduce_eq_fold _ _ _ _ _ _).trans ?_
  have hb : (constant S_ .f32 0xFF800000#32 : FVec Ideal S_ .f32) (Shape.Idx.first h_S_) = (⊥ : EReal) := neg_inf
  rw [hb]
  refine fold_max _ v _ ⟨ix2 r 0, Finset.mem_filter.mpr ⟨Finset.mem_univ _, drop_two _ 0 r.2 (by decide)⟩, rfl⟩ fun y hy => ?_
  obtain ⟨k, rfl⟩ := mem_two r y (Finset.mem_filter.mp hy).2
  fin_cases k
  · exact le_refl _
  · exact h

theorem exV_apply (v : FVec Ideal S65536x2 .f32) (r : Fin 65536) (i : Fin 2) (h : v (ix2 r 1) ≤ v (ix2 r 0)) : exV v (ix2 r i) = Ideal.exp (v (ix2 r i) - v (ix2 r 0)) := by
  have e : exV v (ix2 r i) = Ideal.exp (v (ix2 r i) - max (Ideal.ofBits .f32 0xFF800000#32) (mxV v (ix1 r))) := by
    pointwise [exV]
  rw [e, mxV_apply v r h, neg_inf, max_eq_right bot_le]

theorem smV_apply (x : FVec Ideal S65536x2 .f32) (r : Fin 65536) (i : Fin 2) : smV x (ix2 r i) = Ideal.div (x (ix2 r i)) (∑ k : Fin 2, x (ix2 r k)) := by
  pointwise [smV]

theorem ohV_apply (i : IVec S65536x2 32) (w : FVec Ideal S65536x2 .f32) (r : Fin 65536) (e : Fin 8) :
    ohV i w (ix2 r e) = ∑ k : Fin 2, (((IntOp.cmpi .eq (i (ix2 r k)) (BitVec.ofNat 32 e.val)).toNat : ℝ) : EReal) * w (ix2 r k) := by
  pointwise [ohV]
  rfl

theorem ctV_apply (x : FVec Ideal S65536x8 .f32) (r : Fin 65536) (j : Fin 128) : ctV x (ix2 r j) = if h : j.val < 8 then x (ix2 r ⟨j.val, h⟩) else 0 := by
  pointwise [ctV]

theorem hot (a e : Fin 8) : (((IntOp.cmpi .eq (BitVec.ofNat 32 a.val) (BitVec.ofNat 32 e.val)).toNat : ℝ) : EReal) = if a = e then 1 else 0 := by
  rw [lane_eq ⟨a.val, by omega⟩ ⟨e.val, by omega⟩]
  by_cases h : a = e
  · subst h
    simp
  · have h' : ¬ (a.val = e.val) := fun q => h (Fin.ext q)
    simp [h, h']

theorem outV_apply (a0 : FVec Ideal S65536x1024 .f32) (a1 : FVec Ideal S1024 .f32) (a2 : FVec Ideal S1024x8 .f32) (r : Fin 65536) (j : Fin 128) (a b : Fin 8)
    (t : Top (inScore a0 a1 a2 r) a b) (ht : inScore a0 a1 a2 r a ≠ ⊤) (hb : inScore a0 a1 a2 r a ≠ ⊥) :
    outV a0 a1 a2 (ix2 r j) = gates (inScore a0 a1 a2 r) a b j := by
  unfold outV
  have hs := srt_top (lgV a0 a1 a2) r _ (lgV_apply a0 a1 a2 r) a b t
  have v0 : (tkV (lgV a0 a1 a2)).1 (ix2 r 0) = inScore a0 a1 a2 r a := by rw [tkV_fst, hs 0, lgV_apply]; rfl
  have v1 : (tkV (lgV a0 a1 a2)).1 (ix2 r 1) = inScore a0 a1 a2 r b := by rw [tkV_fst, hs 1, lgV_apply]; rfl
  have i0 : (tkV (lgV a0 a1 a2)).2 (ix2 r 0) = BitVec.ofNat 32 a.val := by rw [tkV_snd, hs 0]; rfl
  have i1 : (tkV (lgV a0 a1 a2)).2 (ix2 r 1) = BitVec.ofNat 32 b.val := by rw [tkV_snd, hs 1]; rfl
  have hle : (tkV (lgV a0 a1 a2)).1 (ix2 r 1) ≤ (tkV (lgV a0 a1 a2)).1 (ix2 r 0) := by
    rw [v0, v1]
    exact t.le b
  rw [ctV_apply]
  by_cases hj : j.val < 8
  · rw [dif_pos hj, ohV_apply, Fin.sum_univ_two, smV_apply, smV_apply, Fin.sum_univ_two, exV_apply _ r 0 hle, exV_apply _ r 1 hle, v0, v1, i0, i1, hot a ⟨j.val, hj⟩, hot b ⟨j.val, hj⟩]
    exact onehot t ht hb ⟨j.val, hj⟩
  · rw [dif_neg hj]
    unfold gates
    rw [if_neg (by omega), if_neg (by omega)]

end Cert.Rt.Ref
-- ==== Proof.MMath.lean ====
/- The mathematics of the weighted experts, on extended reals: every expert is a feed-forward part of its own weights,
   and a row's result is its activations plus the experts' results, each times the row's weight of that expert. The
   kernel adds the same sum up block by block, weighting each block: the two agree where the weights are finite and not
   negative. -/
module

public import proofs.«01_k».proof.Proof.FMath

@[expose] public section

noncomputable section

namespace Cert.Moe

open Idealize.ShloMosaic

/-- The arguments at coordinates: the activations, the norm's gain, the experts' weights of the rows and the experts'
    three matrices. -/
structure Inputs where
  h : Fin 65536 → Fin 1024 → EReal
  g : Fin 1024 → EReal
  gate : Fin 65536 → Fin 8 → EReal
  wg : Fin 8 → Fin 1024 → Fin 3584 → EReal
  wu : Fin 8 → Fin 1024 → Fin 3584 → EReal
  wd : Fin 8 → Fin 3584 → Fin 1024 → EReal

variable (I : Inputs)

/-- Expert `e` as a feed-forward part. -/
def one (e : Fin 8) : Cert.Ffn.Inputs := ⟨I.h, I.g, I.wg e, I.wu e, I.wd e⟩

/-- The expert of point `p`: seven points for each of the eight. -/
def ex (p : ℕ) : Fin 8 := ⟨p / 7 % 8, Nat.mod_lt _ (by decide)⟩

/-- What point `p` of a row block adds to row `r`'s entry `j`. -/
def term (r : Fin 65536) (j : Fin 1024) (p : ℕ) : EReal := I.gate r (ex p) * Cert.Ffn.part (one I (ex p)) r j (p % 7)

/-- The first `n` points' sum. -/
def acc (r : Fin 65536) (j : Fin 1024) (n : ℕ) : EReal := ∑ p ∈ Finset.range n, term I r j p

theorem acc_zero (r : Fin 65536) (j : Fin 1024) : acc I r j 0 = 0 := rfl

theorem acc_succ (r : Fin 65536) (j : Fin 1024) (n : ℕ) : acc I r j (n + 1) = acc I r j n + term I r j n :=
  Finset.sum_range_succ _ _

/-- Expert `e`'s whole result at row `r`, entry `j`. -/
def full (r : Fin 65536) (j : Fin 1024) (e : Fin 8) : EReal := ∑ f : Fin 3584, Cert.Ffn.hid (one I e) r f * I.wd e f j

/-- A finite factor that is not negative goes inside a sum. -/
theorem mul_sum (a : EReal) (h0 : 0 ≤ a) (h1 : a ≠ ⊤) (s : Finset ℕ) (f : ℕ → EReal) :
    ∑ b ∈ s, a * f b = a * ∑ b ∈ s, f b := by
  induction s using Finset.induction_on with
  | empty => simp
  | insert x s hx ih => rw [Finset.sum_insert hx, Finset.sum_insert hx, ih, EReal.left_distrib_of_nonneg_of_ne_top h0 h1]

/-- The 56 points are the eight experts' results, each times its weight. -/
theorem acc_all (r : Fin 65536) (j : Fin 1024) (h : ∀ e, 0 ≤ I.gate r e ∧ I.gate r e ≠ ⊤) :
    acc I r j 56 = ∑ e : Fin 8, I.gate r e * full I r j e := by
  have h1 : acc I r j 56 = ∑ e : Fin 8, ∑ b : Fin 7, I.gate r e * Cert.Ffn.part (one I e) r j b.val := by
    unfold acc
    rw [Finset.sum_range, ← Fintype.sum_prod_type']
    refine (Fintype.sum_equiv (finProdFinEquiv (m := 8) (n := 7)) _ _ fun x => ?_).symm
    have e1 : ((finProdFinEquiv (m := 8) (n := 7) x : Fin 56) : ℕ) = x.2.val + 7 * x.1.val := rfl
    have l1 := x.1.isLt
    have l2 := x.2.isLt
    have e2 : ex ((finProdFinEquiv (m := 8) (n := 7) x : Fin 56) : ℕ) = x.1 := by
      apply Fin.ext
      show ((finProdFinEquiv (m := 8) (n := 7) x : Fin 56) : ℕ) / 7 % 8 = x.1.val
      rw [e1]
      omega
    have e3 : ((finProdFinEquiv (m := 8) (n := 7) x : Fin 56) : ℕ) % 7 = x.2.val := by
      rw [e1]
      omega
    unfold term
    rw [e2, e3]
  rw [h1]
  refine Finset.sum_congr rfl fun e _ => ?_
  have h2 := mul_sum (I.gate r e) (h e).1 (h e).2 (Finset.range 7) (fun b => Cert.Ffn.part (one I e) r j b)
  rw [Finset.sum_range] at h2
  rw [h2]
  exact congrArg (fun s => I.gate r e * s) (Cert.Ffn.acc_all (one I e) r j)

/-- The result: the activations plus the weighted experts. -/
def res (r : Fin 65536) (j : Fin 1024) : EReal := I.h r j + ∑ e : Fin 8, I.gate r e * full I r j e

end Cert.Moe

end
-- ==== Proof.MBlk.lean ====
/- What each window of the expert launch holds at a grid point, read off the arguments: point `t` is block `t % 7` of the
   hidden units of expert `t / 7 % 8` for row block `t / 56`. -/
module

public import proofs.«01_k».proof.Proof.MMath
public import proofs.«01_k».proof.Proof.Gen.Kernel7Ideal.Value
public import Idealize.ShloMosaic.Lib.Claim
public import Idealize.ShloMosaic.Lib.KernelVsHost

@[expose] public section

set_option maxRecDepth 16384

noncomputable section

namespace Cert.Moe

open Cert.Kernel7Ideal Cert.Kernel7Ideal.Gen Idealize.ShloMosaic Idealize.ShloMosaic.TcCoe Idealize.SL.Sem
open Cert.Ffn (col)

variable (m : (ℓ : Loc nD τ sig) → Buf (Elt Ideal) ℓ) (c : Dev nD)

/-- Row `i` of point `t`'s row block. -/
def row (t : ℕ) (i : Fin 1024) : Fin 65536 := ⟨(t / 56 * 1024 + i.val) % 65536, Nat.mod_lt _ (by decide)⟩

/-- The launch's inputs at coordinates. -/
def inp : Inputs where
  h := fun r k => (m (c, main_arg0) : Vec Ideal S65536x1024 .f32) (ix2 r k)
  g := fun k => (m (c, main_arg1) : Vec Ideal S1024 .f32) (ix1 k)
  gate := fun r e => (m (c, main_arg2) : Vec Ideal S65536x8 .f32) (ix2 r e)
  wg := fun e k f => (m (c, main_arg3) : Vec Ideal S8x1024x3584 .f32) (ix3 e k f)
  wu := fun e k f => (m (c, main_arg4) : Vec Ideal S8x1024x3584 .f32) (ix3 e k f)
  wd := fun e f j => (m (c, main_arg5) : Vec Ideal S8x3584x1024 .f32) (ix3 e f j)

/-- A point's second grid coordinate is its expert. -/
theorem coord1 : ∀ t : Fin cfg0.N, ((grid0.coords t) 1).val = (ex t.val).val :=
  (by decide +kernel : ∀ t : Fin grid0.N, ((grid0.coords t) 1).val = t.val / 7 % 8)

theorem idx0 : ∀ t : Fin cfg0.N, win0_0.index t (0 : Fin 2) = t.val / 56 ∧ win0_0.index t (1 : Fin 2) = 0 :=
  (by decide +kernel : ∀ t : Fin grid0.N, win0_0.index t (0 : Fin 2) = t.val / 56 ∧ win0_0.index t (1 : Fin 2) = 0)

theorem emb0 (t : Fin cfg0.N) (i : Fin 1024) (k : Fin 1024) :
    (((cfg0.win 0).blk t).view.emb (ix2 i k) : S65536x1024.Idx) = ix2 (row t.val i) (k) := by
  have h := idx0 t
  have ht : t.val < 3584 := lt_of_lt_of_eq t.isLt N_0
  funext b
  apply Fin.ext
  match b with
  | ⟨0, _⟩ =>
    show win0_0.index t (0 : Fin 2) * 1024 + 1 * i.val = (t.val / 56 * 1024 + i.val) % 65536
    rw [h.1]
    omega
  | ⟨1, _⟩ =>
    show win0_0.index t (1 : Fin 2) * 1024 + 1 * k.val = k.val
    rw [h.2]
    omega

theorem rd0 (t : Fin cfg0.N) (i : Fin 1024) (k : Fin 1024) :
    (iblk m c 0 t : Vec Ideal S1024x1024 .f32) (ix2 i k) = (V m c main_arg0 : Vec Ideal S65536x1024 .f32) (ix2 (row t.val i) (k)) := by
  unfold iblk
  rw [View.read_apply, emb0]
  rfl

theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

theorem emb1 (t : Fin cfg0.N) (i : Fin 1) (k : Fin 1024) :
    (((cfg0.win 1).blk t).view.emb (ix2 i k) : S1x1024.Idx) = ix2 (i) (k) := by
  have h := idx1 t
  have ht : t.val < 3584 := lt_of_lt_of_eq t.isLt N_0
  funext b
  apply Fin.ext
  match b with
  | ⟨0, _⟩ =>
    show win0_1.index t (0 : Fin 2) * 1 + 1 * i.val = i.val
    rw [h.1]
    omega
  | ⟨1, _⟩ =>
    show win0_1.index t (1 : Fin 2) * 1024 + 1 * k.val = k.val
    rw [h.2]
    omega

theorem rd1 (t : Fin cfg0.N) (i : Fin 1) (k : Fin 1024) :
    (iblk m c 1 t : Vec Ideal S1x1024 .f32) (ix2 i k) = (V m c main_v0 : Vec Ideal S1x1024 .f32) (ix2 (i) (k)) := by
  unfold iblk
  rw [View.read_apply, emb1]
  rfl

theorem idx2 : ∀ t : Fin cfg0.N, win0_2.index t (0 : Fin 2) = t.val / 56 ∧ win0_2.index t (1 : Fin 2) = 0 :=
  (by decide +kernel : ∀ t : Fin grid0.N, win0_2.index t (0 : Fin 2) = t.val / 56 ∧ win0_2.index t (1 : Fin 2) = 0)

theorem emb2 (t : Fin cfg0.N) (i : Fin 1024) (k : Fin 128) :
    (((cfg0.win 2).blk t).view.emb (ix2 i k) : S65536x128.Idx) = ix2 (row t.val i) (k) := by
  have h := idx2 t
  have ht : t.val < 3584 := lt_of_lt_of_eq t.isLt N_0
  funext b
  apply Fin.ext
  match b with
  | ⟨0, _⟩ =>
    show win0_2.index t (0 : Fin 2) * 1024 + 1 * i.val = (t.val / 56 * 1024 + i.val) % 65536
    rw [h.1]
    omega
  | ⟨1, _⟩ =>
    show win0_2.index t (1 : Fin 2) * 128 + 1 * k.val = k.val
    rw [h.2]
    omega

theorem rd2 (t : Fin cfg0.N) (i : Fin 1024) (k : Fin 128) :
    (iblk m c 2 t : Vec Ideal S1024x128 .f32) (ix2 i k) = (V m c main_v1 : Vec Ideal S65536x128 .f32) (ix2 (row t.val i) (k)) := by
  unfold iblk
  rw [View.read_apply, emb2]
  rfl

theorem idx3 : ∀ t : Fin cfg0.N, win0_3.index t (0 : Fin 3) = t.val / 7 % 8 ∧ win0_3.index t (1 : Fin 3) = 0 ∧ win0_3.index t (2 : Fin 3) = t.val % 7 :=
  (by decide +kernel : ∀ t : Fin grid0.N, win0_3.index t (0 : Fin 3) = t.val / 7 % 8 ∧ win0_3.index t (1 : Fin 3) = 0 ∧ win0_3.index t (2 : Fin 3) = t.val % 7)

theorem emb3 (t : Fin cfg0.N) (a : Fin 1) (i : Fin 1024) (k : Fin 512) :
    (((cfg0.win 3).blk t).view.emb (ix3 a i k) : S8x1024x3584.Idx) = ix3 (ex t.val) (i) (col (t.val % 7) k) := by
  have h := idx3 t
  have ht : t.val < 3584 := lt_of_lt_of_eq t.isLt N_0
  funext b
  apply Fin.ext
  match b with
  | ⟨0, _⟩ =>
    show win0_3.index t (0 : Fin 3) * 1 + 1 * a.val = t.val / 7 % 8
    rw [h.1]
    omega
  | ⟨1, _⟩ =>
    show win0_3.index t (1 : Fin 3) * 1024 + 1 * i.val = i.val
    rw [h.2.1]
    omega
  | ⟨2, _⟩ =>
    show win0_3.index t (2 : Fin 3) * 512 + 1 * k.val = (512 * (t.val % 7) + k.val) % 3584
    rw [h.2.2]
    omega

theorem rd3 (t : Fin cfg0.N) (a : Fin 1) (i : Fin 1024) (k : Fin 512) :
    (iblk m c 3 t : Vec Ideal S1x1024x512 .bf16) (ix3 a i k) = (V m c main_v2 : Vec Ideal S8x1024x3584 .bf16) (ix3 (ex t.val) (i) (col (t.val % 7) k)) := by
  unfold iblk
  rw [View.read_apply, emb3]
  rfl

theorem idx4 : ∀ t : Fin cfg0.N, win0_4.index t (0 : Fin 3) = t.val / 7 % 8 ∧ win0_4.index t (1 : Fin 3) = 0 ∧ win0_4.index t (2 : Fin 3) = t.val % 7 :=
  (by decide +kernel : ∀ t : Fin grid0.N, win0_4.index t (0 : Fin 3) = t.val / 7 % 8 ∧ win0_4.index t (1 : Fin 3) = 0 ∧ win0_4.index t (2 : Fin 3) = t.val % 7)

theorem emb4 (t : Fin cfg0.N) (a : Fin 1) (i : Fin 1024) (k : Fin 512) :
    (((cfg0.win 4).blk t).view.emb (ix3 a i k) : S8x1024x3584.Idx) = ix3 (ex t.val) (i) (col (t.val % 7) k) := by
  have h := idx4 t
  have ht : t.val < 3584 := lt_of_lt_of_eq t.isLt N_0
  funext b
  apply Fin.ext
  match b with
  | ⟨0, _⟩ =>
    show win0_4.index t (0 : Fin 3) * 1 + 1 * a.val = t.val / 7 % 8
    rw [h.1]
    omega
  | ⟨1, _⟩ =>
    show win0_4.index t (1 : Fin 3) * 1024 + 1 * i.val = i.val
    rw [h.2.1]
    omega
  | ⟨2, _⟩ =>
    show win0_4.index t (2 : Fin 3) * 512 + 1 * k.val = (512 * (t.val % 7) + k.val) % 3584
    rw [h.2.2]
    omega

theorem rd4 (t : Fin cfg0.N) (a : Fin 1) (i : Fin 1024) (k : Fin 512) :
    (iblk m c 4 t : Vec Ideal S1x1024x512 .bf16) (ix3 a i k) = (V m c main_v3 : Vec Ideal S8x1024x3584 .bf16) (ix3 (ex t.val) (i) (col (t.val % 7) k)) := by
  unfold iblk
  rw [View.read_apply, emb4]
  rfl

theorem idx5 : ∀ t : Fin cfg0.N, win0_5.index t (0 : Fin 3) = t.val / 7 % 8 ∧ win0_5.index t (1 : Fin 3) = t.val % 7 ∧ win0_5.index t (2 : Fin 3) = 0 :=
  (by decide +kernel : ∀ t : Fin grid0.N, win0_5.index t (0 : Fin 3) = t.val / 7 % 8 ∧ win0_5.index t (1 : Fin 3) = t.val % 7 ∧ win0_5.index t (2 : Fin 3) = 0)

theorem emb5 (t : Fin cfg0.N) (a : Fin 1) (i : Fin 512) (k : Fin 1024) :
    (((cfg0.win 5).blk t).view.emb (ix3 a i k) : S8x3584x1024.Idx) = ix3 (ex t.val) (col (t.val % 7) i) (k) := by
  have h := idx5 t
  have ht : t.val < 3584 := lt_of_lt_of_eq t.isLt N_0
  funext b
  apply Fin.ext
  match b with
  | ⟨0, _⟩ =>
    show win0_5.index t (0 : Fin 3) * 1 + 1 * a.val = t.val / 7 % 8
    rw [h.1]
    omega
  | ⟨1, _⟩ =>
    show win0_5.index t (1 : Fin 3) * 512 + 1 * i.val = (512 * (t.val % 7) + i.val) % 3584
    rw [h.2.1]
    omega
  | ⟨2, _⟩ =>
    show win0_5.index t (2 : Fin 3) * 1024 + 1 * k.val = k.val
    rw [h.2.2]
    omega

theorem rd5 (t : Fin cfg0.N) (a : Fin 1) (i : Fin 512) (k : Fin 1024) :
    (iblk m c 5 t : Vec Ideal S1x512x1024 .bf16) (ix3 a i k) = (V m c main_v4 : Vec Ideal S8x3584x1024 .bf16) (ix3 (ex t.val) (col (t.val % 7) i) (k)) := by
  unfold iblk
  rw [View.read_apply, emb5]
  rfl

theorem V_v0 : (V m c main_v0 : Vec Ideal S1x1024 .f32) = shapeCast S1x1024 (m (c, main_arg1)) shapeCasts_S1024_S1x1024 := by
  show StableHlo.after _ _ _ = _
  simp only [List.flatten_cons, List.flatten_nil, hostOps0, hostOps0_1, hostOps0_2, List.cons_append, List.nil_append, List.append_nil]
  entry_read
  rfl

theorem V_v1 : (V m c main_v1 : Vec Ideal S65536x128 .f32) = pad S65536x128 ![0, 0] ![0, 120] ![0, 0] (m (c, main_arg2)) (sitofp (F := Ideal) .f32 (constantI S_ 32 0#32)) pads_S65536x8_S65536x128_000_01200 h_S_ := by
  show StableHlo.after _ _ _ = _
  simp only [List.flatten_cons, List.flatten_nil, hostOps0, hostOps0_1, hostOps0_2, List.cons_append, List.nil_append, List.append_nil]
  entry_read
  rfl

theorem V_v2 : (V m c main_v2 : Vec Ideal S8x1024x3584 .bf16) = (truncf (F := Ideal) .bf16 (m (c, main_arg3) : FVec Ideal S8x1024x3584 .f32) bitsLt_bf16_f32 : FVec Ideal S8x1024x3584 .bf16) := by
  show StableHlo.after _ _ _ = _
  simp only [List.flatten_cons, List.flatten_nil, hostOps0, hostOps0_1, hostOps0_2, List.cons_append, List.nil_append, List.append_nil]
  entry_read
  rfl

theorem V_v3 : (V m c main_v3 : Vec Ideal S8x1024x3584 .bf16) = (truncf (F := Ideal) .bf16 (m (c, main_arg4) : FVec Ideal S8x1024x3584 .f32) bitsLt_bf16_f32 : FVec Ideal S8x1024x3584 .bf16) := by
  show StableHlo.after _ _ _ = _
  simp only [List.flatten_cons, List.flatten_nil, hostOps0, hostOps0_1, hostOps0_2, List.cons_append, List.nil_append, List.append_nil]
  entry_read
  rfl

theorem V_v4 : (V m c main_v4 : Vec Ideal S8x3584x1024 .bf16) = (truncf (F := Ideal) .bf16 (m (c, main_arg5) : FVec Ideal S8x3584x1024 .f32) bitsLt_bf16_f32 : FVec Ideal S8x3584x1024 .bf16) := by
  show StableHlo.after _ _ _ = _
  simp only [List.flatten_cons, List.flatten_nil, hostOps0, hostOps0_1, hostOps0_2, List.cons_append, List.nil_append, List.append_nil]
  entry_read
  rfl

theorem V_v0_at (i : Fin 1) (k : Fin 1024) :
    (shapeCast S1x1024 (m (c, main_arg1) : Vec Ideal S1024 .f32) shapeCasts_S1024_S1x1024 : Vec Ideal S1x1024 .f32) (ix2 i k) = (inp m c).g k := by
  unfold inp
  pointwise

/-- A padded row of weights begins with the row's weights. -/
theorem pad8 (x : Vec Ideal S65536x8 .f32) (v : Vec Ideal S_ .f32) (r : Fin 65536) (e : Fin 8) :
    pad S65536x128 ![0, 0] ![0, 120] ![0, 0] x v pads_S65536x8_S65536x128_000_01200 h_S_ (ix2 r ⟨e.val, by omega⟩) = x (ix2 r e) := by
  refine pad_apply_of_inside _ _ _ _ _ _ _ _ (ix2 r e) ?_
  intro a
  match a with
  | ⟨0, _⟩ => show r.val = 0 + r.val * (0 + 1); omega
  | ⟨1, _⟩ => show e.val = 0 + e.val * (0 + 1); omega

theorem blk0 (t : Fin cfg0.N) (i : Fin 1024) (k : Fin 1024) : (iblk m c 0 t : Vec Ideal S1024x1024 .f32) (ix2 i k) = (inp m c).h (row t.val i) k := by
  rw [rd0, V_main_arg0]
  rfl

theorem blk1 (t : Fin cfg0.N) (i : Fin 1) (k : Fin 1024) : (iblk m c 1 t : Vec Ideal S1x1024 .f32) (ix2 i k) = (inp m c).g k := by
  rw [rd1, V_v0]
  exact V_v0_at m c i k

theorem blk2 (t : Fin cfg0.N) (i : Fin 1024) (e : Fin 8) : (iblk m c 2 t : Vec Ideal S1024x128 .f32) (ix2 i ⟨e.val, by omega⟩) = (inp m c).gate (row t.val i) e := by
  rw [rd2, V_v1, pad8]
  rfl

theorem blk3 (t : Fin cfg0.N) (i : Fin 1024) (k : Fin 512) : (iblk m c 3 t : Vec Ideal S1x1024x512 .bf16) (ix3 0 i k) = (inp m c).wg (ex t.val) i (col (t.val % 7) k) := by
  rw [rd3, V_v2]
  rfl

theorem blk4 (t : Fin cfg0.N) (i : Fin 1024) (k : Fin 512) : (iblk m c 4 t : Vec Ideal S1x1024x512 .bf16) (ix3 0 i k) = (inp m c).wu (ex t.val) i (col (t.val % 7) k) := by
  rw [rd4, V_v3]
  rfl

theorem blk5 (t : Fin cfg0.N) (i : Fin 512) (k : Fin 1024) : (iblk m c 5 t : Vec Ideal S1x512x1024 .bf16) (ix3 0 i k) = (inp m c).wd (ex t.val) (col (t.val % 7) i) k := by
  rw [rd5, V_v4]
  rfl

end Cert.Moe

end
-- ==== Proof.MVec.lean ====
/- The expert kernel's body, read at an index: the normed rows, one point's weighted contribution, the result rows. -/
module

public import proofs.«01_k».proof.Proof.MMath
public import proofs.«01_k».proof.Proof.Gen.Kernel7Ideal.Value
public import Idealize.ShloMosaic.Lib.Claim

@[expose] public section

set_option maxRecDepth 16384

noncomputable section

namespace Cert.Moe

open Cert.Kernel7Ideal Cert.Kernel7Ideal.Gen Idealize.ShloMosaic Idealize.ShloMosaic.TcCoe Idealize.SL.Sem

theorem pay1_apply (x : FVec Ideal S1024x1024 .f32) (i k : Fin 1024) : k0_pay1 x (ix2 i k) = x (ix2 i k) := by
  pointwise [k0_pay1]

theorem pay3_apply (x : Vec Ideal S1024x1024 .f32) (g : Vec Ideal S1x1024 .f32) (i k : Fin 1024) :
    k0_pay3 x g (ix2 i k) = Cert.Ffn.norm (fun q => x (ix2 i q)) (fun q => g (ix2 0 q)) k := by
  unfold Cert.Ffn.norm
  pointwise [k0_pay3]

theorem pay4_apply (i k : Fin 1024) : (k0_pay4 (F := Ideal)) (ix2 i k) = 0 := by
  pointwise [k0_pay4]

/-- The row's weight the body picks: the padded weights' lanes, all but the expert's turned to zero, summed. -/
theorem lane_sum (gt : Vec Ideal S1024x128 .f32) (p : ℕ) (e : Fin 8) (h : p = e.val) (i : Fin 1024) :
    (∑ q : Fin 128, Scalar.select (IntOp.cmpi CmpIPredicate.eq (BitVec.ofNat 32 q.val) (BitVec.ofNat 32 p)) (gt (ix2 i q)) (0 : EReal)) = gt (ix2 i ⟨e.val, by omega⟩) := by
  subst h
  have hq : ∀ q : Fin 128, (BitVec.ofNat 32 q.val = BitVec.ofNat 32 e.val) ↔ (⟨e.val, by omega⟩ : Fin 128) = q := fun q => by
    have := q.isLt
    have := e.isLt
    constructor
    · intro h
      have h2 := congrArg BitVec.toNat h
      simp only [BitVec.toNat_ofNat] at h2
      apply Fin.ext
      show e.val = q.val
      omega
    · intro h
      rw [← h]
  have hs : ∀ q : Fin 128, Scalar.select (IntOp.cmpi CmpIPredicate.eq (BitVec.ofNat 32 q.val) (BitVec.ofNat 32 e.val)) (gt (ix2 i q)) (0 : EReal)
      = if (⟨e.val, by omega⟩ : Fin 128) = q then gt (ix2 i q) else (0 : EReal) := fun q => by
    by_cases hc : BitVec.ofNat 32 q.val = BitVec.ofNat 32 e.val
    · rw [if_pos ((hq q).mp hc)]
      simp [Scalar.select, IntOp.cmpi, hc]
    · rw [if_neg (fun h => hc ((hq q).mpr h))]
      unfold Scalar.select IntOp.cmpi
      dsimp only
      rw [beq_false_of_ne hc]
      exact if_neg (by decide)
  simp only [hs]
  rw [Finset.sum_ite_eq]
  simp

theorem pay5_apply (c : grid0.Coords) (xn : Vec Ideal S1024x1024 .bf16) (wg wu : Vec Ideal S1x1024x512 .bf16) (gt : Vec Ideal S1024x128 .f32)
    (a : Vec Ideal S1024x1024 .f32) (wd : Vec Ideal S1x512x1024 .bf16) (e : Fin 8) (h : (c 1).val = e.val) (i j : Fin 1024) :
    k0_pay5 c xn wg wu gt a wd (ix2 i j) = a (ix2 i j) + gt (ix2 i ⟨e.val, by omega⟩) * ∑ f : Fin 512,
      Cert.Ffn.act (fun k => xn (ix2 i k)) (fun k => wg (ix3 0 k f)) (fun k => wu (ix3 0 k f)) * wd (ix3 0 f j) := by
  unfold Cert.Ffn.act
  rw [← lane_sum gt (c 1).val e h i]
  pointwise [k0_pay5]

theorem pay2_apply (x a : Vec Ideal S1024x1024 .f32) (i j : Fin 1024) : k0_pay2 x a (ix2 i j) = x (ix2 i j) + a (ix2 i j) := by
  pointwise [k0_pay2]

end Cert.Moe

end
-- ==== Proof.MOut.lean ====
/- What each kind of grid point of the expert launch leaves: the case's stores read back as the body's terms. -/
module

public import proofs.«01_k».proof.Proof.MVec
public import Idealize.ShloMosaic.Lib.Pipeline.ReadBack

@[expose] public section

set_option maxRecDepth 16384

noncomputable section

namespace Cert.Moe

open Cert.Kernel7Ideal Cert.Kernel7Ideal.Gen Idealize.ShloMosaic Idealize.ShloMosaic.TcCoe Idealize.SL.Sem

theorem hz2 : (![0, 0] : Fin 2 → Nat) = fun _ => 0 := by funext a; match a with | ⟨0, _⟩ => rfl | ⟨1, _⟩ => rfl

theorem hz3 : (![0, 0, 0] : Fin 3 → Nat) = fun _ => 0 := by funext a; match a with | ⟨0, _⟩ => rfl | ⟨1, _⟩ => rfl | ⟨2, _⟩ => rfl

/-- At a row block's first point the carried rows are the normed rows. -/
theorem xnA (c : Dev nD) (i : grid0.Coords) (arg3 : Memref sig .tc .vmem S1024x1024 .f32) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1x1024x512 .bf16) (harg6 : arg6.IsWhole) (arg7 : Memref sig .tc .vmem S1x1024x512 .bf16) (harg7 : arg7.IsWhole) (arg8 : Memref sig .tc .vmem S1x512x1024 .bf16) (harg8 : arg8.IsWhole) (arg9 : Memref sig .tc .vmem S1024x1024 .f32) (harg9 : arg9.IsWhole) (arg10 : Memref sig .tc .vmem S1024x1024 .bf16) (harg10 : arg10.IsWhole) (arg11 : Memref sig .tc .vmem S1024x1024 .f32) (harg11 : arg11.IsWhole) (hc0 : cond0_0 i) (hc1 : ¬cond0_1 i)
    (x0 : Vec Ideal S1024x1024 .f32) (x1 : Vec Ideal S1x1024 .f32) (x2 : Vec Ideal S1024x128 .f32) (x3 x4 : Vec Ideal S1x1024x512 .bf16) (x5 : Vec Ideal S1x512x1024 .bf16) :
    sout0_A_0 c i arg3 harg3 arg4 harg4 arg5 harg5 arg6 harg6 arg7 harg7 arg8 harg8 arg9 harg9 arg10 harg10 arg11 harg11 hc0 hc1 x0 x1 x2 x3 x4 x5 = k0_pay3 x0 x1 := by
  unfold sout0_A_0
  rw [View.read_writes_junk_eq_canon]
  unfold kernelRun0_A
  dsimp only
  sl_unfold_words
  simp only [View.readAt_eq_ld, harg3.read_unread, harg4.read_unread, harg5.read_unread, harg6.read_unread, harg7.read_unread, harg8.read_unread,
    View.ld_unit_zero (S := S1024x1024) hz2, View.ld_unit_zero (S := S1x1024) hz2, View.ld_unit_zero (S := S1024x128) hz2, View.ld_unit_zero (S := S1x1024x512) hz3, View.ld_unit_zero (S := S1x512x1024) hz3]
  rw [View.canon_cons_unit_zero hz2]

/-- At a row block's first point the running sum is the first contribution on zero. -/
theorem accA (c : Dev nD) (i : grid0.Coords) (arg3 : Memref sig .tc .vmem S1024x1024 .f32) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1x1024x512 .bf16) (harg6 : arg6.IsWhole) (arg7 : Memref sig .tc .vmem S1x1024x512 .bf16) (harg7 : arg7.IsWhole) (arg8 : Memref sig .tc .vmem S1x512x1024 .bf16) (harg8 : arg8.IsWhole) (arg9 : Memref sig .tc .vmem S1024x1024 .f32) (harg9 : arg9.IsWhole) (arg10 : Memref sig .tc .vmem S1024x1024 .bf16) (harg10 : arg10.IsWhole) (arg11 : Memref sig .tc .vmem S1024x1024 .f32) (harg11 : arg11.IsWhole) (hc0 : cond0_0 i) (hc1 : ¬cond0_1 i)
    (x0 : Vec Ideal S1024x1024 .f32) (x1 : Vec Ideal S1x1024 .f32) (x2 : Vec Ideal S1024x128 .f32) (x3 x4 : Vec Ideal S1x1024x512 .bf16) (x5 : Vec Ideal S1x512x1024 .bf16) :
    sout0_A_1 c i arg3 harg3 arg4 harg4 arg5 harg5 arg6 harg6 arg7 harg7 arg8 harg8 arg9 harg9 arg10 harg10 arg11 harg11 hc0 hc1 x0 x1 x2 x3 x4 x5 = k0_pay1 (k0_pay5 i (k0_pay3 x0 x1) x3 x4 x2 (k0_pay4 (F := Ideal) : FVec Ideal S1024x1024 .f32) x5) := by
  unfold sout0_A_1
  rw [View.read_writes_junk_eq_canon]
  unfold kernelRun0_A
  dsimp only
  sl_unfold_words
  simp (disch := decide) only [↓ View.readCov_skip, ↓ View.readCov_cons_toLoadRect, ↓ View.readCov_fill]
  simp only [View.readAt_eq_ld, harg3.read_unread, harg4.read_unread, harg5.read_unread, harg6.read_unread, harg7.read_unread, harg8.read_unread,
    View.ld_unit_zero (S := S1024x1024) hz2, View.ld_unit_zero (S := S1x1024) hz2, View.ld_unit_zero (S := S1024x128) hz2, View.ld_unit_zero (S := S1x1024x512) hz3, View.ld_unit_zero (S := S1x512x1024) hz3]
  rw [View.canon_cons_unit_zero hz2]

/-- A middle point adds its contribution to the running sum. -/
theorem accB (c : Dev nD) (i : grid0.Coords) (arg3 : Memref sig .tc .vmem S1024x1024 .f32) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1x1024x512 .bf16) (harg6 : arg6.IsWhole) (arg7 : Memref sig .tc .vmem S1x1024x512 .bf16) (harg7 : arg7.IsWhole) (arg8 : Memref sig .tc .vmem S1x512x1024 .bf16) (harg8 : arg8.IsWhole) (arg9 : Memref sig .tc .vmem S1024x1024 .f32) (harg9 : arg9.IsWhole) (arg10 : Memref sig .tc .vmem S1024x1024 .bf16) (harg10 : arg10.IsWhole) (arg11 : Memref sig .tc .vmem S1024x1024 .f32) (harg11 : arg11.IsWhole) (hc0 : ¬cond0_0 i) (hc1 : ¬cond0_1 i)
    (x0 : Vec Ideal S1024x1024 .f32) (x1 : Vec Ideal S1x1024 .f32) (x2 : Vec Ideal S1024x128 .f32) (x3 x4 : Vec Ideal S1x1024x512 .bf16) (x5 : Vec Ideal S1x512x1024 .bf16) (xs0 : Vec Ideal S1024x1024 .bf16) (xs1 : Vec Ideal S1024x1024 .f32) :
    sout0_B_1 c i arg3 harg3 arg4 harg4 arg5 harg5 arg6 harg6 arg7 harg7 arg8 harg8 arg9 harg9 arg10 harg10 arg11 harg11 hc0 hc1 x0 x1 x2 x3 x4 x5 xs0 xs1 = k0_pay1 (k0_pay5 i xs0 x3 x4 x2 xs1 x5) := by
  unfold sout0_B_1
  rw [View.read_writes_junk_eq_canon]
  unfold kernelRun0_B
  dsimp only
  sl_unfold_words
  simp only [View.readAt_eq_ld, harg3.read_unread, harg4.read_unread, harg5.read_unread, harg6.read_unread, harg7.read_unread, harg8.read_unread, harg10.read_unread, harg11.read_unread,
    View.ld_unit_zero (S := S1024x1024) hz2, View.ld_unit_zero (S := S1x1024) hz2, View.ld_unit_zero (S := S1024x128) hz2, View.ld_unit_zero (S := S1x1024x512) hz3, View.ld_unit_zero (S := S1x512x1024) hz3]
  rw [View.canon_cons_unit_zero hz2]

/-- So does the last point. -/
theorem accC (c : Dev nD) (i : grid0.Coords) (arg3 : Memref sig .tc .vmem S1024x1024 .f32) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1x1024x512 .bf16) (harg6 : arg6.IsWhole) (arg7 : Memref sig .tc .vmem S1x1024x512 .bf16) (harg7 : arg7.IsWhole) (arg8 : Memref sig .tc .vmem S1x512x1024 .bf16) (harg8 : arg8.IsWhole) (arg9 : Memref sig .tc .vmem S1024x1024 .f32) (harg9 : arg9.IsWhole) (arg10 : Memref sig .tc .vmem S1024x1024 .bf16) (harg10 : arg10.IsWhole) (arg11 : Memref sig .tc .vmem S1024x1024 .f32) (harg11 : arg11.IsWhole) (hc0 : ¬cond0_0 i) (hc1 : cond0_1 i)
    (x0 : Vec Ideal S1024x1024 .f32) (x1 : Vec Ideal S1x1024 .f32) (x2 : Vec Ideal S1024x128 .f32) (x3 x4 : Vec Ideal S1x1024x512 .bf16) (x5 : Vec Ideal S1x512x1024 .bf16) (xs0 : Vec Ideal S1024x1024 .bf16) (xs1 : Vec Ideal S1024x1024 .f32) :
    sout0_C_1 c i arg3 harg3 arg4 harg4 arg5 harg5 arg6 harg6 arg7 harg7 arg8 harg8 arg9 harg9 arg10 harg10 arg11 harg11 hc0 hc1 x0 x1 x2 x3 x4 x5 xs0 xs1 = k0_pay1 (k0_pay5 i xs0 x3 x4 x2 xs1 x5) := by
  unfold sout0_C_1
  rw [View.read_writes_junk_eq_canon]
  unfold kernelRun0_C
  dsimp only
  sl_unfold_words
  simp only [View.readAt_eq_ld, harg3.read_unread, harg4.read_unread, harg5.read_unread, harg6.read_unread, harg7.read_unread, harg8.read_unread, harg10.read_unread, harg11.read_unread,
    View.ld_unit_zero (S := S1024x1024) hz2, View.ld_unit_zero (S := S1x1024) hz2, View.ld_unit_zero (S := S1024x128) hz2, View.ld_unit_zero (S := S1x1024x512) hz3, View.ld_unit_zero (S := S1x512x1024) hz3]
  rw [View.canon_cons_unit_zero hz2]

/-- The last point leaves the activations plus the running sum. -/
theorem outC (c : Dev nD) (i : grid0.Coords) (arg3 : Memref sig .tc .vmem S1024x1024 .f32) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1x1024x512 .bf16) (harg6 : arg6.IsWhole) (arg7 : Memref sig .tc .vmem S1x1024x512 .bf16) (harg7 : arg7.IsWhole) (arg8 : Memref sig .tc .vmem S1x512x1024 .bf16) (harg8 : arg8.IsWhole) (arg9 : Memref sig .tc .vmem S1024x1024 .f32) (harg9 : arg9.IsWhole) (arg10 : Memref sig .tc .vmem S1024x1024 .bf16) (harg10 : arg10.IsWhole) (arg11 : Memref sig .tc .vmem S1024x1024 .f32) (harg11 : arg11.IsWhole) (hc0 : ¬cond0_0 i) (hc1 : cond0_1 i)
    (x0 : Vec Ideal S1024x1024 .f32) (x1 : Vec Ideal S1x1024 .f32) (x2 : Vec Ideal S1024x128 .f32) (x3 x4 : Vec Ideal S1x1024x512 .bf16) (x5 : Vec Ideal S1x512x1024 .bf16) (xs0 : Vec Ideal S1024x1024 .bf16) (xs1 : Vec Ideal S1024x1024 .f32) :
    out0_C_6 c i arg3 harg3 arg4 harg4 arg5 harg5 arg6 harg6 arg7 harg7 arg8 harg8 arg9 harg9 arg10 harg10 arg11 harg11 hc0 hc1 x0 x1 x2 x3 x4 x5 xs0 xs1 = k0_pay2 x0 (k0_pay1 (k0_pay5 i xs0 x3 x4 x2 xs1 x5)) := by
  unfold out0_C_6
  rw [View.read_writes_junk_eq_canon]
  unfold kernelRun0_C
  dsimp only
  sl_unfold_words
  simp (disch := decide) only [↓ View.readCov_skip, ↓ View.readCov_cons_toLoadRect, ↓ View.readCov_fill]
  simp only [View.readAt_eq_ld, harg3.read_unread, harg4.read_unread, harg5.read_unread, harg6.read_unread, harg7.read_unread, harg8.read_unread, harg10.read_unread, harg11.read_unread,
    View.ld_unit_zero (S := S1024x1024) hz2, View.ld_unit_zero (S := S1x1024) hz2, View.ld_unit_zero (S := S1024x128) hz2, View.ld_unit_zero (S := S1x1024x512) hz3, View.ld_unit_zero (S := S1x512x1024) hz3]
  rw [View.canon_cons_unit_zero hz2]

end Cert.Moe

end
-- ==== Proof.MVal.lean ====
/- The expert launch at the exact reals: what every grid point leaves, and so the whole result, over the inputs at
   coordinates. -/
module

public import proofs.«01_k».proof.Proof.MBlk
public import proofs.«01_k».proof.Proof.MOut

@[expose] public section

set_option maxRecDepth 16384

noncomputable section

namespace Cert.Moe

open Cert.Kernel7Ideal Cert.Kernel7Ideal.Gen Idealize.ShloMosaic Idealize.ShloMosaic.TcCoe Idealize.SL.Sem
open Cert.Ffn (col)

variable (m : (ℓ : Loc nD τ sig) → Buf (Elt Ideal) ℓ) (c : Dev nD)

/-- A point's contribution, from the normed rows it carries. -/
theorem sum_eq (t : Fin cfg0.N) (xn : Vec Ideal S1024x1024 .bf16) (i j : Fin 1024)
    (h : ∀ k, xn (ix2 i k) = Cert.Ffn.norm ((inp m c).h (row t.val i)) (inp m c).g k) :
    (∑ f : Fin 512, Cert.Ffn.act (fun k => xn (ix2 i k)) (fun k => (iblk m c 3 t : Vec Ideal S1x1024x512 .bf16) (ix3 0 k f))
      (fun k => (iblk m c 4 t : Vec Ideal S1x1024x512 .bf16) (ix3 0 k f)) * (iblk m c 5 t : Vec Ideal S1x512x1024 .bf16) (ix3 0 f j))
      = Cert.Ffn.part (one (inp m c) (ex t.val)) (row t.val i) j (t.val % 7) := by
  unfold Cert.Ffn.part Cert.Ffn.hid
  refine Finset.sum_congr rfl fun f _ => ?_
  have e : (fun k => xn (ix2 i k)) = Cert.Ffn.norm ((inp m c).h (row t.val i)) (inp m c).g := funext h
  have e2 : (fun k => (iblk m c 3 t : Vec Ideal S1x1024x512 .bf16) (ix3 0 k f)) = fun k => (inp m c).wg (ex t.val) k (col (t.val % 7) f) :=
    funext fun k => blk3 m c t k f
  have e3 : (fun k => (iblk m c 4 t : Vec Ideal S1x1024x512 .bf16) (ix3 0 k f)) = fun k => (inp m c).wu (ex t.val) k (col (t.val % 7) f) :=
    funext fun k => blk4 m c t k f
  rw [e, e2, e3, blk5]
  rfl

/-- A point's running sum, from the normed rows and the sum it carries. -/
theorem step (t : Fin cfg0.N) (xn : Vec Ideal S1024x1024 .bf16) (a : Vec Ideal S1024x1024 .f32) (i j : Fin 1024)
    (h : ∀ k, xn (ix2 i k) = Cert.Ffn.norm ((inp m c).h (row t.val i)) (inp m c).g k)
    (ha : a (ix2 i j) = acc (inp m c) (row t.val i) j (t.val % 56)) :
    k0_pay1 (k0_pay5 (grid0.coords t) xn (iblk m c 3 t) (iblk m c 4 t) (iblk m c 2 t) a (iblk m c 5 t)) (ix2 i j)
      = acc (inp m c) (row t.val i) j (t.val % 56 + 1) := by
  have e1 : ex (t.val % 56) = ex t.val := by
    apply Fin.ext
    show t.val % 56 / 7 % 8 = t.val / 7 % 8
    omega
  have e2 : t.val % 56 % 7 = t.val % 7 := by omega
  rw [pay1_apply, pay5_apply (grid0.coords t) xn _ _ _ a _ (ex t.val) (coord1 t), sum_eq m c t xn i j h, blk2, ha, acc_succ]
  unfold term
  rw [e1, e2]

/-- The first point's normed rows. -/
theorem xn_eq (t : Fin cfg0.N) (i k : Fin 1024) :
    k0_pay3 (F := Ideal) (iblk m c 0 t) (iblk m c 1 t) (ix2 i k) = Cert.Ffn.norm ((inp m c).h (row t.val i)) (inp m c).g k := by
  rw [pay3_apply]
  have e0 : (fun q => (iblk m c 0 t : Vec Ideal S1024x1024 .f32) (ix2 i q)) = (inp m c).h (row t.val i) :=
    funext fun q => blk0 m c t i q
  have e1 : (fun q => (iblk m c 1 t : Vec Ideal S1x1024 .f32) (ix2 0 q)) = (inp m c).g := funext fun q => blk1 m c t 0 q
  rw [← e0, ← e1]

/-- What a point leaves: the normed rows, the sum of the points so far and, at a row block's last point, the result. -/
def Inv (t : Fin cfg0.N) : Prop :=
  (∀ i k, (outsAt0 m c t.val t.isLt).2.1 (ix2 i k) = Cert.Ffn.norm ((inp m c).h (row t.val i)) (inp m c).g k)
  ∧ (∀ i j, (outsAt0 m c t.val t.isLt).2.2 (ix2 i j) = acc (inp m c) (row t.val i) j (t.val % 56 + 1))
  ∧ (t.val % 56 = 55 → ∀ i j, (outsAt0 m c t.val t.isLt).1 (ix2 i j) = (inp m c).h (row t.val i) j + acc (inp m c) (row t.val i) j 56)

theorem inv_A (t : Fin cfg0.N) (h0 : t.val % 56 = 0) : Inv m c t := by
  have h1 : ¬t.val % 56 = 55 := by omega
  unfold Inv
  rw [outsAt0_A m c t h0 h1]
  dsimp only
  refine ⟨fun i k => ?_, fun i j => ?_, fun h => absurd h h1⟩
  · rw [xnA, xn_eq]
  · rw [accA]
    exact step m c t _ _ i j (xn_eq m c t i) (by rw [pay4_apply, h0, acc_zero])

theorem prev (t : Fin cfg0.N) (h0 : ¬t.val % 56 = 0)
    (ih : Inv m c ⟨t.val - 1, Nat.lt_of_le_of_lt (Nat.sub_le _ _) t.isLt⟩) :
    (∀ i k, (outsAt0 m c (t.val - 1) (Nat.lt_of_le_of_lt (Nat.sub_le _ _) t.isLt)).2.1 (ix2 i k) = Cert.Ffn.norm ((inp m c).h (row t.val i)) (inp m c).g k)
    ∧ (∀ i j, (outsAt0 m c (t.val - 1) (Nat.lt_of_le_of_lt (Nat.sub_le _ _) t.isLt)).2.2 (ix2 i j) = acc (inp m c) (row t.val i) j (t.val % 56)) := by
  obtain ⟨ih1, ih2, _⟩ := ih
  have er : ∀ i, row (t.val - 1) i = row t.val i := fun i => by
    apply Fin.ext
    show ((t.val - 1) / 56 * 1024 + i.val) % 65536 = (t.val / 56 * 1024 + i.val) % 65536
    have : (t.val - 1) / 56 = t.val / 56 := by omega
    rw [this]
  have eq : (t.val - 1) % 56 + 1 = t.val % 56 := by omega
  dsimp only at ih1 ih2
  simp only [er, eq] at ih1 ih2
  exact ⟨ih1, ih2⟩

theorem inv_B (t : Fin cfg0.N) (h0 : ¬t.val % 56 = 0)
    (ih : Inv m c ⟨t.val - 1, Nat.lt_of_le_of_lt (Nat.sub_le _ _) t.isLt⟩) : Inv m c t := by
  obtain ⟨p1, p2⟩ := prev m c t h0 ih
  unfold Inv
  by_cases h1 : t.val % 56 = 55
  · rw [outsAt0_C m c t h0 h1]
    dsimp only
    refine ⟨fun i k => ?_, fun i j => ?_, fun _ i j => ?_⟩
    · unfold sout0_C_0
      exact p1 i k
    · rw [accC]
      exact step m c t _ _ i j (p1 i) (p2 i j)
    · rw [outC, pay2_apply, blk0, step m c t _ _ i j (p1 i) (p2 i j), h1]
  · rw [outsAt0_B m c t h0 h1]
    dsimp only
    refine ⟨fun i k => ?_, fun i j => ?_, fun h => absurd h h1⟩
    · unfold sout0_B_0
      exact p1 i k
    · rw [accB]
      exact step m c t _ _ i j (p1 i) (p2 i j)

theorem inv : ∀ (n : ℕ) (h : n < cfg0.N), Inv m c ⟨n, h⟩
  | 0, h => inv_A m c ⟨0, h⟩ rfl
  | n + 1, h => by
    by_cases h0 : (n + 1) % 56 = 0
    · exact inv_A m c ⟨n + 1, h⟩ h0
    · exact inv_B m c ⟨n + 1, h⟩ h0 (inv n _)

/-- THE LAUNCH'S RESULT, entry by entry. -/
theorem kernel_value (r : Fin 65536) (j : Fin 1024) :
    (Cert.Kernel7Ideal.Value.G6 m c : Vec Ideal S65536x1024 .f32) (ix2 r j) = (inp m c).h r j + acc (inp m c) r j 56 := by
  have hN : cfg0.N = 3584 := N_0
  have hp : Cert.Kernel7Ideal.Value.pt6Of (ix2 r j : S65536x1024.Idx) = 56 * (r.val / 1024) + 55 := by
    show 56 * (1 * (r.val / 1024 - 0) + 1 * (j.val / 1024 - 0)) + 55 = 56 * (r.val / 1024) + 55
    omega
  have h' : Cert.Kernel7Ideal.Value.pt6Of (ix2 r j : S65536x1024.Idx) < cfg0.N := by rw [hp, hN]; omega
  have hl : Cert.Kernel7Ideal.Value.loc6Of (ix2 r j : S65536x1024.Idx) = ix2 ⟨r.val % 1024, by omega⟩ j := by
    funext a
    apply Fin.ext
    match a with
    | ⟨0, _⟩ => rfl
    | ⟨1, _⟩ => show j.val % 1024 = j.val; omega
  have key := (inv m c _ h').2.2 (by dsimp only; rw [hp]; omega) ⟨r.val % 1024, by omega⟩ j
  dsimp only at key
  rw [Cert.Kernel7Ideal.Value.outsAt0_sweep m c _ h'] at key
  unfold Cert.Kernel7Ideal.Value.G6
  rw [dif_pos h', hl]
  refine key.trans ?_
  have er : row (Cert.Kernel7Ideal.Value.pt6Of (ix2 r j : S65536x1024.Idx)) ⟨r.val % 1024, by omega⟩ = r := by
    apply Fin.ext
    rw [hp]
    show ((56 * (r.val / 1024) + 55) / 56 * 1024 + r.val % 1024) % 65536 = r.val
    omega
  rw [er]

end Cert.Moe

end
-- ==== Proof.MRef.lean ====
/- The experts' reference at the exact reals: its composed term at an index is the mathematics. -/
module

public import proofs.«01_k».proof.Proof.MMath
public import proofs.«01_k».proof.Proof.FRef
public import proofs.«01_k».proof.Proof.Gen.Reference7Ideal.Run
public import Idealize.ShloMosaic.Lib.KernelVsHost

@[expose] public section

set_option maxRecDepth 16384

noncomputable section

namespace Cert.Moe.Ref

open Cert.Reference7Ideal Cert.Reference7Ideal.Gen Cert.Reference7Ideal.Value
open Idealize.ShloMosaic Idealize.ShloMosaic.TcCoe Idealize.ShloMosaic.StableHlo
open Idealize.SL Idealize.SL.Sem

variable (a0 : FVec Ideal S65536x1024 .f32) (a1 : FVec Ideal S1024 .f32) (a2 : FVec Ideal S65536x8 .f32) (a3 a4 : FVec Ideal S8x1024x3584 .f32) (a5 : FVec Ideal S8x3584x1024 .f32)

/-- One expert's first or second matrix. -/
def wV (w : FVec Ideal S8x1024x3584 .f32) (e : ℕ) (he : S8x1024x3584.Slices ![e, 0, 0] S1x1024x3584) : FVec Ideal S1024x3584 .f32 :=
  shapeCast S1024x3584 (extractStridedSlice S1x1024x3584 ![e, 0, 0] w he) shapeCasts_S1x1024x3584_S1024x3584

/-- One expert's third matrix. -/
def dV (w : FVec Ideal S8x3584x1024 .f32) (e : ℕ) (he : S8x3584x1024.Slices ![e, 0, 0] S1x3584x1024) : FVec Ideal S3584x1024 .f32 :=
  shapeCast S3584x1024 (extractStridedSlice S1x3584x1024 ![e, 0, 0] w he) shapeCasts_S1x3584x1024_S3584x1024

/-- One expert's weighted result from the normed rows. -/
def exV (hn : FVec Ideal S65536x1024 .f32) (wg wu : FVec Ideal S1024x3584 .f32) (wd : FVec Ideal S3584x1024 .f32) (e : ℕ) (he : S65536x8.Slices ![0, e] S65536x1) : FVec Ideal S65536x1024 .f32 :=
  mulf (broadcastInDim S65536x1024 ![0, 1] bcast_S65536x1_S65536x1024_0_1 (extractStridedSlice S65536x1 ![0, e] a2 he))
    (Host.dotGeneral dot_S65536x3584_S3584x1024_S65536x1024_1_0_0_1_n_n none (Cert.Ffn.Ref.actV (Cert.Ffn.Ref.upV hn wg) (Cert.Ffn.Ref.upV hn wu)) wd)

/-- Expert 0's weighted result. -/
def ex0 : FVec Ideal S65536x1024 .f32 :=
  exV a2 (Cert.Ffn.Ref.hnV a0 a1) (wV a3 0 slices_S8x1024x3584_S1x1024x3584_0_0_0) (wV a4 0 slices_S8x1024x3584_S1x1024x3584_0_0_0) (dV a5 0 slices_S8x3584x1024_S1x3584x1024_0_0_0) 0 slices_S65536x8_S65536x1_0_0

/-- Expert 1's weighted result. -/
def ex1 : FVec Ideal S65536x1024 .f32 :=
  exV a2 (Cert.Ffn.Ref.hnV a0 a1) (wV a3 1 slices_S8x1024x3584_S1x1024x3584_1_0_0) (wV a4 1 slices_S8x1024x3584_S1x1024x3584_1_0_0) (dV a5 1 slices_S8x3584x1024_S1x3584x1024_1_0_0) 1 slices_S65536x8_S65536x1_0_1

/-- Expert 2's weighted result. -/
def ex2 : FVec Ideal S65536x1024 .f32 :=
  exV a2 (Cert.Ffn.Ref.hnV a0 a1) (wV a3 2 slices_S8x1024x3584_S1x1024x3584_2_0_0) (wV a4 2 slices_S8x1024x3584_S1x1024x3584_2_0_0) (dV a5 2 slices_S8x3584x1024_S1x3584x1024_2_0_0) 2 slices_S65536x8_S65536x1_0_2

/-- Expert 3's weighted result. -/
def ex3 : FVec Ideal S65536x1024 .f32 :=
  exV a2 (Cert.Ffn.Ref.hnV a0 a1) (wV a3 3 slices_S8x1024x3584_S1x1024x3584_3_0_0) (wV a4 3 slices_S8x1024x3584_S1x1024x3584_3_0_0) (dV a5 3 slices_S8x3584x1024_S1x3584x1024_3_0_0) 3 slices_S65536x8_S65536x1_0_3

/-- Expert 4's weighted result. -/
def ex4 : FVec Ideal S65536x1024 .f32 :=
  exV a2 (Cert.Ffn.Ref.hnV a0 a1) (wV a3 4 slices_S8x1024x3584_S1x1024x3584_4_0_0) (wV a4 4 slices_S8x1024x3584_S1x1024x3584_4_0_0) (dV a5 4 slices_S8x3584x1024_S1x3584x1024_4_0_0) 4 slices_S65536x8_S65536x1_0_4

/-- Expert 5's weighted result. -/
def ex5 : FVec Ideal S65536x1024 .f32 :=
  exV a2 (Cert.Ffn.Ref.hnV a0 a1) (wV a3 5 slices_S8x1024x3584_S1x1024x3584_5_0_0) (wV a4 5 slices_S8x1024x3584_S1x1024x3584_5_0_0) (dV a5 5 slices_S8x3584x1024_S1x3584x1024_5_0_0) 5 slices_S65536x8_S65536x1_0_5

/-- Expert 6's weighted result. -/
def ex6 : FVec Ideal S65536x1024 .f32 :=
  exV a2 (Cert.Ffn.Ref.hnV a0 a1) (wV a3 6 slices_S8x1024x3584_S1x1024x3584_6_0_0) (wV a4 6 slices_S8x1024x3584_S1x1024x3584_6_0_0) (dV a5 6 slices_S8x3584x1024_S1x3584x1024_6_0_0) 6 slices_S65536x8_S65536x1_0_6

/-- Expert 7's weighted result. -/
def ex7 : FVec Ideal S65536x1024 .f32 :=
  exV a2 (Cert.Ffn.Ref.hnV a0 a1) (wV a3 7 slices_S8x1024x3584_S1x1024x3584_7_0_0) (wV a4 7 slices_S8x1024x3584_S1x1024x3584_7_0_0) (dV a5 7 slices_S8x3584x1024_S1x3584x1024_7_0_0) 7 slices_S65536x8_S65536x1_0_7

/-- The reference's result. -/
def outV : FVec Ideal S65536x1024 .f32 :=
  addf a0 (addf (addf (addf (addf (addf (addf (addf (addf (broadcastInDim S65536x1024 ![] bcast_S_S65536x1024 (constant S_ .f32 0x00000000#32) : FVec Ideal S65536x1024 .f32) (ex0 a0 a1 a2 a3 a4 a5)) (ex1 a0 a1 a2 a3 a4 a5)) (ex2 a0 a1 a2 a3 a4 a5)) (ex3 a0 a1 a2 a3 a4 a5)) (ex4 a0 a1 a2 a3 a4 a5)) (ex5 a0 a1 a2 a3 a4 a5)) (ex6 a0 a1 a2 a3 a4 a5)) (ex7 a0 a1 a2 a3 a4 a5))

/-- The arguments at coordinates. -/
def rin : Inputs where
  h := fun r k => a0 (ix2 r k)
  g := fun k => a1 (ix1 k)
  gate := fun r e => a2 (ix2 r e)
  wg := fun e k f => a3 (ix3 e k f)
  wu := fun e k f => a4 (ix3 e k f)
  wd := fun e f j => a5 (ix3 e f j)

theorem wV_apply (w : FVec Ideal S8x1024x3584 .f32) (e : Fin 8) (he : S8x1024x3584.Slices ![e.val, 0, 0] S1x1024x3584) (k : Fin 1024) (f : Fin 3584) :
    wV w e.val he (ix2 k f) = w (ix3 e k f) := by
  unfold wV
  rw [shapeCast_apply _ shapeCasts_S1x1024x3584_S1024x3584 (ix2 k f) (ix3 0 k f) (by rw [Shape.rowMajor_val_two, Shape.rowMajor_val_three]; show (0 * 1024 + k.val) * 3584 + f.val = k.val * 3584 + f.val; omega)]
  refine congrArg w ?_
  funext a
  apply Fin.ext
  match a with
  | ⟨0, _⟩ => show e.val + 0 = e.val; omega
  | ⟨1, _⟩ => show 0 + k.val = k.val; omega
  | ⟨2, _⟩ => show 0 + f.val = f.val; omega

theorem dV_apply (w : FVec Ideal S8x3584x1024 .f32) (e : Fin 8) (he : S8x3584x1024.Slices ![e.val, 0, 0] S1x3584x1024) (f : Fin 3584) (j : Fin 1024) :
    dV w e.val he (ix2 f j) = w (ix3 e f j) := by
  unfold dV
  rw [shapeCast_apply _ shapeCasts_S1x3584x1024_S3584x1024 (ix2 f j) (ix3 0 f j) (by rw [Shape.rowMajor_val_two, Shape.rowMajor_val_three]; show (0 * 3584 + f.val) * 1024 + j.val = f.val * 1024 + j.val; omega)]
  refine congrArg w ?_
  funext a
  apply Fin.ext
  match a with
  | ⟨0, _⟩ => show e.val + 0 = e.val; omega
  | ⟨1, _⟩ => show 0 + f.val = f.val; omega
  | ⟨2, _⟩ => show 0 + j.val = j.val; omega

/-- A weight's column, spread over a row. -/
theorem gate_apply (e : Fin 8) (he : S65536x8.Slices ![0, e.val] S65536x1) (r : Fin 65536) (j : Fin 1024) :
    (broadcastInDim S65536x1024 ![0, 1] bcast_S65536x1_S65536x1024_0_1 (extractStridedSlice S65536x1 ![0, e.val] a2 he) : FVec Ideal S65536x1024 .f32) (ix2 r j) = a2 (ix2 r e) := by
  refine congrArg a2 ?_
  funext a
  apply Fin.ext
  match a with
  | ⟨0, _⟩ => show 0 + r.val = r.val; omega
  | ⟨1, _⟩ => show e.val + 0 = e.val; omega

theorem exV_dot (hn : FVec Ideal S65536x1024 .f32) (wg wu : FVec Ideal S1024x3584 .f32) (wd : FVec Ideal S3584x1024 .f32) (e : Fin 8) (he : S65536x8.Slices ![0, e.val] S65536x1) (r : Fin 65536) (j : Fin 1024) :
    exV a2 hn wg wu wd e.val he (ix2 r j) = a2 (ix2 r e) * ∑ f : Fin 3584, Cert.Ffn.Ref.actV (Cert.Ffn.Ref.upV hn wg) (Cert.Ffn.Ref.upV hn wu) (ix2 r f) * wd (ix2 f j) := by
  rw [← gate_apply a2 e he r j]
  generalize hu : Cert.Ffn.Ref.actV (Cert.Ffn.Ref.upV hn wg) (Cert.Ffn.Ref.upV hn wu) = u
  unfold exV
  rw [hu]
  generalize (broadcastInDim S65536x1024 ![0, 1] bcast_S65536x1_S65536x1024_0_1 (extractStridedSlice S65536x1 ![0, e.val] a2 he) : FVec Ideal S65536x1024 .f32) = b
  pointwise

theorem exV_apply (e : Fin 8) (h3 : S8x1024x3584.Slices ![e.val, 0, 0] S1x1024x3584) (h4 : S8x1024x3584.Slices ![e.val, 0, 0] S1x1024x3584) (h5 : S8x3584x1024.Slices ![e.val, 0, 0] S1x3584x1024) (he : S65536x8.Slices ![0, e.val] S65536x1) (r : Fin 65536) (j : Fin 1024) :
    exV a2 (Cert.Ffn.Ref.hnV a0 a1) (wV a3 e.val h3) (wV a4 e.val h4) (dV a5 e.val h5) e.val he (ix2 r j)
      = (rin a0 a1 a2 a3 a4 a5).gate r e * full (rin a0 a1 a2 a3 a4 a5) r j e := by
  rw [exV_dot]
  refine congrArg (fun s => a2 (ix2 r e) * s) (Finset.sum_congr rfl fun f _ => ?_)
  unfold Cert.Ffn.hid Cert.Ffn.act
  rw [Cert.Ffn.Ref.actV_apply, Cert.Ffn.Ref.upV_apply, Cert.Ffn.Ref.upV_apply, dV_apply]
  simp only [wV_apply, Cert.Ffn.Ref.hnV_apply]
  rfl

theorem ex0_apply (r : Fin 65536) (j : Fin 1024) : ex0 a0 a1 a2 a3 a4 a5 (ix2 r j) = (rin a0 a1 a2 a3 a4 a5).gate r 0 * full (rin a0 a1 a2 a3 a4 a5) r j 0 :=
  exV_apply a0 a1 a2 a3 a4 a5 0 _ _ _ _ r j

theorem ex1_apply (r : Fin 65536) (j : Fin 1024) : ex1 a0 a1 a2 a3 a4 a5 (ix2 r j) = (rin a0 a1 a2 a3 a4 a5).gate r 1 * full (rin a0 a1 a2 a3 a4 a5) r j 1 :=
  exV_apply a0 a1 a2 a3 a4 a5 1 _ _ _ _ r j

theorem ex2_apply (r : Fin 65536) (j : Fin 1024) : ex2 a0 a1 a2 a3 a4 a5 (ix2 r j) = (rin a0 a1 a2 a3 a4 a5).gate r 2 * full (rin a0 a1 a2 a3 a4 a5) r j 2 :=
  exV_apply a0 a1 a2 a3 a4 a5 2 _ _ _ _ r j

theorem ex3_apply (r : Fin 65536) (j : Fin 1024) : ex3 a0 a1 a2 a3 a4 a5 (ix2 r j) = (rin a0 a1 a2 a3 a4 a5).gate r 3 * full (rin a0 a1 a2 a3 a4 a5) r j 3 :=
  exV_apply a0 a1 a2 a3 a4 a5 3 _ _ _ _ r j

theorem ex4_apply (r : Fin 65536) (j : Fin 1024) : ex4 a0 a1 a2 a3 a4 a5 (ix2 r j) = (rin a0 a1 a2 a3 a4 a5).gate r 4 * full (rin a0 a1 a2 a3 a4 a5) r j 4 :=
  exV_apply a0 a1 a2 a3 a4 a5 4 _ _ _ _ r j

theorem ex5_apply (r : Fin 65536) (j : Fin 1024) : ex5 a0 a1 a2 a3 a4 a5 (ix2 r j) = (rin a0 a1 a2 a3 a4 a5).gate r 5 * full (rin a0 a1 a2 a3 a4 a5) r j 5 :=
  exV_apply a0 a1 a2 a3 a4 a5 5 _ _ _ _ r j

theorem ex6_apply (r : Fin 65536) (j : Fin 1024) : ex6 a0 a1 a2 a3 a4 a5 (ix2 r j) = (rin a0 a1 a2 a3 a4 a5).gate r 6 * full (rin a0 a1 a2 a3 a4 a5) r j 6 :=
  exV_apply a0 a1 a2 a3 a4 a5 6 _ _ _ _ r j

theorem ex7_apply (r : Fin 65536) (j : Fin 1024) : ex7 a0 a1 a2 a3 a4 a5 (ix2 r j) = (rin a0 a1 a2 a3 a4 a5).gate r 7 * full (rin a0 a1 a2 a3 a4 a5) r j 7 :=
  exV_apply a0 a1 a2 a3 a4 a5 7 _ _ _ _ r j

theorem outV_sum (r : Fin 65536) (j : Fin 1024) :
    outV a0 a1 a2 a3 a4 a5 (ix2 r j) = a0 (ix2 r j) + ((((((((0 + ex0 a0 a1 a2 a3 a4 a5 (ix2 r j)) + ex1 a0 a1 a2 a3 a4 a5 (ix2 r j)) + ex2 a0 a1 a2 a3 a4 a5 (ix2 r j)) + ex3 a0 a1 a2 a3 a4 a5 (ix2 r j)) + ex4 a0 a1 a2 a3 a4 a5 (ix2 r j)) + ex5 a0 a1 a2 a3 a4 a5 (ix2 r j)) + ex6 a0 a1 a2 a3 a4 a5 (ix2 r j)) + ex7 a0 a1 a2 a3 a4 a5 (ix2 r j)) := by
  pointwise [outV]

theorem outV_apply (r : Fin 65536) (j : Fin 1024) : outV a0 a1 a2 a3 a4 a5 (ix2 r j) = res (rin a0 a1 a2 a3 a4 a5) r j := by
  rw [outV_sum, ex0_apply, ex1_apply, ex2_apply, ex3_apply, ex4_apply, ex5_apply, ex6_apply, ex7_apply]
  unfold res
  rw [Fin.sum_univ_eight, zero_add]
  rfl

end Cert.Moe.Ref

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.KVal
public import proofs.«01_k».proof.Proof.RRes
public import proofs.«01_k».proof.Proof.FVal
public import proofs.«01_k».proof.Proof.FRef
public import proofs.«01_k».proof.Proof.OddIn
public import proofs.«01_k».proof.Proof.OddOut
public import proofs.«01_k».proof.Proof.EvenOut
public import proofs.«01_k».proof.Proof.Ple
public import proofs.«01_k».proof.Proof.PleLast
public import proofs.«01_k».proof.Proof.RtRef
public import proofs.«01_k».proof.Proof.MVal
public import proofs.«01_k».proof.Proof.MRef
public import Idealize.ShloMosaic.Adequacy
public import Idealize.ShloMosaic.Init

@[expose] public section

noncomputable section

namespace Cert.Proof

open Idealize.ShloMosaic Idealize.SL.Sem

/-- The reference runs, leaves its arguments, and every counter ends at zero. -/
theorem ref_frame : Cert.quiescent_ReferenceIdeal (hReferenceIdeal := Cert.ReferenceIdeal.Gen.facts) := by
  intro m g _
  exact (θ_run _ _ _).mono (fun r h => ⟨fun c => (h c).2, sem_eq_zero_of_no_sems (by decide) r.2⟩) (Cert.ReferenceIdeal.Value.run m g)

/-- Inputs equal entry by entry are equal. -/
theorem inputs_eq (I J : Cert.Ssd.Inputs) (h0 : ∀ b r k, I.x b r k = J.x b r k) (h1 : ∀ b r k, I.z b r k = J.z b r k) (h2 : ∀ b r k, I.dt b r k = J.dt b r k)
    (h3 : ∀ a k, I.w a k = J.w a k) (h4 : ∀ k, I.wb k = J.wb k) (h5 : ∀ k, I.db k = J.db k) (h6 : ∀ k, I.al k = J.al k)
    (h7 : ∀ k, I.sk k = J.sk k) (h8 : ∀ k, I.gn k = J.gn k) : I = J := by
  cases I
  cases J
  simp only [Cert.Ssd.Inputs.mk.injEq]
  exact ⟨funext fun b => funext fun r => funext fun k => h0 b r k, funext fun b => funext fun r => funext fun k => h1 b r k,
    funext fun b => funext fun r => funext fun k => h2 b r k, funext fun a => funext fun k => h3 a k,
    funext h4, funext h5, funext h6, funext h7, funext h8⟩

/-- The two results agree. -/
theorem value_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev 1)
    (hI : Cert.Ssd.Ref.rin (Idealize.ShloMosaic.StableHlo.launchContents m' c) = Cert.Ssd.inp m c) :
    (Cert.ReferenceIdeal.Value.out_main_v92 ((Cert.ReferenceIdeal.Value.STEP (F := Ideal))^[16] (Idealize.ShloMosaic.StableHlo.entryContents Cert.ReferenceIdeal.Value.preI m' c)) : Vec Ideal Cert.KernelIdeal.S65536x2048 .bf16)
      = Cert.KernelIdeal.Value.G9 m c := by
  funext x
  have hx : x = ix2 (x 0) (x 1) := by
    funext a
    match a with
    | ⟨0, _⟩ => rfl
    | ⟨1, _⟩ => rfl
  rw [hx]
  generalize x 0 = r
  generalize x 1 = j
  have hr : r.val < 65536 := r.isLt
  refine (Cert.Ssd.Ref.reference_value m' c r j).trans (Eq.trans ?_ (Cert.Ssd.kernel_value m c r j).symm)
  rw [hI]
  have e1 : r.val / 128 % 16 = r.val % 2048 / 128 := by omega
  have e2 : Cert.Ssd.bt (r.val / 128) = ⟨r.val / 2048, by omega⟩ := Fin.ext (by show r.val / 128 / 16 % 32 = r.val / 2048; omega)
  have e3 : (⟨r.val % 2048 % 128, by omega⟩ : Fin 128) = ⟨r.val % 128, by omega⟩ := Fin.ext (by show r.val % 2048 % 128 = r.val % 128; omega)
  rw [e1, e2, e3]

theorem algebraic : Cert.algebraic_KernelIdeal_ReferenceIdeal (hKernelIdeal := Cert.KernelIdeal.Gen.facts) (hReferenceIdeal := Cert.ReferenceIdeal.Gen.facts) := by
  intro m g m' g' _ hargs
  refine ⟨fun c => Cert.KernelIdeal.Value.G9 m c, Cert.KernelIdeal.Value.run m g, ?_⟩
  refine (θ_run _ _ _).mono (fun r h c => ⟨(h c).1.trans (value_eq m m' c ?_), (h c).2⟩) (Cert.ReferenceIdeal.Value.run m' g')
  obtain ⟨a0, a1, a2, a3, a4, a5, a6, a7, a8⟩ := hargs c
  exact inputs_eq _ _ (fun b r k => congrFun a0 (ix3 b r k)) (fun b r k => congrFun a1 (ix3 b r k)) (fun b r k => congrFun a2 (ix3 b r k))
    (fun a k => congrFun a3 (ix2 a k)) (fun k => congrFun a4 (ix1 k)) (fun k => congrFun a5 (ix1 k)) (fun k => congrFun a6 (ix1 k))
    (fun k => congrFun a7 (ix1 k)) (fun k => congrFun a8 (ix1 k))

/-- The feed-forward reference runs, leaves its arguments, and every counter ends at zero. -/
theorem ref_frame2 : Cert.quiescent_Reference2Ideal (hReference2Ideal := Cert.Reference2Ideal.Gen.facts) := by
  intro m g _
  exact (θ_run _ _ _).mono (fun r h => ⟨fun c => (h c).2, sem_eq_zero_of_no_sems (by decide) r.2⟩) (Cert.Reference2Ideal.Value.run m g)

/-- The feed-forward reference's term of the kernel's arguments is what the launch leaves. -/
theorem value_eq2 (m : (ℓ : Loc Cert.Kernel2Ideal.nD Cert.Kernel2Ideal.τ Cert.Kernel2Ideal.sig) → Buf (Elt Ideal) ℓ) (c : Dev 1) :
    (Cert.Ffn.Ref.outV (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) : Vec Ideal Cert.Kernel2Ideal.S65536x1024 .f32)
      = Cert.Kernel2Ideal.Value.G5 m c := by
  funext x
  have hx : x = ix2 (x 0) (x 1) := by
    funext a
    match a with
    | ⟨0, _⟩ => rfl
    | ⟨1, _⟩ => rfl
  rw [hx]
  exact (Cert.Ffn.Ref.outV_apply _ _ _ _ _ (x 0) (x 1)).trans (Cert.Ffn.kernel_value m c (x 0) (x 1)).symm

theorem algebraic2 : Cert.algebraic_Kernel2Ideal_Reference2Ideal (hKernel2Ideal := Cert.Kernel2Ideal.Gen.facts) (hReference2Ideal := Cert.Reference2Ideal.Gen.facts) := by
  intro m g m' g' _ hargs
  refine ⟨fun c => Cert.Kernel2Ideal.Value.G5 m c, Cert.Kernel2Ideal.Value.run m g, ?_⟩
  refine (θ_run _ _ _).mono (fun r h c => ⟨(h c).1.trans (Eq.trans ?_ (value_eq2 m c)), (h c).2⟩) (Cert.Reference2Ideal.Value.run m' g')
  obtain ⟨a0, a1, a2, a3, a4⟩ := hargs c
  rw [← a0, ← a1, ← a2, ← a3, ← a4]
  rfl

/-- Two arrays of two dimensions that agree at every pair of coordinates are equal. -/
theorem ext2 {a b : ℕ} {α : Type} {f g : (⟨2, ![a, b]⟩ : Shape).Idx → α} (h : ∀ r j, f (ix2 r j) = g (ix2 r j)) : f = g := by
  funext x
  have hx : x = ix2 (x 0) (x 1) := by
    funext a
    match a with
    | ⟨0, _⟩ => rfl
    | ⟨1, _⟩ => rfl
  rw [hx]
  exact h (x 0) (x 1)

/-- The input projection of the odd layers: the reference runs, leaves its arguments, and every counter ends at zero. -/
theorem ref_frame3 : Cert.quiescent_Reference3Ideal (hReference3Ideal := Cert.Reference3Ideal.Gen.facts) := by
  intro m g _
  exact (θ_run _ _ _).mono (fun r h => ⟨fun c => (h c).2.2.2, sem_eq_zero_of_no_sems (by decide) r.2⟩) (Cert.Reference3Ideal.Value.run m g)

theorem value_eq3z (m : (ℓ : Loc Cert.Kernel3Ideal.nD Cert.Kernel3Ideal.τ Cert.Kernel3Ideal.sig) → Buf (Elt Ideal) ℓ) (c : Dev 1) :
    (Cert.OddIn.zV (Cert.OddIn.prodV (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))) : Vec Ideal Cert.Kernel3Ideal.S65536x2048 .f32)
      = (Cert.Kernel3Ideal.Gen.dats m 0 c).arrAt 3 Cert.Kernel3Ideal.cfg0.N :=
  ext2 fun r j => (Cert.OddIn.zV_apply _ _ _ r j).trans (Cert.OddIn.kernel_z m c r j).symm

theorem value_eq3x (m : (ℓ : Loc Cert.Kernel3Ideal.nD Cert.Kernel3Ideal.τ Cert.Kernel3Ideal.sig) → Buf (Elt Ideal) ℓ) (c : Dev 1) :
    (Cert.OddIn.xV (Cert.OddIn.prodV (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))) : Vec Ideal Cert.Kernel3Ideal.S65536x3072 .f32)
      = (Cert.Kernel3Ideal.Gen.dats m 0 c).arrAt 4 Cert.Kernel3Ideal.cfg0.N :=
  ext2 fun r j => (Cert.OddIn.xV_apply _ _ _ r j).trans (Cert.OddIn.kernel_x m c r j).symm

theorem value_eq3d (m : (ℓ : Loc Cert.Kernel3Ideal.nD Cert.Kernel3Ideal.τ Cert.Kernel3Ideal.sig) → Buf (Elt Ideal) ℓ) (c : Dev 1) :
    (Cert.OddIn.dV (Cert.OddIn.prodV (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))) : Vec Ideal Cert.Kernel3Ideal.S65536x128 .f32)
      = (Cert.Kernel3Ideal.Gen.dats m 0 c).arrAt 5 Cert.Kernel3Ideal.cfg0.N :=
  ext2 fun r j => (Cert.OddIn.dV_apply _ _ _ r j).trans (Cert.OddIn.kernel_d m c r j).symm

theorem algebraic3 : Cert.algebraic_Kernel3Ideal_Reference3Ideal (hKernel3Ideal := Cert.Kernel3Ideal.Gen.facts) (hReference3Ideal := Cert.Reference3Ideal.Gen.facts) := by
  intro m g m' g' _ hargs
  refine ⟨fun c => (Cert.Kernel3Ideal.Gen.dats m 0 c).arrAt 3 Cert.Kernel3Ideal.cfg0.N, fun c => (Cert.Kernel3Ideal.Gen.dats m 0 c).arrAt 4 Cert.Kernel3Ideal.cfg0.N, fun c => (Cert.Kernel3Ideal.Gen.dats m 0 c).arrAt 5 Cert.Kernel3Ideal.cfg0.N, Cert.Kernel3Ideal.Value.run_blocks m g, ?_⟩
  refine (θ_run _ _ _).mono (fun r h c => ⟨(h c).1.trans (Eq.trans ?_ (value_eq3z m c)), (h c).2.1.trans (Eq.trans ?_ (value_eq3x m c)), (h c).2.2.1.trans (Eq.trans ?_ (value_eq3d m c)), (h c).2.2.2⟩) (Cert.Reference3Ideal.Value.run m' g')
  all_goals
    obtain ⟨a0, a1, a2⟩ := hargs c
    rw [← a0, ← a1, ← a2]
    rfl

/-- The output projection of the odd layers: the reference runs, leaves its arguments, and every counter ends at zero. -/
theorem ref_frame4 : Cert.quiescent_Reference4Ideal (hReference4Ideal := Cert.Reference4Ideal.Gen.facts) := by
  intro m g _
  exact (θ_run _ _ _).mono (fun r h => ⟨fun c => (h c).2, sem_eq_zero_of_no_sems (by decide) r.2⟩) (Cert.Reference4Ideal.Value.run m g)

theorem value_eq4 (m : (ℓ : Loc Cert.Kernel4Ideal.nD Cert.Kernel4Ideal.τ Cert.Kernel4Ideal.sig) → Buf (Elt Ideal) ℓ) (c : Dev 1) :
    (Cert.OddOut.outV (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) : Vec Ideal Cert.Kernel4Ideal.S65536x1024 .f32)
      = (Cert.Kernel4Ideal.Gen.dats m 0 c).arrAt 3 Cert.Kernel4Ideal.cfg0.N :=
  ext2 fun r j => (Cert.OddOut.outV_apply _ _ _ r j).trans (Cert.OddOut.kernel_value m c r j).symm

theorem algebraic4 : Cert.algebraic_Kernel4Ideal_Reference4Ideal (hKernel4Ideal := Cert.Kernel4Ideal.Gen.facts) (hReference4Ideal := Cert.Reference4Ideal.Gen.facts) := by
  intro m g m' g' _ hargs
  refine ⟨fun c => (Cert.Kernel4Ideal.Gen.dats m 0 c).arrAt 3 Cert.Kernel4Ideal.cfg0.N, Cert.Kernel4Ideal.Value.run_blocks m g, ?_⟩
  refine (θ_run _ _ _).mono (fun r h c => ⟨(h c).1.trans (Eq.trans ?_ (value_eq4 m c)), (h c).2⟩) (Cert.Reference4Ideal.Value.run m' g')
  obtain ⟨a0, a1, a2⟩ := hargs c
  rw [← a0, ← a1, ← a2]
  rfl

/-- The output projection of the even layers: the reference runs, leaves its arguments, and every counter ends at zero. -/
theorem ref_frame5 : Cert.quiescent_Reference5Ideal (hReference5Ideal := Cert.Reference5Ideal.Gen.facts) := by
  intro m g _
  exact (θ_run _ _ _).mono (fun r h => ⟨fun c => (h c).2, sem_eq_zero_of_no_sems (by decide) r.2⟩) (Cert.Reference5Ideal.Value.run m g)

theorem value_eq5 (m : (ℓ : Loc Cert.Kernel5Ideal.nD Cert.Kernel5Ideal.τ Cert.Kernel5Ideal.sig) → Buf (Elt Ideal) ℓ) (c : Dev 1) :
    (Cert.EvenOut.outV (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) : Vec Ideal Cert.Kernel5Ideal.S65536x1024 .f32)
      = (Cert.Kernel5Ideal.Gen.dats m 0 c).arrAt 5 Cert.Kernel5Ideal.cfg0.N :=
  ext2 fun r j => (Cert.EvenOut.outV_apply _ _ _ _ r j).trans (Cert.EvenOut.kernel_value m c r j).symm

theorem algebraic5 : Cert.algebraic_Kernel5Ideal_Reference5Ideal (hKernel5Ideal := Cert.Kernel5Ideal.Gen.facts) (hReference5Ideal := Cert.Reference5Ideal.Gen.facts) := by
  intro m g m' g' _ hargs
  refine ⟨fun c => (Cert.Kernel5Ideal.Gen.dats m 0 c).arrAt 5 Cert.Kernel5Ideal.cfg0.N, Cert.Kernel5Ideal.Value.run_blocks m g, ?_⟩
  refine (θ_run _ _ _).mono (fun r h c => ⟨(h c).1.trans (Eq.trans ?_ (value_eq5 m c)), (h c).2⟩) (Cert.Reference5Ideal.Value.run m' g')
  obtain ⟨a0, a1, a2, a3⟩ := hargs c
  rw [← a0, ← a1, ← a2, ← a3]
  rfl

/-- The per-layer embedding: the reference runs, leaves its arguments, and every counter ends at zero. -/
theorem ref_frame6 : Cert.quiescent_Reference6Ideal (hReference6Ideal := Cert.Reference6Ideal.Gen.facts) := by
  intro m g _
  exact (θ_run _ _ _).mono (fun r h => ⟨fun c => (h c).2, sem_eq_zero_of_no_sems (by decide) r.2⟩) (Cert.Reference6Ideal.Value.run m g)

theorem value_eq6 (m : (ℓ : Loc Cert.Kernel6Ideal.nD Cert.Kernel6Ideal.τ Cert.Kernel6Ideal.sig) → Buf (Elt Ideal) ℓ) (c : Dev 1) :
    (Cert.Ple.outV (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) : Vec Ideal Cert.Kernel6Ideal.S65536x1024 .f32)
      = (Cert.Kernel6Ideal.Gen.dats m 0 c).arrAt 5 Cert.Kernel6Ideal.cfg0.N :=
  ext2 fun r j => (Cert.Ple.outV_apply _ _ _ _ _ r j).trans (Cert.Ple.kernel_value m c r j).symm

theorem algebraic6 : Cert.algebraic_Kernel6Ideal_Reference6Ideal (hKernel6Ideal := Cert.Kernel6Ideal.Gen.facts) (hReference6Ideal := Cert.Reference6Ideal.Gen.facts) := by
  intro m g m' g' _ hargs
  refine ⟨fun c => (Cert.Kernel6Ideal.Gen.dats m 0 c).arrAt 5 Cert.Kernel6Ideal.cfg0.N, Cert.Kernel6Ideal.Value.run_blocks m g, ?_⟩
  refine (θ_run _ _ _).mono (fun r h c => ⟨(h c).1.trans (Eq.trans ?_ (value_eq6 m c)), (h c).2⟩) (Cert.Reference6Ideal.Value.run m' g')
  obtain ⟨a0, a1, a2, a3, a4⟩ := hargs c
  rw [← a0, ← a1, ← a2, ← a3, ← a4]
  rfl

/-- The weighted experts: the reference runs, leaves its arguments, and every counter ends at zero. -/
theorem ref_frame7 : Cert.quiescent_Reference7Ideal (hReference7Ideal := Cert.Reference7Ideal.Gen.facts) := by
  intro m g _
  exact (θ_run _ _ _).mono (fun r h => ⟨fun c => (h c).2, sem_eq_zero_of_no_sems (by decide) r.2⟩) (Cert.Reference7Ideal.Value.run m g)

/-- The predicate's side conditions. -/
theorem gates_facts : Cert.Pre_gates_are_weights.Facts := ⟨by decide⟩

/-- What the precondition says: every weight is finite and not negative. -/
theorem gates_ok (m : (ℓ : Loc Cert.Kernel7Ideal.nD Cert.Kernel7Ideal.τ Cert.Kernel7Ideal.sig) → Buf (Elt Ideal) ℓ)
    (h : Cert.Pre_Kernel7Ideal_gates_are_weights (hPre_gates_are_weights := gates_facts) m) (c : Dev 1) (r : Fin 65536) (e : Fin 8) :
    0 ≤ (Cert.Moe.inp m c).gate r e ∧ (Cert.Moe.inp m c).gate r e ≠ ⊤ := by
  have hc := congrFun (h c) (ix2 r e)
  have hg : ∀ x : EReal, IntOp.andi (FloatOps.cmpf (F := Ideal) (φ := .f32) .oge x (Ideal.ofBits .f32 0x00000000#32)) (FloatOps.cmpf (F := Ideal) (φ := .f32) .ole x (Ideal.ofBits .f32 0x3F800000#32)) = 1#1 → 0 ≤ x ∧ x ≠ ⊤ := by
    intro x hx
    have h0 : Ideal.ofBits .f32 0x00000000#32 = 0 := by simp
    have h1 : Ideal.ofBits .f32 0x3F800000#32 = 1 := by simp
    rw [h0, h1] at hx
    by_cases hge : (0 : EReal) ≤ x
    · refine ⟨hge, fun ht => ?_⟩
      subst ht
      exact absurd hx (by simp [FloatOps.cmpf, Ideal.cmp, IntOp.andi, show (1 : EReal) ≠ ⊤ from EReal.coe_ne_top 1])
    · exact absurd hx (by simp [FloatOps.cmpf, Ideal.cmp, IntOp.andi, hge])
  exact hg _ hc

theorem value_eq7 (m : (ℓ : Loc Cert.Kernel7Ideal.nD Cert.Kernel7Ideal.τ Cert.Kernel7Ideal.sig) → Buf (Elt Ideal) ℓ)
    (h : Cert.Pre_Kernel7Ideal_gates_are_weights (hPre_gates_are_weights := gates_facts) m) (c : Dev 1) :
    (Cert.Moe.Ref.outV (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) : Vec Ideal Cert.Kernel7Ideal.S65536x1024 .f32)
      = Cert.Kernel7Ideal.Value.G6 m c :=
  ext2 fun r j => (Cert.Moe.Ref.outV_apply _ _ _ _ _ _ r j).trans
    (((Cert.Moe.kernel_value m c r j).trans (congrArg (fun s => (Cert.Moe.inp m c).h r j + s) (Cert.Moe.acc_all _ r j (gates_ok m h c r)))).symm)

theorem algebraic7 : Cert.algebraic_Kernel7Ideal_Reference7Ideal_pre_gates_are_weights (hKernel7Ideal := Cert.Kernel7Ideal.Gen.facts) (hReference7Ideal := Cert.Reference7Ideal.Gen.facts) (hPre_gates_are_weights := gates_facts) := by
  intro m g m' g' hpre hargs
  refine ⟨fun c => Cert.Kernel7Ideal.Value.G6 m c, Cert.Kernel7Ideal.Value.run m g, ?_⟩
  refine (θ_run _ _ _).mono (fun r h c => ⟨(h c).1.trans (Eq.trans ?_ (value_eq7 m hpre c)), (h c).2⟩) (Cert.Reference7Ideal.Value.run m' g')
  obtain ⟨a0, a1, a2, a3, a4, a5⟩ := hargs c
  rw [← a0, ← a1, ← a2, ← a3, ← a4, ← a5]
  rfl

/-- The last per-layer embedding: the reference runs, leaves its arguments, and every counter ends at zero. -/
theorem ref_frame8 : Cert.quiescent_Reference8Ideal (hReference8Ideal := Cert.Reference8Ideal.Gen.facts) := by
  intro m g _
  exact (θ_run _ _ _).mono (fun r h => ⟨fun c => (h c).2, sem_eq_zero_of_no_sems (by decide) r.2⟩) (Cert.Reference8Ideal.Value.run m g)

theorem value_eq8 (m : (ℓ : Loc Cert.Kernel8Ideal.nD Cert.Kernel8Ideal.τ Cert.Kernel8Ideal.sig) → Buf (Elt Ideal) ℓ) (c : Dev 1) :
    (Cert.PleLast.outV (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) : Vec Ideal Cert.Kernel8Ideal.S65536x1024 .f32)
      = (Cert.Kernel8Ideal.Gen.dats m 0 c).arrAt 6 Cert.Kernel8Ideal.cfg0.N :=
  ext2 fun r j => (Cert.PleLast.outV_apply _ _ _ _ _ _ r j).trans (Cert.PleLast.kernel_value m c r j).symm

theorem algebraic8 : Cert.algebraic_Kernel8Ideal_Reference8Ideal (hKernel8Ideal := Cert.Kernel8Ideal.Gen.facts) (hReference8Ideal := Cert.Reference8Ideal.Gen.facts) := by
  intro m g m' g' _ hargs
  refine ⟨fun c => (Cert.Kernel8Ideal.Gen.dats m 0 c).arrAt 6 Cert.Kernel8Ideal.cfg0.N, Cert.Kernel8Ideal.Value.run_blocks m g, ?_⟩
  refine (θ_run _ _ _).mono (fun r h c => ⟨(h c).1.trans (Eq.trans ?_ (value_eq8 m c)), (h c).2⟩) (Cert.Reference8Ideal.Value.run m' g')
  obtain ⟨a0, a1, a2, a3, a4, a5⟩ := hargs c
  unfold Cert.Reference8Ideal.Value.res_main_v35
  rw [← a0, ← a1, ← a2, ← a3, ← a4, ← a5]
  rfl

/-- The router: the reference runs, leaves its arguments, and every counter ends at zero. -/
theorem ref_frame9 : Cert.quiescent_Reference9Ideal (hReference9Ideal := Cert.Reference9Ideal.Gen.facts) := by
  intro m g _
  exact (θ_run _ _ _).mono (fun r h => ⟨fun c => (h c).2, sem_eq_zero_of_no_sems (by decide) r.2⟩) (Cert.Reference9Ideal.Value.run m g)

/-- The precondition's shape conditions. -/
theorem scores_facts : Cert.Pre_scores_are_finite.Facts :=
  ⟨Cert.Reference9Ideal.Gen.facts.reducesTo_S65536x1024_S65536_d1, Cert.Reference9Ideal.Gen.facts.h_S_, Cert.Reference9Ideal.Gen.facts.bcast_S65536_S65536x1_0,
    Cert.Reference9Ideal.Gen.facts.bcast_S_S65536x1, Cert.Reference9Ideal.Gen.facts.bcast_S65536x1_S65536x1024_0_1, Cert.Reference9Ideal.Gen.facts.bcast_S1024_S1x1024_1,
    Cert.Reference9Ideal.Gen.facts.bcast_S1x1024_S65536x1024_0_1, by decide, Cert.Reference9Ideal.Gen.facts.dot_S65536x1024_S1024x8_S65536x8_1_0_0_1_n_n_wf⟩

/-- What the precondition says: every score is finite. -/
theorem scores_ok (m : (ℓ : Loc Cert.Kernel9Ideal.nD Cert.Kernel9Ideal.τ Cert.Kernel9Ideal.sig) → Buf (Elt Ideal) ℓ)
    (h : Cert.Pre_Kernel9Ideal_scores_are_finite (hPre_scores_are_finite := scores_facts) m) (c : Dev 1) (r : Fin 65536) (e : Fin 8) :
    Cert.Rt.inM m c r e ≠ ⊤
      ∧ Cert.Rt.inM m c r e ≠ ⊥ := by
  have hc := congrFun (h c) (ix2 r e)
  have hg : ∀ x : EReal, (FloatOps.cmpf (F := Ideal) (φ := .f32) .olt (FloatOps.absf (F := Ideal) (φ := .f32) x) (Ideal.ofBits .f32 0x7F800000#32)) = 1#1 → x ≠ ⊤ ∧ x ≠ ⊥ := by
    intro x hx
    have h0 : Ideal.ofBits .f32 0x7F800000#32 = ⊤ := by simp [Ideal.ofBits, Ideal.ieee]
    rw [h0] at hx
    refine ⟨fun ht => ?_, fun ht => ?_⟩
    · subst ht
      exact absurd hx (by simp [FloatOps.cmpf, FloatOps.absf, Ideal.cmp])
    · subst ht
      exact absurd hx (by simp [FloatOps.cmpf, FloatOps.absf, Ideal.cmp])
  have hx := hg (Cert.Rt.Ref.lgV (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (ix2 r e)) hc
  rw [Cert.Rt.Ref.lgV_apply] at hx
  exact hx

theorem value_eq9 (m : (ℓ : Loc Cert.Kernel9Ideal.nD Cert.Kernel9Ideal.τ Cert.Kernel9Ideal.sig) → Buf (Elt Ideal) ℓ)
    (h : Cert.Pre_Kernel9Ideal_scores_are_finite (hPre_scores_are_finite := scores_facts) m) (c : Dev 1) :
    (Cert.Rt.Ref.outV (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) :
      FVec Ideal Cert.Reference9Ideal.S65536x128 .f32)
      = (Cert.Kernel9Ideal.Gen.dats m 0 c).arrAt 3 Cert.Kernel9Ideal.cfg0.N := by
  refine ext2 fun r j => ?_
  obtain ⟨a, b, t⟩ := Cert.Rt.exists_top (Cert.Rt.inM m c r)
  exact (Cert.Rt.Ref.outV_apply _ _ _ r j a b t (scores_ok m h c r a).1 (scores_ok m h c r a).2).trans (Cert.Rt.kernel_value m c r j a b t fun e => (scores_ok m h c r e).2).symm

theorem algebraic9 : Cert.algebraic_Kernel9Ideal_Reference9Ideal_pre_scores_are_finite (hKernel9Ideal := Cert.Kernel9Ideal.Gen.facts) (hReference9Ideal := Cert.Reference9Ideal.Gen.facts) (hPre_scores_are_finite := scores_facts) := by
  intro m g m' g' hpre hargs
  refine ⟨fun c => (Cert.Kernel9Ideal.Gen.dats m 0 c).arrAt 3 Cert.Kernel9Ideal.cfg0.N, Cert.Kernel9Ideal.Value.run_blocks m g, ?_⟩
  refine (θ_run _ _ _).mono (fun r h c => ⟨(h c).1.trans (Eq.trans ?_ (value_eq9 m hpre c)), (h c).2⟩) (Cert.Reference9Ideal.Value.run m' g')
  obtain ⟨a0, a1, a2⟩ := hargs c
  unfold Cert.Reference9Ideal.Value.res_main_v31
  rw [← a0, ← a1, ← a2]
  rfl

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts, gates_facts, scores_facts,
    fun m g _ => Cert.Kernel.Gen.frame m g, fun m g _ => Cert.KernelIdeal.Gen.frame m g, ref_frame,
    fun m g _ => Cert.Kernel2.Gen.frame m g, fun m g _ => Cert.Kernel2Ideal.Gen.frame m g, ref_frame2,
    fun m g _ => Cert.Kernel3.Gen.frame m g, fun m g _ => Cert.Kernel3Ideal.Gen.frame m g, ref_frame3,
    fun m g _ => Cert.Kernel4.Gen.frame m g, fun m g _ => Cert.Kernel4Ideal.Gen.frame m g, ref_frame4,
    fun m g _ => Cert.Kernel5.Gen.frame m g, fun m g _ => Cert.Kernel5Ideal.Gen.frame m g, ref_frame5,
    fun m g _ => Cert.Kernel6.Gen.frame m g, fun m g _ => Cert.Kernel6Ideal.Gen.frame m g, ref_frame6,
    fun m g _ => Cert.Kernel7.Gen.frame m g, fun m g _ => Cert.Kernel7Ideal.Gen.frame m g, fun m g _ => Cert.Kernel7Ideal.Gen.frame m g, ref_frame7, fun m g _ => ref_frame7 m g trivial,
    fun m g _ => Cert.Kernel8.Gen.frame m g, fun m g _ => Cert.Kernel8Ideal.Gen.frame m g, ref_frame8,
    fun m g _ => Cert.Kernel9.Gen.frame m g, fun m g _ => Cert.Kernel9Ideal.Gen.frame m g, fun m g _ => Cert.Kernel9Ideal.Gen.frame m g, ref_frame9, fun m g _ => ref_frame9 m g trivial,
    trivial, algebraic, trivial, algebraic2, trivial, algebraic3, trivial, algebraic4, trivial, algebraic5, trivial, algebraic6, trivial, algebraic7, trivial, algebraic8, trivial, algebraic9⟩

end Cert.Proof

end
